-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_args2 [hPre_finite_args2 : Cert.Pre_finite_args2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_args2 [hPre_finite_args2 : Cert.Pre_finite_args2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_args2 [hKernel2Ideal : Cert.Kernel2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_args2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_args2 [hReference2Ideal : Cert.Reference2Ideal.Facts] [hPre_finite_args2 : Cert.Pre_finite_args2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_args2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_args2 [hKernel2Ideal : Cert.Kernel2Ideal.Facts] [hReference2Ideal : Cert.Reference2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_args2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v141) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v150_2)) (v1 : (c : Dev Cert.Kernel7Ideal.nD) → Buf (Elt Ideal) ((c.tc : Thread Cert.Kernel7Ideal.nD Cert.Kernel7Ideal.τ).loc Cert.Kernel7Ideal.main_v150_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v150_2) = v0 c
          ∧ r.2.mem ((c.tc : Thread Cert.Kernel7Ideal.nD Cert.Kernel7Ideal.τ).loc Cert.Kernel7Ideal.main_v150_5) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v50) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_args : Cert.Pre_finite_args.Facts) (hPre_finite_args2 : Cert.Pre_finite_args2.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_args2 (hKernel2Ideal := hKernel2Ideal) (hPre_finite_args2 := hPre_finite_args2)
    ∧ quiescent_Reference2Ideal (hReference2Ideal := hReference2Ideal)
    ∧ quiescent_Reference2Ideal_pre_finite_args2 (hReference2Ideal := hReference2Ideal) (hPre_finite_args2 := hPre_finite_args2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_args2 (hKernel2Ideal := hKernel2Ideal) (hReference2Ideal := hReference2Ideal) (hPre_finite_args2 := hPre_finite_args2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_args.lean ====
abbrev S4x256x512 : Shape := ⟨3, ![4, 256, 512]⟩
abbrev S4x8192x512 : Shape := ⟨3, ![4, 8192, 512]⟩
abbrev S4x64 : Shape := ⟨2, ![4, 64]⟩
abbrev S128 : Shape := ⟨1, ![128]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x8192x512 .f32) (main_arg5 : FVec F S4x8192x512 .f32) (main_arg6 : FVec F S4x64 .f32) (main_v13 : IVec S_ 1) (main_v16 : IVec S4x8192x512 1) : IVec S_ 1 :=
  let main_c_5 : IVec S_ 1 := constantI S_ 1 1#1
  let main_v17 : IVec S_ 1 := (fun x v => Host.reduce IntOp.andi x v reducesTo_S4x8192x512_S_d0_1_2 h_S_) main_v16 main_c_5
  let main_v18 : IVec S_ 1 := andi main_v13 main_v17
  let main_v19 : FVec F S4x8192x512 .f32 := Host.absf main_arg4
  let main_cst_6 : FVec F S_ .f32 := constant S_ .f32 0x7F800000#32
  let main_v20 : FVec F S4x8192x512 .f32 := broadcastInDim S4x8192x512 ![] bcast_S_S4x8192x512 main_cst_6
  let main_v21 : IVec S4x8192x512 1 := cmpf .olt main_v19 main_v20
  let main_c_7 : IVec S_ 1 := constantI S_ 1 1#1
  let main_v22 : IVec S_ 1 := (fun x v => Host.reduce IntOp.andi x v reducesTo_S4x8192x512_S_d0_1_2 h_S_) main_v21 main_c_7
  let main_v23 : IVec S_ 1 := andi main_v18 main_v22
  let main_v24 : FVec F S4x8192x512 .f32 := Host.absf main_arg5
  let main_cst_8 : FVec F S_ .f32 := constant S_ .f32 0x7F800000#32
  let main_v25 : FVec F S4x8192x512 .f32 := broadcastInDim S4x8192x512 ![] bcast_S_S4x8192x512 main_cst_8
  let main_v26 : IVec S4x8192x512 1 := cmpf .olt main_v24 main_v25
  let main_c_9 : IVec S_ 1 := constantI S_ 1 1#1
  let main_v27 : IVec S_ 1 := (fun x v => Host.reduce IntOp.andi x v reducesTo_S4x8192x512_S_d0_1_2 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S4x256x512 .f32) (main_arg1 : FVec F S4x256x512 .f32) (main_arg2 : FVec F S4x256x512 .f32) (main_arg3 : FVec F S4x8192x512 .f32) (main_arg4 : FVec F S4x8192x512 .f32) (main_arg5 : FVec F S4x8192x512 .f32) (main_arg6 : FVec F S4x64 .f32) (main_arg7 : FVec F S128 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x256x512 .f32 := Host.absf main_arg1
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  let main_v9 : FVec F S4x256x512 .f32 := Host.absf main_arg2
  let main_cst_2 : FVec F S_ .f32 := constant S_ .f32 0x7F800000#32
  let main_v10 : FVec F S4x256x512 .f32 := broadcastInDim S4x256x512 ![] bcast_S_S4x256x512 main_cst_2
  let main_v11 : IVec S4x256x512 1 := cmpf .olt main_v9 main_v10
  let main_c_3 : IVec S_ 1 := constantI S_ 1 1#1
  let main_v12 : IVec S_ 1 := (fun x v => Host.reduce IntOp.andi x v reducesTo_S4x256x512_S_d0_1_2 h_S_) main_v11 main_c_3
  let main_v13 : IVec S_ 1 := andi main_v8 main_v12
  let main_v14 : FVec F S4x8192x512 .f32 := Host.absf main_arg3
  let main_cst_4 : FVec F S_ .f32 := constant S_ .f32 0x7F800000#32
  let main_v15 : FVec F S4x8192x512 .f32 := broadcastInDim S4x8192x512 ![] bcast_S_S4x8192x512 main_cst_4
  let main_v16 : IVec S4x8192x512 1 := cmpf .olt main_v14 main_v15
  fn_part1 (F := F) main_arg4 main_arg5 main_arg6 main_v13 main_v16
-- ==== Pre_finite_args2.lean ====
abbrev S4x256x512 : Shape := ⟨3, ![4, 256, 512]⟩
abbrev S4x256x128 : Shape := ⟨3, ![4, 256, 128]⟩
abbrev S4x8192x512 : Shape := ⟨3, ![4, 8192, 512]⟩
abbrev S4x8192x128 : Shape := ⟨3, ![4, 8192, 128]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x8192x512 : S_.BroadcastsInDim S4x8192x512 (![] : Fin 0 → Fin S4x8192x512.rank)
  reducesTo_S4x8192x512_S_d0_1_2 : S4x8192x512.ReducesTo [0, 1, 2] S_
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn_part1 {F : FTy → Type} [FloatOps F] (main_arg4 : FVec F S4x8192x128 .f32) (main_arg5 : FVec F S4x8192x128 .f32) (main_v13 : IVec S_ 1) (main_v16 : IVec S4x8192x512 1) : IVec S_ 1 :=
  let main_c_5 : IVec S_ 1 := constantI S_ 1 1#1
  let main_v17 : IVec S_ 1 := (fun x v => Host.reduce IntOp.andi x v reducesTo_S4x8192x512_S_d0_1_2 h_S_) main_v16 main_c_5
  let main_v18 : IVec S_ 1 := andi main_v13 main_v17
  let main_v19 : FVec F S4x8192x128 .f32 := Host.absf main_arg4
  let main_cst_6 : FVec F S_ .f32 := constant S_ .f32 0x7F800000#32
  let main_v20 : FVec F S4x8192x128 .f32 := broadcastInDim S4x8192x128 ![] bcast_S_S4x8192x128 main_cst_6
  let main_v21 : IVec S4x8192x128 1 := cmpf .olt main_v19 main_v20
  let main_c_7 : IVec S_ 1 := constantI S_ 1 1#1
  let main_v22 : IVec S_ 1 := (fun x v => Host.reduce IntOp.andi x v reducesTo_S4x8192x128_S_d0_1_2 h_S_) main_v21 main_c_7
  let main_v23 : IVec S_ 1 := andi main_v18 main_v22
  let main_v24 : FVec F S4x8192x128 .f32 := Host.absf main_arg5
  let main_cst_8 : FVec F S_ .f32 := constant S_ .f32 0x7F800000#32
  let main_v25 : FVec F S4x8192x128 .f32 := broadcastInDim S4x8192x128 ![] bcast_S_S4x8192x128 main_cst_8
  let main_v26 : IVec S4x8192x128 1 := cmpf .olt main_v24 main_v25
  let main_c_9 : IVec S_ 1 := constantI S_ 1 1#1
  let main_v27 : IVec S_ 1 := (fun x v => Host.reduce IntOp.andi x v reducesTo_S4x8192x128_S_d0_1_2 h_S_) main_v26 main_c_9
  let main_v28 : IVec S_ 1 := andi main_v23 main_v27
  main_v28

def fn {F : FTy → Type} [FloatOps F] (main_arg0 : FVec F S4x256x512 .f32) (main_arg1 : FVec F S4x256x128 .f32) (main_arg2 : FVec F S4x256x128 .f32) (main_arg3 : FVec F S4x8192x512 .f32) (main_arg4 : FVec F S4x8192x128 .f32) (main_arg5 : FVec F S4x8192x128 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x256x128 .f32 := Host.absf main_arg1
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_v9 : FVec F S4x256x128 .f32 := Host.absf main_arg2
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  let main_c_3 : IVec S_ 1 := constantI S_ 1 1#1
  let main_v12 : IVec S_ 1 := (fun x v => Host.reduce IntOp.andi x v reducesTo_S4x256x128_S_d0_1_2 h_S_) main_v11 main_c_3
  let main_v13 : IVec S_ 1 := andi main_v8 main_v12
  let main_v14 : FVec F S4x8192x512 .f32 := Host.absf main_arg3
  let main_cst_4 : FVec F S_ .f32 := constant S_ .f32 0x7F800000#32
  let main_v15 : FVec F S4x8192x512 .f32 := broadcastInDim S4x8192x512 ![] bcast_S_S4x8192x512 main_cst_4
  let main_v16 : IVec S4x8192x512 1 := cmpf .olt main_v14 main_v15
  fn_part1 (F := F) main_arg4 main_arg5 main_v13 main_v16
-- ==== Kernel.lean ====
abbrev S4x256x512 : Shape := ⟨3, ![4, 256, 512]⟩
abbrev S4x8192x512 : Shape := ⟨3, ![4, 8192, 512]⟩
abbrev S4x64 : Shape := ⟨2, ![4, 64]⟩
abbrev S128 : Shape := ⟨1, ![128]⟩
abbrev S4x8448x512 : Shape := ⟨3, ![4, 8448, 512]⟩
abbrev S_ : Shape := ⟨0, ![]⟩
abbrev S1x128 : Shape := ⟨2, ![1, 128]⟩
abbrev S1x256x256 : Shape := ⟨3, ![1, 256, 256]⟩
abbrev S1x8448x256 : Shape := ⟨3, ![1, 8448, 256]⟩
abbrev S256x128 : Shape := ⟨2, ![256, 128]⟩
abbrev S1x256x128 : Shape := ⟨3, ![1, 256, 128]⟩
abbrev S512x128 : Shape := ⟨2, ![512, 128]⟩
abbrev S1x64 : Shape := ⟨2, ![1, 64]⟩
abbrev S1 : Shape := ⟨1, ![1]⟩
abbrev S1x1 : Shape := ⟨2, ![1, 1]⟩
abbrev S512x1 : Shape := ⟨2, ![512, 1]⟩
abbrev S512x256 : Shape := ⟨2, ![512, 256]⟩
abbrev S512 : Shape := ⟨1, ![512]⟩
abbrev S256 : Shape := ⟨1, ![256]⟩
abbrev S256x1 : Shape := ⟨2, ![256, 1]⟩
abbrev S1x2048x128 : Shape := ⟨3, ![1, 2048, 128]⟩
abbrev S2048x128 : Shape := ⟨2, ![2048, 128]⟩
abbrev S512x2048 : Shape := ⟨2, ![512, 2048]⟩

abbrev nBuf : Space → Nat
  | .hbm => 19
  | .vmem => 10
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x64, .f32⟩
  | .hbm, ⟨7, _⟩ => ⟨S128, .f32⟩
  | .hbm, ⟨8, _⟩ => ⟨S4x8448x512, .f32⟩
  | .hbm, ⟨9, _⟩ => ⟨S_, .f32⟩
  | .hbm, ⟨10, _⟩ => ⟨S4x8448x512, .f32⟩
  | .hbm, ⟨11, _⟩ => ⟨S4x8448x512, .f32⟩
  | .hbm, ⟨12, _⟩ => ⟨S4x8448x512, .bf16⟩
  | .hbm, ⟨13, _⟩ => ⟨S4x8448x512, .f32⟩
  | .hbm, ⟨14, _⟩ => ⟨S4x8448x512, .bf16⟩
  | .hbm, ⟨15, _⟩ => ⟨S4x8448x512, .f32⟩
  | .hbm, ⟨16, _⟩ => ⟨S4x8448x512, .bf16⟩
  | .hbm, ⟨17, _⟩ => ⟨S1x128, .f32⟩
  | .hbm, ⟨18, _⟩ => ⟨S4x8448x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S4x64, .f32⟩
  | .local _ .vmem, ⟨7, _⟩ => ⟨S1x128, .f32⟩
  | .local _ .vmem, ⟨8, _⟩ => ⟨S1x256x256, .bf16⟩
  | .local _ .vmem, ⟨9, _⟩ => ⟨S1x256x256, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 33], ![false, false, false]⟩

def k0_cond1 (i : grid0.Coords) : BitVec 1 :=
  let arg2 : BitVec 32 := BitVec.ofNat 32 (i 2).val
  let c1_i32 : BitVec 32 := 1#32
  let v36 : BitVec 1 := Scalar.cmpi .slt arg2 c1_i32
  let v37 : BitVec 32 := Scalar.extui v36
  let c0_i32 : BitVec 32 := 0#32
  let v38 : BitVec 1 := Scalar.cmpi .ne v37 c0_i32
  v38

def k0_cond2 (i : grid0.Coords) : BitVec 1 :=
  let arg2 : BitVec 32 := BitVec.ofNat 32 (i 2).val
  let c1_i32_12 : BitVec 32 := 1#32
  let v39 : BitVec 1 := Scalar.cmpi .sge arg2 c1_i32_12
  let v40 : BitVec 32 := Scalar.extui v39
  let c0_i32_13 : BitVec 32 := 0#32
  let v41 : BitVec 1 := Scalar.cmpi .ne v40 c0_i32_13
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x256x512 : Shape := ⟨3, ![4, 256, 512]⟩
abbrev S4x8192x512 : Shape := ⟨3, ![4, 8192, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4x256x4x2x64 : Shape := ⟨5, ![4, 256, 4, 2, 64]⟩
abbrev S4x256x4x128 : Shape := ⟨4, ![4, 256, 4, 128]⟩
abbrev S4x8192x4x2x64 : Shape := ⟨5, ![4, 8192, 4, 2, 64]⟩
abbrev S4x8448x4x2x64 : Shape := ⟨5, ![4, 8448, 4, 2, 64]⟩
abbrev S4x8192x4x128 : Shape := ⟨4, ![4, 8192, 4, 128]⟩
abbrev S4x8448x4x128 : Shape := ⟨4, ![4, 8448, 4, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x1x256x256 : Shape := ⟨5, ![4, 4, 1, 256, 256]⟩
abbrev S4x4x256x256 : Shape := ⟨4, ![4, 4, 256, 256]⟩
abbrev S4x4x128x256 : Shape := ⟨4, ![4, 4, 128, 256]⟩
abbrev S4x256x4 : Shape := ⟨3, ![4, 256, 4]⟩
abbrev S4x256x4x1 : Shape := ⟨4, ![4, 256, 4, 1]⟩
abbrev S4x8448x512 : Shape := ⟨3, ![4, 8448, 512]⟩

abbrev nBuf : Space → Nat
  | .hbm => 131
  | .vmem => 0
  | .smem => 0
  | _ => 0

abbrev hbmTy0_0 (i : Nat) : BufTy := match i % 128 with
  | 0 => ⟨S4x256x512, .f32⟩
  | 1 => ⟨S4x256x512, .f32⟩
  | 2 => ⟨S4x256x512, .f32⟩
  | 3 => ⟨S4x8192x512, .f32⟩
  | 4 => ⟨S4x8192x512, .f32⟩
  | 5 => ⟨S4x8192x512, .f32⟩
  | 6 => ⟨S4x64, .f32⟩
  | 7 => ⟨S128, .f32⟩
  | 8 => ⟨S1x64, .f32⟩
  | 9 => ⟨S64, .f32⟩
  | 10 => ⟨S1x64, .f32⟩
  | 11 => ⟨S64, .f32⟩
  | 12 => ⟨S64, .f32⟩
  | 13 => ⟨S_, .f32⟩
  | 14 => ⟨S_, .f32⟩
  | 15 => ⟨S_, .f32⟩
  | 16 => ⟨S1x64, .f32⟩
  | 17 => ⟨S64, .f32⟩
  | 18 => ⟨S1x64, .f32⟩
  | 19 => ⟨S64, .f32⟩
  | 20 => ⟨S64, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4x256x4x2x64, .f32⟩
  | 28 => ⟨S4x256x4x128, .f32⟩
  | 29 => ⟨S4x8192x4x2x64, .f32⟩
  | 30 => ⟨S4x8448x4x2x64, .f32⟩
  | 31 => ⟨S4x8192x4x128, .f32⟩
  | 32 => ⟨S4x8448x4x128, .f32⟩
  | 33 => ⟨S4x8192x4x2x64, .f32⟩
  | 34 => ⟨S4x4x2x8192x8448, .f32⟩
  | 35 => ⟨S_, .f32⟩
  | 36 => ⟨S4x4x2x8192x8448, .f32⟩
  | 37 => ⟨S4x4x2x8192x8448, .f32⟩
  | 38 => ⟨S_, .f32⟩
  | 39 => ⟨S4x4x2x8192, .f32⟩
  | 40 => ⟨S_, .f32⟩
  | 41 => ⟨S4x4x2x8192, .f32⟩
  | 42 => ⟨S4x4x2x8192, .f32⟩
  | 43 => ⟨S4x4x2x8192x1, .f32⟩
  | 44 => ⟨S4x4x2x8192x8448, .f32⟩
  | 45 => ⟨S4x4x2x8192x8448, .f32⟩
  | 46 => ⟨S4x4x2x8192x8448, .f32⟩
  | 47 => ⟨S_, .f32⟩
  | 48 => ⟨S4x4x2x8192, .f32⟩
  | 49 => ⟨S4x4x2x8192x1, .f32⟩
  | 50 => ⟨S4x4x2x8192x8448, .f32⟩
  | 51 => ⟨S4x4x2x8192x8448, .f32⟩
  | 52 => ⟨S4x4x1x8192x8448, .f32⟩
  | 53 => ⟨S4x4x8192x8448, .f32⟩
  | 54 => ⟨S4x4x1x8192x8448, .f32⟩
  | 55 => ⟨S4x4x8192x8448, .f32⟩
  | 56 => ⟨S4x4x8192x8448, .f32⟩
  | 57 => ⟨S4x4x8192x8448, .f32⟩
  | 58 => ⟨S4x4x8192x8448, .f32⟩
  | 59 => ⟨S4x4x128x8192, .f32⟩
  | 60 => ⟨S4x8192x4x128, .f32⟩
  | 61 => ⟨S4x8192x4x128, .f32⟩
  | 62 => ⟨S_, .f32⟩
  | 63 => ⟨S4x8192x4, .f32⟩
  | 64 => ⟨S4x8192x4x1, .f32⟩
  | 65 => ⟨S_, .f32⟩
  | 66 => ⟨S4x8192x4x1, .f32⟩
  | 67 => ⟨S4x8192x4x1, .f32⟩
  | 68 => ⟨S_, .f32⟩
  | 69 => ⟨S4x8192x4x1, .f32⟩
  | 70 => ⟨S4x8192x4x1, .f32⟩
  | 71 => ⟨S4x8192x4x1, .f32⟩
  | 72 => ⟨S4x8192x4x128, .f32⟩
  | 73 => ⟨S4x8192x4x128, .f32⟩
  | 74 => ⟨S1x1x1x128, .f32⟩
  | 75 => ⟨S4x8192x4x128, .f32⟩
  | 76 => ⟨S4x8192x4x128, .f32⟩
  | 77 => ⟨S_, .f32⟩
  | 78 => ⟨S4x8192x4x128, .f32⟩
  | 79 => ⟨S4x8192x4x128, .f32⟩
  | 80 => ⟨S4x8192x512, .f32⟩
  | 81 => ⟨S4x256x4x2x64, .f32⟩
  | 82 => ⟨S4x4x2x256x256, .f32⟩
  | 83 => ⟨S_, .f32⟩
  | 84 => ⟨S4x4x2x256x256, .f32⟩
  | 85 => ⟨S4x4x2x256x256, .f32⟩
  | 86 => ⟨S_, .f32⟩
  | 87 => ⟨S4x4x2x256, .f32⟩
  | 88 => ⟨S_, .f32⟩
  | 89 => ⟨S4x4x2x256, .f32⟩
  | 90 => ⟨S4x4x2x256, .f32⟩
  | 91 => ⟨S4x4x2x256x1, .f32⟩
  | 92 => ⟨S4x4x2x256x256, .f32⟩
  | 93 => ⟨S4x4x2x256x256, .f32⟩
  | 94 => ⟨S4x4x2x256x256, .f32⟩
  | 95 => ⟨S_, .f32⟩
  | 96 => ⟨S4x4x2x256, .f32⟩
  | 97 => ⟨S4x4x2x256x1, .f32⟩
  | 98 => ⟨S4x4x2x256x256, .f32⟩
  | 99 => ⟨S4x4x2x256x256, .f32⟩
  | 100 => ⟨S4x4x1x256x256, .f32⟩
  | 101 => ⟨S4x4x256x256, .f32⟩
  | 102 => ⟨S4x4x1x256x256, .f32⟩
  | 103 => ⟨S4x4x256x256, .f32⟩
  | 104 => ⟨S4x4x256x256, .f32⟩
  | 105 => ⟨S4x4x256x256, .f32⟩
  | 106 => ⟨S4x4x256x256, .f32⟩
  | 107 => ⟨S4x4x128x256, .f32⟩
  | 108 => ⟨S4x256x4x128, .f32⟩
  | 109 => ⟨S4x256x4x128, .f32⟩
  | 110 => ⟨S_, .f32⟩
  | 111 => ⟨S4x256x4, .f32⟩
  | 112 => ⟨S4x256x4x1, .f32⟩
  | 113 => ⟨S_, .f32⟩
  | 114 => ⟨S4x256x4x1, .f32⟩
  | 115 => ⟨S4x256x4x1, .f32⟩
  | 116 => ⟨S_, .f32⟩
  | 117 => ⟨S4x256x4x1, .f32⟩
  | 118 => ⟨S4x256x4x1, .f32⟩
  | 119 => ⟨S4x256x4x1, .f32⟩
  | 120 => ⟨S4x256x4x128, .f32⟩
  | 121 => ⟨S4x256x4x128, .f32⟩
  | 122 => ⟨S1x1x1x128, .f32⟩
  | 123 => ⟨S4x256x4x128, .f32⟩
  | 124 => ⟨S4x256x4x128, .f32⟩
  | 125 => ⟨S_, .f32⟩
  | 126 => ⟨S4x256x4x128, .f32⟩
  | 127 => ⟨S4x256x4x128, .f32⟩
  | _ => ⟨S4x256x512, .f32⟩

abbrev hbmTy0_1 (i : Nat) : BufTy := match i % 128 with
  | 0 => ⟨S4x256x512, .f32⟩
  | 1 => ⟨S4x8448x512, .f32⟩
  | 2 => ⟨S4x8448x512, .bf16⟩
  | _ => ⟨S4x256x512, .f32⟩

abbrev hbmTy (i : Nat) : BufTy := match i / 128 with
  | 0 => hbmTy0_0 i
  | 1 => hbmTy0_1 i
  | _ => ⟨S4x256x512, .f32⟩

abbrev bufTy : (tb : Table) → Fin (tcTables nBuf tb) → BufTy
  | .hbm, ⟨i, _⟩ => hbmTy i
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_14 : Ref sig .tc := ⟨.hbm, 110, rfl⟩
abbrev main_v87 : Ref sig .tc := ⟨.hbm, 111, rfl⟩
abbrev main_v88 : Ref sig .tc := ⟨.hbm, 112, rfl⟩
abbrev main_cst_15 : Ref sig .tc := ⟨.hbm, 113, rfl⟩
abbrev main_v89 : Ref sig .tc := ⟨.hbm, 114, rfl⟩
abbrev main_v90 : Ref sig .tc := ⟨.hbm, 115, rfl⟩
abbrev main_cst_16 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_17 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== Kernel2.lean ====
abbrev S4x256x512 : Shape := ⟨3, ![4, 256, 512]⟩
abbrev S4x256x128 : Shape := ⟨3, ![4, 256, 128]⟩
abbrev S4x8192x512 : Shape := ⟨3, ![4, 8192, 512]⟩
abbrev S4x8192x128 : Shape := ⟨3, ![4, 8192, 128]⟩
abbrev S4x8448x512 : Shape := ⟨3, ![4, 8448, 512]⟩
abbrev S_ : Shape := ⟨0, ![]⟩
abbrev S4x8448x128 : Shape := ⟨3, ![4, 8448, 128]⟩
abbrev S4x8448x64 : Shape := ⟨3, ![4, 8448, 64]⟩
abbrev S4x8448x256 : Shape := ⟨3, ![4, 8448, 256]⟩
abbrev S1x256x512 : Shape := ⟨3, ![1, 256, 512]⟩
abbrev S1x8448x256 : Shape := ⟨3, ![1, 8448, 256]⟩
abbrev S256x128 : Shape := ⟨2, ![256, 128]⟩
abbrev S1x256x128 : Shape := ⟨3, ![1, 256, 128]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩
abbrev S1024x64 : Shape := ⟨2, ![1024, 64]⟩
abbrev S256x64 : Shape := ⟨2, ![256, 64]⟩
abbrev S256x256 : Shape := ⟨2, ![256, 256]⟩
abbrev S1x256x256 : Shape := ⟨3, ![1, 256, 256]⟩
abbrev S1x2048x128 : Shape := ⟨3, ![1, 2048, 128]⟩
abbrev S2048x128 : Shape := ⟨2, ![2048, 128]⟩
abbrev S1024x2048 : Shape := ⟨2, ![1024, 2048]⟩

abbrev nBuf : Space → Nat
  | .hbm => 26
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4x256x128, .f32⟩
  | .hbm, ⟨2, _⟩ => ⟨S4x256x128, .f32⟩
  | .hbm, ⟨3, _⟩ => ⟨S4x8192x512, .f32⟩
  | .hbm, ⟨4, _⟩ => ⟨S4x8192x128, .f32⟩
  | .hbm, ⟨5, _⟩ => ⟨S4x8192x128, .f32⟩
  | .hbm, ⟨6, _⟩ => ⟨S4x8448x512, .f32⟩
  | .hbm, ⟨7, _⟩ => ⟨S_, .f32⟩
  | .hbm, ⟨8, _⟩ => ⟨S4x8448x512, .f32⟩
  | .hbm, ⟨9, _⟩ => ⟨S4x8448x512, .f32⟩
  | .hbm, ⟨10, _⟩ => ⟨S4x8448x512, .bf16⟩
  | .hbm, ⟨11, _⟩ => ⟨S4x8448x128, .f32⟩
  | .hbm, ⟨12, _⟩ => ⟨S4x8448x64, .f32⟩
  | .hbm, ⟨13, _⟩ => ⟨S4x8448x64, .f32⟩
  | .hbm, ⟨14, _⟩ => ⟨S4x8448x64, .f32⟩
  | .hbm, ⟨15, _⟩ => ⟨S4x8448x64, .f32⟩
  | .hbm, ⟨16, _⟩ => ⟨S4x8448x256, .f32⟩
  | .hbm, ⟨17, _⟩ => ⟨S4x8448x256, .bf16⟩
  | .hbm, ⟨18, _⟩ => ⟨S4x8448x128, .f32⟩
  | .hbm, ⟨19, _⟩ => ⟨S_, .f32⟩
  | .hbm, ⟨20, _⟩ => ⟨S4x8448x64, .f32⟩
  | .hbm, ⟨21, _⟩ => ⟨S4x8448x64, .f32⟩
  | .hbm, ⟨22, _⟩ => ⟨S4x8448x64, .f32⟩
  | .hbm, ⟨23, _⟩ => ⟨S4x8448x256, .f32⟩
  | .hbm, ⟨24, _⟩ => ⟨S4x8448x256, .bf16⟩
  | .hbm, ⟨25, _⟩ => ⟨S4x8448x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x256x512, .bf16⟩
  | .local _ .vmem, ⟨7, _⟩ => ⟨S1x256x512, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 33], ![false, false, false]⟩

def k0_cond1 (i : grid0.Coords) : BitVec 1 :=
  let arg2 : BitVec 32 := BitVec.ofNat 32 (i 2).val
  let c1_i32 : BitVec 32 := 1#32
  let v36 : BitVec 1 := Scalar.cmpi .slt arg2 c1_i32
  let v37 : BitVec 32 := Scalar.extui v36
  let c0_i32 : BitVec 32 := 0#32
  let v38 : BitVec 1 := Scalar.cmpi .ne v37 c0_i32
  v38

def k0_cond2 (i : grid0.Coords) : BitVec 1 :=
  let arg2 : BitVec 32 := BitVec.ofNat 32 (i 2).val
  let c1_i32_15 : BitVec 32 := 1#32
  let v39 : BitVec 1 := Scalar.cmpi .sge arg2 c1_i32_15
  let v40 : BitVec 32 := Scalar.extui v39
  let c0_i32_16 : BitVec 32 := 0#32
  let v41 : BitVec 1 := Scalar.cmpi .ne v40 c0_i32_16
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S4x256x512 : Shape := ⟨3, ![4, 256, 512]⟩
abbrev S4x256x128 : Shape := ⟨3, ![4, 256, 128]⟩
abbrev S4x8192x512 : Shape := ⟨3, ![4, 8192, 512]⟩
abbrev S4x8192x128 : Shape := ⟨3, ![4, 8192, 128]⟩
abbrev S4x256x2x64 : Shape := ⟨4, ![4, 256, 2, 64]⟩
abbrev S4x8192x2x64 : Shape := ⟨4, ![4, 8192, 2, 64]⟩
abbrev S4x8448x2x64 : Shape := ⟨4, ![4, 8448, 2, 64]⟩
abbrev S4x8192x2x4x64 : Shape := ⟨5, ![4, 8192, 2, 4, 64]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x8448x512 : Shape := ⟨3, ![4, 8448, 512]⟩

abbrev nBuf : Space → Nat
  | .hbm => 60
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x128, .f32⟩
  | .hbm, ⟨2, _⟩ => ⟨S4x256x128, .f32⟩
  | .hbm, ⟨3, _⟩ => ⟨S4x8192x512, .f32⟩
  | .hbm, ⟨4, _⟩ => ⟨S4x8192x128, .f32⟩
  | .hbm, ⟨5, _⟩ => ⟨S4x8192x128, .f32⟩
  | .hbm, ⟨6, _⟩ => ⟨S4x256x2x64, .f32⟩
  | .hbm, ⟨7, _⟩ => ⟨S4x256x2x64, .f32⟩
  | .hbm, ⟨8, _⟩ => ⟨S4x8192x2x64, .f32⟩
  | .hbm, ⟨9, _⟩ => ⟨S4x8448x2x64, .f32⟩
  | .hbm, ⟨10, _⟩ => ⟨S4x8192x2x64, .f32⟩
  | .hbm, ⟨11, _⟩ => ⟨S4x8448x2x64, .f32⟩
  | .hbm, ⟨12, _⟩ => ⟨S4x8192x2x4x64, .f32⟩
  | .hbm, ⟨13, _⟩ => ⟨S4x2x8448x8192x4, .f32⟩
  | .hbm, ⟨14, _⟩ => ⟨S4x2x4x8192x8448, .f32⟩
  | .hbm, ⟨15, _⟩ => ⟨S_, .f32⟩
  | .hbm, ⟨16, _⟩ => ⟨S4x2x4x8192x8448, .f32⟩
  | .hbm, ⟨17, _⟩ => ⟨S4x2x4x8192x8448, .f32⟩
  | .hbm, ⟨18, _⟩ => ⟨S_, .f32⟩
  | .hbm, ⟨19, _⟩ => ⟨S4x2x4x8192, .f32⟩
  | .hbm, ⟨20, _⟩ => ⟨S_, .f32⟩
  | .hbm, ⟨21, _⟩ => ⟨S4x2x4x8192, .f32⟩
  | .hbm, ⟨22, _⟩ => ⟨S4x2x4x8192, .f32⟩
  | .hbm, ⟨23, _⟩ => ⟨S4x2x4x8192x1, .f32⟩
  | .hbm, ⟨24, _⟩ => ⟨S4x2x4x8192x8448, .f32⟩
  | .hbm, ⟨25, _⟩ => ⟨S4x2x4x8192x8448, .f32⟩
  | .hbm, ⟨26, _⟩ => ⟨S4x2x4x8192x8448, .f32⟩
  | .hbm, ⟨27, _⟩ => ⟨S_, .f32⟩
  | .hbm, ⟨28, _⟩ => ⟨S4x2x4x8192, .f32⟩
  | .hbm, ⟨29, _⟩ => ⟨S4x2x4x8192x1, .f32⟩
  | .hbm, ⟨30, _⟩ => ⟨S4x2x4x8192x8448, .f32⟩
  | .hbm, ⟨31, _⟩ => ⟨S4x2x4x8192x8448, .f32⟩
  | .hbm, ⟨32, _⟩ => ⟨S4x2x64x4x8192, .f32⟩
  | .hbm, ⟨33, _⟩ => ⟨S4x8192x2x4x64, .f32⟩
  | .hbm, ⟨34, _⟩ => ⟨S4x8192x512, .f32⟩
  | .hbm, ⟨35, _⟩ => ⟨S4x256x2x4x64, .f32⟩
  | .hbm, ⟨36, _⟩ => ⟨S4x2x256x256x4, .f32⟩
  | .hbm, ⟨37, _⟩ => ⟨S4x2x4x256x256, .f32⟩
  | .hbm, ⟨38, _⟩ => ⟨S_, .f32⟩
  | .hbm, ⟨39, _⟩ => ⟨S4x2x4x256x256, .f32⟩
  | .hbm, ⟨40, _⟩ => ⟨S4x2x4x256x256, .f32⟩
  | .hbm, ⟨41, _⟩ => ⟨S_, .f32⟩
  | .hbm, ⟨42, _⟩ => ⟨S4x2x4x256, .f32⟩
  | .hbm, ⟨43, _⟩ => ⟨S_, .f32⟩
  | .hbm, ⟨44, _⟩ => ⟨S4x2x4x256, .f32⟩
  | .hbm, ⟨45, _⟩ => ⟨S4x2x4x256, .f32⟩
  | .hbm, ⟨46, _⟩ => ⟨S4x2x4x256x1, .f32⟩
  | .hbm, ⟨47, _⟩ => ⟨S4x2x4x256x256, .f32⟩
  | .hbm, ⟨48, _⟩ => ⟨S4x2x4x256x256, .f32⟩
  | .hbm, ⟨49, _⟩ => ⟨S4x2x4x256x256, .f32⟩
  | .hbm, ⟨50, _⟩ => ⟨S_, .f32⟩
  | .hbm, ⟨51, _⟩ => ⟨S4x2x4x256, .f32⟩
  | .hbm, ⟨52, _⟩ => ⟨S4x2x4x256x1, .f32⟩
  | .hbm, ⟨53, _⟩ => ⟨S4x2x4x256x256, .f32⟩
  | .hbm, ⟨54, _⟩ => ⟨S4x2x4x256x256, .f32⟩
  | .hbm, ⟨55, _⟩ => ⟨S4x2x64x4x256, .f32⟩
  | .hbm, ⟨56, _⟩ => ⟨S4x256x2x4x64, .f32⟩
  | .hbm, ⟨57, _⟩ => ⟨S4x256x512, .f32⟩
  | .hbm, ⟨58, _⟩ => ⟨S4x8448x512, .f32⟩
  | .hbm, ⟨59, _⟩ => ⟨S4x8448x512, .bf16⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S4x8448x1024 : Shape := ⟨3, ![4, 8448, 1024]⟩
abbrev S6144 : Shape := ⟨1, ![6144]⟩
abbrev S4x6144 : Shape := ⟨2, ![4, 6144]⟩
abbrev S4x8448x512 : Shape := ⟨3, ![4, 8448, 512]⟩
abbrev S512 : Shape := ⟨1, ![512]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S4x1x6144 : Shape := ⟨3, ![4, 1, 6144]⟩
abbrev S4x2x6144 : Shape := ⟨3, ![4, 2, 6144]⟩
abbrev S4x2x6x1024 : Shape := ⟨4, ![4, 2, 6, 1024]⟩
abbrev S8448x4x512 : Shape := ⟨3, ![8448, 4, 512]⟩
abbrev S8448x2048 : Shape := ⟨2, ![8448, 2048]⟩
abbrev S1x512 : Shape := ⟨2, ![1, 512]⟩
abbrev S1x1024 : Shape := ⟨2, ![1, 1024]⟩
abbrev S1x4096 : Shape := ⟨2, ![1, 4096]⟩
abbrev S4x128x4x128 : Shape := ⟨4, ![4, 128, 4, 128]⟩
abbrev S512x512 : Shape := ⟨2, ![512, 512]⟩
abbrev S33792x1024 : Shape := ⟨2, ![33792, 1024]⟩
abbrev S1x256x1024 : Shape := ⟨3, ![1, 256, 1024]⟩
abbrev S1x1x6x1024 : Shape := ⟨4, ![1, 1, 6, 1024]⟩
abbrev S1x256x512 : Shape := ⟨3, ![1, 256, 512]⟩
abbrev S256x512 : Shape := ⟨2, ![256, 512]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S1x512x1024 : Shape := ⟨3, ![1, 512, 1024]⟩

abbrev nBuf : Space → Nat
  | .hbm => 51
  | .vmem => 33
  | .smem => 0
  | _ => 0

abbrev bufTy : (tb : Table) → Fin (tcTables nBuf tb) → BufTy
  | .hbm, ⟨0, _⟩ => ⟨S4x8448x1024, .f32⟩
  | .hbm, ⟨1, _⟩ => ⟨S6144, .f32⟩
  | .hbm, ⟨2, _⟩ => ⟨S4x6144, .f32⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S4x8448x512, .f32⟩
  | .hbm, ⟨7, _⟩ => ⟨S4x8448x512, .f32⟩
  | .hbm, ⟨8, _⟩ => ⟨S4x8448x512, .f32⟩
  | .hbm, ⟨9, _⟩ => ⟨S4x8448x512, .f32⟩
  | .hbm, ⟨10, _⟩ => ⟨S4x8448x512, .f32⟩
  | .hbm, ⟨11, _⟩ => ⟨S512, .f32⟩
  | .hbm, ⟨12, _⟩ => ⟨S512x1024, .f32⟩
  | .hbm, ⟨13, _⟩ => ⟨S1024, .f32⟩
  | .hbm, ⟨14, _⟩ => ⟨S512, .f32⟩
  | .hbm, ⟨15, _⟩ => ⟨S1024x4096, .f32⟩
  | .hbm, ⟨16, _⟩ => ⟨S4096, .f32⟩
  | .hbm, ⟨17, _⟩ => ⟨S4x512x1024, .f32⟩
  | .hbm, ⟨18, _⟩ => ⟨S1024x1024, .f32⟩
  | .hbm, ⟨19, _⟩ => ⟨S1024, .f32⟩
  | .hbm, ⟨20, _⟩ => ⟨S1024, .f32⟩
  | .hbm, ⟨21, _⟩ => ⟨S4x6144, .f32⟩
  | .hbm, ⟨22, _⟩ => ⟨S4x1x6144, .f32⟩
  | .hbm, ⟨23, _⟩ => ⟨S4x1x6144, .f32⟩
  | .hbm, ⟨24, _⟩ => ⟨S4x2x6144, .f32⟩
  | .hbm, ⟨25, _⟩ => ⟨S4x2x6x1024, .f32⟩
  | .hbm, ⟨26, _⟩ => ⟨S4x8448x512, .bf16⟩
  | .hbm, ⟨27, _⟩ => ⟨S4x8448x512, .bf16⟩
  | .hbm, ⟨28, _⟩ => ⟨S8448x4x512, .f32⟩
  | .hbm, ⟨29, _⟩ => ⟨S8448x2048, .f32⟩
  | .hbm, ⟨30, _⟩ => ⟨S8448x4x512, .f32⟩
  | .hbm, ⟨31, _⟩ => ⟨S8448x2048, .f32⟩
  | .hbm, ⟨32, _⟩ => ⟨S8448x4x512, .f32⟩
  | .hbm, ⟨33, _⟩ => ⟨S8448x2048, .f32⟩
  | .hbm, ⟨34, _⟩ => ⟨S1x512, .f32⟩
  | .hbm, ⟨35, _⟩ => ⟨S512x1024, .bf16⟩
  | .hbm, ⟨36, _⟩ => ⟨S1x1024, .f32⟩
  | .hbm, ⟨37, _⟩ => ⟨S1x512, .f32⟩
  | .hbm, ⟨38, _⟩ => ⟨S1024x4096, .bf16⟩
  | .hbm, ⟨39, _⟩ => ⟨S1x4096, .f32⟩
  | .hbm, ⟨40, _⟩ => ⟨S4x512x1024, .bf16⟩
  | .hbm, ⟨41, _⟩ => ⟨S1024x1024, .bf16⟩
  | .hbm, ⟨42, _⟩ => ⟨S1x1024, .f32⟩
  | .hbm, ⟨43, _⟩ => ⟨S1x1024, .f32⟩
  | .hbm, ⟨44, _⟩ => ⟨S4x128x4x128, .i32⟩
  | .hbm, ⟨45, _⟩ => ⟨S4x128x4x128, .i32⟩
  | .hbm, ⟨46, _⟩ => ⟨S4x128x4x128, .i1⟩
  | .hbm, ⟨47, _⟩ => ⟨S4x128x4x128, .f32⟩
  | .hbm, ⟨48, _⟩ => ⟨S512x512, .f32⟩
  | .hbm, ⟨49, _⟩ => ⟨S512x512, .bf16⟩
  | .hbm, ⟨50, _⟩ => ⟨S33792x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x512, .f32⟩
  | .local _ .vmem, ⟨21, _⟩ => ⟨S512x1024, .bf16⟩
  | .local _ .vmem, ⟨22, _⟩ => ⟨S1x1024, .f32⟩
  | .local _ .vmem, ⟨23, _⟩ => ⟨S1x512, .f32⟩
  | .local _ .vmem, ⟨24, _⟩ => ⟨S1024x4096, .bf16⟩
  | .local _ .vmem, ⟨25, _⟩ => ⟨S1x4096, .f32⟩
  | .local _ .vmem, ⟨26, _⟩ => ⟨S4x512x1024, .bf16⟩
  | .local _ .vmem, ⟨27, _⟩ => ⟨S1024x1024, .bf16⟩
  | .local _ .vmem, ⟨28, _⟩ => ⟨S1x1024, .f32⟩
  | .local _ .vmem, ⟨29, _⟩ => ⟨S1x1024, .f32⟩
  | .local _ .vmem, ⟨30, _⟩ => ⟨S512x512, .bf16⟩
  | .local _ .vmem, ⟨31, _⟩ => ⟨S256x1024, .f32⟩
  | .local _ .vmem, ⟨32, _⟩ => ⟨S256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S4x8448x1024 : Shape := ⟨3, ![4, 8448, 1024]⟩
abbrev S6144 : Shape := ⟨1, ![6144]⟩
abbrev S4x6144 : Shape := ⟨2, ![4, 6144]⟩
abbrev S4x8448x512 : Shape := ⟨3, ![4, 8448, 512]⟩
abbrev S512 : Shape := ⟨1, ![512]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S1x1x6144 : Shape := ⟨3, ![1, 1, 6144]⟩
abbrev S4x256x6144 : Shape := ⟨3, ![4, 256, 6144]⟩
abbrev S4x1x6144 : Shape := ⟨3, ![4, 1, 6144]⟩
abbrev S4x8192x6144 : Shape := ⟨3, ![4, 8192, 6144]⟩
abbrev S4x8448x6144 : Shape := ⟨3, ![4, 8448, 6144]⟩
abbrev S_ : Shape := ⟨0, ![]⟩
abbrev S4x8448 : Shape := ⟨2, ![4, 8448]⟩
abbrev S4x8448x1 : Shape := ⟨3, ![4, 8448, 1]⟩
abbrev S4x8448x4096 : Shape := ⟨3, ![4, 8448, 4096]⟩
abbrev S1x1x512 : Shape := ⟨3, ![1, 1, 512]⟩
abbrev S1x1x1024 : Shape := ⟨3, ![1, 1, 1024]⟩
abbrev S4x8448x4x128 : Shape := ⟨4, ![4, 8448, 4, 128]⟩
abbrev S4x128 : Shape := ⟨2, ![4, 128]⟩
abbrev S4x8448x4 : Shape := ⟨3, ![4, 8448, 4]⟩
abbrev S4x8448x4x1 : Shape := ⟨4, ![4, 8448, 4, 1]⟩
abbrev S1x1x4x128 : Shape := ⟨4, ![1, 1, 4, 128]⟩
abbrev S1x1x4096 : Shape := ⟨3, ![1, 1, 4096]⟩
abbrev S1x512x1024 : Shape := ⟨3, ![1, 512, 1024]⟩
abbrev S33792x1024 : Shape := ⟨2, ![33792, 1024]⟩

abbrev nBuf : Space → Nat
  | .hbm => 186
  | .vmem => 0
  | .smem => 0
  | _ => 0

abbrev hbmTy0_0 (i : Nat) : BufTy := match i % 128 with
  | 0 => ⟨S4x8448x1024, .f32⟩
  | 1 => ⟨S6144, .f32⟩
  | 2 => ⟨S4x6144, .f32⟩
  | 3 => ⟨S4x8448x512, .f32⟩
  | 4 => ⟨S4x8448x512, .f32⟩
  | 5 => ⟨S4x8448x512, .f32⟩
  | 6 => ⟨S4x8448x512, .f32⟩
  | 7 => ⟨S4x8448x512, .f32⟩
  | 8 => ⟨S4x8448x512, .f32⟩
  | 9 => ⟨S4x8448x512, .f32⟩
  | 10 => ⟨S4x8448x512, .f32⟩
  | 11 => ⟨S512, .f32⟩
  | 12 => ⟨S512x1024, .f32⟩
  | 13 => ⟨S1024, .f32⟩
  | 14 => ⟨S512, .f32⟩
  | 15 => ⟨S1024x4096, .f32⟩
  | 16 => ⟨S4096, .f32⟩
  | 17 => ⟨S4x512x1024, .f32⟩
  | 18 => ⟨S1024x1024, .f32⟩
  | 19 => ⟨S1024, .f32⟩
  | 20 => ⟨S1024, .f32⟩
  | 21 => ⟨S1x1x6144, .f32⟩
  | 22 => ⟨S4x256x6144, .f32⟩
  | 23 => ⟨S4x1x6144, .f32⟩
  | 24 => ⟨S4x8192x6144, .f32⟩
  | 25 => ⟨S4x8448x6144, .f32⟩
  | 26 => ⟨S4x8448x1024, .f32⟩
  | 27 => ⟨S4x8448x1024, .f32⟩
  | 28 => ⟨S4x8448x1024, .f32⟩
  | 29 => ⟨S4x8448x1024, .f32⟩
  | 30 => ⟨S4x8448x1024, .f32⟩
  | 31 => ⟨S4x8448x1024, .f32⟩
  | 32 => ⟨S_, .f32⟩
  | 33 => ⟨S4x8448, .f32⟩
  | 34 => ⟨S4x8448x1, .f32⟩
  | 35 => ⟨S_, .f32⟩
  | 36 => ⟨S4x8448x1, .f32⟩
  | 37 => ⟨S4x8448x1, .f32⟩
  | 38 => ⟨S4x8448x1024, .f32⟩
  | 39 => ⟨S4x8448x1024, .f32⟩
  | 40 => ⟨S4x8448x1024, .f32⟩
  | 41 => ⟨S_, .f32⟩
  | 42 => ⟨S4x8448, .f32⟩
  | 43 => ⟨S4x8448x1, .f32⟩
  | 44 => ⟨S_, .f32⟩
  | 45 => ⟨S4x8448x1, .f32⟩
  | 46 => ⟨S4x8448x1, .f32⟩
  | 47 => ⟨S_, .f32⟩
  | 48 => ⟨S4x8448x1, .f32⟩
  | 49 => ⟨S4x8448x1, .f32⟩
  | 50 => ⟨S4x8448x1, .f32⟩
  | 51 => ⟨S4x8448x1024, .f32⟩
  | 52 => ⟨S4x8448x1024, .f32⟩
  | 53 => ⟨S_, .f32⟩
  | 54 => ⟨S4x8448x1024, .f32⟩
  | 55 => ⟨S4x8448x1024, .f32⟩
  | 56 => ⟨S4x8448x1024, .f32⟩
  | 57 => ⟨S4x8448x1024, .f32⟩
  | 58 => ⟨S4x8448x4096, .f32⟩
  | 59 => ⟨S1x1x512, .f32⟩
  | 60 => ⟨S4x8448x512, .f32⟩
  | 61 => ⟨S4x8448x512, .f32⟩
  | 62 => ⟨S4x8448x512, .f32⟩
  | 63 => ⟨S4x8448x512, .f32⟩
  | 64 => ⟨S_, .f32⟩
  | 65 => ⟨S4x8448x512, .f32⟩
  | 66 => ⟨S4x8448x512, .f32⟩
  | 67 => ⟨S4x8448x512, .f32⟩
  | 68 => ⟨S_, .f32⟩
  | 69 => ⟨S4x8448x512, .f32⟩
  | 70 => ⟨S4x8448x512, .f32⟩
  | 71 => ⟨S4x8448x512, .f32⟩
  | 72 => ⟨S4x8448x512, .f32⟩
  | 73 => ⟨S4x8448x1024, .f32⟩
  | 74 => ⟨S1x1x1024, .f32⟩
  | 75 => ⟨S4x8448x1024, .f32⟩
  | 76 => ⟨S4x8448x1024, .f32⟩
  | 77 => ⟨S4x8448x512, .f32⟩
  | 78 => ⟨S4x8448x512, .f32⟩
  | 79 => ⟨S4x8448x512, .f32⟩
  | 80 => ⟨S4x8448x512, .f32⟩
  | 81 => ⟨S_, .f32⟩
  | 82 => ⟨S4x8448x512, .f32⟩
  | 83 => ⟨S4x8448x512, .f32⟩
  | 84 => ⟨S_, .f32⟩
  | 85 => ⟨S4x8448x512, .f32⟩
  | 86 => ⟨S4x8448x512, .f32⟩
  | 87 => ⟨S4x8448x512, .f32⟩
  | 88 => ⟨S4x8448x512, .f32⟩
  | 89 => ⟨S4x8448x4x128, .f32⟩
  | 90 => ⟨S4x128, .f32⟩
  | 91 => ⟨S4x8448x4x128, .f32⟩
  | 92 => ⟨S_, .f32⟩
  | 93 => ⟨S4x8448x4, .f32⟩
  | 94 => ⟨S4x8448x4x1, .f32⟩
  | 95 => ⟨S_, .f32⟩
  | 96 => ⟨S4x8448x4x1, .f32⟩
  | 97 => ⟨S4x8448x4x1, .f32⟩
  | 98 => ⟨S_, .f32⟩
  | 99 => ⟨S4x8448x4x1, .f32⟩
  | 100 => ⟨S4x8448x4x1, .f32⟩
  | 101 => ⟨S4x8448x4x1, .f32⟩
  | 102 => ⟨S4x8448x4x128, .f32⟩
  | 103 => ⟨S4x8448x4x128, .f32⟩
  | 104 => ⟨S1x1x4x128, .f32⟩
  | 105 => ⟨S4x8448x4x128, .f32⟩
  | 106 => ⟨S4x8448x4x128, .f32⟩
  | 107 => ⟨S4x8448x512, .f32⟩
  | 108 => ⟨S4x8448x512, .f32⟩
  | 109 => ⟨S_, .f32⟩
  | 110 => ⟨S4x8448x512, .f32⟩
  | 111 => ⟨S4x8448x512, .f32⟩
  | 112 => ⟨S_, .f32⟩
  | 113 => ⟨S4x8448x512, .f32⟩
  | 114 => ⟨S4x8448x512, .f32⟩
  | 115 => ⟨S4x8448x4x128, .f32⟩
  | 116 => ⟨S4x8448x4x128, .f32⟩
  | 117 => ⟨S4x8448x512, .f32⟩
  | 118 => ⟨S1x1x4096, .f32⟩
  | 119 => ⟨S4x8448x4096, .f32⟩
  | 120 => ⟨S4x8448x4096, .f32⟩
  | 121 => ⟨S4x8448x4096, .f32⟩
  | 122 => ⟨S4x8448x4096, .f32⟩
  | 123 => ⟨S_, .f32⟩
  | 124 => ⟨S4x8448x4096, .f32⟩
  | 125 => ⟨S4x8448x4096, .f32⟩
  | 126 => ⟨S_, .f32⟩
  | 127 => ⟨S4x8448x4096, .f32⟩
  | _ => ⟨S4x8448x1024, .f32⟩

abbrev hbmTy0_1 (i : Nat) : BufTy := match i % 128 with
  | 0 => ⟨S4x8448x4096, .f32⟩
  | 1 => ⟨S4x8448x1024, .f32⟩
  | 2 => ⟨S4x8448x1024, .f32⟩
  | 3 => ⟨S4x8448x1024, .f32⟩
  | 4 => ⟨S4x8448x1024, .f32⟩
  | 5 => ⟨S1x512x1024, .f32⟩
  | 6 => ⟨S512x1024, .f32⟩
  | 7 => ⟨S4x8448x1024, .f32⟩
  | 8 => ⟨S4x8448x1024, .f32⟩
  | 9 => ⟨S1x512x1024, .f32⟩
  | 10 => ⟨S512x1024, .f32⟩
  | 11 => ⟨S4x8448x1024, .f32⟩
  | 12 => ⟨S4x8448x1024, .f32⟩
  | 13 => ⟨S4x8448x1024, .f32⟩
  | 14 => ⟨S1x512x1024, .f32⟩
  | 15 => ⟨S512x1024, .f32⟩
  | 16 => ⟨S4x8448x1024, .f32⟩
  | 17 => ⟨S4x8448x1024, .f32⟩
  | 18 => ⟨S4x8448x1024, .f32⟩
  | 19 => ⟨S1x512x1024, .f32⟩
  | 20 => ⟨S512x1024, .f32⟩
  | 21 => ⟨S4x8448x1024, .f32⟩
  | 22 => ⟨S4x8448x1024, .f32⟩
  | 23 => ⟨S4x8448x1024, .f32⟩
  | 24 => ⟨S4x8448x1024, .f32⟩
  | 25 => ⟨S_, .f32⟩
  | 26 => ⟨S4x8448x1024, .f32⟩
  | 27 => ⟨S4x8448x1024, .f32⟩
  | 28 => ⟨S4x8448x1024, .f32⟩
  | 29 => ⟨S4x8448x1024, .f32⟩
  | 30 => ⟨S_, .f32⟩
  | 31 => ⟨S4x8448, .f32⟩
  | 32 => ⟨S4x8448x1, .f32⟩
  | 33 => ⟨S_, .f32⟩
  | 34 => ⟨S4x8448x1, .f32⟩
  | 35 => ⟨S4x8448x1, .f32⟩
  | 36 => ⟨S4x8448x1024, .f32⟩
  | 37 => ⟨S4x8448x1024, .f32⟩
  | 38 => ⟨S4x8448x1024, .f32⟩
  | 39 => ⟨S_, .f32⟩
  | 40 => ⟨S4x8448, .f32⟩
  | 41 => ⟨S4x8448x1, .f32⟩
  | 42 => ⟨S_, .f32⟩
  | 43 => ⟨S4x8448x1, .f32⟩
  | 44 => ⟨S4x8448x1, .f32⟩
  | 45 => ⟨S_, .f32⟩
  | 46 => ⟨S4x8448x1, .f32⟩
  | 47 => ⟨S4x8448x1, .f32⟩
  | 48 => ⟨S4x8448x1, .f32⟩
  | 49 => ⟨S4x8448x1024, .f32⟩
  | 50 => ⟨S4x8448x1024, .f32⟩
  | 51 => ⟨S1x1x1024, .f32⟩
  | 52 => ⟨S4x8448x1024, .f32⟩
  | 53 => ⟨S4x8448x1024, .f32⟩
  | 54 => ⟨S1x1x1024, .f32⟩
  | 55 => ⟨S4x8448x1024, .f32⟩
  | 56 => ⟨S4x8448x1024, .f32⟩
  | 57 => ⟨S33792x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_cst_15 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_16 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_17 : Ref sig .tc := ⟨.hbm, 158, rfl⟩
abbrev main_v119 : Ref sig .tc := ⟨.hbm, 159, rfl⟩
abbrev main_v120 : Ref sig .tc := ⟨.hbm, 160, rfl⟩
abbrev main_cst_18 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_19 : Ref sig .tc := ⟨.hbm, 167, rfl⟩
abbrev main_v126 : Ref sig .tc := ⟨.hbm, 168, rfl⟩
abbrev main_v127 : Ref sig .tc := ⟨.hbm, 169, rfl⟩
abbrev main_cst_20 : Ref sig .tc := ⟨.hbm, 170, rfl⟩
abbrev main_v128 : Ref sig .tc := ⟨.hbm, 171, rfl⟩
abbrev main_v129 : Ref sig .tc := ⟨.hbm, 172, rfl⟩
abbrev main_cst_21 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩

abbrev nD : Nat := 1
abbrev τ : Topo := Topo.v7x

variable {F : FTy → Type} [FloatOps F]
-- ==== Kernel4.lean ====
abbrev S4x8448x1024 : Shape := ⟨3, ![4, 8448, 1024]⟩
abbrev S6144 : Shape := ⟨1, ![6144]⟩
abbrev S4x6144 : Shape := ⟨2, ![4, 6144]⟩
abbrev S1024x8976 : Shape := ⟨2, ![1024, 8976]⟩
abbrev S16 : Shape := ⟨1, ![16]⟩
abbrev S4x1x6144 : Shape := ⟨3, ![4, 1, 6144]⟩
abbrev S4x2x6144 : Shape := ⟨3, ![4, 2, 6144]⟩
abbrev S4x2x6x1024 : Shape := ⟨4, ![4, 2, 6, 1024]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x2688 : Shape := ⟨2, ![1024, 2688]⟩
abbrev S112 : Shape := ⟨1, ![112]⟩
abbrev S128 : Shape := ⟨1, ![128]⟩
abbrev S1x128 : Shape := ⟨2, ![1, 128]⟩
abbrev S8448x2048 : Shape := ⟨2, ![8448, 2048]⟩
abbrev S4x8448x512 : Shape := ⟨3, ![4, 8448, 512]⟩
abbrev S4x8448x128 : Shape := ⟨3, ![4, 8448, 128]⟩
abbrev S1x256x1024 : Shape := ⟨3, ![1, 256, 1024]⟩
abbrev S1x1x6x1024 : Shape := ⟨4, ![1, 1, 6, 1024]⟩
abbrev S256x512 : Shape := ⟨2, ![256, 512]⟩
abbrev S1x256x512 : Shape := ⟨3, ![1, 256, 512]⟩
abbrev S1x256x128 : Shape := ⟨3, ![1, 256, 128]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x1024 : Shape := ⟨2, ![1024, 1024]⟩
abbrev S1024x128 : Shape := ⟨2, ![1024, 128]⟩
abbrev S256x128 : Shape := ⟨2, ![256, 128]⟩

abbrev nBuf : Space → Nat
  | .hbm => 29
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S6144, .f32⟩
  | .hbm, ⟨2, _⟩ => ⟨S4x6144, .f32⟩
  | .hbm, ⟨3, _⟩ => ⟨S1024x8976, .f32⟩
  | .hbm, ⟨4, _⟩ => ⟨S16, .f32⟩
  | .hbm, ⟨5, _⟩ => ⟨S4x6144, .f32⟩
  | .hbm, ⟨6, _⟩ => ⟨S4x1x6144, .f32⟩
  | .hbm, ⟨7, _⟩ => ⟨S4x1x6144, .f32⟩
  | .hbm, ⟨8, _⟩ => ⟨S4x2x6144, .f32⟩
  | .hbm, ⟨9, _⟩ => ⟨S4x2x6x1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x16, .f32⟩
  | .hbm, ⟨16, _⟩ => ⟨S_, .f32⟩
  | .hbm, ⟨17, _⟩ => ⟨S1024x112, .f32⟩
  | .hbm, ⟨18, _⟩ => ⟨S1024x2688, .f32⟩
  | .hbm, ⟨19, _⟩ => ⟨S1024x2688, .bf16⟩
  | .hbm, ⟨20, _⟩ => ⟨S_, .f32⟩
  | .hbm, ⟨21, _⟩ => ⟨S112, .f32⟩
  | .hbm, ⟨22, _⟩ => ⟨S128, .f32⟩
  | .hbm, ⟨23, _⟩ => ⟨S1x128, .f32⟩
  | .hbm, ⟨24, _⟩ => ⟨S8448x2048, .f32⟩
  | .hbm, ⟨25, _⟩ => ⟨S4x8448x1024, .f32⟩
  | .hbm, ⟨26, _⟩ => ⟨S4x8448x512, .f32⟩
  | .hbm, ⟨27, _⟩ => ⟨S4x8448x512, .f32⟩
  | .hbm, ⟨28, _⟩ => ⟨S4x8448x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x2688, .bf16⟩
  | .local _ .vmem, ⟨5, _⟩ => ⟨S1x128, .f32⟩
  | .local _ .vmem, ⟨6, _⟩ => ⟨S256x512, .f32⟩
  | .local _ .vmem, ⟨7, _⟩ => ⟨S256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x128, .f32⟩
  | .local _ .vmem, ⟨15, _⟩ => ⟨S1x256x128, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x8448x1024 : Shape := ⟨3, ![4, 8448, 1024]⟩
abbrev S6144 : Shape := ⟨1, ![6144]⟩
abbrev S4x6144 : Shape := ⟨2, ![4, 6144]⟩
abbrev S1024x8976 : Shape := ⟨2, ![1024, 8976]⟩
abbrev S16 : Shape := ⟨1, ![16]⟩
abbrev S1x1x6144 : Shape := ⟨3, ![1, 1, 6144]⟩
abbrev S4x256x6144 : Shape := ⟨3, ![4, 256, 6144]⟩
abbrev S4x1x6144 : Shape := ⟨3, ![4, 1, 6144]⟩
abbrev S4x8192x6144 : Shape := ⟨3, ![4, 8192, 6144]⟩
abbrev S4x8448x6144 : Shape := ⟨3, ![4, 8448, 6144]⟩
abbrev S_ : Shape := ⟨0, ![]⟩
abbrev S4x8448 : Shape := ⟨2, ![4, 8448]⟩
abbrev S4x8448x1 : Shape := ⟨3, ![4, 8448, 1]⟩
abbrev S4x8448x8976 : Shape := ⟨3, ![4, 8448, 8976]⟩
abbrev S4x8448x512 : Shape := ⟨3, ![4, 8448, 512]⟩
abbrev S4x8448x16 : Shape := ⟨3, ![4, 8448, 16]⟩
abbrev S4x8448x128 : Shape := ⟨3, ![4, 8448, 128]⟩
abbrev S4x8448x4096 : Shape := ⟨3, ![4, 8448, 4096]⟩
abbrev S8448x4x512 : Shape := ⟨3, ![8448, 4, 512]⟩
abbrev S8448x2048 : Shape := ⟨2, ![8448, 2048]⟩
abbrev S1x1x16 : Shape := ⟨3, ![1, 1, 16]⟩
abbrev S4x8448x112 : Shape := ⟨3, ![4, 8448, 112]⟩

abbrev nBuf : Space → Nat
  | .hbm => 65
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S6144, .f32⟩
  | .hbm, ⟨2, _⟩ => ⟨S4x6144, .f32⟩
  | .hbm, ⟨3, _⟩ => ⟨S1024x8976, .f32⟩
  | .hbm, ⟨4, _⟩ => ⟨S16, .f32⟩
  | .hbm, ⟨5, _⟩ => ⟨S1x1x6144, .f32⟩
  | .hbm, ⟨6, _⟩ => ⟨S4x256x6144, .f32⟩
  | .hbm, ⟨7, _⟩ => ⟨S4x1x6144, .f32⟩
  | .hbm, ⟨8, _⟩ => ⟨S4x8192x6144, .f32⟩
  | .hbm, ⟨9, _⟩ => ⟨S4x8448x6144, .f32⟩
  | .hbm, ⟨10, _⟩ => ⟨S4x8448x1024, .f32⟩
  | .hbm, ⟨11, _⟩ => ⟨S4x8448x1024, .f32⟩
  | .hbm, ⟨12, _⟩ => ⟨S4x8448x1024, .f32⟩
  | .hbm, ⟨13, _⟩ => ⟨S4x8448x1024, .f32⟩
  | .hbm, ⟨14, _⟩ => ⟨S4x8448x1024, .f32⟩
  | .hbm, ⟨15, _⟩ => ⟨S4x8448x1024, .f32⟩
  | .hbm, ⟨16, _⟩ => ⟨S_, .f32⟩
  | .hbm, ⟨17, _⟩ => ⟨S4x8448, .f32⟩
  | .hbm, ⟨18, _⟩ => ⟨S4x8448x1, .f32⟩
  | .hbm, ⟨19, _⟩ => ⟨S_, .f32⟩
  | .hbm, ⟨20, _⟩ => ⟨S4x8448x1, .f32⟩
  | .hbm, ⟨21, _⟩ => ⟨S4x8448x1, .f32⟩
  | .hbm, ⟨22, _⟩ => ⟨S4x8448x1024, .f32⟩
  | .hbm, ⟨23, _⟩ => ⟨S4x8448x1024, .f32⟩
  | .hbm, ⟨24, _⟩ => ⟨S4x8448x1024, .f32⟩
  | .hbm, ⟨25, _⟩ => ⟨S_, .f32⟩
  | .hbm, ⟨26, _⟩ => ⟨S4x8448, .f32⟩
  | .hbm, ⟨27, _⟩ => ⟨S4x8448x1, .f32⟩
  | .hbm, ⟨28, _⟩ => ⟨S_, .f32⟩
  | .hbm, ⟨29, _⟩ => ⟨S4x8448x1, .f32⟩
  | .hbm, ⟨30, _⟩ => ⟨S4x8448x1, .f32⟩
  | .hbm, ⟨31, _⟩ => ⟨S_, .f32⟩
  | .hbm, ⟨32, _⟩ => ⟨S4x8448x1, .f32⟩
  | .hbm, ⟨33, _⟩ => ⟨S4x8448x1, .f32⟩
  | .hbm, ⟨34, _⟩ => ⟨S4x8448x1, .f32⟩
  | .hbm, ⟨35, _⟩ => ⟨S4x8448x1024, .f32⟩
  | .hbm, ⟨36, _⟩ => ⟨S4x8448x1024, .f32⟩
  | .hbm, ⟨37, _⟩ => ⟨S_, .f32⟩
  | .hbm, ⟨38, _⟩ => ⟨S4x8448x1024, .f32⟩
  | .hbm, ⟨39, _⟩ => ⟨S4x8448x1024, .f32⟩
  | .hbm, ⟨40, _⟩ => ⟨S4x8448x1024, .f32⟩
  | .hbm, ⟨41, _⟩ => ⟨S4x8448x1024, .f32⟩
  | .hbm, ⟨42, _⟩ => ⟨S4x8448x8976, .f32⟩
  | .hbm, ⟨43, _⟩ => ⟨S4x8448x512, .f32⟩
  | .hbm, ⟨44, _⟩ => ⟨S4x8448x512, .f32⟩
  | .hbm, ⟨45, _⟩ => ⟨S4x8448x512, .f32⟩
  | .hbm, ⟨46, _⟩ => ⟨S4x8448x512, .f32⟩
  | .hbm, ⟨47, _⟩ => ⟨S4x8448x512, .f32⟩
  | .hbm, ⟨48, _⟩ => ⟨S4x8448x512, .f32⟩
  | .hbm, ⟨49, _⟩ => ⟨S4x8448x512, .f32⟩
  | .hbm, ⟨50, _⟩ => ⟨S4x8448x512, .f32⟩
  | .hbm, ⟨51, _⟩ => ⟨S4x8448x16, .f32⟩
  | .hbm, ⟨52, _⟩ => ⟨S4x8448x512, .f32⟩
  | .hbm, ⟨53, _⟩ => ⟨S4x8448x128, .f32⟩
  | .hbm, ⟨54, _⟩ => ⟨S4x8448x128, .f32⟩
  | .hbm, ⟨55, _⟩ => ⟨S4x8448x4096, .f32⟩
  | .hbm, ⟨56, _⟩ => ⟨S8448x4x512, .f32⟩
  | .hbm, ⟨57, _⟩ => ⟨S8448x2048, .f32⟩
  | .hbm, ⟨58, _⟩ => ⟨S4x8448x1024, .f32⟩
  | .hbm, ⟨59, _⟩ => ⟨S1x1x16, .f32⟩
  | .hbm, ⟨60, _⟩ => ⟨S4x8448x16, .f32⟩
  | .hbm, ⟨61, _⟩ => ⟨S4x8448x16, .f32⟩
  | .hbm, ⟨62, _⟩ => ⟨S_, .f32⟩
  | .hbm, ⟨63, _⟩ => ⟨S4x8448x112, .f32⟩
  | .hbm, ⟨64, _⟩ => ⟨S4x8448x128, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x6144, .bf16⟩
  | .hbm, ⟨9, _⟩ => ⟨S1x6144, .f32⟩
  | .hbm, ⟨10, _⟩ => ⟨S8x6144, .f32⟩
  | .local _ .vmem, ⟨0, _⟩ => ⟨S8x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S3x6144 : Shape := ⟨2, ![3, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S4x6144, .f32⟩
  | .hbm, ⟨23, _⟩ => ⟨S1x6144, .f32⟩
  | .hbm, ⟨24, _⟩ => ⟨S4x6144, .f32⟩
  | .hbm, ⟨25, _⟩ => ⟨S4x6144, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S3x6144, .f32⟩
  | .hbm, ⟨30, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel6.lean ====
abbrev S4x8448x1024 : Shape := ⟨3, ![4, 8448, 1024]⟩
abbrev S3x1024 : Shape := ⟨2, ![3, 1024]⟩
abbrev S1024 : Shape := ⟨1, ![1024]⟩
abbrev S1x1024 : Shape := ⟨2, ![1, 1024]⟩
abbrev S4x8448x512 : Shape := ⟨3, ![4, 8448, 512]⟩
abbrev S1x256x1024 : Shape := ⟨3, ![1, 256, 1024]⟩
abbrev S1x8x1024 : Shape := ⟨3, ![1, 8, 1024]⟩
abbrev S1x256x512 : Shape := ⟨3, ![1, 256, 512]⟩
abbrev S256x1024 : Shape := ⟨2, ![256, 1024]⟩
abbrev S1x1x1024 : Shape := ⟨3, ![1, 1, 1024]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S4x8448x512, .bf16⟩
  | .hbm, ⟨5, _⟩ => ⟨S4x8448x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S3x1024, .f32⟩
  | .local _ .vmem, ⟨7, _⟩ => ⟨S1x1024, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x8448x1024 : Shape := ⟨3, ![4, 8448, 1024]⟩
abbrev S3x1024 : Shape := ⟨2, ![3, 1024]⟩
abbrev S1024 : Shape := ⟨1, ![1024]⟩
abbrev S4x256x1024 : Shape := ⟨3, ![4, 256, 1024]⟩
abbrev S_ : Shape := ⟨0, ![]⟩
abbrev S4x258x1024 : Shape := ⟨3, ![4, 258, 1024]⟩
abbrev S1x1024 : Shape := ⟨2, ![1, 1024]⟩
abbrev S1x1x1024 : Shape := ⟨3, ![1, 1, 1024]⟩
abbrev S4x256x512 : Shape := ⟨3, ![4, 256, 512]⟩
abbrev S4x8192x1024 : Shape := ⟨3, ![4, 8192, 1024]⟩
abbrev S4x8194x1024 : Shape := ⟨3, ![4, 8194, 1024]⟩
abbrev S4x8192x512 : Shape := ⟨3, ![4, 8192, 512]⟩
abbrev S4x8448x512 : Shape := ⟨3, ![4, 8448, 512]⟩

abbrev nBuf : Space → Nat
  | .hbm => 89
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S3x1024, .f32⟩
  | .hbm, ⟨2, _⟩ => ⟨S1024, .f32⟩
  | .hbm, ⟨3, _⟩ => ⟨S4x256x1024, .f32⟩
  | .hbm, ⟨4, _⟩ => ⟨S_, .i32⟩
  | .hbm, ⟨5, _⟩ => ⟨S_, .f32⟩
  | .hbm, ⟨6, _⟩ => ⟨S4x258x1024, .f32⟩
  | .hbm, ⟨7, _⟩ => ⟨S4x256x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S4x256x1024, .f32⟩
  | .hbm, ⟨12, _⟩ => ⟨S4x256x1024, .f32⟩
  | .hbm, ⟨13, _⟩ => ⟨S1x1x1024, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S4x256x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S_, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S4x256x512, .f32⟩
  | .hbm, ⟨40, _⟩ => ⟨S4x256x512, .f32⟩
  | .hbm, ⟨41, _⟩ => ⟨S4x8192x1024, .f32⟩
  | .hbm, ⟨42, _⟩ => ⟨S_, .i32⟩
  | .hbm, ⟨43, _⟩ => ⟨S_, .f32⟩
  | .hbm, ⟨44, _⟩ => ⟨S4x8194x1024, .f32⟩
  | .hbm, ⟨45, _⟩ => ⟨S4x8192x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S4x8192x1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x512, .f32⟩
  | .hbm, ⟨78, _⟩ => ⟨S4x8192x512, .f32⟩
  | .hbm, ⟨79, _⟩ => ⟨S4x8448x512, .f32⟩
  | .hbm, ⟨80, _⟩ => ⟨S_, .f32⟩
  | .hbm, ⟨81, _⟩ => ⟨S4x256x512, .f32⟩
  | .hbm, ⟨82, _⟩ => ⟨S4x256x512, .f32⟩
  | .hbm, ⟨83, _⟩ => ⟨S_, .f32⟩
  | .hbm, ⟨84, _⟩ => ⟨S4x8192x512, .f32⟩
  | .hbm, ⟨85, _⟩ => ⟨S4x8192x512, .f32⟩
  | .hbm, ⟨86, _⟩ => ⟨S4x8448x512, .f32⟩
  | .hbm, ⟨87, _⟩ => ⟨S4x8448x512, .bf16⟩
  | .hbm, ⟨88, _⟩ => ⟨S4x8448x512, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_0 : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst : Ref sig .tc := ⟨.hbm, 80, rfl⟩
abbrev main_v57 : Ref sig .tc := ⟨.hbm, 81, rfl⟩
abbrev main_v58 : Ref sig .tc := ⟨.hbm, 82, rfl⟩
abbrev main_cst_1 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel7.lean ====
abbrev S4x8448x1024 : Shape := ⟨3, ![4, 8448, 1024]⟩
abbrev S6144 : Shape := ⟨1, ![6144]⟩
abbrev S4x6144 : Shape := ⟨2, ![4, 6144]⟩
abbrev S1024x8976 : Shape := ⟨2, ![1024, 8976]⟩
abbrev S64 : Shape := ⟨1, ![64]⟩
abbrev S8192x16 : Shape := ⟨2, ![8192, 16]⟩
abbrev S4x1x6144 : Shape := ⟨3, ![4, 1, 6144]⟩
abbrev S4x2x6144 : Shape := ⟨3, ![4, 2, 6144]⟩
abbrev S4x2x6x1024 : Shape := ⟨4, ![4, 2, 6, 1024]⟩
abbrev S1024x512 : Shape := ⟨2, ![1024, 512]⟩
abbrev S1024x16x2x16 : Shape := ⟨4, ![1024, 16, 2, 16]⟩
abbrev S1024x16x1x16 : Shape := ⟨4, ![1024, 16, 1, 16]⟩
abbrev S1024x128 : Shape := ⟨2, ![1024, 128]⟩
abbrev S1024x64 : Shape := ⟨2, ![1024, 64]⟩
abbrev S1024x256 : Shape := ⟨2, ![1024, 256]⟩
abbrev S1024x4x2x16 : Shape := ⟨4, ![1024, 4, 2, 16]⟩
abbrev S1024x4x1x16 : Shape := ⟨4, ![1024, 4, 1, 16]⟩
abbrev S1024x2x64 : Shape := ⟨3, ![1024, 2, 64]⟩
abbrev S_ : Shape := ⟨0, ![]⟩
abbrev S1024x2x128 : Shape := ⟨3, ![1024, 2, 128]⟩
abbrev S1024x4352 : Shape := ⟨2, ![1024, 4352]⟩
abbrev S8192x64 : Shape := ⟨2, ![8192, 64]⟩
abbrev S256x64 : Shape := ⟨2, ![256, 64]⟩
abbrev S8448x64 : Shape := ⟨2, ![8448, 64]⟩
abbrev S1x64 : Shape := ⟨2, ![1, 64]⟩
abbrev S2x2x16 : Shape := ⟨3, ![2, 2, 16]⟩
abbrev S2x1x16 : Shape := ⟨3, ![2, 1, 16]⟩
abbrev S1x8448x64 : Shape := ⟨3, ![1, 8448, 64]⟩
abbrev S8x8448x64 : Shape := ⟨3, ![8, 8448, 64]⟩
abbrev S8x8448x128 : Shape := ⟨3, ![8, 8448, 128]⟩
abbrev S2x64x2x64 : Shape := ⟨4, ![2, 64, 2, 64]⟩
abbrev S128x128 : Shape := ⟨2, ![128, 128]⟩
abbrev S4x8448x512 : Shape := ⟨3, ![4, 8448, 512]⟩
abbrev S4x8448x256 : Shape := ⟨3, ![4, 8448, 256]⟩
abbrev S1x256x1024 : Shape := ⟨3, ![1, 256, 1024]⟩
abbrev S1x1x6x1024 : Shape := ⟨4, ![1, 1, 6, 1024]⟩
abbrev S8x256x128 : Shape := ⟨3, ![8, 256, 128]⟩
abbrev S1x256x512 : Shape := ⟨3, ![1, 256, 512]⟩
abbrev S1x256x256 : Shape := ⟨3, ![1, 256, 256]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩

abbrev nBuf : Space → Nat
  | .hbm => 176
  | .vmem => 20
  | .smem => 0
  | _ => 0

abbrev hbmTy0_0 (i : Nat) : BufTy := match i % 128 with
  | 0 => ⟨S4x8448x1024, .f32⟩
  | 1 => ⟨S6144, .f32⟩
  | 2 => ⟨S4x6144, .f32⟩
  | 3 => ⟨S1024x8976, .f32⟩
  | 4 => ⟨S64, .f32⟩
  | 5 => ⟨S64, .f32⟩
  | 6 => ⟨S8192x16, .f32⟩
  | 7 => ⟨S8192x16, .f32⟩
  | 8 => ⟨S4x6144, .f32⟩
  | 9 => ⟨S4x1x6144, .f32⟩
  | 10 => ⟨S4x1x6144, .f32⟩
  | 11 => ⟨S4x2x6144, .f32⟩
  | 12 => ⟨S4x2x6x1024, .f32⟩
  | 13 => ⟨S1024x512, .f32⟩
  | 14 => ⟨S1024x512, .f32⟩
  | 15 => ⟨S1024x16x2x16, .f32⟩
  | 16 => ⟨S1024x16x1x16, .f32⟩
  | 17 => ⟨S1024x16x1x16, .f32⟩
  | 18 => ⟨S1024x16x1x16, .f32⟩
  | 19 => ⟨S1024x16x2x16, .f32⟩
  | 20 => ⟨S1024x512, .f32⟩
  | 21 => ⟨S1024x512, .f32⟩
  | 22 => ⟨S1024x512, .f32⟩
  | 23 => ⟨S1024x16x2x16, .f32⟩
  | 24 => ⟨S1024x16x1x16, .f32⟩
  | 25 => ⟨S1024x16x1x16, .f32⟩
  | 26 => ⟨S1024x16x1x16, .f32⟩
  | 27 => ⟨S1024x16x2x16, .f32⟩
  | 28 => ⟨S1024x512, .f32⟩
  | 29 => ⟨S1024x512, .f32⟩
  | 30 => ⟨S1024x512, .f32⟩
  | 31 => ⟨S1024x512, .f32⟩
  | 32 => ⟨S1024x16x2x16, .f32⟩
  | 33 => ⟨S1024x16x1x16, .f32⟩
  | 34 => ⟨S1024x16x1x16, .f32⟩
  | 35 => ⟨S1024x16x1x16, .f32⟩
  | 36 => ⟨S1024x16x2x16, .f32⟩
  | 37 => ⟨S1024x512, .f32⟩
  | 38 => ⟨S1024x128, .f32⟩
  | 39 => ⟨S1024x64, .f32⟩
  | 40 => ⟨S1024x64, .f32⟩
  | 41 => ⟨S1024x64, .f32⟩
  | 42 => ⟨S1024x64, .f32⟩
  | 43 => ⟨S1024x256, .f32⟩
  | 44 => ⟨S1024x128, .f32⟩
  | 45 => ⟨S1024x4x2x16, .f32⟩
  | 46 => ⟨S1024x4x1x16, .f32⟩
  | 47 => ⟨S1024x4x1x16, .f32⟩
  | 48 => ⟨S1024x4x1x16, .f32⟩
  | 49 => ⟨S1024x4x2x16, .f32⟩
  | 50 => ⟨S1024x128, .f32⟩
  | 51 => ⟨S1024x64, .f32⟩
  | 52 => ⟨S1024x64, .f32⟩
  | 53 => ⟨S1024x64, .f32⟩
  | 54 => ⟨S1024x64, .f32⟩
  | 55 => ⟨S1024x256, .f32⟩
  | 56 => ⟨S1024x128, .f32⟩
  | 57 => ⟨S1024x2x64, .f32⟩
  | 58 => ⟨S_, .f32⟩
  | 59 => ⟨S1024x2x64, .f32⟩
  | 60 => ⟨S1024x2x128, .f32⟩
  | 61 => ⟨S1024x256, .f32⟩
  | 62 => ⟨S1024x4352, .f32⟩
  | 63 => ⟨S1024x4352, .bf16⟩
  | 64 => ⟨S8192x16, .f32⟩
  | 65 => ⟨S8192x16, .f32⟩
  | 66 => ⟨S8192x16, .f32⟩
  | 67 => ⟨S8192x16, .f32⟩
  | 68 => ⟨S8192x64, .f32⟩
  | 69 => ⟨S8192x16, .f32⟩
  | 70 => ⟨S8192x16, .f32⟩
  | 71 => ⟨S8192x16, .f32⟩
  | 72 => ⟨S8192x16, .f32⟩
  | 73 => ⟨S8192x64, .f32⟩
  | 74 => ⟨S_, .f32⟩
  | 75 => ⟨S256x64, .f32⟩
  | 76 => ⟨S8448x64, .f32⟩
  | 77 => ⟨S_, .f32⟩
  | 78 => ⟨S256x64, .f32⟩
  | 79 => ⟨S8448x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S8448x64, .f32⟩
  | 87 => ⟨S8448x64, .f32⟩
  | 88 => ⟨S2x2x16, .f32⟩
  | 89 => ⟨S2x1x16, .f32⟩
  | 90 => ⟨S2x2x16, .f32⟩
  | 91 => ⟨S2x1x16, .f32⟩
  | 92 => ⟨S2x2x16, .f32⟩
  | 93 => ⟨S64, .f32⟩
  | 94 => ⟨S_, .f32⟩
  | 95 => ⟨S64, .f32⟩
  | 96 => ⟨S64, .f32⟩
  | 97 => ⟨S1x64, .f32⟩
  | 98 => ⟨S8448x64, .f32⟩
  | 99 => ⟨S8448x64, .f32⟩
  | 100 => ⟨S_, .f32⟩
  | 101 => ⟨S64, .f32⟩
  | 102 => ⟨S64, .f32⟩
  | 103 => ⟨S1x64, .f32⟩
  | 104 => ⟨S8448x64, .f32⟩
  | 105 => ⟨S8448x64, .f32⟩
  | 106 => ⟨S2x2x16, .f32⟩
  | 107 => ⟨S2x1x16, .f32⟩
  | 108 => ⟨S2x2x16, .f32⟩
  | 109 => ⟨S2x1x16, .f32⟩
  | 110 => ⟨S2x2x16, .f32⟩
  | 111 => ⟨S64, .f32⟩
  | 112 => ⟨S_, .f32⟩
  | 113 => ⟨S64, .f32⟩
  | 114 => ⟨S64, .f32⟩
  | 115 => ⟨S1x64, .f32⟩
  | 116 => ⟨S8448x64, .f32⟩
  | 117 => ⟨S8448x64, .f32⟩
  | 118 => ⟨S_, .f32⟩
  | 119 => ⟨S64, .f32⟩
  | 120 => ⟨S64, .f32⟩
  | 121 => ⟨S1x64, .f32⟩
  | 122 => ⟨S8448x64, .f32⟩
  | 123 => ⟨S8448x64, .f32⟩
  | 124 => ⟨S2x2x16, .f32⟩
  | 125 => ⟨S2x1x16, .f32⟩
  | 126 => ⟨S2x2x16, .f32⟩
  | 127 => ⟨S2x1x16, .f32⟩
  | _ => ⟨S4x8448x1024, .f32⟩

abbrev hbmTy0_1 (i : Nat) : BufTy := match i % 128 with
  | 0 => ⟨S2x2x16, .f32⟩
  | 1 => ⟨S64, .f32⟩
  | 2 => ⟨S_, .f32⟩
  | 3 => ⟨S64, .f32⟩
  | 4 => ⟨S64, .f32⟩
  | 5 => ⟨S1x64, .f32⟩
  | 6 => ⟨S8448x64, .f32⟩
  | 7 => ⟨S8448x64, .f32⟩
  | 8 => ⟨S_, .f32⟩
  | 9 => ⟨S64, .f32⟩
  | 10 => ⟨S64, .f32⟩
  | 11 => ⟨S1x64, .f32⟩
  | 12 => ⟨S8448x64, .f32⟩
  | 13 => ⟨S8448x64, .f32⟩
  | 14 => ⟨S2x2x16, .f32⟩
  | 15 => ⟨S2x1x16, .f32⟩
  | 16 => ⟨S2x2x16, .f32⟩
  | 17 => ⟨S2x1x16, .f32⟩
  | 18 => ⟨S2x2x16, .f32⟩
  | 19 => ⟨S64, .f32⟩
  | 20 => ⟨S_, .f32⟩
  | 21 => ⟨S64, .f32⟩
  | 22 => ⟨S64, .f32⟩
  | 23 => ⟨S1x64, .f32⟩
  | 24 => ⟨S8448x64, .f32⟩
  | 25 => ⟨S8448x64, .f32⟩
  | 26 => ⟨S1x8448x64, .f32⟩
  | 27 => ⟨S1x8448x64, .f32⟩
  | 28 => ⟨S1x8448x64, .f32⟩
  | 29 => ⟨S1x8448x64, .f32⟩
  | 30 => ⟨S1x8448x64, .f32⟩
  | 31 => ⟨S1x8448x64, .f32⟩
  | 32 => ⟨S1x8448x64, .f32⟩
  | 33 => ⟨S1x8448x64, .f32⟩
  | 34 => ⟨S8x8448x64, .f32⟩
  | 35 => ⟨S8x8448x128, .f32⟩
  | 36 => ⟨S2x64x2x64, .i32⟩
  | 37 => ⟨S2x64x2x64, .i32⟩
  | 38 => ⟨S2x64x2x64, .i1⟩
  | 39 => ⟨S2x64x2x64, .f32⟩
  | 40 => ⟨S128x128, .f32⟩
  | 41 => ⟨S128x128, .bf16⟩
  | 42 => ⟨S4x8448x512, .bf16⟩
  | 43 => ⟨S4x8448x512, .bf16⟩
  | 44 => ⟨S4x8448x512, .bf16⟩
  | 45 => ⟨S4x8448x512, .bf16⟩
  | 46 => ⟨S4x8448x256, .bf16⟩
  | 47 => ⟨S4x8448x256, .bf16⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x4352, .bf16⟩
  | .local _ .vmem, ⟨5, _⟩ => ⟨S8x256x128, .f32⟩
  | .local _ .vmem, ⟨6, _⟩ => ⟨S8x256x128, .f32⟩
  | .local _ .vmem, ⟨7, _⟩ => ⟨S128x128, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_0 : Ref sig .tc := ⟨.hbm, 74, rfl⟩
abbrev main_v65 : Ref sig .tc := ⟨.hbm, 75, rfl⟩
abbrev main_v66 : Ref sig .tc := ⟨.hbm, 76, rfl⟩
abbrev main_cst_1 : Ref sig .tc := ⟨.hbm, 77, rfl⟩
abbrev main_v67 : Ref sig .tc := ⟨.hbm, 78, rfl⟩
abbrev main_v68 : Ref sig .tc := ⟨.hbm, 79, rfl⟩
abbrev main_cst_2 : Ref sig .tc := ⟨.hbm, 80, rfl⟩
abbrev main_v69 : Ref sig .tc := ⟨.hbm, 81, rfl⟩
abbrev main_cst_3 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_4 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_5 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_6 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_7 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_8 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_9 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_10 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150_0 : Ref sig .tc := ⟨.hbm, 170, rfl⟩
abbrev main_v150_1 : Ref sig .tc := ⟨.hbm, 171, rfl⟩
abbrev main_v150_2 : Ref sig .tc := ⟨.hbm, 172, rfl⟩
abbrev main_v150_3 : Ref sig .tc := ⟨.hbm, 173, rfl⟩
abbrev main_v150_4 : Ref sig .tc := ⟨.hbm, 174, rfl⟩
abbrev main_v150_5 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S4x8448x1024 : Shape := ⟨3, ![4, 8448, 1024]⟩
abbrev S6144 : Shape := ⟨1, ![6144]⟩
abbrev S4x6144 : Shape := ⟨2, ![4, 6144]⟩
abbrev S1024x8976 : Shape := ⟨2, ![1024, 8976]⟩
abbrev S64 : Shape := ⟨1, ![64]⟩
abbrev S8192x16 : Shape := ⟨2, ![8192, 16]⟩
abbrev S1x1x6144 : Shape := ⟨3, ![1, 1, 6144]⟩
abbrev S4x256x6144 : Shape := ⟨3, ![4, 256, 6144]⟩
abbrev S4x1x6144 : Shape := ⟨3, ![4, 1, 6144]⟩
abbrev S4x8192x6144 : Shape := ⟨3, ![4, 8192, 6144]⟩
abbrev S4x8448x6144 : Shape := ⟨3, ![4, 8448, 6144]⟩
abbrev S_ : Shape := ⟨0, ![]⟩
abbrev S4x8448 : Shape := ⟨2, ![4, 8448]⟩
abbrev S4x8448x1 : Shape := ⟨3, ![4, 8448, 1]⟩
abbrev S4x8448x8976 : Shape := ⟨3, ![4, 8448, 8976]⟩
abbrev S4x8448x512 : Shape := ⟨3, ![4, 8448, 512]⟩
abbrev S4x8448x16 : Shape := ⟨3, ![4, 8448, 16]⟩
abbrev S4x8448x128 : Shape := ⟨3, ![4, 8448, 128]⟩
abbrev S4x8448x4096 : Shape := ⟨3, ![4, 8448, 4096]⟩
abbrev S4x8448x2x64 : Shape := ⟨4, ![4, 8448, 2, 64]⟩
abbrev S4x8448x2x128 : Shape := ⟨4, ![4, 8448, 2, 128]⟩
abbrev S4x8448x256 : Shape := ⟨3, ![4, 8448, 256]⟩

abbrev nBuf : Space → Nat
  | .hbm => 66
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S6144, .f32⟩
  | .hbm, ⟨2, _⟩ => ⟨S4x6144, .f32⟩
  | .hbm, ⟨3, _⟩ => ⟨S1024x8976, .f32⟩
  | .hbm, ⟨4, _⟩ => ⟨S64, .f32⟩
  | .hbm, ⟨5, _⟩ => ⟨S64, .f32⟩
  | .hbm, ⟨6, _⟩ => ⟨S8192x16, .f32⟩
  | .hbm, ⟨7, _⟩ => ⟨S8192x16, .f32⟩
  | .hbm, ⟨8, _⟩ => ⟨S1x1x6144, .f32⟩
  | .hbm, ⟨9, _⟩ => ⟨S4x256x6144, .f32⟩
  | .hbm, ⟨10, _⟩ => ⟨S4x1x6144, .f32⟩
  | .hbm, ⟨11, _⟩ => ⟨S4x8192x6144, .f32⟩
  | .hbm, ⟨12, _⟩ => ⟨S4x8448x6144, .f32⟩
  | .hbm, ⟨13, _⟩ => ⟨S4x8448x1024, .f32⟩
  | .hbm, ⟨14, _⟩ => ⟨S4x8448x1024, .f32⟩
  | .hbm, ⟨15, _⟩ => ⟨S4x8448x1024, .f32⟩
  | .hbm, ⟨16, _⟩ => ⟨S4x8448x1024, .f32⟩
  | .hbm, ⟨17, _⟩ => ⟨S4x8448x1024, .f32⟩
  | .hbm, ⟨18, _⟩ => ⟨S4x8448x1024, .f32⟩
  | .hbm, ⟨19, _⟩ => ⟨S_, .f32⟩
  | .hbm, ⟨20, _⟩ => ⟨S4x8448, .f32⟩
  | .hbm, ⟨21, _⟩ => ⟨S4x8448x1, .f32⟩
  | .hbm, ⟨22, _⟩ => ⟨S_, .f32⟩
  | .hbm, ⟨23, _⟩ => ⟨S4x8448x1, .f32⟩
  | .hbm, ⟨24, _⟩ => ⟨S4x8448x1, .f32⟩
  | .hbm, ⟨25, _⟩ => ⟨S4x8448x1024, .f32⟩
  | .hbm, ⟨26, _⟩ => ⟨S4x8448x1024, .f32⟩
  | .hbm, ⟨27, _⟩ => ⟨S4x8448x1024, .f32⟩
  | .hbm, ⟨28, _⟩ => ⟨S_, .f32⟩
  | .hbm, ⟨29, _⟩ => ⟨S4x8448, .f32⟩
  | .hbm, ⟨30, _⟩ => ⟨S4x8448x1, .f32⟩
  | .hbm, ⟨31, _⟩ => ⟨S_, .f32⟩
  | .hbm, ⟨32, _⟩ => ⟨S4x8448x1, .f32⟩
  | .hbm, ⟨33, _⟩ => ⟨S4x8448x1, .f32⟩
  | .hbm, ⟨34, _⟩ => ⟨S_, .f32⟩
  | .hbm, ⟨35, _⟩ => ⟨S4x8448x1, .f32⟩
  | .hbm, ⟨36, _⟩ => ⟨S4x8448x1, .f32⟩
  | .hbm, ⟨37, _⟩ => ⟨S4x8448x1, .f32⟩
  | .hbm, ⟨38, _⟩ => ⟨S4x8448x1024, .f32⟩
  | .hbm, ⟨39, _⟩ => ⟨S4x8448x1024, .f32⟩
  | .hbm, ⟨40, _⟩ => ⟨S_, .f32⟩
  | .hbm, ⟨41, _⟩ => ⟨S4x8448x1024, .f32⟩
  | .hbm, ⟨42, _⟩ => ⟨S4x8448x1024, .f32⟩
  | .hbm, ⟨43, _⟩ => ⟨S4x8448x1024, .f32⟩
  | .hbm, ⟨44, _⟩ => ⟨S4x8448x1024, .f32⟩
  | .hbm, ⟨45, _⟩ => ⟨S4x8448x8976, .f32⟩
  | .hbm, ⟨46, _⟩ => ⟨S4x8448x512, .f32⟩
  | .hbm, ⟨47, _⟩ => ⟨S4x8448x512, .f32⟩
  | .hbm, ⟨48, _⟩ => ⟨S4x8448x512, .f32⟩
  | .hbm, ⟨49, _⟩ => ⟨S4x8448x512, .f32⟩
  | .hbm, ⟨50, _⟩ => ⟨S4x8448x512, .f32⟩
  | .hbm, ⟨51, _⟩ => ⟨S4x8448x512, .f32⟩
  | .hbm, ⟨52, _⟩ => ⟨S4x8448x512, .f32⟩
  | .hbm, ⟨53, _⟩ => ⟨S4x8448x512, .f32⟩
  | .hbm, ⟨54, _⟩ => ⟨S4x8448x16, .f32⟩
  | .hbm, ⟨55, _⟩ => ⟨S4x8448x512, .f32⟩
  | .hbm, ⟨56, _⟩ => ⟨S4x8448x128, .f32⟩
  | .hbm, ⟨57, _⟩ => ⟨S4x8448x128, .f32⟩
  | .hbm, ⟨58, _⟩ => ⟨S4x8448x4096, .f32⟩
  | .hbm, ⟨59, _⟩ => ⟨S4x8448x2x64, .f32⟩
  | .hbm, ⟨60, _⟩ => ⟨S_, .f32⟩
  | .hbm, ⟨61, _⟩ => ⟨S4x8448x2x64, .f32⟩
  | .hbm, ⟨62, _⟩ => ⟨S4x8448x2x128, .f32⟩
  | .hbm, ⟨63, _⟩ => ⟨S4x8448x512, .bf16⟩
  | .hbm, ⟨64, _⟩ => ⟨S4x8448x256, .f32⟩
  | .hbm, ⟨65, _⟩ => ⟨S4x8448x256, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.Softmax.lean ====
/- The softmax-weighted average taken a chunk of keys at a time, over the extended reals: plain analysis, no program.
   A row's state after some chunks is a running maximum `m`, a running denominator `l` and a running numerator `a`. All
   that matters of it is that `l * exp m` is the sum of `exp s` over the scores seen and `a * exp m` the sum of
   `exp s * v`: the maximum itself cancels in `a / l`. -/
module

public import Idealize.ShloMosaic.PureOps.Ideal

@[expose] public section

noncomputable section

namespace Cert.Softmax

open Idealize.ShloMosaic

/-- A finite sum of real numbers is the same sum taken in the extended reals. -/
theorem coe_sum {ι : Type*} (S : Finset ι) (f : ι → ℝ) : ∑ i ∈ S, ((f i : ℝ) : EReal) = ((∑ i ∈ S, f i : ℝ) : EReal) := by
  classical
  induction S using Finset.induction_on with
  | empty => simp
  | insert i S hi ih => rw [Finset.sum_insert hi, Finset.sum_insert hi, ih, EReal.coe_add]

/-- The largest of finitely many (at least one) real numbers, started from `-∞`, is a real number. -/
theorem fold_max_real {n : ℕ} (hn : 0 < n) (s : Fin n → ℝ) :
    ∃ μ : ℝ, Finset.univ.fold max (⊥ : EReal) (fun j => ((s j : ℝ) : EReal)) = μ := by
  haveI : Nonempty (Fin n) := ⟨⟨0, hn⟩⟩
  obtain ⟨i, -, hi⟩ := Finset.exists_mem_eq_sup (Finset.univ : Finset (Fin n)) Finset.univ_nonempty
    (fun j => ((s j : ℝ) : EReal))
  exact ⟨s i, hi⟩

/-- The quotient of two real numbers, the divisor not zero. -/
theorem div_coe {a b : ℝ} (hb : b ≠ 0) : Ideal.div (a : EReal) (b : EReal) = ((a / b : ℝ) : EReal) := by
  have h : (b : EReal) ≠ 0 := by rwa [Ne, EReal.coe_eq_zero]
  rw [Ideal.div, if_neg h, ← EReal.coe_inv, ← EReal.coe_mul, div_eq_mul_inv]

/-- The state of one row and one output lane: `m`, `l`, `a` are real, `l * exp m = E` and `a * exp m = A`. -/
def St (E A : ℝ) (m l a : EReal) : Prop :=
  ∃ μ d α : ℝ, m = μ ∧ l = d ∧ a = α ∧ d * Real.exp μ = E ∧ α * Real.exp μ = A

/-- The running maximum after a chunk of scores `s`. -/
def mx {n : ℕ} (m : EReal) (s : Fin n → EReal) : EReal := max m (Finset.univ.fold max (⊥ : EReal) s)

/-- The running denominator (with `v = 1`) or numerator after a chunk of scores `s` and values `v`. -/
def ac {n : ℕ} (m m' l : EReal) (s v : Fin n → EReal) : EReal := Ideal.exp (m - m') * l + ∑ j, Ideal.exp (s j - m') * v j

/-- The running denominator after a chunk of scores `s`. -/
def dn {n : ℕ} (m m' l : EReal) (s : Fin n → EReal) : EReal := Ideal.exp (m - m') * l + ∑ j, Ideal.exp (s j - m')

theorem exp_sub_coe (a b : ℝ) : Ideal.exp ((a : EReal) - (b : EReal)) = ((Real.exp (a - b) : ℝ) : EReal) := by
  rw [← EReal.coe_sub, Ideal.exp_coe]

theorem chunk_sum {n : ℕ} (s v : Fin n → ℝ) (μ : ℝ) :
    ∑ j, Ideal.exp ((s j : EReal) - (μ : EReal)) * ((v j : ℝ) : EReal) = ((∑ j, Real.exp (s j - μ) * v j : ℝ) : EReal) := by
  rw [← coe_sum]
  exact Finset.sum_congr rfl fun j _ => by rw [exp_sub_coe, EReal.coe_mul]

theorem chunk_sum_one {n : ℕ} (s : Fin n → ℝ) (μ : ℝ) :
    ∑ j, Ideal.exp ((s j : EReal) - (μ : EReal)) = ((∑ j, Real.exp (s j - μ) : ℝ) : EReal) := by
  rw [← coe_sum]
  exact Finset.sum_congr rfl fun j _ => exp_sub_coe _ _

theorem sum_exp_sub {n : ℕ} (s v : Fin n → ℝ) (μ : ℝ) :
    (∑ j, Real.exp (s j - μ) * v j) * Real.exp μ = ∑ j, Real.exp (s j) * v j := by
  rw [Finset.sum_mul]
  refine Finset.sum_congr rfl fun j _ => ?_
  rw [mul_right_comm, ← Real.exp_add, sub_add_cancel]

theorem sum_exp_sub_one {n : ℕ} (s : Fin n → ℝ) (μ : ℝ) :
    (∑ j, Real.exp (s j - μ)) * Real.exp μ = ∑ j, Real.exp (s j) := by
  rw [Finset.sum_mul]
  exact Finset.sum_congr rfl fun j _ => by rw [← Real.exp_add, sub_add_cancel]

/-- The first chunk, from the state (`-∞`, 0, 0). -/
theorem St.first {n : ℕ} (hn : 0 < n) (s v : Fin n → ℝ) {m' : EReal} (hm : m' = mx ⊥ fun j => (s j : EReal)) :
    St (∑ j, Real.exp (s j)) (∑ j, Real.exp (s j) * v j) m' (dn ⊥ m' 0 fun j => (s j : EReal))
      (ac ⊥ m' 0 (fun j => (s j : EReal)) fun j => (v j : EReal)) := by
  obtain ⟨μ, hμ⟩ := fold_max_real hn s
  have hm' : m' = μ := by rw [hm, mx, hμ]; exact max_eq_right bot_le
  subst hm'
  refine ⟨μ, _, _, rfl, ?_, ?_, sum_exp_sub_one s μ, sum_exp_sub s v μ⟩
  · rw [dn, mul_zero, zero_add, chunk_sum_one]
  · rw [ac, mul_zero, zero_add, chunk_sum]

/-- A further chunk. -/
theorem St.next {n : ℕ} (hn : 0 < n) {E A : ℝ} {m l a m' : EReal} (h : St E A m l a) (s v : Fin n → ℝ)
    (hm : m' = mx m fun j => (s j : EReal)) :
    St (E + ∑ j, Real.exp (s j)) (A + ∑ j, Real.exp (s j) * v j) m' (dn m m' l fun j => (s j : EReal))
      (ac m m' a (fun j => (s j : EReal)) fun j => (v j : EReal)) := by
  obtain ⟨μ₀, d, α, rfl, rfl, rfl, rfl, rfl⟩ := h
  obtain ⟨μ₁, hμ⟩ := fold_max_real hn s
  have hm' : m' = ((max μ₀ μ₁ : ℝ) : EReal) := by rw [hm, mx, hμ]; exact (EReal.coe_strictMono.monotone.map_max).symm
  generalize max μ₀ μ₁ = μ at hm'
  subst hm'
  refine ⟨μ, Real.exp (μ₀ - μ) * d + ∑ j, Real.exp (s j - μ), Real.exp (μ₀ - μ) * α + ∑ j, Real.exp (s j - μ) * v j,
    rfl, ?_, ?_, ?_, ?_⟩
  · rw [dn, chunk_sum_one, exp_sub_coe, EReal.coe_add, EReal.coe_mul]
  · rw [ac, chunk_sum, exp_sub_coe, EReal.coe_add, EReal.coe_mul]
  · rw [add_mul, sum_exp_sub_one, mul_right_comm, ← Real.exp_add, sub_add_cancel, mul_comm d]
  · rw [add_mul, sum_exp_sub, mul_right_comm, ← Real.exp_add, sub_add_cancel, mul_comm α]

/-- What the state divides to. -/
theorem St.div {E A : ℝ} {m l a : EReal} (h : St E A m l a) (hE : 0 < E) : Ideal.div a l = ((A / E : ℝ) : EReal) := by
  obtain ⟨μ, d, α, rfl, rfl, rfl, rfl, rfl⟩ := h
  have hx := Real.exp_pos μ
  have hd : d ≠ 0 := fun h0 => by rw [h0, zero_mul] at hE; exact lt_irrefl _ hE
  rw [div_coe hd, mul_div_mul_right _ _ hx.ne']

/-- A softmax weight, its maximum subtracted, is the plain quotient of exponentials. -/
theorem weight {n : ℕ} (hn : 0 < n) (s : Fin n → ℝ) {m : EReal} (hm : m = mx ⊥ fun j => (s j : EReal)) (k : Fin n) :
    Ideal.div (Ideal.exp ((s k : EReal) - m)) (∑ j, Ideal.exp ((s j : EReal) - m))
      = ((Real.exp (s k) / ∑ j, Real.exp (s j) : ℝ) : EReal) := by
  haveI : Nonempty (Fin n) := ⟨⟨0, hn⟩⟩
  obtain ⟨μ, hμ⟩ := fold_max_real hn s
  have hm' : m = μ := by rw [hm, mx, hμ]; exact max_eq_right bot_le
  subst hm'
  have hpos : 0 < ∑ j, Real.exp (s j - μ) := Finset.sum_pos (fun j _ => Real.exp_pos _) Finset.univ_nonempty
  rw [chunk_sum_one, exp_sub_coe, div_coe hpos.ne', ← mul_div_mul_right _ _ (Real.exp_pos μ).ne', sum_exp_sub_one,
    ← Real.exp_add, sub_add_cancel]

end Cert.Softmax

end
-- ==== Proof.Avg.lean ====
/- Real-number side of the attentions: scores, weighted averages over the context keys and over all keys, sums over a
   sequence split into chunks. No program. -/
module

public import proofs.«01_k».proof.Proof.Softmax

@[expose] public section

noncomputable section

namespace Cert.Softmax

/-- The score of a query row against the key `j`. -/
def sco {w n : ℕ} (Q : Fin w → ℝ) (K : Fin n → Fin w → ℝ) (j : Fin n) : ℝ := ∑ l, Q l * K j l

/-- A query row with its upper 64 lanes cleared. -/
def lo (Q : Fin 128 → ℝ) (l : Fin 128) : ℝ := if l.val < 64 then Q l else 0
/-- A query row with its lower 64 lanes cleared. -/
def hi (Q : Fin 128 → ℝ) (l : Fin 128) : ℝ := if l.val < 64 then 0 else Q l

/-- The softmax-weighted average of `V` under scores `S`. -/
def avg {n : ℕ} (S V : Fin n → ℝ) : ℝ := (∑ j, Real.exp (S j) * V j) / ∑ j, Real.exp (S j)

/-- The softmax-weighted average over two stretches of keys. -/
def avg2 {n k : ℕ} (S V : Fin n → ℝ) (S' V' : Fin k → ℝ) : ℝ :=
  (∑ j, Real.exp (S j) * V j + ∑ j, Real.exp (S' j) * V' j) / (∑ j, Real.exp (S j) + ∑ j, Real.exp (S' j))

theorem sum_four (n : ℕ) (f : Fin (n + n + n + n) → ℝ) :
    ∑ j, f j = ∑ j : Fin n, f ⟨j, by omega⟩ + ∑ j : Fin n, f ⟨n + j, by omega⟩
      + ∑ j : Fin n, f ⟨n + n + j, by omega⟩ + ∑ j : Fin n, f ⟨n + n + n + j, by omega⟩ := by
  rw [Fin.sum_univ_add, Fin.sum_univ_add, Fin.sum_univ_add]
  rfl

/-- A sum over 8192 positions, taken in four chunks of 2048. -/
theorem sum_chunks (f : Fin 8192 → ℝ) :
    ∑ j, f j = ∑ j : Fin 2048, f ⟨j, by omega⟩ + ∑ j : Fin 2048, f ⟨2048 + j, by omega⟩
      + ∑ j : Fin 2048, f ⟨4096 + j, by omega⟩ + ∑ j : Fin 2048, f ⟨6144 + j, by omega⟩ :=
  sum_four 2048 f

theorem sum_exp_pos {n : ℕ} (hn : 0 < n) (S : Fin n → ℝ) : 0 < ∑ j, Real.exp (S j) := by
  haveI : Nonempty (Fin n) := ⟨⟨0, hn⟩⟩
  exact Finset.sum_pos (fun j _ => Real.exp_pos _) Finset.univ_nonempty

end Cert.Softmax

end
-- ==== Proof.Spec.lean ====
/- The differential attention as real-number mathematics: what both programs compute at every position. No program. -/
module

public import proofs.«01_k».proof.Proof.Avg

@[expose] public section

noncomputable section

namespace Cert.Softmax

open Idealize.ShloMosaic

/-- The RMS norm of a row `d`, its gain and the constant scale, at lane `e`. -/
def nrmRow (d g : Fin 128 → EReal) (e : Fin 128) : EReal :=
  d e * Ideal.rsqrt (Ideal.div (∑ l, d l * d l) (Ideal.ofBits .f32 0x43000000#32) + Ideal.ofBits .f32 0x358637BD#32) * g e
    * Ideal.ofBits .f32 0x3F4CCCCD#32

/-- The differential attention's inputs, the floats as real numbers: context and latent queries, keys and values, the
    weight of the second component, the gain of the norm. -/
structure Data where
  qc : Fin 4 → Fin 256 → Fin 512 → ℝ
  kc : Fin 4 → Fin 256 → Fin 512 → ℝ
  vc : Fin 4 → Fin 256 → Fin 512 → ℝ
  ql : Fin 4 → Fin 8192 → Fin 512 → ℝ
  kl : Fin 4 → Fin 8192 → Fin 512 → ℝ
  vl : Fin 4 → Fin 8192 → Fin 512 → ℝ
  lam : ℝ
  g : Fin 128 → EReal

/-- Lane `l` of head `h`. -/
def lane (h : Fin 4) (l : Fin 128) : Fin 512 := ⟨128 * h + l, by omega⟩
/-- Lane `d` of component `c` of head `h`. -/
def lane2 (h : Fin 4) (c : Fin 2) (d : Fin 64) : Fin 512 := ⟨128 * h + 64 * c + d, by omega⟩

/-- The score of component `c` of head `h`. -/
def score (q k : Fin 512 → ℝ) (h : Fin 4) (c : Fin 2) : ℝ := (∑ d : Fin 64, q (lane2 h c d) * k (lane2 h c d)) * (1 / 8)

/-- One component's attention of a context position, over the context keys. -/
def oC (D : Data) (b : Fin 4) (s : Fin 256) (h : Fin 4) (c : Fin 2) (l : Fin 128) : ℝ :=
  avg (fun j => score (D.qc b s) (D.kc b j) h c) (fun j => D.vc b j (lane h l))

/-- One component's attention of a latent position, over all keys. -/
def oL (D : Data) (b : Fin 4) (s : Fin 8192) (h : Fin 4) (c : Fin 2) (l : Fin 128) : ℝ :=
  avg2 (fun j => score (D.ql b s) (D.kc b j) h c) (fun j => D.vc b j (lane h l))
    (fun j => score (D.ql b s) (D.kl b j) h c) (fun j => D.vl b j (lane h l))

/-- The result at a context position. -/
def specC (D : Data) (b : Fin 4) (s : Fin 256) (h : Fin 4) (x : Fin 128) : EReal :=
  nrmRow (fun l => ((oC D b s h 0 l - D.lam * oC D b s h 1 l : ℝ) : EReal)) D.g x

/-- The result at a latent position. -/
def specL (D : Data) (b : Fin 4) (s : Fin 8192) (h : Fin 4) (x : Fin 128) : EReal :=
  nrmRow (fun l => ((oL D b s h 0 l - D.lam * oL D b s h 1 l : ℝ) : EReal)) D.g x

/-- The result at any position: the context's 256, then the latent 8192. -/
def spec (D : Data) (b : Fin 4) (s : Fin 8448) (h : Fin 4) (x : Fin 128) : EReal :=
  if hs : s.val < 256 then specC D b ⟨s, hs⟩ h x else specL D b ⟨s - 256, by omega⟩ h x

theorem sum_two_halves (f : Fin 128 → ℝ) :
    ∑ l, f l = ∑ d : Fin 64, f ⟨d, by omega⟩ + ∑ d : Fin 64, f ⟨64 + d, by omega⟩ := by
  refine (Fin.sum_univ_add (a := 64) (b := 64) f).trans ?_
  rfl

/-- The lower half of a query row scaled by 1/8 scores as component 0. -/
theorem sco_lo {n : ℕ} (q : Fin 512 → ℝ) (K : Fin n → Fin 512 → ℝ) (h : Fin 4) :
    sco (lo fun l => q (lane h l) * (1 / 8)) (fun j l => K j (lane h l)) = fun j => score q (K j) h 0 := by
  funext j
  rw [sco, sum_two_halves, score, Finset.sum_mul]
  have h2 : ∑ d : Fin 64, lo (fun l => q (lane h l) * (1 / 8)) ⟨64 + d, by omega⟩ * K j (lane h ⟨64 + d, by omega⟩) = 0 :=
    Finset.sum_eq_zero fun d _ => by rw [lo, if_neg (by simp), zero_mul]
  rw [h2, add_zero]
  refine Finset.sum_congr rfl fun d _ => ?_
  rw [lo, if_pos (by simp), mul_right_comm]
  rfl

/-- The upper half of a query row scaled by 1/8 scores as component 1. -/
theorem sco_hi {n : ℕ} (q : Fin 512 → ℝ) (K : Fin n → Fin 512 → ℝ) (h : Fin 4) :
    sco (hi fun l => q (lane h l) * (1 / 8)) (fun j l => K j (lane h l)) = fun j => score q (K j) h 1 := by
  funext j
  rw [sco, sum_two_halves, score, Finset.sum_mul]
  have h2 : ∑ d : Fin 64, hi (fun l => q (lane h l) * (1 / 8)) ⟨d, by omega⟩ * K j (lane h ⟨d, by omega⟩) = 0 :=
    Finset.sum_eq_zero fun d _ => by rw [hi, if_pos (by simp), zero_mul]
  rw [h2, zero_add]
  refine Finset.sum_congr rfl fun d _ => ?_
  rw [hi, if_neg (by simp), mul_right_comm]
  have e : lane h ⟨64 + d, by omega⟩ = lane2 h 1 d := Fin.ext (by simp [lane, lane2, add_assoc])
  rw [e]

end Cert.Softmax

end
-- ==== Proof.Flash.lean ====
/- The differential attention kernel's arithmetic, read out of its payloads: one step of the online softmax on a chunk of
   256 or 2048 keys as a function of vectors, what the two cases of the kernel store as towers of these steps, and each
   step read at an index. -/
module

public import proofs.«01_k».proof.Proof.Gen.KernelIdeal.Value
public import proofs.«01_k».proof.Proof.Spec
public import Idealize.ShloMosaic.Lib.Pointwise

@[expose] public section

set_option maxRecDepth 16384

noncomputable section

namespace Cert.KernelIdeal.Flash

open Cert.KernelIdeal Cert.KernelIdeal.Gen Idealize.ShloMosaic Cert.Softmax

variable {F : FTy → Type} [FloatOps F]

/-! ## One step on a chunk, as functions of vectors -/

/-- The scores of a chunk of 256 keys. -/
def sc256 (q : FVec F S512x128 .bf16) (k : Vec F S1x256x128 .bf16) : FVec F S512x256 .f32 :=
  matmul dot_S512x128_S256x128_S512x256_1_1_0_0_n_n none q
    (shapeCast S256x128 k shapeCasts_S1x256x128_S256x128 : FVec F S256x128 .bf16) (constant S512x256 .f32 0x00000000#32)

/-- The running maximum after the chunk. -/
def mx256 (m : FVec F S512x1 .f32) (s : FVec F S512x256 .f32) : FVec F S512x1 .f32 :=
  maximumf m (shapeCast S512x1 (multiReduction .maximumf [1] S512 s 0xFF800000#32 reduces_S512x256_S512 (.inl rfl) rfl : FVec F S512 .f32) shapeCasts_S512_S512x1)

/-- The chunk's weights against a maximum. -/
def ex256 (m : FVec F S512x1 .f32) (s : FVec F S512x256 .f32) : FVec F S512x256 .f32 :=
  exp (subf s (broadcastTo S512x256 m broadcasts_S512x1_S512x256))

/-- The running denominator after the chunk. -/
def dn256 (m m' l : FVec F S512x1 .f32) (s : FVec F S512x256 .f32) : FVec F S512x1 .f32 :=
  addf (mulf (exp (subf m m')) l)
    (shapeCast S512x1 (multiReduction .add [1] S512 (ex256 m' s) 0x00000000#32 reduces_S512x256_S512 (.inl rfl) rfl : FVec F S512 .f32) shapeCasts_S512_S512x1)

/-- The running numerator after the chunk. -/
def ac256 (m m' : FVec F S512x1 .f32) (a : FVec F S512x128 .f32) (s : FVec F S512x256 .f32) (v : Vec F S1x256x128 .bf16) : FVec F S512x128 .f32 :=
  addf (mulf (broadcastTo S512x128 (exp (subf m m')) broadcasts_S512x1_S512x128) a)
    (matmul dot_S512x256_S256x128_S512x128_1_0_0_1_n_n none (truncf .bf16 (ex256 m' s) bitsLt_bf16_f32)
      (shapeCast S256x128 v shapeCasts_S1x256x128_S256x128 : FVec F S256x128 .bf16) (constant S512x128 .f32 0x00000000#32))

/-- The scores of a chunk of 2048 keys. -/
def sc2048 (q : FVec F S512x128 .bf16) (k : Vec F S1x2048x128 .bf16) : FVec F S512x2048 .f32 :=
  matmul dot_S512x128_S2048x128_S512x2048_1_1_0_0_n_n none q
    (shapeCast S2048x128 k shapeCasts_S1x2048x128_S2048x128 : FVec F S2048x128 .bf16) (constant S512x2048 .f32 0x00000000#32)

/-- The running maximum after the chunk. -/
def mx2048 (m : FVec F S512x1 .f32) (s : FVec F S512x2048 .f32) : FVec F S512x1 .f32 :=
  maximumf m (shapeCast S512x1 (multiReduction .maximumf [1] S512 s 0xFF800000#32 reduces_S512x2048_S512 (.inl rfl) rfl : FVec F S512 .f32) shapeCasts_S512_S512x1)

/-- The chunk's weights against a maximum. -/
def ex2048 (m : FVec F S512x1 .f32) (s : FVec F S512x2048 .f32) : FVec F S512x2048 .f32 :=
  exp (subf s (broadcastTo S512x2048 m broadcasts_S512x1_S512x2048))

/-- The running denominator after the chunk. -/
def dn2048 (m m' l : FVec F S512x1 .f32) (s : FVec F S512x2048 .f32) : FVec F S512x1 .f32 :=
  addf (mulf (exp (subf m m')) l)
    (shapeCast S512x1 (multiReduction .add [1] S512 (ex2048 m' s) 0x00000000#32 reduces_S512x2048_S512 (.inl rfl) rfl : FVec F S512 .f32) shapeCasts_S512_S512x1)

/-- The running numerator after the chunk. -/
def ac2048 (m m' : FVec F S512x1 .f32) (a : FVec F S512x128 .f32) (s : FVec F S512x2048 .f32) (v : Vec F S1x2048x128 .bf16) : FVec F S512x128 .f32 :=
  addf (mulf (broadcastTo S512x128 (exp (subf m m')) broadcasts_S512x1_S512x128) a)
    (matmul dot_S512x2048_S2048x128_S512x128_1_0_0_1_n_n none (truncf .bf16 (ex2048 m' s) bitsLt_bf16_f32)
      (shapeCast S2048x128 v shapeCasts_S1x2048x128_S2048x128 : FVec F S2048x128 .bf16) (constant S512x128 .f32 0x00000000#32))

/-- The starting maximum, `-∞` in every row. -/
def m0 : FVec F S512x1 .f32 := broadcast S512x1 (Scalar.ofBits .f32 0xFF800000#32)
/-- The starting denominator. -/
def l0 : FVec F S512x1 .f32 := broadcast S512x1 (Scalar.ofBits .f32 0x00000000#32)
/-- The starting numerator. -/
def a0 : FVec F S512x128 .f32 := broadcast S512x128 (Scalar.ofBits .f32 0x00000000#32)

/-- The quotient of the numerator and the denominator, first component minus `lam` times the second. -/
def dif (lam : FVec F S1x1 .f32) (l : FVec F S512x1 .f32) (a : FVec F S512x128 .f32) : FVec F S256x128 .f32 :=
  have o : FVec F S512x128 .f32 := divf a (broadcastTo S512x128 l broadcasts_S512x1_S512x128)
  subf (extractStridedSlice S256x128 ![0, 0] o slices_S512x128_o0_0_S256x128)
    (mulf (broadcastTo S256x128 lam broadcasts_S1x1_S256x128) (extractStridedSlice S256x128 ![256, 0] o slices_S512x128_o256_0_S256x128))

/-- The RMS norm of the difference's rows, its gain and the constant scale. -/
def nrm (d : FVec F S256x128 .f32) (g : Vec F S1x128 .f32) : FVec F S1x256x128 .bf16 :=
  have v99 : FVec F S256 .f32 := multiReduction .add [1] S256 (mulf d d) 0x00000000#32 reduces_S256x128_S256 (.inl rfl) rfl
  have v102 : FVec F S256x1 .f32 := divf (shapeCast S256x1 v99 shapeCasts_S256_S256x1) (broadcast S256x1 (Scalar.ofBits .f32 0x43000000#32))
  have v105 : FVec F S256x1 .f32 := rsqrt (addf v102 (broadcast S256x1 (Scalar.ofBits .f32 0x358637BD#32)))
  have v107 : FVec F S256x128 .f32 := mulf d (broadcastTo S256x128 v105 broadcasts_S256x1_S256x128)
  have v109 : FVec F S1x128 .f32 := shapeCast S1x128 g shapeCasts_S1x128_S1x128
  have v111 : FVec F S256x128 .f32 := mulf v107 (broadcastTo S256x128 v109 broadcasts_S1x128_S256x128)
  have v113 : FVec F S256x128 .f32 := mulf v111 (broadcast S256x128 (Scalar.ofBits .f32 0x3F4CCCCD#32))
  shapeCast S1x256x128 (truncf .bf16 v113 bitsLt_bf16_f32 : FVec F S256x128 .bf16) shapeCasts_S256x128_S1x256x128

/-- What one head stores at a context tile: the 256 context keys only. -/
def headA (q2 : Vec F S1x256x128 .bf16) (lamv : Vec F S4x64 .f32) (g : Vec F S1x128 .f32) (k v : Vec F S1x256x128 .bf16) : FVec F S1x256x128 .bf16 :=
  have s : FVec F S512x256 .f32 := sc256 (k0_pay90 q2) k
  have m1 := mx256 m0 s
  nrm (dif (k0_pay92 lamv) (dn256 m0 m1 l0 s) (ac256 m0 m1 a0 s v)) g

/-- What one head stores at a latent tile: the 256 context keys, then four chunks of 2048 latent keys. -/
def headB (q2 : Vec F S1x256x128 .bf16) (lamv : Vec F S4x64 .f32) (g : Vec F S1x128 .f32) (k v : Vec F S1x256x128 .bf16)
    (k1 v1 k2 v2 k3 v3 k4 v4 : Vec F S1x2048x128 .bf16) : FVec F S1x256x128 .bf16 :=
  have q := k0_pay90 q2
  have s : FVec F S512x256 .f32 := sc256 q k
  have m := mx256 m0 s
  have l := dn256 m0 m l0 s
  have a := ac256 m0 m a0 s v
  have s1 : FVec F S512x2048 .f32 := sc2048 q k1
  have m1 := mx2048 m s1
  have l1 := dn2048 m m1 l s1
  have a1 := ac2048 m m1 a s1 v1
  have s2 : FVec F S512x2048 .f32 := sc2048 q k2
  have m2 := mx2048 m1 s2
  have l2 := dn2048 m1 m2 l1 s2
  have a2 := ac2048 m1 m2 a1 s2 v2
  have s3 : FVec F S512x2048 .f32 := sc2048 q k3
  have m3 := mx2048 m2 s3
  have l3 := dn2048 m2 m3 l2 s3
  have a3 := ac2048 m2 m3 a2 s3 v3
  have s4 : FVec F S512x2048 .f32 := sc2048 q k4
  have m4 := mx2048 m3 s4
  nrm (dif (k0_pay92 lamv) (dn2048 m3 m4 l3 s4) (ac2048 m3 m4 a3 s4 v4)) g

/-- The second head's masked query is the first's function. -/
theorem pay91_eq (q2 : Vec F S1x256x128 .bf16) : k0_pay91 q2 = k0_pay90 q2 := rfl

/-! ## The steps at an index -/

theorem sc256_apply (q : FVec Ideal S512x128 .bf16) (k : Vec Ideal S1x256x128 .bf16) (r : Fin 512) (j : Fin 256) :
    sc256 q k (ix2 r j) = ∑ l : Fin 128, q (ix2 r l) * k (ix3 0 j l) := by
  pointwise [sc256]

theorem sc2048_apply (q : FVec Ideal S512x128 .bf16) (k : Vec Ideal S1x2048x128 .bf16) (r : Fin 512) (j : Fin 2048) :
    sc2048 q k (ix2 r j) = ∑ l : Fin 128, q (ix2 r l) * k (ix3 0 j l) := by
  pointwise [sc2048]

/-- The pattern of `-∞` denotes the least extended real. -/
theorem ninf : (Scalar.ofBits (F := Ideal) .f32 0xFF800000#32 : EReal) = ⊥ := by
  show Ideal.ofBits .f32 0xFF800000#32 = ⊥
  simp [Ideal.ofBits, Ideal.ieee]

theorem mx256_apply (m : FVec Ideal S512x1 .f32) (s : FVec Ideal S512x256 .f32) (r : Fin 512) :
    mx256 m s (ix2 r 0) = mx (m (ix2 r 0)) (fun j : Fin 256 => s (ix2 r j)) := by
  pointwise [mx256, mx]
  rw [show Ideal.ofBits .f32 4286578688#32 = ⊥ from ninf]

theorem mx2048_apply (m : FVec Ideal S512x1 .f32) (s : FVec Ideal S512x2048 .f32) (r : Fin 512) :
    mx2048 m s (ix2 r 0) = mx (m (ix2 r 0)) (fun j : Fin 2048 => s (ix2 r j)) := by
  pointwise [mx2048, mx]
  rw [show Ideal.ofBits .f32 4286578688#32 = ⊥ from ninf]

theorem dn256_apply (m m' l : FVec Ideal S512x1 .f32) (s : FVec Ideal S512x256 .f32) (r : Fin 512) :
    dn256 m m' l s (ix2 r 0) = dn (m (ix2 r 0)) (m' (ix2 r 0)) (l (ix2 r 0)) (fun j : Fin 256 => s (ix2 r j)) := by
  pointwise [dn256, ex256, dn]

theorem dn2048_apply (m m' l : FVec Ideal S512x1 .f32) (s : FVec Ideal S512x2048 .f32) (r : Fin 512) :
    dn2048 m m' l s (ix2 r 0) = dn (m (ix2 r 0)) (m' (ix2 r 0)) (l (ix2 r 0)) (fun j : Fin 2048 => s (ix2 r j)) := by
  pointwise [dn2048, ex2048, dn]

theorem ac256_apply (m m' : FVec Ideal S512x1 .f32) (a : FVec Ideal S512x128 .f32) (s : FVec Ideal S512x256 .f32)
    (v : Vec Ideal S1x256x128 .bf16) (r : Fin 512) (e : Fin 128) :
    ac256 m m' a s v (ix2 r e) = ac (m (ix2 r 0)) (m' (ix2 r 0)) (a (ix2 r e)) (fun j : Fin 256 => s (ix2 r j)) (fun j : Fin 256 => v (ix3 0 j e)) := by
  pointwise [ac256, ex256, ac]

theorem ac2048_apply (m m' : FVec Ideal S512x1 .f32) (a : FVec Ideal S512x128 .f32) (s : FVec Ideal S512x2048 .f32)
    (v : Vec Ideal S1x2048x128 .bf16) (r : Fin 512) (e : Fin 128) :
    ac2048 m m' a s v (ix2 r e) = ac (m (ix2 r 0)) (m' (ix2 r 0)) (a (ix2 r e)) (fun j : Fin 2048 => s (ix2 r j)) (fun j : Fin 2048 => v (ix3 0 j e)) := by
  pointwise [ac2048, ex2048, ac]

theorem m0_apply (r : Fin 512) : m0 (F := Ideal) (ix2 r 0) = (⊥ : EReal) := by
  show (Scalar.ofBits (F := Ideal) .f32 0xFF800000#32 : EReal) = ⊥
  exact ninf

theorem l0_apply (r : Fin 512) : l0 (F := Ideal) (ix2 r 0) = (0 : EReal) := by
  pointwise [l0]

theorem a0_apply (r : Fin 512) (e : Fin 128) : a0 (F := Ideal) (ix2 r e) = (0 : EReal) := by
  pointwise [a0]

theorem dif_apply (lam : FVec Ideal S1x1 .f32) (l : FVec Ideal S512x1 .f32) (a : FVec Ideal S512x128 .f32) (r : Fin 256) (e : Fin 128) :
    dif lam l a (ix2 r e)
      = Ideal.div (a (ix2 ⟨r, by omega⟩ e)) (l (ix2 ⟨r, by omega⟩ 0))
        - lam (ix2 0 0) * Ideal.div (a (ix2 ⟨256 + r, by omega⟩ e)) (l (ix2 ⟨256 + r, by omega⟩ 0)) := by
  pointwise [dif]

theorem nrm_apply (d : FVec Ideal S256x128 .f32) (g : Vec Ideal S1x128 .f32) (r : Fin 256) (e : Fin 128) :
    nrm d g (ix3 0 r e) = nrmRow (fun l => d (ix2 r l)) (fun l => g (ix2 0 l)) e := by
  pointwise [nrm, nrmRow]

theorem slt64 (l : Fin 128) : IntOp.cmpi .slt (BitVec.ofNat 32 l.val) 64#32 = if l.val < 64 then 1#1 else 0#1 := by
  revert l; decide +kernel

theorem sge64 (l : Fin 128) : IntOp.cmpi .sge (BitVec.ofNat 32 l.val) 64#32 = if l.val < 64 then 0#1 else 1#1 := by
  revert l; decide +kernel

theorem qm_lo (q2 : Vec Ideal S1x256x128 .bf16) (r : Fin 256) (l : Fin 128) :
    k0_pay90 q2 (ix2 ⟨r, by omega⟩ l) = if l.val < 64 then q2 (ix3 0 r l) else 0 := by
  pointwise [k0_pay90, k0_pay89]
  rw [slt64]
  split <;> rfl

theorem qm_hi (q2 : Vec Ideal S1x256x128 .bf16) (r : Fin 256) (l : Fin 128) :
    k0_pay90 q2 (ix2 ⟨256 + r, by omega⟩ l) = if l.val < 64 then 0 else q2 (ix3 0 r l) := by
  pointwise [k0_pay90, k0_pay89]
  rw [sge64]
  split <;> rfl

end Cert.KernelIdeal.Flash

end
-- ==== Proof.Block.lean ====
/- What each case of the differential attention kernel leaves in its output block: two heads of 128 lanes, each the
   vector function of Flash.lean applied to loads of the input blocks. -/
module

public import proofs.«01_k».proof.Proof.Flash

@[expose] public section

set_option maxRecDepth 16384

noncomputable section

namespace Cert.KernelIdeal.Flash

open Cert.KernelIdeal Cert.KernelIdeal.Gen Idealize.ShloMosaic Cert.Softmax

variable {F : FTy → Type} [FloatOps F]

/-- One head's queries: 128 lanes of the query block. -/
abbrev ldQ (o : Fin 3 → ℕ) (h : ∀ a, o a + S1x256x128.size a ≤ S1x256x256.size a) (x0 : Vec F S1x256x256 .bf16) : Vec F S1x256x128 .bf16 :=
  View.ld x0 (Rect.unit (s := S1x256x256) o S1x256x128.size h)
/-- One head's 256 context keys (or values). -/
abbrev ldC (o : Fin 3 → ℕ) (h : ∀ a, o a + S1x256x128.size a ≤ S1x8448x256.size a) (x : Vec F S1x8448x256 .bf16) : Vec F S1x256x128 .bf16 :=
  View.ld x (Rect.unit (s := S1x8448x256) o S1x256x128.size h)
/-- One head's 2048 keys (or values) of a latent chunk. -/
abbrev ldL (o : Fin 3 → ℕ) (h : ∀ a, o a + S1x2048x128.size a ≤ S1x8448x256.size a) (x : Vec F S1x8448x256 .bf16) : Vec F S1x2048x128 .bf16 :=
  View.ld x (Rect.unit (s := S1x8448x256) o S1x2048x128.size h)

/-- What head 0 of a context tile's block holds. -/
def tileA0 (x0 : Vec F S1x256x256 .bf16) (x1 : Vec F S1x8448x256 .bf16) (x2 : Vec F S1x8448x256 .bf16) (x3 : Vec F S4x64 .f32) (x4 : Vec F S1x128 .f32) : FVec F S1x256x128 .bf16 :=
  headA (ldQ ![0, 0, 0] inb_S1x256x256_S1x256x128_0_0_0 x0) x3 x4 (ldC ![0, 0, 0] inb_S1x8448x256_S1x256x128_0_0_0 x1) (ldC ![0, 0, 0] inb_S1x8448x256_S1x256x128_0_0_0 x2)

/-- What head 0 of a latent tile's block holds. -/
def tileB0 (x0 : Vec F S1x256x256 .bf16) (x1 : Vec F S1x8448x256 .bf16) (x2 : Vec F S1x8448x256 .bf16) (x3 : Vec F S4x64 .f32) (x4 : Vec F S1x128 .f32) : FVec F S1x256x128 .bf16 :=
  headB (ldQ ![0, 0, 0] inb_S1x256x256_S1x256x128_0_0_0 x0) x3 x4 (ldC ![0, 0, 0] inb_S1x8448x256_S1x256x128_0_0_0 x1) (ldC ![0, 0, 0] inb_S1x8448x256_S1x256x128_0_0_0 x2)
    (ldL ![0, 256, 0] inb_S1x8448x256_S1x2048x128_0_256_0 x1) (ldL ![0, 256, 0] inb_S1x8448x256_S1x2048x128_0_256_0 x2)
    (ldL ![0, 2304, 0] inb_S1x8448x256_S1x2048x128_0_2304_0 x1) (ldL ![0, 2304, 0] inb_S1x8448x256_S1x2048x128_0_2304_0 x2)
    (ldL ![0, 4352, 0] inb_S1x8448x256_S1x2048x128_0_4352_0 x1) (ldL ![0, 4352, 0] inb_S1x8448x256_S1x2048x128_0_4352_0 x2)
    (ldL ![0, 6400, 0] inb_S1x8448x256_S1x2048x128_0_6400_0 x1) (ldL ![0, 6400, 0] inb_S1x8448x256_S1x2048x128_0_6400_0 x2)

/-- What head 1 of a context tile's block holds. -/
def tileA1 (x0 : Vec F S1x256x256 .bf16) (x1 : Vec F S1x8448x256 .bf16) (x2 : Vec F S1x8448x256 .bf16) (x3 : Vec F S4x64 .f32) (x4 : Vec F S1x128 .f32) : FVec F S1x256x128 .bf16 :=
  headA (ldQ ![0, 0, 128] inb_S1x256x256_S1x256x128_0_0_128 x0) x3 x4 (ldC ![0, 0, 128] inb_S1x8448x256_S1x256x128_0_0_128 x1) (ldC ![0, 0, 128] inb_S1x8448x256_S1x256x128_0_0_128 x2)

/-- What head 1 of a latent tile's block holds. -/
def tileB1 (x0 : Vec F S1x256x256 .bf16) (x1 : Vec F S1x8448x256 .bf16) (x2 : Vec F S1x8448x256 .bf16) (x3 : Vec F S4x64 .f32) (x4 : Vec F S1x128 .f32) : FVec F S1x256x128 .bf16 :=
  headB (ldQ ![0, 0, 128] inb_S1x256x256_S1x256x128_0_0_128 x0) x3 x4 (ldC ![0, 0, 128] inb_S1x8448x256_S1x256x128_0_0_128 x1) (ldC ![0, 0, 128] inb_S1x8448x256_S1x256x128_0_0_128 x2)
    (ldL ![0, 256, 128] inb_S1x8448x256_S1x2048x128_0_256_128 x1) (ldL ![0, 256, 128] inb_S1x8448x256_S1x2048x128_0_256_128 x2)
    (ldL ![0, 2304, 128] inb_S1x8448x256_S1x2048x128_0_2304_128 x1) (ldL ![0, 2304, 128] inb_S1x8448x256_S1x2048x128_0_2304_128 x2)
    (ldL ![0, 4352, 128] inb_S1x8448x256_S1x2048x128_0_4352_128 x1) (ldL ![0, 4352, 128] inb_S1x8448x256_S1x2048x128_0_4352_128 x2)
    (ldL ![0, 6400, 128] inb_S1x8448x256_S1x2048x128_0_6400_128 x1) (ldL ![0, 6400, 128] inb_S1x8448x256_S1x2048x128_0_6400_128 x2)

theorem hz2 : (![0, 0] : Fin 2 → ℕ) = fun _ => 0 := funext fun a => by fin_cases a <;> rfl

set_option maxHeartbeats 4000000 in
/-- Case A's block: its two stores, the later one first. -/
theorem out_A (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x256 .bf16) (harg8 : arg8.IsWhole) (hc0 : cond0_0 i) (hc1 : ¬cond0_1 i)
    (x0 : Vec F S1x256x256 .bf16) (x1 : Vec F S1x8448x256 .bf16) (x2 : Vec F S1x8448x256 .bf16) (x3 : Vec F S4x64 .f32) (x4 : Vec F S1x128 .f32) :
    out0_A_5 c i arg3 harg3 arg4 harg4 arg5 harg5 arg6 harg6 arg7 harg7 arg8 harg8 hc0 hc1 x0 x1 x2 x3 x4
      = View.canon (Val := Elt F)
          [(⟨Rect.unit (s := S1x256x256) ![0, 0, 128] S1x256x128.size inb_S1x256x256_S1x256x128_0_0_128, tileA1 x0 x1 x2 x3 x4⟩ : View.Piece (Elt F) S1x256x256 .bf16),
           ⟨Rect.unit (s := S1x256x256) ![0, 0, 0] S1x256x128.size inb_S1x256x256_S1x256x128_0_0_0, tileA0 x0 x1 x2 x3 x4⟩] := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  sl_unfold_words
  simp only [View.readAt_eq_ld, harg3.read_unread, harg4.read_unread, harg5.read_unread, harg6.read_unread, harg7.read_unread,
    View.ld_unit_zero (S := S4x64) hz2, View.ld_unit_zero (S := S1x128) hz2]
  rfl

set_option maxHeartbeats 4000000 in
/-- Case B's block: its two stores, the later one first. -/
theorem out_B (c : Dev nD) (i : grid0.Coords) (arg3 : Memref sig .tc .vmem S1x256x256 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x256 .bf16) (harg8 : arg8.IsWhole) (hc0 : ¬cond0_0 i) (hc1 : cond0_1 i)
    (x0 : Vec F S1x256x256 .bf16) (x1 : Vec F S1x8448x256 .bf16) (x2 : Vec F S1x8448x256 .bf16) (x3 : Vec F S4x64 .f32) (x4 : Vec F S1x128 .f32) :
    out0_B_5 c i arg3 harg3 arg4 harg4 arg5 harg5 arg6 harg6 arg7 harg7 arg8 harg8 hc0 hc1 x0 x1 x2 x3 x4
      = View.canon (Val := Elt F)
          [(⟨Rect.unit (s := S1x256x256) ![0, 0, 128] S1x256x128.size inb_S1x256x256_S1x256x128_0_0_128, tileB1 x0 x1 x2 x3 x4⟩ : View.Piece (Elt F) S1x256x256 .bf16),
           ⟨Rect.unit (s := S1x256x256) ![0, 0, 0] S1x256x128.size inb_S1x256x256_S1x256x128_0_0_0, tileB0 x0 x1 x2 x3 x4⟩] := by
  unfold out0_B_5
  rw [View.read_writes_eq_canon _ _ _ (cover0_B_5 c i arg3 harg3 arg4 harg4 arg5 harg5 arg6 harg6 arg7 harg7 arg8 harg8 hc0 hc1 x0 x1 x2 x3 x4)]
  unfold kernelRun0_B
  dsimp only
  sl_unfold_words
  simp only [View.readAt_eq_ld, harg3.read_unread, harg4.read_unread, harg5.read_unread, harg6.read_unread, harg7.read_unread,
    View.ld_unit_zero (S := S4x64) hz2, View.ld_unit_zero (S := S1x128) hz2]
  rfl

end Cert.KernelIdeal.Flash

end
-- ==== Proof.Head.lean ====
/- One head of the differential attention kernel at an index, its inputs real: the RMS norm of the difference of two
   softmax-weighted averages. -/
module

public import proofs.«01_k».proof.Proof.Block
public import proofs.«01_k».proof.Proof.Avg

@[expose] public section

set_option maxRecDepth 16384

noncomputable section

namespace Cert.KernelIdeal.Flash

open Cert.KernelIdeal Cert.KernelIdeal.Gen Idealize.ShloMosaic Cert.Softmax

theorem sc256_real {q : FVec Ideal S512x128 .bf16} {k : Vec Ideal S1x256x128 .bf16} {r : Fin 512} {Q : Fin 128 → ℝ} {K : Fin 256 → Fin 128 → ℝ}
    (hq : ∀ l, q (ix2 r l) = ((Q l : ℝ) : EReal)) (hk : ∀ j l, k (ix3 0 j l) = ((K j l : ℝ) : EReal)) (j : Fin 256) :
    sc256 q k (ix2 r j) = ((sco Q K j : ℝ) : EReal) := by
  rw [sc256_apply, sco, ← coe_sum]
  exact Finset.sum_congr rfl fun l _ => by rw [hq, hk, EReal.coe_mul]

theorem sc2048_real {q : FVec Ideal S512x128 .bf16} {k : Vec Ideal S1x2048x128 .bf16} {r : Fin 512} {Q : Fin 128 → ℝ} {K : Fin 2048 → Fin 128 → ℝ}
    (hq : ∀ l, q (ix2 r l) = ((Q l : ℝ) : EReal)) (hk : ∀ j l, k (ix3 0 j l) = ((K j l : ℝ) : EReal)) (j : Fin 2048) :
    sc2048 q k (ix2 r j) = ((sco Q K j : ℝ) : EReal) := by
  rw [sc2048_apply, sco, ← coe_sum]
  exact Finset.sum_congr rfl fun l _ => by rw [hq, hk, EReal.coe_mul]

/-- A row's state after the context chunk. -/
theorem st_first {s : FVec Ideal S512x256 .f32} {v : Vec Ideal S1x256x128 .bf16} {r : Fin 512} {e : Fin 128} {S V : Fin 256 → ℝ}
    (hs : ∀ j, s (ix2 r j) = ((S j : ℝ) : EReal)) (hv : ∀ j, v (ix3 0 j e) = ((V j : ℝ) : EReal)) :
    St (∑ j, Real.exp (S j)) (∑ j, Real.exp (S j) * V j) (mx256 m0 s (ix2 r 0))
      (dn256 m0 (mx256 m0 s) l0 s (ix2 r 0)) (ac256 m0 (mx256 m0 s) a0 s v (ix2 r e)) := by
  have hmx := mx256_apply m0 s r
  rw [dn256_apply, ac256_apply, m0_apply, l0_apply, a0_apply]
  rw [m0_apply] at hmx
  simp only [hs, hv] at hmx ⊢
  exact St.first (by norm_num) S V hmx

/-- A row's state after a latent chunk. -/
theorem st_next {m l : FVec Ideal S512x1 .f32} {a : FVec Ideal S512x128 .f32} {s : FVec Ideal S512x2048 .f32}
    {v : Vec Ideal S1x2048x128 .bf16} {r : Fin 512} {e : Fin 128} {E A : ℝ} {S V : Fin 2048 → ℝ}
    (h : St E A (m (ix2 r 0)) (l (ix2 r 0)) (a (ix2 r e)))
    (hs : ∀ j, s (ix2 r j) = ((S j : ℝ) : EReal)) (hv : ∀ j, v (ix3 0 j e) = ((V j : ℝ) : EReal)) :
    St (E + ∑ j, Real.exp (S j)) (A + ∑ j, Real.exp (S j) * V j) (mx2048 m s (ix2 r 0))
      (dn2048 m (mx2048 m s) l s (ix2 r 0)) (ac2048 m (mx2048 m s) a s v (ix2 r e)) := by
  have hmx := mx2048_apply m s r
  rw [dn2048_apply, ac2048_apply]
  simp only [hs, hv] at hmx ⊢
  exact St.next (by norm_num) h S V hmx

/-- The masked query's rows: the first component's. -/
theorem qm_lo_real {q2 : Vec Ideal S1x256x128 .bf16} {r : Fin 256} {Q : Fin 128 → ℝ} (hq : ∀ l, q2 (ix3 0 r l) = ((Q l : ℝ) : EReal)) (l : Fin 128) :
    k0_pay90 q2 (ix2 ⟨r, by omega⟩ l) = ((lo Q l : ℝ) : EReal) := by
  rw [qm_lo, lo]
  split
  · exact hq l
  · rfl

/-- The masked query's rows: the second component's. -/
theorem qm_hi_real {q2 : Vec Ideal S1x256x128 .bf16} {r : Fin 256} {Q : Fin 128 → ℝ} (hq : ∀ l, q2 (ix3 0 r l) = ((Q l : ℝ) : EReal)) (l : Fin 128) :
    k0_pay90 q2 (ix2 ⟨256 + r, by omega⟩ l) = ((hi Q l : ℝ) : EReal) := by
  rw [qm_hi, hi]
  split
  · rfl
  · exact hq l

/-- A context tile's head: the average over the context keys. -/
theorem headA_real (q2 : Vec Ideal S1x256x128 .bf16) (lamv : Vec Ideal S4x64 .f32) (g : Vec Ideal S1x128 .f32) (k v : Vec Ideal S1x256x128 .bf16)
    (r : Fin 256) (e : Fin 128) (Q : Fin 128 → ℝ) (K V : Fin 256 → Fin 128 → ℝ)
    (hq : ∀ l, q2 (ix3 0 r l) = ((Q l : ℝ) : EReal)) (hk : ∀ j l, k (ix3 0 j l) = ((K j l : ℝ) : EReal))
    (hv : ∀ j l, v (ix3 0 j l) = ((V j l : ℝ) : EReal)) :
    headA q2 lamv g k v (ix3 0 r e)
      = nrmRow (fun l => ((avg (sco (lo Q) K) (fun j => V j l) : ℝ) : EReal)
          - k0_pay92 lamv (ix2 0 0) * ((avg (sco (hi Q) K) (fun j => V j l) : ℝ) : EReal)) (fun l => g (ix2 0 l)) e := by
  dsimp only [headA]
  rw [nrm_apply]
  refine congrArg (fun d => nrmRow d _ e) (funext fun l => ?_)
  rw [dif_apply,
    (st_first (sc256_real (qm_lo_real hq) hk) (fun j => hv j l)).div (sum_exp_pos (by norm_num) _),
    (st_first (sc256_real (qm_hi_real hq) hk) (fun j => hv j l)).div (sum_exp_pos (by norm_num) _)]
  rfl

/-- A latent tile's head: the average over the context keys and the latent keys. -/
theorem headB_real (q2 : Vec Ideal S1x256x128 .bf16) (lamv : Vec Ideal S4x64 .f32) (g : Vec Ideal S1x128 .f32) (k v : Vec Ideal S1x256x128 .bf16)
    (k1 v1 k2 v2 k3 v3 k4 v4 : Vec Ideal S1x2048x128 .bf16)
    (r : Fin 256) (e : Fin 128) (Q : Fin 128 → ℝ) (K V : Fin 256 → Fin 128 → ℝ) (K' V' : Fin 8192 → Fin 128 → ℝ)
    (hq : ∀ l, q2 (ix3 0 r l) = ((Q l : ℝ) : EReal)) (hk : ∀ j l, k (ix3 0 j l) = ((K j l : ℝ) : EReal))
    (hv : ∀ j l, v (ix3 0 j l) = ((V j l : ℝ) : EReal))
    (hk1 : ∀ (j : Fin 2048) l, k1 (ix3 0 j l) = ((K' ⟨j, by omega⟩ l : ℝ) : EReal)) (hv1 : ∀ (j : Fin 2048) l, v1 (ix3 0 j l) = ((V' ⟨j, by omega⟩ l : ℝ) : EReal))
    (hk2 : ∀ (j : Fin 2048) l, k2 (ix3 0 j l) = ((K' ⟨2048 + j, by omega⟩ l : ℝ) : EReal)) (hv2 : ∀ (j : Fin 2048) l, v2 (ix3 0 j l) = ((V' ⟨2048 + j, by omega⟩ l : ℝ) : EReal))
    (hk3 : ∀ (j : Fin 2048) l, k3 (ix3 0 j l) = ((K' ⟨4096 + j, by omega⟩ l : ℝ) : EReal)) (hv3 : ∀ (j : Fin 2048) l, v3 (ix3 0 j l) = ((V' ⟨4096 + j, by omega⟩ l : ℝ) : EReal))
    (hk4 : ∀ (j : Fin 2048) l, k4 (ix3 0 j l) = ((K' ⟨6144 + j, by omega⟩ l : ℝ) : EReal)) (hv4 : ∀ (j : Fin 2048) l, v4 (ix3 0 j l) = ((V' ⟨6144 + j, by omega⟩ l : ℝ) : EReal)) :
    headB q2 lamv g k v k1 v1 k2 v2 k3 v3 k4 v4 (ix3 0 r e)
      = nrmRow (fun l => ((avg2 (sco (lo Q) K) (fun j => V j l) (sco (lo Q) K') (fun j => V' j l) : ℝ) : EReal)
          - k0_pay92 lamv (ix2 0 0) * ((avg2 (sco (hi Q) K) (fun j => V j l) (sco (hi Q) K') (fun j => V' j l) : ℝ) : EReal)) (fun l => g (ix2 0 l)) e := by
  have key : ∀ (ρ : Fin 512) (W : Fin 128 → ℝ) (hW : ∀ l, k0_pay90 q2 (ix2 ρ l) = ((W l : ℝ) : EReal)) (l : Fin 128), _ :=
    fun ρ W hW l => (st_next (st_next (st_next (st_next (st_first (sc256_real hW hk) (fun j => hv j l))
      (sc2048_real hW hk1) (fun j => hv1 j l)) (sc2048_real hW hk2) (fun j => hv2 j l)) (sc2048_real hW hk3) (fun j => hv3 j l))
      (sc2048_real hW hk4) (fun j => hv4 j l)).div (by
        have := sum_exp_pos (n := 2048) (by norm_num)
        have h0 := sum_exp_pos (n := 256) (by norm_num)
        exact add_pos (add_pos (add_pos (add_pos (h0 _) (this _)) (this _)) (this _)) (this _))
  dsimp only [headB]
  rw [nrm_apply]
  refine congrArg (fun d => nrmRow d _ e) (funext fun l => ?_)
  rw [dif_apply, key _ _ (qm_lo_real hq) l, key _ _ (qm_hi_real hq) l]
  simp only [avg2]
  rw [sum_chunks (fun j => Real.exp (sco (lo Q) K' j)), sum_chunks (fun j => Real.exp (sco (hi Q) K' j)),
    sum_chunks (fun j => Real.exp (sco (lo Q) K' j) * V' j l), sum_chunks (fun j => Real.exp (sco (hi Q) K' j) * V' j l)]
  simp only [← add_assoc, sco]

end Cert.KernelIdeal.Flash

end
-- ==== Proof.Inputs.lean ====
/- What the differential attention kernel's windows read: the host's concatenations of context and latent rows, the
   queries scaled by 1/8, at an index. -/
module

public import proofs.«01_k».proof.Proof.Gen.KernelIdeal.Value
public import proofs.«01_k».proof.Proof.Softmax
public import Idealize.ShloMosaic.Lib.Pointwise
public import Idealize.ShloMosaic.Lib.StableHlo.ReadAt

@[expose] public section

set_option maxRecDepth 16384

noncomputable section

namespace Cert.KernelIdeal.Inputs

open Cert.KernelIdeal Cert.KernelIdeal.Gen Idealize.ShloMosaic Idealize.ShloMosaic.TcCoe

theorem eighth : Ideal.ofBits .f32 0x3E000000#32 = ((1 / 8 : ℝ) : EReal) := by
  simp [Ideal.ofBits, Ideal.ieee]
  rw [← EReal.coe_mul]
  norm_num

variable (m : (ℓ : Loc nD τ sig) → Buf (Elt Ideal) ℓ) (c : Dev nD)

/-- An eighth of an extended real. -/
abbrev times8 (x : EReal) : EReal := x * ((1 / 8 : ℝ) : EReal)

theorem V3_eq : V m c main_v3 = (truncf .bf16 (mulf (concatenate S4x8448x512 1 [⟨S4x256x512, (m ((c : Thread nD τ).loc main_arg0) : Vec Ideal S4x256x512 .f32)⟩, ⟨S4x8192x512, (m ((c : Thread nD τ).loc main_arg3) : Vec Ideal S4x8192x512 .f32)⟩] concatenates_S4x256x512_S4x8192x512_S4x8448x512_d1) (broadcastInDim S4x8448x512 ![] bcast_S_S4x8448x512 (constant S_ .f32 0x3E000000#32)) : FVec Ideal S4x8448x512 .f32) bitsLt_bf16_f32 : FVec Ideal S4x8448x512 .bf16) := by
  unfold V
  after_results

/-- The context queries, scaled by 1/8. -/
theorem V3_ctx (b : Fin 4) (s : Fin 256) (e : Fin 512) :
    (V m c main_v3 : Vec Ideal S4x8448x512 .bf16) (ix3 b ⟨s, by omega⟩ e)
      = times8 ((m ((c : Thread nD τ).loc main_arg0) : Vec Ideal S4x256x512 .f32) (ix3 b s e)) := by
  rw [V3_eq]
  pointwise [times8, eighth]

/-- The latent queries, scaled by 1/8. -/
theorem V3_lat (b : Fin 4) (s : Fin 8192) (e : Fin 512) :
    (V m c main_v3 : Vec Ideal S4x8448x512 .bf16) (ix3 b ⟨256 + s, by omega⟩ e)
      = times8 ((m ((c : Thread nD τ).loc main_arg3) : Vec Ideal S4x8192x512 .f32) (ix3 b s e)) := by
  rw [V3_eq]
  pointwise [times8, eighth]

theorem V5_eq : V m c main_v5 = (truncf .bf16 (concatenate S4x8448x512 1 [⟨S4x256x512, (m ((c : Thread nD τ).loc main_arg1) : Vec Ideal S4x256x512 .f32)⟩, ⟨S4x8192x512, (m ((c : Thread nD τ).loc main_arg4) : Vec Ideal S4x8192x512 .f32)⟩] concatenates_S4x256x512_S4x8192x512_S4x8448x512_d1 : FVec Ideal S4x8448x512 .f32) bitsLt_bf16_f32 : FVec Ideal S4x8448x512 .bf16) := by
  unfold V
  after_results

/-- The context keys. -/
theorem V5_ctx (b : Fin 4) (s : Fin 256) (e : Fin 512) :
    (V m c main_v5 : Vec Ideal S4x8448x512 .bf16) (ix3 b ⟨s, by omega⟩ e)
      = (m ((c : Thread nD τ).loc main_arg1) : Vec Ideal S4x256x512 .f32) (ix3 b s e) := by
  rw [V5_eq]
  pointwise []

/-- The latent keys. -/
theorem V5_lat (b : Fin 4) (s : Fin 8192) (e : Fin 512) :
    (V m c main_v5 : Vec Ideal S4x8448x512 .bf16) (ix3 b ⟨256 + s, by omega⟩ e)
      = (m ((c : Thread nD τ).loc main_arg4) : Vec Ideal S4x8192x512 .f32) (ix3 b s e) := by
  rw [V5_eq]
  pointwise []

theorem V7_eq : V m c main_v7 = (truncf .bf16 (concatenate S4x8448x512 1 [⟨S4x256x512, (m ((c : Thread nD τ).loc main_arg2) : Vec Ideal S4x256x512 .f32)⟩, ⟨S4x8192x512, (m ((c : Thread nD τ).loc main_arg5) : Vec Ideal S4x8192x512 .f32)⟩] concatenates_S4x256x512_S4x8192x512_S4x8448x512_d1 : FVec Ideal S4x8448x512 .f32) bitsLt_bf16_f32 : FVec Ideal S4x8448x512 .bf16) := by
  unfold V
  after_results

/-- The context values. -/
theorem V7_ctx (b : Fin 4) (s : Fin 256) (e : Fin 512) :
    (V m c main_v7 : Vec Ideal S4x8448x512 .bf16) (ix3 b ⟨s, by omega⟩ e)
      = (m ((c : Thread nD τ).loc main_arg2) : Vec Ideal S4x256x512 .f32) (ix3 b s e) := by
  rw [V7_eq]
  pointwise []

/-- The latent values. -/
theorem V7_lat (b : Fin 4) (s : Fin 8192) (e : Fin 512) :
    (V m c main_v7 : Vec Ideal S4x8448x512 .bf16) (ix3 b ⟨256 + s, by omega⟩ e)
      = (m ((c : Thread nD τ).loc main_arg5) : Vec Ideal S4x8192x512 .f32) (ix3 b s e) := by
  rw [V7_eq]
  pointwise []

/-- The gain of the norm. -/
theorem V8 (e : Fin 128) :
    (V m c main_v8 : Vec Ideal S1x128 .f32) (ix2 0 e)
      = (m ((c : Thread nD τ).loc main_arg7) : Vec Ideal S128 .f32) (ix1 e) := by
  unfold V
  after_reads_at

end Cert.KernelIdeal.Inputs

end
-- ==== Proof.Final.lean ====
/- The differential attention kernel's result array, position by position: the blocks its windows read are slices of the
   host's arrays, each grid point's block is the specification there, and the blocks cover the array. -/
module

public import proofs.«01_k».proof.Proof.Head
public import proofs.«01_k».proof.Proof.Inputs

@[expose] public section

set_option maxRecDepth 16384

noncomputable section

namespace Cert.KernelIdeal.Flash

open Cert.KernelIdeal Cert.KernelIdeal.Gen Cert.KernelIdeal.Inputs Idealize.ShloMosaic Idealize.ShloMosaic.TcCoe Cert.Softmax
open Idealize.ShloMosaic.Pipeline (Dat)

/-! ## Which block each grid point works on: batch `t / 66`, pair of heads `t / 33 % 2`, tile of rows `t % 33` -/

theorem tN (t : Fin cfg0.N) : t.val < 264 := lt_of_lt_of_eq t.isLt N_0
theorem tb (t : Fin cfg0.N) : t.val / 66 < 4 := by
  have h := tN t
  omega

theorem index0 (t : Fin cfg0.N) : win0_0.index t 0 = t.val / 66 ∧ win0_0.index t 1 = t.val % 33 ∧ win0_0.index t 2 = t.val / 33 % 2 :=
  (by decide +kernel : ∀ t : Fin grid0.N, win0_0.index t 0 = t.val / 66 ∧ win0_0.index t 1 = t.val % 33 ∧ win0_0.index t 2 = t.val / 33 % 2) t
theorem index1 (t : Fin cfg0.N) : win0_1.index t 0 = t.val / 66 ∧ win0_1.index t 1 = 0 ∧ win0_1.index t 2 = t.val / 33 % 2 :=
  (by decide +kernel : ∀ t : Fin grid0.N, win0_1.index t 0 = t.val / 66 ∧ win0_1.index t 1 = 0 ∧ win0_1.index t 2 = t.val / 33 % 2) t
theorem index2 (t : Fin cfg0.N) : win0_2.index t 0 = t.val / 66 ∧ win0_2.index t 1 = 0 ∧ win0_2.index t 2 = t.val / 33 % 2 :=
  (by decide +kernel : ∀ t : Fin grid0.N, win0_2.index t 0 = t.val / 66 ∧ win0_2.index t 1 = 0 ∧ win0_2.index t 2 = t.val / 33 % 2) t
theorem index5 (t : Fin cfg0.N) : win0_5.index t 0 = t.val / 66 ∧ win0_5.index t 1 = t.val % 33 ∧ win0_5.index t 2 = t.val / 33 % 2 :=
  (by decide +kernel : ∀ t : Fin grid0.N, win0_5.index t 0 = t.val / 66 ∧ win0_5.index t 1 = t.val % 33 ∧ win0_5.index t 2 = t.val / 33 % 2) t

variable (m : (ℓ : Loc nD τ sig) → Buf (Elt Ideal) ℓ) (c : Dev nD)

/-- The query block at an index of it. -/
theorem blk0 (t : Fin cfg0.N) (r e : Fin 256) :
    (iblk m c 0 t : Vec Ideal S1x256x256 .bf16) (ix3 0 r e)
      = (V m c main_v3 : Vec Ideal S4x8448x512 .bf16) (ix3 ⟨t.val / 66, tb t⟩ ⟨256 * (t.val % 33) + r, by omega⟩ ⟨256 * (t.val / 33 % 2) + e, by omega⟩) := by
  obtain ⟨h0, h1, h2⟩ := index0 t
  unfold iblk
  rw [View.read_apply]
  show V m c main_v3 _ = V m c main_v3 _
  congr 1
  funext a
  apply Fin.ext
  match a with
  | ⟨0, _⟩ => show win0_0.index t 0 * 1 + 1 * 0 = t.val / 66; omega
  | ⟨1, _⟩ => show win0_0.index t 1 * 256 + 1 * r.val = 256 * (t.val % 33) + r.val; omega
  | ⟨2, _⟩ => show win0_0.index t 2 * 256 + 1 * e.val = 256 * (t.val / 33 % 2) + e.val; omega

/-- The key block at an index of it. -/
theorem blk1 (t : Fin cfg0.N) (j : Fin 8448) (e : Fin 256) :
    (iblk m c 1 t : Vec Ideal S1x8448x256 .bf16) (ix3 0 j e)
      = (V m c main_v5 : Vec Ideal S4x8448x512 .bf16) (ix3 ⟨t.val / 66, tb t⟩ j ⟨256 * (t.val / 33 % 2) + e, by omega⟩) := by
  obtain ⟨h0, h1, h2⟩ := index1 t
  unfold iblk
  rw [View.read_apply]
  show V m c main_v5 _ = V m c main_v5 _
  congr 1
  funext a
  apply Fin.ext
  match a with
  | ⟨0, _⟩ => show win0_1.index t 0 * 1 + 1 * 0 = t.val / 66; omega
  | ⟨1, _⟩ => show win0_1.index t 1 * 8448 + 1 * j.val = j.val; omega
  | ⟨2, _⟩ => show win0_1.index t 2 * 256 + 1 * e.val = 256 * (t.val / 33 % 2) + e.val; omega

/-- The value block at an index of it. -/
theorem blk2 (t : Fin cfg0.N) (j : Fin 8448) (e : Fin 256) :
    (iblk m c 2 t : Vec Ideal S1x8448x256 .bf16) (ix3 0 j e)
      = (V m c main_v7 : Vec Ideal S4x8448x512 .bf16) (ix3 ⟨t.val / 66, tb t⟩ j ⟨256 * (t.val / 33 % 2) + e, by omega⟩) := by
  obtain ⟨h0, h1, h2⟩ := index2 t
  unfold iblk
  rw [View.read_apply]
  show V m c main_v7 _ = V m c main_v7 _
  congr 1
  funext a
  apply Fin.ext
  match a with
  | ⟨0, _⟩ => show win0_2.index t 0 * 1 + 1 * 0 = t.val / 66; omega
  | ⟨1, _⟩ => show win0_2.index t 1 * 8448 + 1 * j.val = j.val; omega
  | ⟨2, _⟩ => show win0_2.index t 2 * 256 + 1 * e.val = 256 * (t.val / 33 % 2) + e.val; omega

/-- The lambda vectors' block is the argument. -/
theorem blk3 (t : Fin cfg0.N) : (iblk m c 3 t : Vec Ideal S4x64 .f32) = m ((c : Thread nD τ).loc main_arg6) := by
  funext y
  unfold iblk
  rw [View.read_apply]
  show V m c main_arg6 _ = _
  rw [V_main_arg6]
  congr 1
  funext a
  apply Fin.ext
  match a with
  | ⟨0, _⟩ => show 0 * 4 + 1 * (y 0).val = (y 0).val; omega
  | ⟨1, _⟩ => show 0 * 64 + 1 * (y 1).val = (y 1).val; omega

/-- The gain's block is the host's row of it. -/
theorem blk4 (t : Fin cfg0.N) (l : Fin 128) :
    (iblk m c 4 t : Vec Ideal S1x128 .f32) (ix2 0 l) = (m ((c : Thread nD τ).loc main_arg7) : Vec Ideal S128 .f32) (ix1 l) := by
  rw [← V8 m c l]
  unfold iblk
  rw [View.read_apply]
  show V m c main_v8 _ = _
  congr 1
  funext a
  apply Fin.ext
  match a with
  | ⟨0, _⟩ => show 0 * 1 + 1 * 0 = 0; omega
  | ⟨1, _⟩ => show 0 * 128 + 1 * l.val = l.val; omega

/-! ## The arguments as real numbers -/

/-- The kernel's arguments on core `c` are the data `D`. -/
structure Holds (D : Data) : Prop where
  qc : ∀ b s e, (m ((c : Thread nD τ).loc main_arg0) : Vec Ideal S4x256x512 .f32) (ix3 b s e) = ((D.qc b s e : ℝ) : EReal)
  kc : ∀ b s e, (m ((c : Thread nD τ).loc main_arg1) : Vec Ideal S4x256x512 .f32) (ix3 b s e) = ((D.kc b s e : ℝ) : EReal)
  vc : ∀ b s e, (m ((c : Thread nD τ).loc main_arg2) : Vec Ideal S4x256x512 .f32) (ix3 b s e) = ((D.vc b s e : ℝ) : EReal)
  ql : ∀ b s e, (m ((c : Thread nD τ).loc main_arg3) : Vec Ideal S4x8192x512 .f32) (ix3 b s e) = ((D.ql b s e : ℝ) : EReal)
  kl : ∀ b s e, (m ((c : Thread nD τ).loc main_arg4) : Vec Ideal S4x8192x512 .f32) (ix3 b s e) = ((D.kl b s e : ℝ) : EReal)
  vl : ∀ b s e, (m ((c : Thread nD τ).loc main_arg5) : Vec Ideal S4x8192x512 .f32) (ix3 b s e) = ((D.vl b s e : ℝ) : EReal)
  lam : k0_pay92 (m ((c : Thread nD τ).loc main_arg6) : Vec Ideal S4x64 .f32) (ix2 0 0) = ((D.lam : ℝ) : EReal)
  g : ∀ x, (m ((c : Thread nD τ).loc main_arg7) : Vec Ideal S128 .f32) (ix1 x) = D.g x

variable {m c} {D : Data} (H : Holds m c D)

/-- The head that is head `w` of the point's pair. -/
def hd (t : Fin cfg0.N) (w : Fin 2) : Fin 4 := ⟨2 * (t.val / 33 % 2) + w, by omega⟩

theorem hd_lane (t : Fin cfg0.N) (w : Fin 2) (l : Fin 128) (e : Fin 256) (he : e.val = 128 * w.val + l.val) :
    (⟨256 * (t.val / 33 % 2) + e, by omega⟩ : Fin 512) = lane (hd t w) l :=
  Fin.ext (by simp only [lane, hd]; omega)

include H

theorem q_ctx (t : Fin cfg0.N) (ht : t.val % 33 = 0) (w : Fin 2) (r : Fin 256) (l : Fin 128) (e : Fin 256) (he : e.val = 128 * w.val + l.val) :
    (iblk m c 0 t : Vec Ideal S1x256x256 .bf16) (ix3 0 r e)
      = ((D.qc ⟨t.val / 66, tb t⟩ r (lane (hd t w) l) * (1 / 8) : ℝ) : EReal) := by
  rw [blk0, hd_lane t w l e he,
    show (⟨256 * (t.val % 33) + r, by omega⟩ : Fin 8448) = ⟨r, by omega⟩ from Fin.ext (by simp only []; omega), V3_ctx, H.qc,
    EReal.coe_mul]

theorem q_lat (t : Fin cfg0.N) (ht : 1 ≤ t.val % 33) (w : Fin 2) (r : Fin 256) (l : Fin 128) (e : Fin 256) (he : e.val = 128 * w.val + l.val) :
    (iblk m c 0 t : Vec Ideal S1x256x256 .bf16) (ix3 0 r e)
      = ((D.ql ⟨t.val / 66, tb t⟩ ⟨256 * (t.val % 33 - 1) + r, by omega⟩ (lane (hd t w) l) * (1 / 8) : ℝ) : EReal) := by
  rw [blk0, hd_lane t w l e he,
    show (⟨256 * (t.val % 33) + r, by omega⟩ : Fin 8448) = ⟨256 + (⟨256 * (t.val % 33 - 1) + r, by omega⟩ : Fin 8192).val, by simp only []; omega⟩ from
      Fin.ext (by simp only []; omega), V3_lat, H.ql, EReal.coe_mul]

theorem k_ctx (t : Fin cfg0.N) (w : Fin 2) (j : Fin 256) (l : Fin 128) (j' : Fin 8448) (hj : j'.val = j.val) (e : Fin 256) (he : e.val = 128 * w.val + l.val) :
    (iblk m c 1 t : Vec Ideal S1x8448x256 .bf16) (ix3 0 j' e) = ((D.kc ⟨t.val / 66, tb t⟩ j (lane (hd t w) l) : ℝ) : EReal) := by
  rw [blk1, hd_lane t w l e he, show j' = ⟨j, by omega⟩ from Fin.ext hj, V5_ctx, H.kc]

theorem k_lat (t : Fin cfg0.N) (w : Fin 2) (j : Fin 8192) (l : Fin 128) (j' : Fin 8448) (hj : j'.val = 256 + j.val) (e : Fin 256) (he : e.val = 128 * w.val + l.val) :
    (iblk m c 1 t : Vec Ideal S1x8448x256 .bf16) (ix3 0 j' e) = ((D.kl ⟨t.val / 66, tb t⟩ j (lane (hd t w) l) : ℝ) : EReal) := by
  rw [blk1, hd_lane t w l e he, show j' = ⟨256 + j, by omega⟩ from Fin.ext hj, V5_lat, H.kl]

theorem v_ctx (t : Fin cfg0.N) (w : Fin 2) (j : Fin 256) (l : Fin 128) (j' : Fin 8448) (hj : j'.val = j.val) (e : Fin 256) (he : e.val = 128 * w.val + l.val) :
    (iblk m c 2 t : Vec Ideal S1x8448x256 .bf16) (ix3 0 j' e) = ((D.vc ⟨t.val / 66, tb t⟩ j (lane (hd t w) l) : ℝ) : EReal) := by
  rw [blk2, hd_lane t w l e he, show j' = ⟨j, by omega⟩ from Fin.ext hj, V7_ctx, H.vc]

theorem v_lat (t : Fin cfg0.N) (w : Fin 2) (j : Fin 8192) (l : Fin 128) (j' : Fin 8448) (hj : j'.val = 256 + j.val) (e : Fin 256) (he : e.val = 128 * w.val + l.val) :
    (iblk m c 2 t : Vec Ideal S1x8448x256 .bf16) (ix3 0 j' e) = ((D.vl ⟨t.val / 66, tb t⟩ j (lane (hd t w) l) : ℝ) : EReal) := by
  rw [blk2, hd_lane t w l e he, show j' = ⟨256 + j, by omega⟩ from Fin.ext hj, V7_lat, H.vl]

/-- Head 0 of a context tile is the specification's context row. -/
theorem tileA0_spec (t : Fin cfg0.N) (ht : t.val % 33 = 0) (r : Fin 256) (x : Fin 128) :
    tileA0 (F := Ideal) (iblk m c 0 t) (iblk m c 1 t) (iblk m c 2 t) (iblk m c 3 t) (iblk m c 4 t) (ix3 0 r x)
      = specC D ⟨t.val / 66, tb t⟩ r (hd t 0) x := by
  unfold tileA0
  rw [headA_real _ _ _ _ _ r x (fun l => D.qc ⟨t.val / 66, tb t⟩ r (lane (hd t 0) l) * (1 / 8))
    (fun j l => D.kc ⟨t.val / 66, tb t⟩ j (lane (hd t 0) l)) (fun j l => D.vc ⟨t.val / 66, tb t⟩ j (lane (hd t 0) l))
    (fun l => (by pointwise [ldQ] : ldQ _ _ _ (ix3 0 r l) = _).trans (q_ctx H t ht 0 r l ⟨0 + l, by omega⟩ (by simp)))
    (fun j l => (by pointwise [ldC] : ldC _ _ _ (ix3 0 j l) = _).trans (k_ctx H t 0 j l ⟨j, by omega⟩ (by simp) ⟨0 + l, by omega⟩ (by simp)))
    (fun j l => (by pointwise [ldC] : ldC _ _ _ (ix3 0 j l) = _).trans (v_ctx H t 0 j l ⟨j, by omega⟩ (by simp) ⟨0 + l, by omega⟩ (by simp)))]
  rw [sco_lo, sco_hi, blk3, H.lam]
  simp only [blk4, H.g]
  rfl

/-- Head 1 of a context tile is the specification's context row. -/
theorem tileA1_spec (t : Fin cfg0.N) (ht : t.val % 33 = 0) (r : Fin 256) (x : Fin 128) :
    tileA1 (F := Ideal) (iblk m c 0 t) (iblk m c 1 t) (iblk m c 2 t) (iblk m c 3 t) (iblk m c 4 t) (ix3 0 r x)
      = specC D ⟨t.val / 66, tb t⟩ r (hd t 1) x := by
  unfold tileA1
  rw [headA_real _ _ _ _ _ r x (fun l => D.qc ⟨t.val / 66, tb t⟩ r (lane (hd t 1) l) * (1 / 8))
    (fun j l => D.kc ⟨t.val / 66, tb t⟩ j (lane (hd t 1) l)) (fun j l => D.vc ⟨t.val / 66, tb t⟩ j (lane (hd t 1) l))
    (fun l => (by pointwise [ldQ] : ldQ _ _ _ (ix3 0 r l) = _).trans (q_ctx H t ht 1 r l ⟨128 + l, by omega⟩ (by simp)))
    (fun j l => (by pointwise [ldC] : ldC _ _ _ (ix3 0 j l) = _).trans (k_ctx H t 1 j l ⟨j, by omega⟩ (by simp) ⟨128 + l, by omega⟩ (by simp)))
    (fun j l => (by pointwise [ldC] : ldC _ _ _ (ix3 0 j l) = _).trans (v_ctx H t 1 j l ⟨j, by omega⟩ (by simp) ⟨128 + l, by omega⟩ (by simp)))]
  rw [sco_lo, sco_hi, blk3, H.lam]
  simp only [blk4, H.g]
  rfl

/-- Head 0 of a latent tile is the specification's latent row. -/
theorem tileB0_spec (t : Fin cfg0.N) (ht : 1 ≤ t.val % 33) (r : Fin 256) (x : Fin 128) :
    tileB0 (F := Ideal) (iblk m c 0 t) (iblk m c 1 t) (iblk m c 2 t) (iblk m c 3 t) (iblk m c 4 t) (ix3 0 r x)
      = specL D ⟨t.val / 66, tb t⟩ ⟨256 * (t.val % 33 - 1) + r, by omega⟩ (hd t 0) x := by
  unfold tileB0
  rw [headB_real _ _ _ _ _ _ _ _ _ _ _ _ _ r x
    (fun l => D.ql ⟨t.val / 66, tb t⟩ ⟨256 * (t.val % 33 - 1) + r, by omega⟩ (lane (hd t 0) l) * (1 / 8))
    (fun j l => D.kc ⟨t.val / 66, tb t⟩ j (lane (hd t 0) l)) (fun j l => D.vc ⟨t.val / 66, tb t⟩ j (lane (hd t 0) l))
    (fun j l => D.kl ⟨t.val / 66, tb t⟩ j (lane (hd t 0) l)) (fun j l => D.vl ⟨t.val / 66, tb t⟩ j (lane (hd t 0) l))
    (fun l => (by pointwise [ldQ] : ldQ _ _ _ (ix3 0 r l) = _).trans (q_lat H t ht 0 r l ⟨0 + l, by omega⟩ (by simp)))
    (fun j l => (by pointwise [ldC] : ldC _ _ _ (ix3 0 j l) = _).trans (k_ctx H t 0 j l ⟨j, by omega⟩ (by simp) ⟨0 + l, by omega⟩ (by simp)))
    (fun j l => (by pointwise [ldC] : ldC _ _ _ (ix3 0 j l) = _).trans (v_ctx H t 0 j l ⟨j, by omega⟩ (by simp) ⟨0 + l, by omega⟩ (by simp)))
    (fun j l => (by pointwise [ldL] : ldL _ _ _ (ix3 0 j l) = _).trans (k_lat H t 0 ⟨j, by omega⟩ l ⟨256 + j, by omega⟩ (by first | (simp only []; omega) | rfl) ⟨0 + l, by omega⟩ (by simp)))
    (fun j l => (by pointwise [ldL] : ldL _ _ _ (ix3 0 j l) = _).trans (v_lat H t 0 ⟨j, by omega⟩ l ⟨256 + j, by omega⟩ (by first | (simp only []; omega) | rfl) ⟨0 + l, by omega⟩ (by simp)))
    (fun j l => (by pointwise [ldL] : ldL _ _ _ (ix3 0 j l) = _).trans (k_lat H t 0 ⟨2048 + j, by omega⟩ l ⟨2304 + j, by omega⟩ (by first | (simp only []; omega) | rfl) ⟨0 + l, by omega⟩ (by simp)))
    (fun j l => (by pointwise [ldL] : ldL _ _ _ (ix3 0 j l) = _).trans (v_lat H t 0 ⟨2048 + j, by omega⟩ l ⟨2304 + j, by omega⟩ (by first | (simp only []; omega) | rfl) ⟨0 + l, by omega⟩ (by simp)))
    (fun j l => (by pointwise [ldL] : ldL _ _ _ (ix3 0 j l) = _).trans (k_lat H t 0 ⟨4096 + j, by omega⟩ l ⟨4352 + j, by omega⟩ (by first | (simp only []; omega) | rfl) ⟨0 + l, by omega⟩ (by simp)))
    (fun j l => (by pointwise [ldL] : ldL _ _ _ (ix3 0 j l) = _).trans (v_lat H t 0 ⟨4096 + j, by omega⟩ l ⟨4352 + j, by omega⟩ (by first | (simp only []; omega) | rfl) ⟨0 + l, by omega⟩ (by simp)))
    (fun j l => (by pointwise [ldL] : ldL _ _ _ (ix3 0 j l) = _).trans (k_lat H t 0 ⟨6144 + j, by omega⟩ l ⟨6400 + j, by omega⟩ (by first | (simp only []; omega) | rfl) ⟨0 + l, by omega⟩ (by simp)))
    (fun j l => (by pointwise [ldL] : ldL _ _ _ (ix3 0 j l) = _).trans (v_lat H t 0 ⟨6144 + j, by omega⟩ l ⟨6400 + j, by omega⟩ (by first | (simp only []; omega) | rfl) ⟨0 + l, by omega⟩ (by simp)))]
  rw [sco_lo, sco_lo, sco_hi, sco_hi, blk3, H.lam]
  simp only [blk4, H.g]
  rfl

/-- Head 1 of a latent tile is the specification's latent row. -/
theorem tileB1_spec (t : Fin cfg0.N) (ht : 1 ≤ t.val % 33) (r : Fin 256) (x : Fin 128) :
    tileB1 (F := Ideal) (iblk m c 0 t) (iblk m c 1 t) (iblk m c 2 t) (iblk m c 3 t) (iblk m c 4 t) (ix3 0 r x)
      = specL D ⟨t.val / 66, tb t⟩ ⟨256 * (t.val % 33 - 1) + r, by omega⟩ (hd t 1) x := by
  unfold tileB1
  rw [headB_real _ _ _ _ _ _ _ _ _ _ _ _ _ r x
    (fun l => D.ql ⟨t.val / 66, tb t⟩ ⟨256 * (t.val % 33 - 1) + r, by omega⟩ (lane (hd t 1) l) * (1 / 8))
    (fun j l => D.kc ⟨t.val / 66, tb t⟩ j (lane (hd t 1) l)) (fun j l => D.vc ⟨t.val / 66, tb t⟩ j (lane (hd t 1) l))
    (fun j l => D.kl ⟨t.val / 66, tb t⟩ j (lane (hd t 1) l)) (fun j l => D.vl ⟨t.val / 66, tb t⟩ j (lane (hd t 1) l))
    (fun l => (by pointwise [ldQ] : ldQ _ _ _ (ix3 0 r l) = _).trans (q_lat H t ht 1 r l ⟨128 + l, by omega⟩ (by simp)))
    (fun j l => (by pointwise [ldC] : ldC _ _ _ (ix3 0 j l) = _).trans (k_ctx H t 1 j l ⟨j, by omega⟩ (by simp) ⟨128 + l, by omega⟩ (by simp)))
    (fun j l => (by pointwise [ldC] : ldC _ _ _ (ix3 0 j l) = _).trans (v_ctx H t 1 j l ⟨j, by omega⟩ (by simp) ⟨128 + l, by omega⟩ (by simp)))
    (fun j l => (by pointwise [ldL] : ldL _ _ _ (ix3 0 j l) = _).trans (k_lat H t 1 ⟨j, by omega⟩ l ⟨256 + j, by omega⟩ (by first | (simp only []; omega) | rfl) ⟨128 + l, by omega⟩ (by simp)))
    (fun j l => (by pointwise [ldL] : ldL _ _ _ (ix3 0 j l) = _).trans (v_lat H t 1 ⟨j, by omega⟩ l ⟨256 + j, by omega⟩ (by first | (simp only []; omega) | rfl) ⟨128 + l, by omega⟩ (by simp)))
    (fun j l => (by pointwise [ldL] : ldL _ _ _ (ix3 0 j l) = _).trans (k_lat H t 1 ⟨2048 + j, by omega⟩ l ⟨2304 + j, by omega⟩ (by first | (simp only []; omega) | rfl) ⟨128 + l, by omega⟩ (by simp)))
    (fun j l => (by pointwise [ldL] : ldL _ _ _ (ix3 0 j l) = _).trans (v_lat H t 1 ⟨2048 + j, by omega⟩ l ⟨2304 + j, by omega⟩ (by first | (simp only []; omega) | rfl) ⟨128 + l, by omega⟩ (by simp)))
    (fun j l => (by pointwise [ldL] : ldL _ _ _ (ix3 0 j l) = _).trans (k_lat H t 1 ⟨4096 + j, by omega⟩ l ⟨4352 + j, by omega⟩ (by first | (simp only []; omega) | rfl) ⟨128 + l, by omega⟩ (by simp)))
    (fun j l => (by pointwise [ldL] : ldL _ _ _ (ix3 0 j l) = _).trans (v_lat H t 1 ⟨4096 + j, by omega⟩ l ⟨4352 + j, by omega⟩ (by first | (simp only []; omega) | rfl) ⟨128 + l, by omega⟩ (by simp)))
    (fun j l => (by pointwise [ldL] : ldL _ _ _ (ix3 0 j l) = _).trans (k_lat H t 1 ⟨6144 + j, by omega⟩ l ⟨6400 + j, by omega⟩ (by first | (simp only []; omega) | rfl) ⟨128 + l, by omega⟩ (by simp)))
    (fun j l => (by pointwise [ldL] : ldL _ _ _ (ix3 0 j l) = _).trans (v_lat H t 1 ⟨6144 + j, by omega⟩ l ⟨6400 + j, by omega⟩ (by first | (simp only []; omega) | rfl) ⟨128 + l, by omega⟩ (by simp)))]
  rw [sco_lo, sco_lo, sco_hi, sco_hi, blk3, H.lam]
  simp only [blk4, H.g]
  rfl

/-! ## The blocks, and the array -/

/-- The specification as an array of results. -/
def result (D : Data) : S4x8448x512.Idx → EReal :=
  fun i => spec D (i 0) (i 1) ⟨(i 2).val / 128, by have := (i 2).isLt; change (i 2).val < 512 at this; omega⟩ ⟨(i 2).val % 128, by omega⟩

omit H in
theorem spec_congr {b b' : Fin 4} {s s' : Fin 8448} {h h' : Fin 4} {x x' : Fin 128} (hb : b.val = b'.val) (hs : s.val = s'.val)
    (hh : h.val = h'.val) (hx : x.val = x'.val) : spec D b s h x = spec D b' s' h' x' := by
  rw [Fin.ext hb, Fin.ext hs, Fin.ext hh, Fin.ext hx]

omit H in
theorem spec_ctx (b : Fin 4) (s : Fin 256) (h : Fin 4) (x : Fin 128) : spec D b ⟨s, by omega⟩ h x = specC D b s h x := dif_pos s.isLt

omit H in
theorem spec_lat (b : Fin 4) (s : Fin 8192) (h : Fin 4) (x : Fin 128) : spec D b ⟨256 + s, by omega⟩ h x = specL D b s h x := by
  rw [spec, dif_neg (by simp only []; omega)]
  rw [show (⟨256 + s.val - 256, by omega⟩ : Fin 8192) = s from Fin.ext (by simp only []; omega)]

/-- The specification on the block of point `t`. -/
def blockSpec (D : Data) (t : Fin cfg0.N) : S1x256x256.Idx → EReal :=
  fun y => spec D ⟨t.val / 66, tb t⟩ ⟨256 * (t.val % 33) + (y 1).val, by have := (y 1).isLt; change (y 1).val < 256 at this; omega⟩
    ⟨2 * (t.val / 33 % 2) + (y 2).val / 128, by have := (y 2).isLt; change (y 2).val < 256 at this; omega⟩ ⟨(y 2).val % 128, by omega⟩

/-- Case A's two stores leave the specification on the block. -/
theorem canonA (t : Fin cfg0.N) (ht : t.val % 33 = 0) (y : S1x256x256.Idx) :
    View.canon (Val := Elt Ideal)
          [(⟨Rect.unit (s := S1x256x256) ![0, 0, 128] S1x256x128.size inb_S1x256x256_S1x256x128_0_0_128, tileA1 (iblk m c 0 t) (iblk m c 1 t) (iblk m c 2 t) (iblk m c 3 t) (iblk m c 4 t)⟩ : View.Piece (Elt Ideal) S1x256x256 .bf16),
           ⟨Rect.unit (s := S1x256x256) ![0, 0, 0] S1x256x128.size inb_S1x256x256_S1x256x128_0_0_0, tileA0 (iblk m c 0 t) (iblk m c 1 t) (iblk m c 2 t) (iblk m c 3 t) (iblk m c 4 t)⟩] y
      = blockSpec D t y := by
  refine View.canon_apply_of_pieces (Val := Elt Ideal) (e := .bf16) (blockSpec D t) _ ?_ y ?_
  · intro p hp x
    rcases List.mem_cons.mp hp with rfl | hp
    · change S1x256x128.Idx at x
      idx_vars x
      obtain rfl : x0 = 0 := Subsingleton.elim _ _
      refine (tileA1_spec H t ht x1 x2).trans ((spec_ctx _ _ _ _).symm.trans (spec_congr rfl ?_ ?_ ?_))
      · show x1.val = 256 * (t.val % 33) + (0 + 1 * x1.val); omega
      · show 2 * (t.val / 33 % 2) + 1 = 2 * (t.val / 33 % 2) + (128 + 1 * x2.val) / 128; omega
      · show x2.val = (128 + 1 * x2.val) % 128; omega
    · rcases List.mem_singleton.mp hp with rfl
      change S1x256x128.Idx at x
      idx_vars x
      obtain rfl : x0 = 0 := Subsingleton.elim _ _
      refine (tileA0_spec H t ht x1 x2).trans ((spec_ctx _ _ _ _).symm.trans (spec_congr rfl ?_ ?_ ?_))
      · show x1.val = 256 * (t.val % 33) + (0 + 1 * x1.val); omega
      · show 2 * (t.val / 33 % 2) + 0 = 2 * (t.val / 33 % 2) + (0 + 1 * x2.val) / 128; omega
      · show x2.val = (0 + 1 * x2.val) % 128; omega
  · idx_vars y
    by_cases hy : y2.val < 128
    · refine ⟨_, List.mem_cons_of_mem _ List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 0 ≤ y2.val ∧ y2.val < 0 + 128; omega
    · refine ⟨_, List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 128 ≤ y2.val ∧ y2.val < 128 + 128; omega

/-- Case B's two stores leave the specification on the block. -/
theorem canonB (t : Fin cfg0.N) (ht : 1 ≤ t.val % 33) (y : S1x256x256.Idx) :
    View.canon (Val := Elt Ideal)
          [(⟨Rect.unit (s := S1x256x256) ![0, 0, 128] S1x256x128.size inb_S1x256x256_S1x256x128_0_0_128, tileB1 (iblk m c 0 t) (iblk m c 1 t) (iblk m c 2 t) (iblk m c 3 t) (iblk m c 4 t)⟩ : View.Piece (Elt Ideal) S1x256x256 .bf16),
           ⟨Rect.unit (s := S1x256x256) ![0, 0, 0] S1x256x128.size inb_S1x256x256_S1x256x128_0_0_0, tileB0 (iblk m c 0 t) (iblk m c 1 t) (iblk m c 2 t) (iblk m c 3 t) (iblk m c 4 t)⟩] y
      = blockSpec D t y := by
  refine View.canon_apply_of_pieces (Val := Elt Ideal) (e := .bf16) (blockSpec D t) _ ?_ y ?_
  · intro p hp x
    rcases List.mem_cons.mp hp with rfl | hp
    · change S1x256x128.Idx at x
      idx_vars x
      obtain rfl : x0 = 0 := Subsingleton.elim _ _
      refine (tileB1_spec H t ht x1 x2).trans ((spec_lat _ _ _ _).symm.trans (spec_congr rfl ?_ ?_ ?_))
      · show 256 + (256 * (t.val % 33 - 1) + x1.val) = 256 * (t.val % 33) + (0 + 1 * x1.val); omega
      · show 2 * (t.val / 33 % 2) + 1 = 2 * (t.val / 33 % 2) + (128 + 1 * x2.val) / 128; omega
      · show x2.val = (128 + 1 * x2.val) % 128; omega
    · rcases List.mem_singleton.mp hp with rfl
      change S1x256x128.Idx at x
      idx_vars x
      obtain rfl : x0 = 0 := Subsingleton.elim _ _
      refine (tileB0_spec H t ht x1 x2).trans ((spec_lat _ _ _ _).symm.trans (spec_congr rfl ?_ ?_ ?_))
      · show 256 + (256 * (t.val % 33 - 1) + x1.val) = 256 * (t.val % 33) + (0 + 1 * x1.val); omega
      · show 2 * (t.val / 33 % 2) + 0 = 2 * (t.val / 33 % 2) + (0 + 1 * x2.val) / 128; omega
      · show x2.val = (0 + 1 * x2.val) % 128; omega
  · idx_vars y
    by_cases hy : y2.val < 128
    · refine ⟨_, List.mem_cons_of_mem _ List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 0 ≤ y2.val ∧ y2.val < 0 + 128; omega
    · refine ⟨_, List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 128 ≤ y2.val ∧ y2.val < 128 + 128; omega

/-- What point `t` writes back is the specification read through its block. -/
theorem flushed_spec (t : Fin cfg0.N) (hf : (cfg0.win 5).flush t = true) :
    (dats m 0 c).flushed 5 t = ((cfg0.win 5).blk t).view.read (Elt Ideal) (result D : Buf (Elt Ideal) ((c : Thread nD τ).loc main_v9)) := by
  obtain ⟨i0, i1, i2⟩ := index5 t
  have key : ∀ y : S1x256x256.Idx, blockSpec D t y
      = (((cfg0.win 5).blk t).view.read (Elt Ideal) (result D : Buf (Elt Ideal) ((c : Thread nD τ).loc main_v9)) : S1x256x256.Idx → EReal) y := by
    intro y
    idx_vars y
    rw [View.read_apply]
    refine spec_congr ?_ ?_ ?_ ?_
    · show t.val / 66 = win0_5.index t 0 * 1 + 1 * y0.val; omega
    · show 256 * (t.val % 33) + y1.val = win0_5.index t 1 * 256 + 1 * y1.val; omega
    · show 2 * (t.val / 33 % 2) + y2.val / 128 = (win0_5.index t 2 * 256 + 1 * y2.val) / 128; omega
    · show y2.val % 128 = (win0_5.index t 2 * 256 + 1 * y2.val) % 128; omega
  by_cases h : t.val % 33 = 0
  · rw [Value.flushed5_A m c t h (by omega), out_A]
    funext y
    exact (canonA H t h y).trans (key y)
  · rw [Value.flushed5_B m c t h (by omega), out_B]
    funext y
    exact (canonB H t (by omega) y).trans (key y)

/-- The result array is the specification. -/
theorem final : (dats m 0 c).arrAt 5 cfg0.N = (result D : Buf (Elt Ideal) ((c : Thread nD τ).loc main_v9)) :=
  (dats m 0 c).arrAt_eq_of_cover 5 (result D : Buf (Elt Ideal) ((c : Thread nD τ).loc main_v9)) (flushed_spec H) fun i => by
    have h0 : (i 0).val < 4 := (i 0).isLt
    have h1 : (i 1).val < 8448 := (i 1).isLt
    have h2 : (i 2).val < 512 := (i 2).isLt
    have hN : cfg0.N = 264 := N_0
    let t : Fin cfg0.N := ⟨66 * (i 0).val + 33 * ((i 2).val / 256) + (i 1).val / 256, by omega⟩
    have ht : t.val = 66 * (i 0).val + 33 * ((i 2).val / 256) + (i 1).val / 256 := rfl
    obtain ⟨i0, i1, i2⟩ := index5 t
    refine ⟨t, flush0_5 t, ?_⟩
    show i ∈ ((View.whole main_v9).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega
    | ⟨2, _⟩ => show win0_5.index t 2 * 256 ≤ (i 2 : Nat) ∧ (i 2 : Nat) < win0_5.index t 2 * 256 + 256; omega

end Cert.KernelIdeal.Flash

end
-- ==== Proof.RefStages.lean ====
/- The differential attention's reference, its result in named stages (context `C`, latent `L`), each stage at an index. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Cert.Softmax

section
variable {F : FTy → Type} [FloatOps F]

/-- The weight of the second component. -/
def lamR (lv : FVec F S4x64 .f32) : FVec F S_ .f32 :=
  have v0 : FVec F S1x64 .f32 := extractStridedSlice S1x64 ![0, 0] lv slices_S4x64_S1x64_0_0
  have v1 : FVec F S64 .f32 := shapeCast S64 v0 shapeCasts_S1x64_S64
  have v2 : FVec F S1x64 .f32 := extractStridedSlice S1x64 ![1, 0] lv slices_S4x64_S1x64_1_0
  have v3 : FVec F S64 .f32 := shapeCast S64 v2 shapeCasts_S1x64_S64
  have v4 : FVec F S64 .f32 := mulf v1 v3
  have cst : FVec F S_ .f32 := constant S_ .f32 0x00000000#32
  have v5 : FVec F S_ .f32 := Host.reduceAdd v4 cst reducesTo_S64_S_d0 h_S_
  have v6 : FVec F S_ .f32 := Host.exp v5
  have v7 : FVec F S1x64 .f32 := extractStridedSlice S1x64 ![2, 0] lv slices_S4x64_S1x64_2_0
  have v8 : FVec F S64 .f32 := shapeCast S64 v7 shapeCasts_S1x64_S64
  have v9 : FVec F S1x64 .f32 := extractStridedSlice S1x64 ![3, 0] lv slices_S4x64_S1x64_3_0
  have v10 : FVec F S64 .f32 := shapeCast S64 v9 shapeCasts_S1x64_S64
  have v11 : FVec F S64 .f32 := mulf v8 v10
  have cst_0 : FVec F S_ .f32 := constant S_ .f32 0x00000000#32
  have v12 : FVec F S_ .f32 := Host.reduceAdd v11 cst_0 reducesTo_S64_S_d0 h_S_
  have v13 : FVec F S_ .f32 := Host.exp v12
  have v14 : FVec F S_ .f32 := subf v6 v13
  have cst_1 : FVec F S_ .f32 := constant S_ .f32 0x3E4CCCCD#32
  addf v14 cst_1

/-- The context keys by head and component. -/
def kCtx (kc : FVec F S4x256x512 .f32) : FVec F S4x256x4x2x64 .f32 :=
  shapeCast S4x256x4x2x64 kc shapeCasts_S4x256x512_S4x256x4x2x64

/-- The context values by head. -/
def vCtx (vc : FVec F S4x256x512 .f32) : FVec F S4x256x4x128 .f32 :=
  shapeCast S4x256x4x128 vc shapeCasts_S4x256x512_S4x256x4x128

/-- All keys, the latent first. -/
def kAll (kl : FVec F S4x8192x512 .f32) (kc : FVec F S4x256x512 .f32) : FVec F S4x8448x4x2x64 .f32 :=
  have v18 : FVec F S4x8192x4x2x64 .f32 := shapeCast S4x8192x4x2x64 kl shapeCasts_S4x8192x512_S4x8192x4x2x64
  have v16 : FVec F S4x256x4x2x64 .f32 := shapeCast S4x256x4x2x64 kc shapeCasts_S4x256x512_S4x256x4x2x64
  concatenate S4x8448x4x2x64 1 [⟨S4x8192x4x2x64, v18⟩, ⟨S4x256x4x2x64, v16⟩] concatenates_S4x8192x4x2x64_S4x256x4x2x64_S4x8448x4x2x64_d1

/-- All values, the latent first. -/
def vAll (vl : FVec F S4x8192x512 .f32) (vc : FVec F S4x256x512 .f32) : FVec F S4x8448x4x128 .f32 :=
  have v20 : FVec F S4x8192x4x128 .f32 := shapeCast S4x8192x4x128 vl shapeCasts_S4x8192x512_S4x8192x4x128
  have v17 : FVec F S4x256x4x128 .f32 := shapeCast S4x256x4x128 vc shapeCasts_S4x256x512_S4x256x4x128
  concatenate S4x8448x4x128 1 [⟨S4x8192x4x128, v20⟩, ⟨S4x256x4x128, v17⟩] concatenates_S4x8192x4x128_S4x256x4x128_S4x8448x4x128_d1

/-- The context queries' scores. -/
def scC (q : FVec F S4x256x512 .f32) (k : FVec F S4x256x4x2x64 .f32) : FVec F S4x4x2x256x256 .f32 :=
  have v62 : FVec F S4x256x4x2x64 .f32 := shapeCast S4x256x4x2x64 q shapeCasts_S4x256x512_S4x256x4x2x64
  have v63 : FVec F S4x4x2x256x256 .f32 := Host.dotGeneral dot_S4x256x4x2x64_S4x256x4x2x64_S4x4x2x256x256_4_4_1_1_023_023 none v62 k
  have cst_10 : FVec F S_ .f32 := constant S_ .f32 0x3E000000#32
  have v64 : FVec F S4x4x2x256x256 .f32 := broadcastInDim S4x4x2x256x256 ![] bcast_S_S4x4x2x256x256 cst_10
  mulf v63 v64

/-- Their maximum over the keys. -/
def mxC (s : FVec F S4x4x2x256x256 .f32) : FVec F S4x4x2x256 .f32 :=
  have cst_12 : FVec F S_ .f32 := constant S_ .f32 0xFF800000#32
  have v67 : FVec F S4x4x2x256 .f32 := broadcastInDim S4x4x2x256 ![] bcast_S_S4x4x2x256 cst_12
  have cst_11 : FVec F S_ .f32 := constant S_ .f32 0xFF800000#32
  have v66 : FVec F S4x4x2x256 .f32 := Host.reduce FloatOps.maximumf s cst_11 reducesTo_S4x4x2x256x256_S4x4x2x256_d4 h_S_
  maximumf v67 v66

/-- Their softmax weights. -/
def prC (m : FVec F S4x4x2x256 .f32) (s : FVec F S4x4x2x256x256 .f32) : FVec F S4x4x2x256x256 .f32 :=
  have v69 : FVec F S4x4x2x256x1 .f32 := broadcastInDim S4x4x2x256x1 ![0, 1, 2, 3] bcast_S4x4x2x256_S4x4x2x256x1_0_1_2_3 m
  have v70 : FVec F S4x4x2x256x256 .f32 := broadcastInDim S4x4x2x256x256 ![0, 1, 2, 3, 4] bcast_S4x4x2x256x1_S4x4x2x256x256_0_1_2_3_4 v69
  have v71 : FVec F S4x4x2x256x256 .f32 := subf s v70
  have v72 : FVec F S4x4x2x256x256 .f32 := Host.exp v71
  have cst_13 : FVec F S_ .f32 := constant S_ .f32 0x00000000#32
  have v73 : FVec F S4x4x2x256 .f32 := Host.reduceAdd v72 cst_13 reducesTo_S4x4x2x256x256_S4x4x2x256_d4 h_S_
  have v74 : FVec F S4x4x2x256x1 .f32 := broadcastInDim S4x4x2x256x1 ![0, 1, 2, 3] bcast_S4x4x2x256_S4x4x2x256x1_0_1_2_3 v73
  have v75 : FVec F S4x4x2x256x256 .f32 := broadcastInDim S4x4x2x256x256 ![0, 1, 2, 3, 4] bcast_S4x4x2x256x1_S4x4x2x256x256_0_1_2_3_4 v74
  Host.divf v72 v75

/-- The components' weights combined. -/
def cmC (lam : FVec F S_ .f32) (p : FVec F S4x4x2x256x256 .f32) : FVec F S4x4x256x256 .f32 :=
  have v77 : FVec F S4x4x1x256x256 .f32 := extractStridedSlice S4x4x1x256x256 ![0, 0, 0, 0, 0] p slices_S4x4x2x256x256_S4x4x1x256x256_0_0_0_0_0
  have v78 : FVec F S4x4x256x256 .f32 := shapeCast S4x4x256x256 v77 shapeCasts_S4x4x1x256x256_S4x4x256x256
  have v81 : FVec F S4x4x256x256 .f32 := broadcastInDim S4x4x256x256 ![] bcast_S_S4x4x256x256 lam
  have v79 : FVec F S4x4x1x256x256 .f32 := extractStridedSlice S4x4x1x256x256 ![0, 0, 1, 0, 0] p slices_S4x4x2x256x256_S4x4x1x256x256_0_0_1_0_0
  have v80 : FVec F S4x4x256x256 .f32 := shapeCast S4x4x256x256 v79 shapeCasts_S4x4x1x256x256_S4x4x256x256
  have v82 : FVec F S4x4x256x256 .f32 := mulf v81 v80
  subf v78 v82

/-- The weighted values. -/
def avC (v : FVec F S4x256x4x128 .f32) (a : FVec F S4x4x256x256 .f32) : FVec F S4x256x4x128 .f32 :=
  have v84 : FVec F S4x4x128x256 .f32 := Host.dotGeneral dot_S4x256x4x128_S4x4x256x256_S4x4x128x256_1_3_3_2_02_01 none v a
  transpose S4x256x4x128 [0, 3, 1, 2] v84 transposes_S4x4x128x256_S4x256x4x128_0_3_1_2

/-- Their RMS norm, gain and constant scale, the heads side by side. -/
def finC (o : FVec F S4x256x4x128 .f32) (g : FVec F S128 .f32) : FVec F S4x256x512 .f32 :=
  have v86 : FVec F S4x256x4x128 .f32 := mulf o o
  have cst_14 : FVec F S_ .f32 := constant S_ .f32 0x00000000#32
  have v87 : FVec F S4x256x4 .f32 := Host.reduceAdd v86 cst_14 reducesTo_S4x256x4x128_S4x256x4_d3 h_S_
  have v88 : FVec F S4x256x4x1 .f32 := broadcastInDim S4x256x4x1 ![0, 1, 2] bcast_S4x256x4_S4x256x4x1_0_1_2 v87
  have cst_15 : FVec F S_ .f32 := constant S_ .f32 0x43000000#32
  have v89 : FVec F S4x256x4x1 .f32 := broadcastInDim S4x256x4x1 ![] bcast_S_S4x256x4x1 cst_15
  have v90 : FVec F S4x256x4x1 .f32 := Host.divf v88 v89
  have cst_16 : FVec F S_ .f32 := constant S_ .f32 0x358637BD#32
  have v91 : FVec F S4x256x4x1 .f32 := broadcastInDim S4x256x4x1 ![] bcast_S_S4x256x4x1 cst_16
  have v92 : FVec F S4x256x4x1 .f32 := addf v90 v91
  have v93 : FVec F S4x256x4x1 .f32 := Host.rsqrt v92
  have v94 : FVec F S4x256x4x128 .f32 := broadcastInDim S4x256x4x128 ![0, 1, 2, 3] bcast_S4x256x4x1_S4x256x4x128_0_1_2_3 v93
  have v95 : FVec F S4x256x4x128 .f32 := mulf o v94
  have v96 : FVec F S1x1x1x128 .f32 := broadcastInDim S1x1x1x128 ![3] bcast_S128_S1x1x1x128_3 g
  have v97 : FVec F S4x256x4x128 .f32 := broadcastInDim S4x256x4x128 ![0, 1, 2, 3] bcast_S1x1x1x128_S4x256x4x128_0_1_2_3 v96
  have v98 : FVec F S4x256x4x128 .f32 := mulf v95 v97
  have cst_17 : FVec F S_ .f32 := constant S_ .f32 0x3F4CCCCD#32
  have v99 : FVec F S4x256x4x128 .f32 := broadcastInDim S4x256x4x128 ![] bcast_S_S4x256x4x128 cst_17
  have v100 : FVec F S4x256x4x128 .f32 := mulf v98 v99
  shapeCast S4x256x512 v100 shapeCasts_S4x256x4x128_S4x256x512

/-- The latent queries' scores. -/
def scL (q : FVec F S4x8192x512 .f32) (k : FVec F S4x8448x4x2x64 .f32) : FVec F S4x4x2x8192x8448 .f32 :=
  have v22 : FVec F S4x8192x4x2x64 .f32 := shapeCast S4x8192x4x2x64 q shapeCasts_S4x8192x512_S4x8192x4x2x64
  have v23 : FVec F S4x4x2x8192x8448 .f32 := Host.dotGeneral dot_S4x8192x4x2x64_S4x8448x4x2x64_S4x4x2x8192x8448_4_4_1_1_023_023 none v22 k
  have cst_2 : FVec F S_ .f32 := constant S_ .f32 0x3E000000#32
  have v24 : FVec F S4x4x2x8192x8448 .f32 := broadcastInDim S4x4x2x8192x8448 ![] bcast_S_S4x4x2x8192x8448 cst_2
  mulf v23 v24

/-- Their maximum over the keys. -/
def mxL (s : FVec F S4x4x2x8192x8448 .f32) : FVec F S4x4x2x8192 .f32 :=
  have cst_4 : FVec F S_ .f32 := constant S_ .f32 0xFF800000#32
  have v27 : FVec F S4x4x2x8192 .f32 := broadcastInDim S4x4x2x8192 ![] bcast_S_S4x4x2x8192 cst_4
  have cst_3 : FVec F S_ .f32 := constant S_ .f32 0xFF800000#32
  have v26 : FVec F S4x4x2x8192 .f32 := Host.reduce FloatOps.maximumf s cst_3 reducesTo_S4x4x2x8192x8448_S4x4x2x8192_d4 h_S_
  maximumf v27 v26

/-- Their softmax weights. -/
def prL (m : FVec F S4x4x2x8192 .f32) (s : FVec F S4x4x2x8192x8448 .f32) : FVec F S4x4x2x8192x8448 .f32 :=
  have v29 : FVec F S4x4x2x8192x1 .f32 := broadcastInDim S4x4x2x8192x1 ![0, 1, 2, 3] bcast_S4x4x2x8192_S4x4x2x8192x1_0_1_2_3 m
  have v30 : FVec F S4x4x2x8192x8448 .f32 := broadcastInDim S4x4x2x8192x8448 ![0, 1, 2, 3, 4] bcast_S4x4x2x8192x1_S4x4x2x8192x8448_0_1_2_3_4 v29
  have v31 : FVec F S4x4x2x8192x8448 .f32 := subf s v30
  have v32 : FVec F S4x4x2x8192x8448 .f32 := Host.exp v31
  have cst_5 : FVec F S_ .f32 := constant S_ .f32 0x00000000#32
  have v33 : FVec F S4x4x2x8192 .f32 := Host.reduceAdd v32 cst_5 reducesTo_S4x4x2x8192x8448_S4x4x2x8192_d4 h_S_
  have v34 : FVec F S4x4x2x8192x1 .f32 := broadcastInDim S4x4x2x8192x1 ![0, 1, 2, 3] bcast_S4x4x2x8192_S4x4x2x8192x1_0_1_2_3 v33
  have v35 : FVec F S4x4x2x8192x8448 .f32 := broadcastInDim S4x4x2x8192x8448 ![0, 1, 2, 3, 4] bcast_S4x4x2x8192x1_S4x4x2x8192x8448_0_1_2_3_4 v34
  Host.divf v32 v35

/-- The components' weights combined. -/
def cmL (lam : FVec F S_ .f32) (p : FVec F S4x4x2x8192x8448 .f32) : FVec F S4x4x8192x8448 .f32 :=
  have v37 : FVec F S4x4x1x8192x8448 .f32 := extractStridedSlice S4x4x1x8192x8448 ![0, 0, 0, 0, 0] p slices_S4x4x2x8192x8448_S4x4x1x8192x8448_0_0_0_0_0
  have v38 : FVec F S4x4x8192x8448 .f32 := shapeCast S4x4x8192x8448 v37 shapeCasts_S4x4x1x8192x8448_S4x4x8192x8448
  have v41 : FVec F S4x4x8192x8448 .f32 := broadcastInDim S4x4x8192x8448 ![] bcast_S_S4x4x8192x8448 lam
  have v39 : FVec F S4x4x1x8192x8448 .f32 := extractStridedSlice S4x4x1x8192x8448 ![0, 0, 1, 0, 0] p slices_S4x4x2x8192x8448_S4x4x1x8192x8448_0_0_1_0_0
  have v40 : FVec F S4x4x8192x8448 .f32 := shapeCast S4x4x8192x8448 v39 shapeCasts_S4x4x1x8192x8448_S4x4x8192x8448
  have v42 : FVec F S4x4x8192x8448 .f32 := mulf v41 v40
  subf v38 v42

/-- The weighted values. -/
def avL (v : FVec F S4x8448x4x128 .f32) (a : FVec F S4x4x8192x8448 .f32) : FVec F S4x8192x4x128 .f32 :=
  have v44 : FVec F S4x4x128x8192 .f32 := Host.dotGeneral dot_S4x8448x4x128_S4x4x8192x8448_S4x4x128x8192_1_3_3_2_02_01 none v a
  transpose S4x8192x4x128 [0, 3, 1, 2] v44 transposes_S4x4x128x8192_S4x8192x4x128_0_3_1_2

/-- Their RMS norm, gain and constant scale, the heads side by side. -/
def finL (o : FVec F S4x8192x4x128 .f32) (g : FVec F S128 .f32) : FVec F S4x8192x512 .f32 :=
  have v46 : FVec F S4x8192x4x128 .f32 := mulf o o
  have cst_6 : FVec F S_ .f32 := constant S_ .f32 0x00000000#32
  have v47 : FVec F S4x8192x4 .f32 := Host.reduceAdd v46 cst_6 reducesTo_S4x8192x4x128_S4x8192x4_d3 h_S_
  have v48 : FVec F S4x8192x4x1 .f32 := broadcastInDim S4x8192x4x1 ![0, 1, 2] bcast_S4x8192x4_S4x8192x4x1_0_1_2 v47
  have cst_7 : FVec F S_ .f32 := constant S_ .f32 0x43000000#32
  have v49 : FVec F S4x8192x4x1 .f32 := broadcastInDim S4x8192x4x1 ![] bcast_S_S4x8192x4x1 cst_7
  have v50 : FVec F S4x8192x4x1 .f32 := Host.divf v48 v49
  have cst_8 : FVec F S_ .f32 := constant S_ .f32 0x358637BD#32
  have v51 : FVec F S4x8192x4x1 .f32 := broadcastInDim S4x8192x4x1 ![] bcast_S_S4x8192x4x1 cst_8
  have v52 : FVec F S4x8192x4x1 .f32 := addf v50 v51
  have v53 : FVec F S4x8192x4x1 .f32 := Host.rsqrt v52
  have v54 : FVec F S4x8192x4x128 .f32 := broadcastInDim S4x8192x4x128 ![0, 1, 2, 3] bcast_S4x8192x4x1_S4x8192x4x128_0_1_2_3 v53
  have v55 : FVec F S4x8192x4x128 .f32 := mulf o v54
  have v56 : FVec F S1x1x1x128 .f32 := broadcastInDim S1x1x1x128 ![3] bcast_S128_S1x1x1x128_3 g
  have v57 : FVec F S4x8192x4x128 .f32 := broadcastInDim S4x8192x4x128 ![0, 1, 2, 3] bcast_S1x1x1x128_S4x8192x4x128_0_1_2_3 v56
  have v58 : FVec F S4x8192x4x128 .f32 := mulf v55 v57
  have cst_9 : FVec F S_ .f32 := constant S_ .f32 0x3F4CCCCD#32
  have v59 : FVec F S4x8192x4x128 .f32 := broadcastInDim S4x8192x4x128 ![] bcast_S_S4x8192x4x128 cst_9
  have v60 : FVec F S4x8192x4x128 .f32 := mulf v58 v59
  shapeCast S4x8192x512 v60 shapeCasts_S4x8192x4x128_S4x8192x512

/-- Context rows, then latent rows. -/
def both (yc : FVec F S4x256x512 .f32) (yl : FVec F S4x8192x512 .f32) : FVec F S4x8448x512 .bf16 :=
  have v102 : FVec F S4x8448x512 .f32 := concatenate S4x8448x512 1 [⟨S4x256x512, yc⟩, ⟨S4x8192x512, yl⟩] concatenates_S4x256x512_S4x8192x512_S4x8448x512_d1
  truncf .bf16 v102 bitsLt_bf16_f32

/-- The reference's result is these stages, one after another. -/
theorem res_eq (m : (ℓ : Loc nD τ sig) → Buf (Elt F) ℓ) (c : Dev nD) :
    Value.res_main_v103 m c
      = (have lam := lamR (m ((c.tc : Thread nD τ).loc main_arg6))
         have sC := scC (m ((c.tc : Thread nD τ).loc main_arg0)) (kCtx (m ((c.tc : Thread nD τ).loc main_arg1)))
         have sL := scL (m ((c.tc : Thread nD τ).loc main_arg3)) (kAll (m ((c.tc : Thread nD τ).loc main_arg4)) (m ((c.tc : Thread nD τ).loc main_arg1)))
         both (finC (avC (vCtx (m ((c.tc : Thread nD τ).loc main_arg2))) (cmC lam (prC (mxC sC) sC))) (m ((c.tc : Thread nD τ).loc main_arg7)))
           (finL (avL (vAll (m ((c.tc : Thread nD τ).loc main_arg5)) (m ((c.tc : Thread nD τ).loc main_arg2))) (cmL lam (prL (mxL sL) sL))) (m ((c.tc : Thread nD τ).loc main_arg7)))) := rfl
end

end Cert.ReferenceIdeal.Stages

end
-- ==== Proof.RefAt.lean ====
/- The prepared arrays and the result at an index. -/
module

public import proofs.«01_k».proof.Proof.RefStages

@[expose] public section

set_option maxRecDepth 16384

noncomputable section

namespace Cert.ReferenceIdeal.Stages

open Cert.ReferenceIdeal Cert.ReferenceIdeal.Gen Idealize.ShloMosaic Idealize.ShloMosaic.TcCoe Cert.Softmax

theorem ninf : Ideal.ofBits .f32 4286578688#32 = ⊥ := by
  simp [Ideal.ofBits, Ideal.ieee]

/-- A running maximum over the last of five axes, taken once more with −∞, at an index. -/
theorem max_last {n0 n1 n2 n3 n4 : ℕ} (s : FVec Ideal ⟨5, ![n0, n1, n2, n3, n4]⟩ .f32)
    (h : (⟨5, ![n0, n1, n2, n3, n4]⟩ : Shape).ReducesTo [4] ⟨4, ![n0, n1, n2, n3]⟩) (h0 : 0 < S_.numel)
    (hb : S_.BroadcastsInDim ⟨4, ![n0, n1, n2, n3]⟩ ![]) (a : Fin n0) (b : Fin n1) (c : Fin n2) (d : Fin n3) :
    maximumf (broadcastInDim ⟨4, ![n0, n1, n2, n3]⟩ ![] hb (constant (F := Ideal) S_ .f32 0xFF800000#32))
      (Host.reduce FloatOps.maximumf s (constant S_ .f32 0xFF800000#32) h h0) (ix4 a b c d) = mx ⊥ (fun k : Fin n4 => s (ix5 a b c d k)) := by
  pointwise []
  rw [ninf]
  rfl

theorem lane_eq (h : Fin 4) (l : Fin 128) : lane h l = ⟨h * 128 + l, by omega⟩ := by
  unfold lane; congr 1; omega

theorem lane2_eq (h : Fin 4) (c : Fin 2) (d : Fin 64) : lane2 h c d = ⟨h * 128 + c * 64 + d, by omega⟩ := by
  unfold lane2; congr 1; omega

theorem lamR_apply (lv : FVec Ideal S4x64 .f32) (i : S_.Idx) :
    lamR lv i = Ideal.exp (∑ l : Fin 64, lv (ix2 0 l) * lv (ix2 1 l)) - Ideal.exp (∑ l : Fin 64, lv (ix2 2 l) * lv (ix2 3 l)) + Ideal.ofBits .f32 0x3E4CCCCD#32 := by
  pointwise [lamR]

theorem kCtx_apply (kc : FVec Ideal S4x256x512 .f32) (b : Fin 4) (j : Fin 256) (h : Fin 4) (c : Fin 2) (d : Fin 64) :
    kCtx kc (ix5 b j h c d) = kc (ix3 b j (lane2 h c d)) := by
  pointwise [kCtx, lane2_eq]

theorem vCtx_apply (vc : FVec Ideal S4x256x512 .f32) (b : Fin 4) (j : Fin 256) (h : Fin 4) (l : Fin 128) :
    vCtx vc (ix4 b j h l) = vc (ix3 b j (lane h l)) := by
  pointwise [vCtx, lane_eq]

theorem kAll_lat (kl : FVec Ideal S4x8192x512 .f32) (kc : FVec Ideal S4x256x512 .f32) (b : Fin 4) (j : Fin 8192) (h : Fin 4) (c : Fin 2) (d : Fin 64) :
    kAll kl kc (ix5 b ⟨j, by omega⟩ h c d) = kl (ix3 b j (lane2 h c d)) := by
  pointwise [kAll, lane2_eq]

theorem kAll_ctx (kl : FVec Ideal S4x8192x512 .f32) (kc : FVec Ideal S4x256x512 .f32) (b : Fin 4) (j : Fin 256) (h : Fin 4) (c : Fin 2) (d : Fin 64) :
    kAll kl kc (ix5 b ⟨8192 + j, by omega⟩ h c d) = kc (ix3 b j (lane2 h c d)) := by
  pointwise [kAll, lane2_eq]

theorem vAll_lat (vl : FVec Ideal S4x8192x512 .f32) (vc : FVec Ideal S4x256x512 .f32) (b : Fin 4) (j : Fin 8192) (h : Fin 4) (l : Fin 128) :
    vAll vl vc (ix4 b ⟨j, by omega⟩ h l) = vl (ix3 b j (lane h l)) := by
  pointwise [vAll, lane_eq]

theorem vAll_ctx (vl : FVec Ideal S4x8192x512 .f32) (vc : FVec Ideal S4x256x512 .f32) (b : Fin 4) (j : Fin 256) (h : Fin 4) (l : Fin 128) :
    vAll vl vc (ix4 b ⟨8192 + j, by omega⟩ h l) = vc (ix3 b j (lane h l)) := by
  pointwise [vAll, lane_eq]

theorem both_ctx (yc : FVec Ideal S4x256x512 .f32) (yl : FVec Ideal S4x8192x512 .f32) (b : Fin 4) (r : Fin 256) (e : Fin 512) :
    both yc yl (ix3 b ⟨r, by omega⟩ e) = yc (ix3 b r e) := by
  pointwise [both]

theorem both_lat (yc : FVec Ideal S4x256x512 .f32) (yl : FVec Ideal S4x8192x512 .f32) (b : Fin 4) (r : Fin 8192) (e : Fin 512) :
    both yc yl (ix3 b ⟨256 + r, by omega⟩ e) = yl (ix3 b r e) := by
  pointwise [both]

end Cert.ReferenceIdeal.Stages

end
-- ==== Proof.RefAtC.lean ====
/- The context stages at an index. -/
module

public import proofs.«01_k».proof.Proof.RefAt

@[expose] public section

set_option maxRecDepth 16384

noncomputable section

namespace Cert.ReferenceIdeal.Stages

open Cert.ReferenceIdeal Cert.ReferenceIdeal.Gen Idealize.ShloMosaic Idealize.ShloMosaic.TcCoe Cert.Softmax

theorem scC_apply (q : FVec Ideal S4x256x512 .f32) (k : FVec Ideal S4x256x4x2x64 .f32) (b h : Fin 4) (c : Fin 2) (r : Fin 256) (j : Fin 256) :
    scC q k (ix5 b h c r j) = (∑ d : Fin 64, q (ix3 b r (lane2 h c d)) * k (ix5 b j h c d)) * Ideal.ofBits .f32 0x3E000000#32 := by
  pointwise [scC, lane2_eq]

theorem mxC_apply (s : FVec Ideal S4x4x2x256x256 .f32) (b h : Fin 4) (c : Fin 2) (r : Fin 256) :
    mxC s (ix4 b h c r) = mx ⊥ (fun j : Fin 256 => s (ix5 b h c r j)) := by
  exact max_last s _ _ _ b h c r

theorem prC_apply (m : FVec Ideal S4x4x2x256 .f32) (s : FVec Ideal S4x4x2x256x256 .f32) (b h : Fin 4) (c : Fin 2) (r : Fin 256) (j : Fin 256) :
    prC m s (ix5 b h c r j) = Ideal.div (Ideal.exp (s (ix5 b h c r j) - m (ix4 b h c r))) (∑ j' : Fin 256, Ideal.exp (s (ix5 b h c r j') - m (ix4 b h c r))) := by
  pointwise [prC]

theorem cmC_apply (lam : FVec Ideal S_ .f32) (p : FVec Ideal S4x4x2x256x256 .f32) (b h : Fin 4) (r : Fin 256) (j : Fin 256) :
    cmC lam p (ix4 b h r j) = p (ix5 b h 0 r j) - lam ix0 * p (ix5 b h 1 r j) := by
  pointwise [cmC]

theorem avC_apply (v : FVec Ideal S4x256x4x128 .f32) (a : FVec Ideal S4x4x256x256 .f32) (b h : Fin 4) (r : Fin 256) (l : Fin 128) :
    avC v a (ix4 b r h l) = ∑ j : Fin 256, v (ix4 b j h l) * a (ix4 b h r j) := by
  pointwise [avC]

theorem finC_apply (o : FVec Ideal S4x256x4x128 .f32) (g : FVec Ideal S128 .f32) (b h : Fin 4) (r : Fin 256) (x : Fin 128) :
    finC o g (ix3 b r (lane h x)) = nrmRow (fun l => o (ix4 b r h l)) (fun l => g (ix1 l)) x := by
  pointwise [finC, nrmRow, lane_eq]

end Cert.ReferenceIdeal.Stages

end
-- ==== Proof.RefAtL.lean ====
/- The latent stages at an index. -/
module

public import proofs.«01_k».proof.Proof.RefAt

@[expose] public section

set_option maxRecDepth 16384

noncomputable section

namespace Cert.ReferenceIdeal.Stages

open Cert.ReferenceIdeal Cert.ReferenceIdeal.Gen Idealize.ShloMosaic Idealize.ShloMosaic.TcCoe Cert.Softmax

theorem scL_apply (q : FVec Ideal S4x8192x512 .f32) (k : FVec Ideal S4x8448x4x2x64 .f32) (b h : Fin 4) (c : Fin 2) (r : Fin 8192) (j : Fin 8448) :
    scL q k (ix5 b h c r j) = (∑ d : Fin 64, q (ix3 b r (lane2 h c d)) * k (ix5 b j h c d)) * Ideal.ofBits .f32 0x3E000000#32 := by
  pointwise [scL, lane2_eq]

theorem mxL_apply (s : FVec Ideal S4x4x2x8192x8448 .f32) (b h : Fin 4) (c : Fin 2) (r : Fin 8192) :
    mxL s (ix4 b h c r) = mx ⊥ (fun j : Fin 8448 => s (ix5 b h c r j)) := by
  exact max_last s _ _ _ b h c r

theorem prL_apply (m : FVec Ideal S4x4x2x8192 .f32) (s : FVec Ideal S4x4x2x8192x8448 .f32) (b h : Fin 4) (c : Fin 2) (r : Fin 8192) (j : Fin 8448) :
    prL m s (ix5 b h c r j) = Ideal.div (Ideal.exp (s (ix5 b h c r j) - m (ix4 b h c r))) (∑ j' : Fin 8448, Ideal.exp (s (ix5 b h c r j') - m (ix4 b h c r))) := by
  pointwise [prL]

theorem cmL_apply (lam : FVec Ideal S_ .f32) (p : FVec Ideal S4x4x2x8192x8448 .f32) (b h : Fin 4) (r : Fin 8192) (j : Fin 8448) :
    cmL lam p (ix4 b h r j) = p (ix5 b h 0 r j) - lam ix0 * p (ix5 b h 1 r j) := by
  pointwise [cmL]

theorem avL_apply (v : FVec Ideal S4x8448x4x128 .f32) (a : FVec Ideal S4x4x8192x8448 .f32) (b h : Fin 4) (r : Fin 8192) (l : Fin 128) :
    avL v a (ix4 b r h l) = ∑ j : Fin 8448, v (ix4 b j h l) * a (ix4 b h r j) := by
  pointwise [avL]

theorem finL_apply (o : FVec Ideal S4x8192x4x128 .f32) (g : FVec Ideal S128 .f32) (b h : Fin 4) (r : Fin 8192) (x : Fin 128) :
    finL o g (ix3 b r (lane h x)) = nrmRow (fun l => o (ix4 b r h l)) (fun l => g (ix1 l)) x := by
  pointwise [finL, nrmRow, lane_eq]

end Cert.ReferenceIdeal.Stages

end
-- ==== Proof.RefFinal.lean ====
/- The differential attention's reference on real inputs: its result is the specification's, position by position. -/
module

public import proofs.«01_k».proof.Proof.RefAtC
public import proofs.«01_k».proof.Proof.RefAtL

@[expose] public section

set_option maxRecDepth 16384

noncomputable section

namespace Cert.Softmax

/-- Two softmaxes combined before the values are averaged are the two averages combined. -/
theorem avg_diff {n : ℕ} (S S' V : Fin n → ℝ) (lam : ℝ) :
    ∑ j, V j * (Real.exp (S j) / (∑ i, Real.exp (S i)) - lam * (Real.exp (S' j) / ∑ i, Real.exp (S' i)))
      = avg S V - lam * avg S' V := by
  rw [avg, avg, Finset.sum_div, Finset.sum_div, Finset.mul_sum, ← Finset.sum_sub_distrib]
  exact Finset.sum_congr rfl fun j _ => by ring

/-- A sum over all 8448 keys, the 8192 latent ones first. -/
theorem sum_keys (f : Fin 8448 → ℝ) : ∑ j, f j = ∑ j : Fin 256, f ⟨8192 + j, by omega⟩ + ∑ j : Fin 8192, f ⟨j, by omega⟩ := by
  rw [add_comm]
  exact Fin.sum_univ_add (a := 8192) (b := 256) f

/-- An average over all keys is one over the two stretches. -/
theorem avg_keys (S V : Fin 8448 → ℝ) :
    avg S V = avg2 (fun j : Fin 256 => S ⟨8192 + j, by omega⟩) (fun j => V ⟨8192 + j, by omega⟩)
      (fun j : Fin 8192 => S ⟨j, by omega⟩) (fun j => V ⟨j, by omega⟩) := by
  rw [avg, avg2, sum_keys, sum_keys]

end Cert.Softmax

namespace Cert.ReferenceIdeal.Stages

open Cert.ReferenceIdeal Cert.ReferenceIdeal.Gen Idealize.ShloMosaic Idealize.ShloMosaic.TcCoe Cert.Softmax

theorem eighth : Ideal.ofBits .f32 0x3E000000#32 = ((1 / 8 : ℝ) : EReal) := by
  simp [Ideal.ofBits, Ideal.ieee]
  rw [← EReal.coe_mul]
  norm_num

/-- A context position's weighted values, on real scores and values. -/
theorem avC_real (v : FVec Ideal S4x256x4x128 .f32) (lam : FVec Ideal S_ .f32) (s : FVec Ideal S4x4x2x256x256 .f32) (b h : Fin 4) (r : Fin 256)
    (x : Fin 128) (S : Fin 2 → Fin 256 → ℝ) (V : Fin 256 → ℝ) (lm : ℝ) (hs : ∀ c j, s (ix5 b h c r j) = ((S c j : ℝ) : EReal))
    (hv : ∀ j, v (ix4 b j h x) = ((V j : ℝ) : EReal)) (hl : lam ix0 = ((lm : ℝ) : EReal)) :
    avC v (cmC lam (prC (mxC s) s)) (ix4 b r h x) = ((avg (S 0) V - lm * avg (S 1) V : ℝ) : EReal) := by
  rw [avC_apply, ← avg_diff, ← coe_sum]
  refine Finset.sum_congr rfl fun j _ => ?_
  rw [cmC_apply, prC_apply, prC_apply, hv, hl]
  simp only [hs]
  rw [weight (by norm_num) (S 0) (by rw [mxC_apply]; simp only [hs]), weight (by norm_num) (S 1) (by rw [mxC_apply]; simp only [hs]),
    ← EReal.coe_mul, ← EReal.coe_sub, ← EReal.coe_mul]

/-- A latent position's weighted values, on real scores and values. -/
theorem avL_real (v : FVec Ideal S4x8448x4x128 .f32) (lam : FVec Ideal S_ .f32) (s : FVec Ideal S4x4x2x8192x8448 .f32) (b h : Fin 4) (r : Fin 8192)
    (x : Fin 128) (S : Fin 2 → Fin 8448 → ℝ) (V : Fin 8448 → ℝ) (lm : ℝ) (hs : ∀ c j, s (ix5 b h c r j) = ((S c j : ℝ) : EReal))
    (hv : ∀ j, v (ix4 b j h x) = ((V j : ℝ) : EReal)) (hl : lam ix0 = ((lm : ℝ) : EReal)) :
    avL v (cmL lam (prL (mxL s) s)) (ix4 b r h x) = ((avg (S 0) V - lm * avg (S 1) V : ℝ) : EReal) := by
  rw [avL_apply, ← avg_diff, ← coe_sum]
  refine Finset.sum_congr rfl fun j _ => ?_
  rw [cmL_apply, prL_apply, prL_apply, hv, hl]
  simp only [hs]
  rw [weight (by norm_num) (S 0) (by rw [mxL_apply]; simp only [hs]), weight (by norm_num) (S 1) (by rw [mxL_apply]; simp only [hs]),
    ← EReal.coe_mul, ← EReal.coe_sub, ← EReal.coe_mul]

variable (m : (ℓ : Loc nD τ sig) → Buf (Elt Ideal) ℓ) (c : Dev nD)

/-- The launch's arguments hold the specification's inputs. -/
structure Holds (D : Data) : Prop where
  qc : ∀ b s e, (m ((c.tc : Thread nD τ).loc main_arg0) : Vec Ideal S4x256x512 .f32) (ix3 b s e) = ((D.qc b s e : ℝ) : EReal)
  kc : ∀ b s e, (m ((c.tc : Thread nD τ).loc main_arg1) : Vec Ideal S4x256x512 .f32) (ix3 b s e) = ((D.kc b s e : ℝ) : EReal)
  vc : ∀ b s e, (m ((c.tc : Thread nD τ).loc main_arg2) : Vec Ideal S4x256x512 .f32) (ix3 b s e) = ((D.vc b s e : ℝ) : EReal)
  ql : ∀ b s e, (m ((c.tc : Thread nD τ).loc main_arg3) : Vec Ideal S4x8192x512 .f32) (ix3 b s e) = ((D.ql b s e : ℝ) : EReal)
  kl : ∀ b s e, (m ((c.tc : Thread nD τ).loc main_arg4) : Vec Ideal S4x8192x512 .f32) (ix3 b s e) = ((D.kl b s e : ℝ) : EReal)
  vl : ∀ b s e, (m ((c.tc : Thread nD τ).loc main_arg5) : Vec Ideal S4x8192x512 .f32) (ix3 b s e) = ((D.vl b s e : ℝ) : EReal)
  lam : lamR (F := Ideal) (m ((c.tc : Thread nD τ).loc main_arg6) : Vec Ideal S4x64 .f32) ix0 = ((D.lam : ℝ) : EReal)
  g : ∀ x, (m ((c.tc : Thread nD τ).loc main_arg7) : Vec Ideal S128 .f32) (ix1 x) = D.g x

variable {m c} {D : Data} (H : Holds m c D)

/-- A score on real rows. -/
theorem score_real (q k : Fin 512 → ℝ) (h : Fin 4) (c : Fin 2) :
    (∑ d : Fin 64, ((q (lane2 h c d) : ℝ) : EReal) * ((k (lane2 h c d) : ℝ) : EReal)) * Ideal.ofBits .f32 0x3E000000#32
      = ((score q k h c : ℝ) : EReal) := by
  rw [eighth, score, EReal.coe_mul, ← coe_sum]
  simp only [EReal.coe_mul]

include H

theorem ctx_row (b : Fin 4) (s : Fin 256) (h : Fin 4) (x : Fin 128) :
    Value.res_main_v103 m c (ix3 b ⟨s, by omega⟩ (lane h x)) = specC D b s h x := by
  rw [res_eq]
  refine (both_ctx _ _ b s (lane h x)).trans ((finC_apply _ _ b h s x).trans ?_)
  simp only [H.g]
  refine congrArg (fun d => nrmRow d D.g x) (funext fun l => ?_)
  exact avC_real _ _ _ b h s l (fun c' j => score (D.qc b s) (D.kc b j) h c') (fun j => D.vc b j (lane h l)) D.lam
    (fun c' j => by rw [scC_apply]; simp only [kCtx_apply, H.qc, H.kc]; exact score_real (D.qc b s) (D.kc b j) h c')
    (fun j => by rw [vCtx_apply, H.vc]) H.lam

theorem lat_row (b : Fin 4) (s : Fin 8192) (h : Fin 4) (x : Fin 128) :
    Value.res_main_v103 m c (ix3 b ⟨256 + s, by omega⟩ (lane h x)) = specL D b s h x := by
  rw [res_eq]
  refine (both_lat _ _ b s (lane h x)).trans ((finL_apply _ _ b h s x).trans ?_)
  simp only [H.g]
  refine congrArg (fun d => nrmRow d D.g x) (funext fun l => ?_)
  have hk : ∀ j : Fin 8448, (∃ j' : Fin 8192, j = ⟨j', by omega⟩) ∨ ∃ j' : Fin 256, j = ⟨8192 + j', by omega⟩ := fun j => by
    by_cases hj : j.val < 8192
    · exact .inl ⟨⟨j, hj⟩, rfl⟩
    · exact .inr ⟨⟨j - 8192, by omega⟩, Fin.ext (by simp only []; omega)⟩
  let K : Fin 8448 → Fin 512 → ℝ := fun j e => if hj : j.val < 8192 then D.kl b ⟨j, hj⟩ e else D.kc b ⟨j - 8192, by omega⟩ e
  let V : Fin 8448 → Fin 512 → ℝ := fun j e => if hj : j.val < 8192 then D.vl b ⟨j, hj⟩ e else D.vc b ⟨j - 8192, by omega⟩ e
  have Kl : ∀ j : Fin 8192, K ⟨j, by omega⟩ = D.kl b j := fun j => funext fun e => dif_pos j.isLt
  have Vl : ∀ j : Fin 8192, V ⟨j, by omega⟩ = D.vl b j := fun j => funext fun e => dif_pos j.isLt
  have Kc : ∀ j : Fin 256, K ⟨8192 + j, by omega⟩ = D.kc b j := fun j => funext fun e =>
    (dif_neg (by simp only []; omega)).trans (congrArg (fun j' => D.kc b j' e) (Fin.ext (by simp only []; omega)))
  have Vc : ∀ j : Fin 256, V ⟨8192 + j, by omega⟩ = D.vc b j := fun j => funext fun e =>
    (dif_neg (by simp only []; omega)).trans (congrArg (fun j' => D.vc b j' e) (Fin.ext (by simp only []; omega)))
  refine (avL_real _ _ _ b h s l (fun c' j => score (D.ql b s) (K j) h c') (fun j => V j (lane h l)) D.lam ?_ ?_ H.lam).trans ?_
  · intro c' j
    rw [scL_apply]
    rcases hk j with ⟨j, rfl⟩ | ⟨j, rfl⟩
    · simp only [kAll_lat, H.ql, H.kl, Kl]; exact score_real (D.ql b s) (D.kl b j) h c'
    · simp only [kAll_ctx, H.ql, H.kc, Kc]; exact score_real (D.ql b s) (D.kc b j) h c'
  · intro j
    rcases hk j with ⟨j, rfl⟩ | ⟨j, rfl⟩
    · rw [vAll_lat, H.vl, Vl]
    · rw [vAll_ctx, H.vc, Vc]
  · rw [avg_keys, avg_keys]
    simp only [Kl, Kc, Vl, Vc]
    rfl

/-- The reference's result is the specification, as an array. -/
theorem ref_final : Value.res_main_v103 m c = (fun i : S4x8448x512.Idx => spec D (i 0) (i 1)
      ⟨(i 2).val / 128, by have := (i 2).isLt; change (i 2).val < 512 at this; omega⟩ ⟨(i 2).val % 128, by omega⟩) := by
  refine funext fun (i : S4x8448x512.Idx) => ?_
  idx_vars i
  show Value.res_main_v103 m c (ix3 i0 i1 i2) = spec D i0 i1 ⟨i2.val / 128, _⟩ ⟨i2.val % 128, _⟩
  have e : i2 = lane ⟨i2.val / 128, by omega⟩ ⟨i2.val % 128, by omega⟩ := Fin.ext (by simp only [lane]; omega)
  by_cases hs : i1.val < 256
  · have := ctx_row H i0 ⟨i1, hs⟩ ⟨i2.val / 128, by omega⟩ ⟨i2.val % 128, by omega⟩
    rw [← e] at this
    rw [spec, dif_pos hs]
    exact this
  · have := lat_row H i0 ⟨i1 - 256, by omega⟩ ⟨i2.val / 128, by omega⟩ ⟨i2.val % 128, by omega⟩
    rw [← e, show (⟨256 + (⟨i1.val - 256, by omega⟩ : Fin 8192).val, by simp only []; omega⟩ : Fin 8448) = i1 from Fin.ext (by simp only []; omega)] at this
    rw [spec, dif_neg hs]
    exact this

end Cert.ReferenceIdeal.Stages

end
-- ==== Proof.Finite.lean ====
/- What the precondition says of an array: every entry is a real number. -/
module

public import proofs.«01_k».proof.Proof.Gen.Pre_finite_args
public import Idealize.ShloMosaic.Lib.ReduceAll
public import Idealize.ShloMosaic.Lib.Pointwise

@[expose] public section

noncomputable section

namespace Cert.Softmax

open Idealize.ShloMosaic

abbrev S0 : Shape := ⟨0, ![]⟩

theorem inf_bits : Ideal.ofBits .f32 0x7F800000#32 = ⊤ := by
  simp [Ideal.ofBits, Ideal.ieee]

/-- An extended real whose absolute value is below `∞` is a real number. -/
theorem real_of_abs_lt {x : EReal} (h : max x (-x) < ⊤) : ∃ r : ℝ, x = (r : EReal) := by
  refine ⟨x.toReal, (EReal.coe_toReal ?_ ?_).symm⟩
  · rintro rfl; simp at h
  · rintro rfl; simp at h

/-- An array all of whose entries compare below `∞` in absolute value has real entries. -/
theorem real_of_all {s : Shape} {axes : List (Fin s.rank)} (a : FVec Ideal s .f32) (hb : S0.BroadcastsInDim s ![]) (h : s.ReducesTo axes S0)
    (h0 : 0 < S0.numel) (j : S0.Idx)
    (e : Host.reduce IntOp.andi (cmpf .olt (Host.absf a) (broadcastInDim s ![] hb (constant (F := Ideal) S0 .f32 0x7F800000#32)))
      (constantI S0 1 1#1) h h0 j = 1#1) (i : s.Idx) : ∃ r : ℝ, a i = (r : EReal) := by
  haveI : Subsingleton S0.Idx := ⟨fun x y => funext fun k => k.elim0⟩
  have e' := Host.reduce_andi_all _ _ h h0 j e i
  refine real_of_abs_lt ?_
  rw [← inf_bits]
  exact (Ideal.cmp_olt_eq_one _ _).1 e'

/-- Every array the precondition constrains (all but the norm's gain) has real entries. -/
theorem reals (a0 a1 a2 : FVec Ideal Pre_finite_args.S4x256x512 .f32) (a3 a4 a5 : FVec Ideal Pre_finite_args.S4x8192x512 .f32)
    (a6 : FVec Ideal Pre_finite_args.S4x64 .f32) (a7 : FVec Ideal Pre_finite_args.S128 .f32)
    (h : Pre_finite_args.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h := congrFun h (fun k => k.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6⟩

end Cert.Softmax

end
-- ==== Proof.Algebra.lean ====
/- The differential attention: kernel and reference end with the same result on real inputs. -/
module

public import proofs.«01_k».proof.Defs
public import proofs.«01_k».proof.Proof.Final
public import proofs.«01_k».proof.Proof.RefFinal
public import proofs.«01_k».proof.Proof.Finite
public import Idealize.ShloMosaic.Lib.Claim

@[expose] public section

set_option maxRecDepth 16384

noncomputable section

namespace Cert.Proof

open Idealize.ShloMosaic Idealize.SL.Sem Cert.Softmax

/-- The reference's weight of the second component, on real vectors, is a real number. -/
theorem lam_real (lv : FVec Ideal ReferenceIdeal.S4x64 .f32) (h : ∀ i, ∃ r : ℝ, lv i = (r : EReal)) :
    ∃ r : ℝ, ReferenceIdeal.Stages.lamR (F := Ideal) lv ix0 = (r : EReal) := by
  choose f hf using h
  have hc : Ideal.ofBits .f32 0x3E4CCCCD#32 = (((Ideal.ofBits .f32 0x3E4CCCCD#32).toReal : ℝ) : EReal) := by
    simp [Ideal.ofBits, Ideal.ieee]
    rw [← EReal.coe_mul, EReal.toReal_coe]
  rw [ReferenceIdeal.Stages.lamR_apply, hc]
  simp only [hf, ← EReal.coe_mul, coe_sum, Ideal.exp_coe, ← EReal.coe_sub, ← EReal.coe_add]
  exact ⟨_, rfl⟩

/-- The kernel computes that weight the same way. -/
theorem lam_kernel (lv : FVec Ideal KernelIdeal.S4x64 .f32) :
    KernelIdeal.Gen.k0_pay92 (F := Ideal) lv (ix2 0 0) = ReferenceIdeal.Stages.lamR (F := Ideal) lv ix0 := by
  rw [ReferenceIdeal.Stages.lamR_apply]
  pointwise [KernelIdeal.Gen.k0_pay92]

/-- On real inputs both programs end with the specification's array. -/
theorem algebraic : Cert.algebraic_KernelIdeal_ReferenceIdeal_pre_finite_args := by
  have key : ∀ (m : (ℓ : Loc KernelIdeal.nD KernelIdeal.τ KernelIdeal.sig) → Buf (Elt Ideal) ℓ)
      (m' : (ℓ : Loc ReferenceIdeal.nD ReferenceIdeal.τ ReferenceIdeal.sig) → Buf (Elt Ideal) ℓ), Pre_KernelIdeal_finite_args m →
      ∀ c : Dev KernelIdeal.nD,
      (m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)) →
      (ReferenceIdeal.Value.res_main_v103 m' c : ReferenceIdeal.S4x8448x512.Idx → EReal) = (KernelIdeal.Gen.dats m 0 c).arrAt 5 KernelIdeal.cfg0.N := by
    intro m m' hpre c ⟨e0, e1, e2, e3, e4, e5, e6, e7⟩
    obtain ⟨r0, r1, r2, r3, r4, r5, r6⟩ := reals _ _ _ _ _ _ _ _ (hpre c)
    obtain ⟨lm, hlm⟩ := lam_real _ r6
    choose f0 h0 using r0
    choose f1 h1 using r1
    choose f2 h2 using r2
    choose f3 h3 using r3
    choose f4 h4 using r4
    choose f5 h5 using r5
    let D : Data :=
      { qc := fun b s e => f0 (ix3 b s e), kc := fun b s e => f1 (ix3 b s e), vc := fun b s e => f2 (ix3 b s e),
        ql := fun b s e => f3 (ix3 b s e), kl := fun b s e => f4 (ix3 b s e), vl := fun b s e => f5 (ix3 b s e), lam := lm,
        g := fun x => (m ((c.tc : Thread KernelIdeal.nD KernelIdeal.τ).loc KernelIdeal.main_arg7) : FVec Ideal KernelIdeal.S128 .f32) (ix1 x) }
    have HK : KernelIdeal.Flash.Holds m c D :=
      ⟨fun _ _ _ => h0 _, fun _ _ _ => h1 _, fun _ _ _ => h2 _, fun _ _ _ => h3 _, fun _ _ _ => h4 _, fun _ _ _ => h5 _,
        (lam_kernel _).trans hlm, fun _ => rfl⟩
    have HR : ReferenceIdeal.Stages.Holds m' c D :=
      ⟨fun _ _ _ => by rw [e0]; exact h0 _, fun _ _ _ => by rw [e1]; exact h1 _, fun _ _ _ => by rw [e2]; exact h2 _,
        fun _ _ _ => by rw [e3]; exact h3 _, fun _ _ _ => by rw [e4]; exact h4 _, fun _ _ _ => by rw [e5]; exact h5 _,
        by rw [e6]; exact hlm, fun _ => by rw [e7]⟩
    rw [ReferenceIdeal.Stages.ref_final HR, KernelIdeal.Flash.final HK]
    rfl
  pair_intro
  · run_from (KernelIdeal.Value.run_blocks m g)
  · run_from (ReferenceIdeal.Value.run m' g')
    exact key m m' hpre _ (hagree _)

end Cert.Proof

end
-- ==== Proof.Spec2.lean ====
/- The grouped-query attention as real-number mathematics: what both programs compute at every position. No program. -/
module

public import proofs.«01_k».proof.Proof.Spec

@[expose] public section

noncomputable section

namespace Cert.Softmax

open Idealize.ShloMosaic

/-- The grouped-query attention's inputs as real numbers: context and latent queries (8 heads of 64 lanes), keys and
    values (2 heads of 64 lanes). -/
structure Data2 where
  qc : Fin 4 → Fin 256 → Fin 512 → ℝ
  kc : Fin 4 → Fin 256 → Fin 128 → ℝ
  vc : Fin 4 → Fin 256 → Fin 128 → ℝ
  ql : Fin 4 → Fin 8192 → Fin 512 → ℝ
  kl : Fin 4 → Fin 8192 → Fin 128 → ℝ
  vl : Fin 4 → Fin 8192 → Fin 128 → ℝ

/-- Lane `d` of query head `p` of group `g`. -/
def qlane (g : Fin 2) (p : Fin 4) (d : Fin 64) : Fin 512 := ⟨256 * g + 64 * p + d, by omega⟩
/-- Lane `d` of key head `g`. -/
def klane (g : Fin 2) (d : Fin 64) : Fin 128 := ⟨64 * g + d, by omega⟩

/-- The score of query head `p` of group `g`. -/
def gscore (q : Fin 512 → ℝ) (k : Fin 128 → ℝ) (g : Fin 2) (p : Fin 4) : ℝ :=
  (∑ d : Fin 64, q (qlane g p d) * k (klane g d)) * (1 / 8)

/-- The result at a context position: the average over the context keys. -/
def gspecC (D : Data2) (b : Fin 4) (s : Fin 256) (g : Fin 2) (p : Fin 4) (d : Fin 64) : ℝ :=
  avg (fun j => gscore (D.qc b s) (D.kc b j) g p) (fun j => D.vc b j (klane g d))

/-- The result at a latent position: the average over all keys. -/
def gspecL (D : Data2) (b : Fin 4) (s : Fin 8192) (g : Fin 2) (p : Fin 4) (d : Fin 64) : ℝ :=
  avg2 (fun j => gscore (D.ql b s) (D.kc b j) g p) (fun j => D.vc b j (klane g d))
    (fun j => gscore (D.ql b s) (D.kl b j) g p) (fun j => D.vl b j (klane g d))

/-- The result at any position: the context's 256, then the latent 8192. -/
def gspec (D : Data2) (b : Fin 4) (s : Fin 8448) (g : Fin 2) (p : Fin 4) (d : Fin 64) : EReal :=
  if hs : s.val < 256 then ((gspecC D b ⟨s, hs⟩ g p d : ℝ) : EReal) else ((gspecL D b ⟨s - 256, by omega⟩ g p d : ℝ) : EReal)

/-- The query rows a group's tile stacks: each half of its two blocks of 128 lanes, the other half cleared. -/
def part (p : Fin 4) (A B : Fin 128 → ℝ) : Fin 128 → ℝ :=
  match p with
  | 0 => lo A
  | 1 => hi A
  | 2 => lo B
  | 3 => hi B

theorem sco_lo_twice {n : ℕ} (Q : Fin 128 → ℝ) (K : Fin n → Fin 128 → ℝ) (j : Fin n) :
    sco (lo Q) K j = ∑ d : Fin 64, Q ⟨d, by omega⟩ * K j ⟨d, by omega⟩ := by
  rw [sco, sum_two_halves]
  have h2 : ∑ d : Fin 64, lo Q ⟨64 + d, by omega⟩ * K j ⟨64 + d, by omega⟩ = 0 :=
    Finset.sum_eq_zero fun d _ => by rw [lo, if_neg (by simp), zero_mul]
  rw [h2, add_zero]
  exact Finset.sum_congr rfl fun d _ => by rw [lo, if_pos (by simp)]

theorem sco_hi_twice {n : ℕ} (Q : Fin 128 → ℝ) (K : Fin n → Fin 128 → ℝ) (j : Fin n) :
    sco (hi Q) K j = ∑ d : Fin 64, Q ⟨64 + d, by omega⟩ * K j ⟨64 + d, by omega⟩ := by
  rw [sco, sum_two_halves]
  have h2 : ∑ d : Fin 64, hi Q ⟨d, by omega⟩ * K j ⟨d, by omega⟩ = 0 :=
    Finset.sum_eq_zero fun d _ => by rw [hi, if_pos (by simp), zero_mul]
  rw [h2, zero_add]
  exact Finset.sum_congr rfl fun d _ => by rw [hi, if_neg (by simp)]

/-- Part `p` of a group's scaled query rows, against the doubled key head, scores as head `p` of the group. -/
theorem sco_part {n : ℕ} (q : Fin 512 → ℝ) (K : Fin n → Fin 128 → ℝ) (g : Fin 2) (p : Fin 4) :
    sco (part p (fun l => q ⟨256 * g + l, by omega⟩ * (1 / 8)) (fun l => q ⟨256 * g + (128 + l), by omega⟩ * (1 / 8)))
      (fun j l => K j (klane g ⟨l.val % 64, by omega⟩)) = fun j => gscore q (K j) g p := by
  funext j
  have e : ∀ (x y : Fin 512) (u v : Fin 128), x.val = y.val → u.val = v.val → q x * (1 / 8) * K j u = q y * K j v * (1 / 8) :=
    fun x y u v hx hu => by rw [Fin.ext hx, Fin.ext hu, mul_right_comm]
  rw [gscore, Finset.sum_mul]
  match p with
  | 0 => exact (sco_lo_twice _ _ j).trans (Finset.sum_congr rfl fun d _ => e _ _ _ _ (by simp [qlane]) (by simp [klane]))
  | 1 => exact (sco_hi_twice _ _ j).trans (Finset.sum_congr rfl fun d _ => e _ _ _ _ (by simp [qlane]; omega) (by simp [klane]))
  | 2 => exact (sco_lo_twice _ _ j).trans (Finset.sum_congr rfl fun d _ => e _ _ _ _ (by simp [qlane]; omega) (by simp [klane]))
  | 3 => exact (sco_hi_twice _ _ j).trans (Finset.sum_congr rfl fun d _ => e _ _ _ _ (by simp [qlane]; omega) (by simp [klane]))

end Cert.Softmax

end
-- ==== Proof.Flash2.lean ====
/- The grouped-query attention kernel's arithmetic, read out of its payloads: one step of the online softmax on a chunk of
   256 or 2048 keys as a function of vectors, what the two cases of the kernel store as towers of these steps, and each
   step read at an index. The denominator is lane 64 of the numerator, where the values hold ones. -/
module

public import proofs.«01_k».proof.Proof.Gen.Kernel2Ideal.Value
public import proofs.«01_k».proof.Proof.Spec2
public import Idealize.ShloMosaic.Lib.Pointwise

@[expose] public section

set_option maxRecDepth 16384

noncomputable section

namespace Cert.Kernel2Ideal.Flash

open Cert.Kernel2Ideal Cert.Kernel2Ideal.Gen Idealize.ShloMosaic Cert.Softmax

variable {F : FTy → Type} [FloatOps F]

/-! ## One step on a chunk, as functions of vectors -/

/-- The scores of a chunk of 256 keys. -/
def sc256 (q : FVec F S1024x128 .bf16) (k : Vec F S1x256x128 .bf16) : FVec F S1024x256 .f32 :=
  matmul dot_S1024x128_S256x128_S1024x256_1_1_0_0_n_n none q
    (shapeCast S256x128 k shapeCasts_S1x256x128_S256x128 : FVec F S256x128 .bf16) (constant S1024x256 .f32 0x00000000#32)

/-- The running maximum after the chunk. -/
def mx256 (m : FVec F S1024x1 .f32) (s : FVec F S1024x256 .f32) : FVec F S1024x1 .f32 :=
  maximumf m (shapeCast S1024x1 (multiReduction .maximumf [1] S1024 s 0xFF800000#32 reduces_S1024x256_S1024 (.inl rfl) rfl : FVec F S1024 .f32) shapeCasts_S1024_S1024x1)

/-- The running sums after the chunk. -/
def ac256 (m m' : FVec F S1024x1 .f32) (a : FVec F S1024x128 .f32) (s : FVec F S1024x256 .f32) (v : Vec F S1x256x128 .bf16) : FVec F S1024x128 .f32 :=
  addf (mulf (broadcastTo S1024x128 (exp (subf m m')) broadcasts_S1024x1_S1024x128) a)
    (matmul dot_S1024x256_S256x128_S1024x128_1_0_0_1_n_n none
      (exp (truncf .bf16 (subf s (broadcastTo S1024x256 m' broadcasts_S1024x1_S1024x256)) bitsLt_bf16_f32 : FVec F S1024x256 .bf16))
      (shapeCast S256x128 v shapeCasts_S1x256x128_S256x128 : FVec F S256x128 .bf16) (constant S1024x128 .f32 0x00000000#32))

/-- The scores of a chunk of 2048 keys. -/
def sc2048 (q : FVec F S1024x128 .bf16) (k : Vec F S1x2048x128 .bf16) : FVec F S1024x2048 .f32 :=
  matmul dot_S1024x128_S2048x128_S1024x2048_1_1_0_0_n_n none q
    (shapeCast S2048x128 k shapeCasts_S1x2048x128_S2048x128 : FVec F S2048x128 .bf16) (constant S1024x2048 .f32 0x00000000#32)

/-- The running maximum after the chunk. -/
def mx2048 (m : FVec F S1024x1 .f32) (s : FVec F S1024x2048 .f32) : FVec F S1024x1 .f32 :=
  maximumf m (shapeCast S1024x1 (multiReduction .maximumf [1] S1024 s 0xFF800000#32 reduces_S1024x2048_S1024 (.inl rfl) rfl : FVec F S1024 .f32) shapeCasts_S1024_S1024x1)

/-- The running sums after the chunk. -/
def ac2048 (m m' : FVec F S1024x1 .f32) (a : FVec F S1024x128 .f32) (s : FVec F S1024x2048 .f32) (v : Vec F S1x2048x128 .bf16) : FVec F S1024x128 .f32 :=
  addf (mulf (broadcastTo S1024x128 (exp (subf m m')) broadcasts_S1024x1_S1024x128) a)
    (matmul dot_S1024x2048_S2048x128_S1024x128_1_0_0_1_n_n none
      (exp (truncf .bf16 (subf s (broadcastTo S1024x2048 m' broadcasts_S1024x1_S1024x2048)) bitsLt_bf16_f32 : FVec F S1024x2048 .bf16))
      (shapeCast S2048x128 v shapeCasts_S1x2048x128_S2048x128 : FVec F S2048x128 .bf16) (constant S1024x128 .f32 0x00000000#32))

/-- The starting maximum, `-∞` in every row. -/
def m0 : FVec F S1024x1 .f32 := broadcast S1024x1 (Scalar.ofBits .f32 0xFF800000#32)
/-- The starting sums. -/
def a0 : FVec F S1024x128 .f32 := broadcast S1024x128 (Scalar.ofBits .f32 0x00000000#32)

/-- The sums' quotients by lane 64, the four parts of 256 rows side by side. -/
def quo (a : FVec F S1024x128 .f32) : FVec F S1x256x256 .bf16 :=
  have o : FVec F S1024x64 .f32 := divf (extractStridedSlice S1024x64 ![0, 0] a slices_S1024x128_o0_0_S1024x64)
    (broadcastTo S1024x64 (extractStridedSlice S1024x1 ![0, 64] a slices_S1024x128_o0_64_S1024x1 : FVec F S1024x1 .f32) broadcasts_S1024x1_S1024x64)
  have c : FVec F S256x256 .f32 := concatenate S256x256 1
    [⟨S256x64, (extractStridedSlice S256x64 ![0, 0] o slices_S1024x64_o0_0_S256x64 : FVec F S256x64 .f32)⟩,
     ⟨S256x64, (extractStridedSlice S256x64 ![256, 0] o slices_S1024x64_o256_0_S256x64 : FVec F S256x64 .f32)⟩,
     ⟨S256x64, (extractStridedSlice S256x64 ![512, 0] o slices_S1024x64_o512_0_S256x64 : FVec F S256x64 .f32)⟩,
     ⟨S256x64, (extractStridedSlice S256x64 ![768, 0] o slices_S1024x64_o768_0_S256x64 : FVec F S256x64 .f32)⟩]
    concatenates_S256x64_S256x64_S256x64_S256x64_S256x256_d1
  shapeCast S1x256x256 (truncf .bf16 c bitsLt_bf16_f32 : FVec F S256x256 .bf16) shapeCasts_S256x256_S1x256x256

/-- What one group stores at a context tile: the 256 context keys only. -/
def grpA (qa qb : Vec F S1x256x128 .bf16) (k v : Vec F S1x256x128 .bf16) : FVec F S1x256x256 .bf16 :=
  have s : FVec F S1024x256 .f32 := sc256 (k0_pay42 qa qb) k
  quo (ac256 m0 (mx256 m0 s) a0 s v)

/-- What one group stores at a latent tile: the 256 context keys, then four chunks of 2048 latent keys. -/
def grpB (qa qb : Vec F S1x256x128 .bf16) (k v : Vec F S1x256x128 .bf16)
    (k1 v1 k2 v2 k3 v3 k4 v4 : Vec F S1x2048x128 .bf16) : FVec F S1x256x256 .bf16 :=
  have q := k0_pay42 qa qb
  have s : FVec F S1024x256 .f32 := sc256 q k
  have m := mx256 m0 s
  have a := ac256 m0 m a0 s v
  have s1 : FVec F S1024x2048 .f32 := sc2048 q k1
  have m1 := mx2048 m s1
  have a1 := ac2048 m m1 a s1 v1
  have s2 : FVec F S1024x2048 .f32 := sc2048 q k2
  have m2 := mx2048 m1 s2
  have a2 := ac2048 m1 m2 a1 s2 v2
  have s3 : FVec F S1024x2048 .f32 := sc2048 q k3
  have m3 := mx2048 m2 s3
  have a3 := ac2048 m2 m3 a2 s3 v3
  have s4 : FVec F S1024x2048 .f32 := sc2048 q k4
  have m4 := mx2048 m3 s4
  quo (ac2048 m3 m4 a3 s4 v4)

/-! ## The steps at an index -/

theorem sc256_apply (q : FVec Ideal S1024x128 .bf16) (k : Vec Ideal S1x256x128 .bf16) (r : Fin 1024) (j : Fin 256) :
    sc256 q k (ix2 r j) = ∑ l : Fin 128, q (ix2 r l) * k (ix3 0 j l) := by
  pointwise [sc256]

theorem sc2048_apply (q : FVec Ideal S1024x128 .bf16) (k : Vec Ideal S1x2048x128 .bf16) (r : Fin 1024) (j : Fin 2048) :
    sc2048 q k (ix2 r j) = ∑ l : Fin 128, q (ix2 r l) * k (ix3 0 j l) := by
  pointwise [sc2048]

/-- The pattern of `-∞` denotes the least extended real. -/
theorem ninf : (Scalar.ofBits (F := Ideal) .f32 0xFF800000#32 : EReal) = ⊥ := by
  show Ideal.ofBits .f32 0xFF800000#32 = ⊥
  simp [Ideal.ofBits, Ideal.ieee]

theorem mx256_apply (m : FVec Ideal S1024x1 .f32) (s : FVec Ideal S1024x256 .f32) (r : Fin 1024) :
    mx256 m s (ix2 r 0) = mx (m (ix2 r 0)) (fun j : Fin 256 => s (ix2 r j)) := by
  pointwise [mx256, mx]
  rw [show Ideal.ofBits .f32 4286578688#32 = ⊥ from ninf]

theorem mx2048_apply (m : FVec Ideal S1024x1 .f32) (s : FVec Ideal S1024x2048 .f32) (r : Fin 1024) :
    mx2048 m s (ix2 r 0) = mx (m (ix2 r 0)) (fun j : Fin 2048 => s (ix2 r j)) := by
  pointwise [mx2048, mx]
  rw [show Ideal.ofBits .f32 4286578688#32 = ⊥ from ninf]

theorem ac256_apply (m m' : FVec Ideal S1024x1 .f32) (a : FVec Ideal S1024x128 .f32) (s : FVec Ideal S1024x256 .f32)
    (v : Vec Ideal S1x256x128 .bf16) (r : Fin 1024) (e : Fin 128) :
    ac256 m m' a s v (ix2 r e) = ac (m (ix2 r 0)) (m' (ix2 r 0)) (a (ix2 r e)) (fun j : Fin 256 => s (ix2 r j)) (fun j : Fin 256 => v (ix3 0 j e)) := by
  pointwise [ac256, ac]

theorem ac2048_apply (m m' : FVec Ideal S1024x1 .f32) (a : FVec Ideal S1024x128 .f32) (s : FVec Ideal S1024x2048 .f32)
    (v : Vec Ideal S1x2048x128 .bf16) (r : Fin 1024) (e : Fin 128) :
    ac2048 m m' a s v (ix2 r e) = ac (m (ix2 r 0)) (m' (ix2 r 0)) (a (ix2 r e)) (fun j : Fin 2048 => s (ix2 r j)) (fun j : Fin 2048 => v (ix3 0 j e)) := by
  pointwise [ac2048, ac]

theorem m0_apply (r : Fin 1024) : m0 (F := Ideal) (ix2 r 0) = (⊥ : EReal) := by
  show (Scalar.ofBits (F := Ideal) .f32 0xFF800000#32 : EReal) = ⊥
  exact ninf

theorem a0_apply (r : Fin 1024) (e : Fin 128) : a0 (F := Ideal) (ix2 r e) = (0 : EReal) := by
  pointwise [a0]

/-- Part `p`'s row `r` of the stacked 1024 rows. -/
def prow (p : Fin 4) (r : Fin 256) : Fin 1024 := ⟨256 * p + r, by omega⟩

theorem quo_apply (a : FVec Ideal S1024x128 .f32) (p : Fin 4) (r : Fin 256) (d : Fin 64) :
    quo a (ix3 0 r ⟨64 * p + d, by omega⟩) = Ideal.div (a (ix2 (prow p r) ⟨d, by omega⟩)) (a (ix2 (prow p r) 64)) := by
  match p with
  | 0 =>
    show quo a (ix3 0 r ⟨0 + d, by omega⟩) = Ideal.div (a (ix2 ⟨0 + r, by omega⟩ ⟨d, by omega⟩)) (a (ix2 ⟨0 + r, by omega⟩ 64))
    pointwise [quo]
  | 1 =>
    show quo a (ix3 0 r ⟨64 + d, by omega⟩) = Ideal.div (a (ix2 ⟨256 + r, by omega⟩ ⟨d, by omega⟩)) (a (ix2 ⟨256 + r, by omega⟩ 64))
    pointwise [quo]
  | 2 =>
    show quo a (ix3 0 r ⟨128 + d, by omega⟩) = Ideal.div (a (ix2 ⟨512 + r, by omega⟩ ⟨d, by omega⟩)) (a (ix2 ⟨512 + r, by omega⟩ 64))
    pointwise [quo]
    rw [dif_neg (by omega), dif_neg (by omega), dif_pos (by omega)]
    simp only [show 128 + d.val - 64 - 64 = d.val by omega]
  | 3 =>
    show quo a (ix3 0 r ⟨192 + d, by omega⟩) = Ideal.div (a (ix2 ⟨768 + r, by omega⟩ ⟨d, by omega⟩)) (a (ix2 ⟨768 + r, by omega⟩ 64))
    pointwise [quo]
    rw [dif_neg (by omega), dif_neg (by omega), dif_neg (by omega)]
    simp only [show 192 + d.val - 64 - 64 - 64 = d.val by omega]

theorem slt64 (l : Fin 128) : IntOp.cmpi .slt (BitVec.ofNat 32 l.val) 64#32 = if l.val < 64 then 1#1 else 0#1 := by
  revert l; decide +kernel

theorem sge64 (l : Fin 128) : IntOp.cmpi .sge (BitVec.ofNat 32 l.val) 64#32 = if l.val < 64 then 0#1 else 1#1 := by
  revert l; decide +kernel

theorem qm_0 (qa qb : Vec Ideal S1x256x128 .bf16) (r : Fin 256) (l : Fin 128) :
    k0_pay42 qa qb (ix2 ⟨r, by omega⟩ l) = if l.val < 64 then qa (ix3 0 r l) else 0 := by
  pointwise [k0_pay42, k0_pay41]
  rw [slt64]
  split <;> rfl

theorem qm_1 (qa qb : Vec Ideal S1x256x128 .bf16) (r : Fin 256) (l : Fin 128) :
    k0_pay42 qa qb (ix2 ⟨256 + r, by omega⟩ l) = if l.val < 64 then 0 else qa (ix3 0 r l) := by
  pointwise [k0_pay42, k0_pay41]
  rw [sge64]
  split <;> rfl

theorem qm_2 (qa qb : Vec Ideal S1x256x128 .bf16) (r : Fin 256) (l : Fin 128) :
    k0_pay42 qa qb (ix2 ⟨512 + r, by omega⟩ l) = if l.val < 64 then qb (ix3 0 r l) else 0 := by
  pointwise [k0_pay42, k0_pay41]
  rw [dif_neg (by omega), dif_neg (by omega), dif_pos (by omega), slt64]
  simp only [show 512 + r.val - 256 - 256 = r.val by omega]
  split <;> rfl

theorem qm_3 (qa qb : Vec Ideal S1x256x128 .bf16) (r : Fin 256) (l : Fin 128) :
    k0_pay42 qa qb (ix2 ⟨768 + r, by omega⟩ l) = if l.val < 64 then 0 else qb (ix3 0 r l) := by
  pointwise [k0_pay42, k0_pay41]
  rw [dif_neg (by omega), dif_neg (by omega), dif_neg (by omega), sge64]
  simp only [show 768 + r.val - 256 - 256 - 256 = r.val by omega]
  split <;> rfl

/-- The stacked masked queries, real. -/
theorem qm_real {qa qb : Vec Ideal S1x256x128 .bf16} {r : Fin 256} {A B : Fin 128 → ℝ} (ha : ∀ l, qa (ix3 0 r l) = ((A l : ℝ) : EReal))
    (hb : ∀ l, qb (ix3 0 r l) = ((B l : ℝ) : EReal)) (p : Fin 4) (l : Fin 128) :
    k0_pay42 qa qb (ix2 (prow p r) l) = ((part p A B l : ℝ) : EReal) := by
  match p with
  | 0 =>
    rw [show prow 0 r = ⟨r, by omega⟩ from Fin.ext (by simp [prow]), qm_0, part, lo]
    split
    · exact ha l
    · rfl
  | 1 =>
    rw [show prow 1 r = ⟨256 + r, by omega⟩ from rfl, qm_1, part, hi]
    split
    · rfl
    · exact ha l
  | 2 =>
    rw [show prow 2 r = ⟨512 + r, by omega⟩ from rfl, qm_2, part, lo]
    split
    · exact hb l
    · rfl
  | 3 =>
    rw [show prow 3 r = ⟨768 + r, by omega⟩ from rfl, qm_3, part, hi]
    split
    · rfl
    · exact hb l

end Cert.Kernel2Ideal.Flash

end
-- ==== Proof.Block2.lean ====
/- What each case of the grouped-query attention kernel leaves in its output block: two groups of 256 lanes, each the
   vector function of Flash2.lean applied to loads of the input blocks. -/
module

public import proofs.«01_k».proof.Proof.Flash2

@[expose] public section

set_option maxRecDepth 16384

noncomputable section

namespace Cert.Kernel2Ideal.Flash

open Cert.Kernel2Ideal Cert.Kernel2Ideal.Gen Idealize.ShloMosaic Cert.Softmax

variable {F : FTy → Type} [FloatOps F]

/-- 128 lanes of the query block. -/
abbrev ldQ (o : Fin 3 → ℕ) (h : ∀ a, o a + S1x256x128.size a ≤ S1x256x512.size a) (x0 : Vec F S1x256x512 .bf16) : Vec F S1x256x128 .bf16 :=
  View.ld x0 (Rect.unit (s := S1x256x512) o S1x256x128.size h)
/-- One group's 256 context keys (or values). -/
abbrev ldC (o : Fin 3 → ℕ) (h : ∀ a, o a + S1x256x128.size a ≤ S1x8448x256.size a) (x : Vec F S1x8448x256 .bf16) : Vec F S1x256x128 .bf16 :=
  View.ld x (Rect.unit (s := S1x8448x256) o S1x256x128.size h)
/-- One group's 2048 keys (or values) of a latent chunk. -/
abbrev ldL (o : Fin 3 → ℕ) (h : ∀ a, o a + S1x2048x128.size a ≤ S1x8448x256.size a) (x : Vec F S1x8448x256 .bf16) : Vec F S1x2048x128 .bf16 :=
  View.ld x (Rect.unit (s := S1x8448x256) o S1x2048x128.size h)

/-- What group 0 of a context tile's block holds. -/
def tileA0 (x0 : Vec F S1x256x512 .bf16) (x1 : Vec F S1x8448x256 .bf16) (x2 : Vec F S1x8448x256 .bf16) : FVec F S1x256x256 .bf16 :=
  grpA (ldQ ![0, 0, 0] inb_S1x256x512_S1x256x128_0_0_0 x0) (ldQ ![0, 0, 128] inb_S1x256x512_S1x256x128_0_0_128 x0) (ldC ![0, 0, 0] inb_S1x8448x256_S1x256x128_0_0_0 x1) (ldC ![0, 0, 0] inb_S1x8448x256_S1x256x128_0_0_0 x2)

/-- What group 0 of a latent tile's block holds. -/
def tileB0 (x0 : Vec F S1x256x512 .bf16) (x1 : Vec F S1x8448x256 .bf16) (x2 : Vec F S1x8448x256 .bf16) : FVec F S1x256x256 .bf16 :=
  grpB (ldQ ![0, 0, 0] inb_S1x256x512_S1x256x128_0_0_0 x0) (ldQ ![0, 0, 128] inb_S1x256x512_S1x256x128_0_0_128 x0) (ldC ![0, 0, 0] inb_S1x8448x256_S1x256x128_0_0_0 x1) (ldC ![0, 0, 0] inb_S1x8448x256_S1x256x128_0_0_0 x2)
    (ldL ![0, 256, 0] inb_S1x8448x256_S1x2048x128_0_256_0 x1) (ldL ![0, 256, 0] inb_S1x8448x256_S1x2048x128_0_256_0 x2)
    (ldL ![0, 2304, 0] inb_S1x8448x256_S1x2048x128_0_2304_0 x1) (ldL ![0, 2304, 0] inb_S1x8448x256_S1x2048x128_0_2304_0 x2)
    (ldL ![0, 4352, 0] inb_S1x8448x256_S1x2048x128_0_4352_0 x1) (ldL ![0, 4352, 0] inb_S1x8448x256_S1x2048x128_0_4352_0 x2)
    (ldL ![0, 6400, 0] inb_S1x8448x256_S1x2048x128_0_6400_0 x1) (ldL ![0, 6400, 0] inb_S1x8448x256_S1x2048x128_0_6400_0 x2)

/-- What group 1 of a context tile's block holds. -/
def tileA1 (x0 : Vec F S1x256x512 .bf16) (x1 : Vec F S1x8448x256 .bf16) (x2 : Vec F S1x8448x256 .bf16) : FVec F S1x256x256 .bf16 :=
  grpA (ldQ ![0, 0, 256] inb_S1x256x512_S1x256x128_0_0_256 x0) (ldQ ![0, 0, 384] inb_S1x256x512_S1x256x128_0_0_384 x0) (ldC ![0, 0, 128] inb_S1x8448x256_S1x256x128_0_0_128 x1) (ldC ![0, 0, 128] inb_S1x8448x256_S1x256x128_0_0_128 x2)

/-- What group 1 of a latent tile's block holds. -/
def tileB1 (x0 : Vec F S1x256x512 .bf16) (x1 : Vec F S1x8448x256 .bf16) (x2 : Vec F S1x8448x256 .bf16) : FVec F S1x256x256 .bf16 :=
  grpB (ldQ ![0, 0, 256] inb_S1x256x512_S1x256x128_0_0_256 x0) (ldQ ![0, 0, 384] inb_S1x256x512_S1x256x128_0_0_384 x0) (ldC ![0, 0, 128] inb_S1x8448x256_S1x256x128_0_0_128 x1) (ldC ![0, 0, 128] inb_S1x8448x256_S1x256x128_0_0_128 x2)
    (ldL ![0, 256, 128] inb_S1x8448x256_S1x2048x128_0_256_128 x1) (ldL ![0, 256, 128] inb_S1x8448x256_S1x2048x128_0_256_128 x2)
    (ldL ![0, 2304, 128] inb_S1x8448x256_S1x2048x128_0_2304_128 x1) (ldL ![0, 2304, 128] inb_S1x8448x256_S1x2048x128_0_2304_128 x2)
    (ldL ![0, 4352, 128] inb_S1x8448x256_S1x2048x128_0_4352_128 x1) (ldL ![0, 4352, 128] inb_S1x8448x256_S1x2048x128_0_4352_128 x2)
    (ldL ![0, 6400, 128] inb_S1x8448x256_S1x2048x128_0_6400_128 x1) (ldL ![0, 6400, 128] inb_S1x8448x256_S1x2048x128_0_6400_128 x2)

set_option maxHeartbeats 4000000 in
/-- Case A's block: its two stores, the later one first. -/
theorem out_A (c : Dev nD) (i : grid0.Coords) (arg3 : Memref sig .tc .vmem S1x256x512 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S1x256x512 .bf16) (harg6 : arg6.IsWhole) (hc0 : cond0_0 i) (hc1 : ¬cond0_1 i)
    (x0 : Vec F S1x256x512 .bf16) (x1 : Vec F S1x8448x256 .bf16) (x2 : Vec F S1x8448x256 .bf16) :
    out0_A_3 c i arg3 harg3 arg4 harg4 arg5 harg5 arg6 harg6 hc0 hc1 x0 x1 x2
      = View.canon (Val := Elt F)
          [(⟨Rect.unit (s := S1x256x512) ![0, 0, 256] S1x256x256.size inb_S1x256x512_S1x256x256_0_0_256, tileA1 x0 x1 x2⟩ : View.Piece (Elt F) S1x256x512 .bf16),
           ⟨Rect.unit (s := S1x256x512) ![0, 0, 0] S1x256x256.size inb_S1x256x512_S1x256x256_0_0_0, tileA0 x0 x1 x2⟩] := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  simp only [View.readAt_eq_ld, harg3.read_unread, harg4.read_unread, harg5.read_unread]
  rfl

set_option maxHeartbeats 4000000 in
/-- Case B's block: its two stores, the later one first. -/
theorem out_B (c : Dev nD) (i : grid0.Coords) (arg3 : Memref sig .tc .vmem S1x256x512 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S1x256x512 .bf16) (harg6 : arg6.IsWhole) (hc0 : ¬cond0_0 i) (hc1 : cond0_1 i)
    (x0 : Vec F S1x256x512 .bf16) (x1 : Vec F S1x8448x256 .bf16) (x2 : Vec F S1x8448x256 .bf16) :
    out0_B_3 c i arg3 harg3 arg4 harg4 arg5 harg5 arg6 harg6 hc0 hc1 x0 x1 x2
      = View.canon (Val := Elt F)
          [(⟨Rect.unit (s := S1x256x512) ![0, 0, 256] S1x256x256.size inb_S1x256x512_S1x256x256_0_0_256, tileB1 x0 x1 x2⟩ : View.Piece (Elt F) S1x256x512 .bf16),
           ⟨Rect.unit (s := S1x256x512) ![0, 0, 0] S1x256x256.size inb_S1x256x512_S1x256x256_0_0_0, tileB0 x0 x1 x2⟩] := by
  unfold out0_B_3
  rw [View.read_writes_eq_canon _ _ _ (cover0_B_3 c i arg3 harg3 arg4 harg4 arg5 harg5 arg6 harg6 hc0 hc1 x0 x1 x2)]
  unfold kernelRun0_B
  dsimp only
  sl_unfold_words
  simp only [View.readAt_eq_ld, harg3.read_unread, harg4.read_unread, harg5.read_unread]
  rfl

end Cert.Kernel2Ideal.Flash

end
-- ==== Proof.Head2.lean ====
/- One group of the grouped-query attention kernel at an index, its inputs real: a softmax-weighted average. -/
module

public import proofs.«01_k».proof.Proof.Block2

@[expose] public section

set_option maxRecDepth 16384

noncomputable section

namespace Cert.Softmax

/-- A sum with values of one is a denominator. -/
theorem ac_one {n : ℕ} (m m' l : EReal) (s : Fin n → EReal) : ac m m' l s (fun _ => 1) = dn m m' l s := by
  simp only [ac, dn, mul_one]

end Cert.Softmax

namespace Cert.Kernel2Ideal.Flash

open Cert.Kernel2Ideal Cert.Kernel2Ideal.Gen Idealize.ShloMosaic Cert.Softmax

theorem sc256_real {q : FVec Ideal S1024x128 .bf16} {k : Vec Ideal S1x256x128 .bf16} {r : Fin 1024} {Q : Fin 128 → ℝ} {K : Fin 256 → Fin 128 → ℝ}
    (hq : ∀ l, q (ix2 r l) = ((Q l : ℝ) : EReal)) (hk : ∀ j l, k (ix3 0 j l) = ((K j l : ℝ) : EReal)) (j : Fin 256) :
    sc256 q k (ix2 r j) = ((sco Q K j : ℝ) : EReal) := by
  rw [sc256_apply, sco, ← coe_sum]
  exact Finset.sum_congr rfl fun l _ => by rw [hq, hk, EReal.coe_mul]

theorem sc2048_real {q : FVec Ideal S1024x128 .bf16} {k : Vec Ideal S1x2048x128 .bf16} {r : Fin 1024} {Q : Fin 128 → ℝ} {K : Fin 2048 → Fin 128 → ℝ}
    (hq : ∀ l, q (ix2 r l) = ((Q l : ℝ) : EReal)) (hk : ∀ j l, k (ix3 0 j l) = ((K j l : ℝ) : EReal)) (j : Fin 2048) :
    sc2048 q k (ix2 r j) = ((sco Q K j : ℝ) : EReal) := by
  rw [sc2048_apply, sco, ← coe_sum]
  exact Finset.sum_congr rfl fun l _ => by rw [hq, hk, EReal.coe_mul]

/-- A row's state after the context chunk. -/
theorem st_first {s : FVec Ideal S1024x256 .f32} {v : Vec Ideal S1x256x128 .bf16} {r : Fin 1024} {e : Fin 128} {S V : Fin 256 → ℝ}
    (hs : ∀ j, s (ix2 r j) = ((S j : ℝ) : EReal)) (hv : ∀ j, v (ix3 0 j e) = ((V j : ℝ) : EReal)) (h1 : ∀ j, v (ix3 0 j 64) = (1 : EReal)) :
    St (∑ j, Real.exp (S j)) (∑ j, Real.exp (S j) * V j) (mx256 m0 s (ix2 r 0))
      (ac256 m0 (mx256 m0 s) a0 s v (ix2 r 64)) (ac256 m0 (mx256 m0 s) a0 s v (ix2 r e)) := by
  have hmx := mx256_apply m0 s r
  rw [ac256_apply, ac256_apply, m0_apply, a0_apply, a0_apply]
  rw [m0_apply] at hmx
  simp only [hs, hv, h1, ac_one] at hmx ⊢
  exact St.first (by norm_num) S V hmx

/-- A row's state after a latent chunk. -/
theorem st_next {m : FVec Ideal S1024x1 .f32} {a : FVec Ideal S1024x128 .f32} {s : FVec Ideal S1024x2048 .f32}
    {v : Vec Ideal S1x2048x128 .bf16} {r : Fin 1024} {e : Fin 128} {E A : ℝ} {S V : Fin 2048 → ℝ}
    (h : St E A (m (ix2 r 0)) (a (ix2 r 64)) (a (ix2 r e)))
    (hs : ∀ j, s (ix2 r j) = ((S j : ℝ) : EReal)) (hv : ∀ j, v (ix3 0 j e) = ((V j : ℝ) : EReal)) (h1 : ∀ j, v (ix3 0 j 64) = (1 : EReal)) :
    St (E + ∑ j, Real.exp (S j)) (A + ∑ j, Real.exp (S j) * V j) (mx2048 m s (ix2 r 0))
      (ac2048 m (mx2048 m s) a s v (ix2 r 64)) (ac2048 m (mx2048 m s) a s v (ix2 r e)) := by
  have hmx := mx2048_apply m s r
  rw [ac2048_apply, ac2048_apply]
  simp only [hs, hv, h1, ac_one] at hmx ⊢
  exact St.next (by norm_num) h S V hmx

/-- A context tile's group: the average over the context keys. -/
theorem grpA_real (qa qb k v : Vec Ideal S1x256x128 .bf16)
    (p : Fin 4) (r : Fin 256) (d : Fin 64) (A B : Fin 128 → ℝ) (K : Fin 256 → Fin 128 → ℝ) (V : Fin 256 → ℝ)
    (ha : ∀ l, qa (ix3 0 r l) = ((A l : ℝ) : EReal)) (hb : ∀ l, qb (ix3 0 r l) = ((B l : ℝ) : EReal))
    (hk : ∀ j l, k (ix3 0 j l) = ((K j l : ℝ) : EReal))
    (hv : ∀ j, v (ix3 0 j ⟨d, by omega⟩) = ((V j : ℝ) : EReal)) (h1 : ∀ j, v (ix3 0 j 64) = (1 : EReal)) :
    grpA qa qb k v (ix3 0 r ⟨64 * p + d, by omega⟩) = ((avg (sco (part p A B) K) V : ℝ) : EReal) := by
  dsimp only [grpA]
  rw [quo_apply, (st_first (sc256_real (qm_real ha hb p) hk) hv h1).div (sum_exp_pos (by norm_num) _)]
  rfl

/-- A latent tile's group: the average over the context keys and the latent keys. -/
theorem grpB_real (qa qb k v : Vec Ideal S1x256x128 .bf16) (k1 v1 k2 v2 k3 v3 k4 v4 : Vec Ideal S1x2048x128 .bf16)
    (p : Fin 4) (r : Fin 256) (d : Fin 64) (A B : Fin 128 → ℝ) (K : Fin 256 → Fin 128 → ℝ) (V : Fin 256 → ℝ)
    (K' : Fin 8192 → Fin 128 → ℝ) (V' : Fin 8192 → ℝ)
    (ha : ∀ l, qa (ix3 0 r l) = ((A l : ℝ) : EReal)) (hb : ∀ l, qb (ix3 0 r l) = ((B l : ℝ) : EReal))
    (hk : ∀ j l, k (ix3 0 j l) = ((K j l : ℝ) : EReal))
    (hv : ∀ j, v (ix3 0 j ⟨d, by omega⟩) = ((V j : ℝ) : EReal)) (h1 : ∀ j, v (ix3 0 j 64) = (1 : EReal))
    (hk1 : ∀ (j : Fin 2048) l, k1 (ix3 0 j l) = ((K' ⟨j, by omega⟩ l : ℝ) : EReal))
    (hv1 : ∀ j : Fin 2048, v1 (ix3 0 j ⟨d, by omega⟩) = ((V' ⟨j, by omega⟩ : ℝ) : EReal)) (h11 : ∀ j, v1 (ix3 0 j 64) = (1 : EReal))
    (hk2 : ∀ (j : Fin 2048) l, k2 (ix3 0 j l) = ((K' ⟨2048 + j, by omega⟩ l : ℝ) : EReal))
    (hv2 : ∀ j : Fin 2048, v2 (ix3 0 j ⟨d, by omega⟩) = ((V' ⟨2048 + j, by omega⟩ : ℝ) : EReal)) (h12 : ∀ j, v2 (ix3 0 j 64) = (1 : EReal))
    (hk3 : ∀ (j : Fin 2048) l, k3 (ix3 0 j l) = ((K' ⟨4096 + j, by omega⟩ l : ℝ) : EReal))
    (hv3 : ∀ j : Fin 2048, v3 (ix3 0 j ⟨d, by omega⟩) = ((V' ⟨4096 + j, by omega⟩ : ℝ) : EReal)) (h13 : ∀ j, v3 (ix3 0 j 64) = (1 : EReal))
    (hk4 : ∀ (j : Fin 2048) l, k4 (ix3 0 j l) = ((K' ⟨6144 + j, by omega⟩ l : ℝ) : EReal))
    (hv4 : ∀ j : Fin 2048, v4 (ix3 0 j ⟨d, by omega⟩) = ((V' ⟨6144 + j, by omega⟩ : ℝ) : EReal)) (h14 : ∀ j, v4 (ix3 0 j 64) = (1 : EReal)) :
    grpB qa qb k v k1 v1 k2 v2 k3 v3 k4 v4 (ix3 0 r ⟨64 * p + d, by omega⟩)
      = ((avg2 (sco (part p A B) K) V (sco (part p A B) K') V' : ℝ) : EReal) := by
  have hW := qm_real ha hb p
  dsimp only [grpB]
  rw [quo_apply, (st_next (st_next (st_next (st_next (st_first (sc256_real hW hk) hv h1)
      (sc2048_real hW hk1) hv1 h11) (sc2048_real hW hk2) hv2 h12) (sc2048_real hW hk3) hv3 h13)
      (sc2048_real hW hk4) hv4 h14).div (by
        have := sum_exp_pos (n := 2048) (by norm_num)
        have h0 := sum_exp_pos (n := 256) (by norm_num)
        exact add_pos (add_pos (add_pos (add_pos (h0 _) (this _)) (this _)) (this _)) (this _))]
  simp only [avg2]
  rw [sum_chunks (fun j => Real.exp (sco (part p A B) K' j)), sum_chunks (fun j => Real.exp (sco (part p A B) K' j) * V' j)]
  simp only [← add_assoc, sco]

end Cert.Kernel2Ideal.Flash

end
-- ==== Proof.Inputs2.lean ====
/- What the grouped-query attention kernel's windows read: the host's concatenations of context and latent rows, the
   queries scaled by 1/8, each key head twice, ones beside each value head, at an index. -/
module

public import proofs.«01_k».proof.Proof.Gen.Kernel2Ideal.Value
public import proofs.«01_k».proof.Proof.Spec2
public import Idealize.ShloMosaic.Lib.Pointwise
public import Idealize.ShloMosaic.Lib.StableHlo.ReadAt
public import Idealize.ShloMosaic.Lib.StableHlo.RunClose

@[expose] public section

set_option maxRecDepth 16384

noncomputable section

namespace Cert.Kernel2Ideal.Inputs

open Idealize.ShloMosaic.StableHlo
open Cert.Kernel2Ideal Cert.Kernel2Ideal.Gen Idealize.ShloMosaic Idealize.ShloMosaic.TcCoe Cert.Softmax

theorem eighth : Ideal.ofBits .f32 0x3E000000#32 = ((1 / 8 : ℝ) : EReal) := by
  simp [Ideal.ofBits, Ideal.ieee]
  rw [← EReal.coe_mul]
  norm_num

theorem one : Ideal.ofBits .f32 0x3F800000#32 = (1 : EReal) := by
  simp [Ideal.ofBits, Ideal.ieee]
  rw [← EReal.coe_mul]
  norm_num

variable (m : (ℓ : Loc nD τ sig) → Buf (Elt Ideal) ℓ) (c : Dev nD)

/-- An eighth of an extended real. -/
abbrev times8 (x : EReal) : EReal := x * ((1 / 8 : ℝ) : EReal)

theorem V3_eq : V m c main_v3 = (truncf .bf16 (mulf (concatenate S4x8448x512 1 [⟨S4x256x512, (m ((c : Thread nD τ).loc main_arg0) : Vec Ideal S4x256x512 .f32)⟩, ⟨S4x8192x512, (m ((c : Thread nD τ).loc main_arg3) : Vec Ideal S4x8192x512 .f32)⟩] concatenates_S4x256x512_S4x8192x512_S4x8448x512_d1 : FVec Ideal S4x8448x512 .f32) (broadcastInDim S4x8448x512 ![] bcast_S_S4x8448x512 (constant S_ .f32 0x3E000000#32)) : FVec Ideal S4x8448x512 .f32) bitsLt_bf16_f32 : FVec Ideal S4x8448x512 .bf16) := by
  unfold V
  after_results

/-- Context rows, then latent rows, of 128 lanes. -/
def rows (a : FVec Ideal S4x256x128 .f32) (b : FVec Ideal S4x8192x128 .f32) : FVec Ideal S4x8448x128 .f32 :=
  concatenate S4x8448x128 1 [⟨S4x256x128, a⟩, ⟨S4x8192x128, b⟩] concatenates_S4x256x128_S4x8192x128_S4x8448x128_d1

/-- Each half of the lanes twice. -/
def twice (x : FVec Ideal S4x8448x128 .f32) : FVec Ideal S4x8448x256 .f32 :=
  concatenate S4x8448x256 2 [⟨S4x8448x64, (extractStridedSlice S4x8448x64 ![0, 0, 0] x slices_S4x8448x128_S4x8448x64_0_0_0 : FVec Ideal S4x8448x64 .f32)⟩,
    ⟨S4x8448x64, (extractStridedSlice S4x8448x64 ![0, 0, 0] x slices_S4x8448x128_S4x8448x64_0_0_0 : FVec Ideal S4x8448x64 .f32)⟩,
    ⟨S4x8448x64, (extractStridedSlice S4x8448x64 ![0, 0, 64] x slices_S4x8448x128_S4x8448x64_0_0_64 : FVec Ideal S4x8448x64 .f32)⟩,
    ⟨S4x8448x64, (extractStridedSlice S4x8448x64 ![0, 0, 64] x slices_S4x8448x128_S4x8448x64_0_0_64 : FVec Ideal S4x8448x64 .f32)⟩]
    concatenates_S4x8448x64_S4x8448x64_S4x8448x64_S4x8448x64_S4x8448x256_d2

/-- Ones beside each half of the lanes. -/
def ones (x : FVec Ideal S4x8448x128 .f32) : FVec Ideal S4x8448x256 .f32 :=
  have o : FVec Ideal S4x8448x64 .f32 := broadcastInDim S4x8448x64 ![] bcast_S_S4x8448x64 (constant S_ .f32 0x3F800000#32)
  concatenate S4x8448x256 2 [⟨S4x8448x64, (extractStridedSlice S4x8448x64 ![0, 0, 0] x slices_S4x8448x128_S4x8448x64_0_0_0 : FVec Ideal S4x8448x64 .f32)⟩,
    ⟨S4x8448x64, o⟩,
    ⟨S4x8448x64, (extractStridedSlice S4x8448x64 ![0, 0, 64] x slices_S4x8448x128_S4x8448x64_0_0_64 : FVec Ideal S4x8448x64 .f32)⟩,
    ⟨S4x8448x64, o⟩]
    concatenates_S4x8448x64_S4x8448x64_S4x8448x64_S4x8448x64_S4x8448x256_d2

theorem V10_eq : V m c main_v10 = (truncf .bf16 (twice (rows (m ((c : Thread nD τ).loc main_arg1)) (m ((c : Thread nD τ).loc main_arg4)))) bitsLt_bf16_f32 : FVec Ideal S4x8448x256 .bf16) := by
  unfold V
  after_results_entrywise (rounds := 1) []

theorem V16_eq : V m c main_v16 = (truncf .bf16 (ones (rows (m ((c : Thread nD τ).loc main_arg2)) (m ((c : Thread nD τ).loc main_arg5)))) bitsLt_bf16_f32 : FVec Ideal S4x8448x256 .bf16) := by
  unfold V
  after_results_entrywise (rounds := 1) []

theorem rows_ctx (a : FVec Ideal S4x256x128 .f32) (a' : FVec Ideal S4x8192x128 .f32) (b : Fin 4) (s : Fin 256) (e : Fin 128) :
    rows a a' (ix3 b ⟨s, by omega⟩ e) = a (ix3 b s e) := by
  pointwise [rows]

theorem rows_lat (a : FVec Ideal S4x256x128 .f32) (a' : FVec Ideal S4x8192x128 .f32) (b : Fin 4) (s : Fin 8192) (e : Fin 128) :
    rows a a' (ix3 b ⟨256 + s, by omega⟩ e) = a' (ix3 b s e) := by
  pointwise [rows]

theorem twice_apply (x : FVec Ideal S4x8448x128 .f32) (b : Fin 4) (j : Fin 8448) (g : Fin 2) (l : Fin 128) :
    twice x (ix3 b j ⟨128 * g + l, by omega⟩) = x (ix3 b j (klane g ⟨l.val % 64, by omega⟩)) := by
  have hl : l.val < 64 ∨ (64 ≤ l.val ∧ l.val < 128) := by omega
  match g with
  | 0 =>
    show twice x (ix3 b j ⟨0 + l, by omega⟩) = x (ix3 b j ⟨0 + l.val % 64, by omega⟩)
    pointwise [twice]
    rcases hl with hl | hl
    · rw [dif_pos (by omega)]
      simp only [show l.val % 64 = l.val by omega]
    · rw [dif_neg (by omega), dif_pos (by omega)]
      simp only [show l.val % 64 = l.val - 64 by omega]
  | 1 =>
    show twice x (ix3 b j ⟨128 + l, by omega⟩) = x (ix3 b j ⟨64 + l.val % 64, by omega⟩)
    pointwise [twice]
    rcases hl with hl | hl
    · rw [dif_neg (by omega), dif_neg (by omega), dif_pos (by omega)]
      simp only [show 64 + l.val % 64 = 64 + (128 + l.val - 64 - 64) by omega]
    · rw [dif_neg (by omega), dif_neg (by omega), dif_neg (by omega)]
      simp only [show 64 + l.val % 64 = 64 + (128 + l.val - 64 - 64 - 64) by omega]

theorem ones_val (x : FVec Ideal S4x8448x128 .f32) (b : Fin 4) (j : Fin 8448) (g : Fin 2) (d : Fin 64) :
    ones x (ix3 b j ⟨128 * g + d, by omega⟩) = x (ix3 b j (klane g d)) := by
  match g with
  | 0 =>
    show ones x (ix3 b j ⟨0 + d, by omega⟩) = x (ix3 b j ⟨0 + d.val, by omega⟩)
    pointwise [ones]
  | 1 =>
    show ones x (ix3 b j ⟨128 + d, by omega⟩) = x (ix3 b j ⟨64 + d.val, by omega⟩)
    pointwise [ones]
    rw [dif_neg (by omega), dif_neg (by omega), dif_pos (by omega)]
    simp only [show 128 + d.val - 64 - 64 = d.val by omega]

theorem ones_one (x : FVec Ideal S4x8448x128 .f32) (b : Fin 4) (j : Fin 8448) (g : Fin 2) :
    ones x (ix3 b j ⟨128 * g + 64, by omega⟩) = 1 := by
  match g with
  | 0 =>
    show ones x (ix3 b j ⟨64, by omega⟩) = 1
    pointwise [ones, one]
  | 1 =>
    show ones x (ix3 b j ⟨192, by omega⟩) = 1
    pointwise [ones, one]

/-- The context queries, scaled by 1/8. -/
theorem V3_ctx (b : Fin 4) (s : Fin 256) (e : Fin 512) :
    (V m c main_v3 : Vec Ideal S4x8448x512 .bf16) (ix3 b ⟨s, by omega⟩ e)
      = times8 ((m ((c : Thread nD τ).loc main_arg0) : Vec Ideal S4x256x512 .f32) (ix3 b s e)) := by
  rw [V3_eq]
  pointwise [times8, eighth]

/-- The latent queries, scaled by 1/8. -/
theorem V3_lat (b : Fin 4) (s : Fin 8192) (e : Fin 512) :
    (V m c main_v3 : Vec Ideal S4x8448x512 .bf16) (ix3 b ⟨256 + s, by omega⟩ e)
      = times8 ((m ((c : Thread nD τ).loc main_arg3) : Vec Ideal S4x8192x512 .f32) (ix3 b s e)) := by
  rw [V3_eq]
  pointwise [times8, eighth]

/-- The keys, each head twice. -/
theorem V10 (b : Fin 4) (j : Fin 8448) (g : Fin 2) (l : Fin 128) :
    (V m c main_v10 : Vec Ideal S4x8448x256 .bf16) (ix3 b j ⟨128 * g + l, by omega⟩)
      = rows (m ((c : Thread nD τ).loc main_arg1)) (m ((c : Thread nD τ).loc main_arg4)) (ix3 b j (klane g ⟨l.val % 64, by omega⟩)) := by
  rw [V10_eq]
  exact twice_apply _ b j g l

/-- The values. -/
theorem V16 (b : Fin 4) (j : Fin 8448) (g : Fin 2) (d : Fin 64) :
    (V m c main_v16 : Vec Ideal S4x8448x256 .bf16) (ix3 b j ⟨128 * g + d, by omega⟩)
      = rows (m ((c : Thread nD τ).loc main_arg2)) (m ((c : Thread nD τ).loc main_arg5)) (ix3 b j (klane g d)) := by
  rw [V16_eq]
  exact ones_val _ b j g d

/-- The ones beside them. -/
theorem V16_one (b : Fin 4) (j : Fin 8448) (g : Fin 2) :
    (V m c main_v16 : Vec Ideal S4x8448x256 .bf16) (ix3 b j ⟨128 * g + 64, by omega⟩) = (1 : EReal) := by
  rw [V16_eq]
  exact ones_one _ b j g

end Cert.Kernel2Ideal.Inputs

end
-- ==== Proof.Final2.lean ====
/- The grouped-query attention kernel's result array, position by position: the blocks its windows read are slices of
   the host's arrays, each grid point's block is the specification there, and the blocks cover the array. -/
module

public import proofs.«01_k».proof.Proof.Head2
public import proofs.«01_k».proof.Proof.Inputs2

@[expose] public section

set_option maxRecDepth 16384

noncomputable section

namespace Cert.Kernel2Ideal.Flash

open Cert.Kernel2Ideal Cert.Kernel2Ideal.Gen Cert.Kernel2Ideal.Inputs Idealize.ShloMosaic Idealize.ShloMosaic.TcCoe Cert.Softmax
open Idealize.ShloMosaic.Pipeline (Dat)

/-! ## Which block each grid point works on: batch `t / 33`, tile of rows `t % 33` -/

theorem tN (t : Fin cfg0.N) : t.val < 132 := lt_of_lt_of_eq t.isLt N_0
theorem tb (t : Fin cfg0.N) : t.val / 33 < 4 := by
  have h := tN t
  omega

theorem index0 (t : Fin cfg0.N) : win0_0.index t 0 = t.val / 33 ∧ win0_0.index t 1 = t.val % 33 ∧ win0_0.index t 2 = 0 :=
  (by decide +kernel : ∀ t : Fin grid0.N, win0_0.index t 0 = t.val / 33 ∧ win0_0.index t 1 = t.val % 33 ∧ win0_0.index t 2 = 0) t
theorem index1 (t : Fin cfg0.N) : win0_1.index t 0 = t.val / 33 ∧ win0_1.index t 1 = 0 ∧ win0_1.index t 2 = 0 :=
  (by decide +kernel : ∀ t : Fin grid0.N, win0_1.index t 0 = t.val / 33 ∧ win0_1.index t 1 = 0 ∧ win0_1.index t 2 = 0) t
theorem index2 (t : Fin cfg0.N) : win0_2.index t 0 = t.val / 33 ∧ win0_2.index t 1 = 0 ∧ win0_2.index t 2 = 0 :=
  (by decide +kernel : ∀ t : Fin grid0.N, win0_2.index t 0 = t.val / 33 ∧ win0_2.index t 1 = 0 ∧ win0_2.index t 2 = 0) t
theorem index3 (t : Fin cfg0.N) : win0_3.index t 0 = t.val / 33 ∧ win0_3.index t 1 = t.val % 33 ∧ win0_3.index t 2 = 0 :=
  (by decide +kernel : ∀ t : Fin grid0.N, win0_3.index t 0 = t.val / 33 ∧ win0_3.index t 1 = t.val % 33 ∧ win0_3.index t 2 = 0) t

variable (m : (ℓ : Loc nD τ sig) → Buf (Elt Ideal) ℓ) (c : Dev nD)

/-- The query block at an index of it. -/
theorem blk0 (t : Fin cfg0.N) (r : Fin 256) (e : Fin 512) :
    (iblk m c 0 t : Vec Ideal S1x256x512 .bf16) (ix3 0 r e)
      = (V m c main_v3 : Vec Ideal S4x8448x512 .bf16) (ix3 ⟨t.val / 33, tb t⟩ ⟨256 * (t.val % 33) + r, by omega⟩ e) := by
  obtain ⟨h0, h1, h2⟩ := index0 t
  unfold iblk
  rw [View.read_apply]
  show V m c main_v3 _ = V m c main_v3 _
  congr 1
  funext a
  apply Fin.ext
  match a with
  | ⟨0, _⟩ => show win0_0.index t 0 * 1 + 1 * 0 = t.val / 33; omega
  | ⟨1, _⟩ => show win0_0.index t 1 * 256 + 1 * r.val = 256 * (t.val % 33) + r.val; omega
  | ⟨2, _⟩ => show win0_0.index t 2 * 512 + 1 * e.val = e.val; omega

/-- The key block at an index of it. -/
theorem blk1 (t : Fin cfg0.N) (j : Fin 8448) (e : Fin 256) :
    (iblk m c 1 t : Vec Ideal S1x8448x256 .bf16) (ix3 0 j e)
      = (V m c main_v10 : Vec Ideal S4x8448x256 .bf16) (ix3 ⟨t.val / 33, tb t⟩ j e) := by
  obtain ⟨h0, h1, h2⟩ := index1 t
  unfold iblk
  rw [View.read_apply]
  show V m c main_v10 _ = V m c main_v10 _
  congr 1
  funext a
  apply Fin.ext
  match a with
  | ⟨0, _⟩ => show win0_1.index t 0 * 1 + 1 * 0 = t.val / 33; omega
  | ⟨1, _⟩ => show win0_1.index t 1 * 8448 + 1 * j.val = j.val; omega
  | ⟨2, _⟩ => show win0_1.index t 2 * 256 + 1 * e.val = e.val; omega

/-- The value block at an index of it. -/
theorem blk2 (t : Fin cfg0.N) (j : Fin 8448) (e : Fin 256) :
    (iblk m c 2 t : Vec Ideal S1x8448x256 .bf16) (ix3 0 j e)
      = (V m c main_v16 : Vec Ideal S4x8448x256 .bf16) (ix3 ⟨t.val / 33, tb t⟩ j e) := by
  obtain ⟨h0, h1, h2⟩ := index2 t
  unfold iblk
  rw [View.read_apply]
  show V m c main_v16 _ = V m c main_v16 _
  congr 1
  funext a
  apply Fin.ext
  match a with
  | ⟨0, _⟩ => show win0_2.index t 0 * 1 + 1 * 0 = t.val / 33; omega
  | ⟨1, _⟩ => show win0_2.index t 1 * 8448 + 1 * j.val = j.val; omega
  | ⟨2, _⟩ => show win0_2.index t 2 * 256 + 1 * e.val = e.val; omega

/-! ## The arguments as real numbers -/

/-- The kernel's arguments on core `c` are the data `D`. -/
structure Holds (D : Data2) : Prop where
  qc : ∀ b s e, (m ((c : Thread nD τ).loc main_arg0) : Vec Ideal S4x256x512 .f32) (ix3 b s e) = ((D.qc b s e : ℝ) : EReal)
  kc : ∀ b s e, (m ((c : Thread nD τ).loc main_arg1) : Vec Ideal S4x256x128 .f32) (ix3 b s e) = ((D.kc b s e : ℝ) : EReal)
  vc : ∀ b s e, (m ((c : Thread nD τ).loc main_arg2) : Vec Ideal S4x256x128 .f32) (ix3 b s e) = ((D.vc b s e : ℝ) : EReal)
  ql : ∀ b s e, (m ((c : Thread nD τ).loc main_arg3) : Vec Ideal S4x8192x512 .f32) (ix3 b s e) = ((D.ql b s e : ℝ) : EReal)
  kl : ∀ b s e, (m ((c : Thread nD τ).loc main_arg4) : Vec Ideal S4x8192x128 .f32) (ix3 b s e) = ((D.kl b s e : ℝ) : EReal)
  vl : ∀ b s e, (m ((c : Thread nD τ).loc main_arg5) : Vec Ideal S4x8192x128 .f32) (ix3 b s e) = ((D.vl b s e : ℝ) : EReal)

variable {m c} {D : Data2} (H : Holds m c D)

/-- The batch of a point. -/
abbrev bt (t : Fin cfg0.N) : Fin 4 := ⟨t.val / 33, tb t⟩
/-- The latent row of row `r` of a latent point's tile. -/
abbrev lr (t : Fin cfg0.N) (r : Fin 256) : Fin 8192 := ⟨256 * (t.val % 33 - 1) + r, by omega⟩

include H

theorem q_ctx (t : Fin cfg0.N) (ht : t.val % 33 = 0) (r : Fin 256) (e : Fin 512) :
    (iblk m c 0 t : Vec Ideal S1x256x512 .bf16) (ix3 0 r e) = ((D.qc (bt t) r e * (1 / 8) : ℝ) : EReal) := by
  rw [blk0, show (⟨256 * (t.val % 33) + r, by omega⟩ : Fin 8448) = ⟨r, by omega⟩ from Fin.ext (by simp only []; omega), V3_ctx, H.qc,
    EReal.coe_mul]

theorem q_lat (t : Fin cfg0.N) (ht : 1 ≤ t.val % 33) (r : Fin 256) (e : Fin 512) :
    (iblk m c 0 t : Vec Ideal S1x256x512 .bf16) (ix3 0 r e) = ((D.ql (bt t) (lr t r) e * (1 / 8) : ℝ) : EReal) := by
  rw [blk0, show (⟨256 * (t.val % 33) + r, by omega⟩ : Fin 8448) = ⟨256 + (lr t r).val, by simp only [lr]; omega⟩ from
      Fin.ext (by simp only [lr]; omega), V3_lat, H.ql, EReal.coe_mul]

theorem k_ctx (t : Fin cfg0.N) (g : Fin 2) (j : Fin 256) (l : Fin 128) (j' : Fin 8448) (hj : j'.val = j.val) (e : Fin 256) (he : e.val = 128 * g.val + l.val) :
    (iblk m c 1 t : Vec Ideal S1x8448x256 .bf16) (ix3 0 j' e) = ((D.kc (bt t) j (klane g ⟨l.val % 64, by omega⟩) : ℝ) : EReal) := by
  rw [blk1, show j' = ⟨j, by omega⟩ from Fin.ext hj, show e = ⟨128 * g + l, by omega⟩ from Fin.ext he, V10, rows_ctx, H.kc]

theorem k_lat (t : Fin cfg0.N) (g : Fin 2) (j : Fin 8192) (l : Fin 128) (j' : Fin 8448) (hj : j'.val = 256 + j.val) (e : Fin 256) (he : e.val = 128 * g.val + l.val) :
    (iblk m c 1 t : Vec Ideal S1x8448x256 .bf16) (ix3 0 j' e) = ((D.kl (bt t) j (klane g ⟨l.val % 64, by omega⟩) : ℝ) : EReal) := by
  rw [blk1, show j' = ⟨256 + j, by omega⟩ from Fin.ext hj, show e = ⟨128 * g + l, by omega⟩ from Fin.ext he, V10, rows_lat, H.kl]

theorem v_ctx (t : Fin cfg0.N) (g : Fin 2) (j : Fin 256) (d : Fin 64) (j' : Fin 8448) (hj : j'.val = j.val) (e : Fin 256) (he : e.val = 128 * g.val + d.val) :
    (iblk m c 2 t : Vec Ideal S1x8448x256 .bf16) (ix3 0 j' e) = ((D.vc (bt t) j (klane g d) : ℝ) : EReal) := by
  rw [blk2, show j' = ⟨j, by omega⟩ from Fin.ext hj, show e = ⟨128 * g + d, by omega⟩ from Fin.ext he, V16, rows_ctx, H.vc]

theorem v_lat (t : Fin cfg0.N) (g : Fin 2) (j : Fin 8192) (d : Fin 64) (j' : Fin 8448) (hj : j'.val = 256 + j.val) (e : Fin 256) (he : e.val = 128 * g.val + d.val) :
    (iblk m c 2 t : Vec Ideal S1x8448x256 .bf16) (ix3 0 j' e) = ((D.vl (bt t) j (klane g d) : ℝ) : EReal) := by
  rw [blk2, show j' = ⟨256 + j, by omega⟩ from Fin.ext hj, show e = ⟨128 * g + d, by omega⟩ from Fin.ext he, V16, rows_lat, H.vl]

omit H in
theorem v_one (t : Fin cfg0.N) (g : Fin 2) (j : Fin 8448) (e : Fin 256) (he : e.val = 128 * g.val + 64) :
    (iblk m c 2 t : Vec Ideal S1x8448x256 .bf16) (ix3 0 j e) = (1 : EReal) := by
  rw [blk2, show e = ⟨128 * g + 64, by omega⟩ from Fin.ext he, V16_one]

omit H in
theorem qcongr (q : Fin 512 → ℝ) (x y : Fin 512) (h : x.val = y.val) : ((q x * (1 / 8) : ℝ) : EReal) = ((q y * (1 / 8) : ℝ) : EReal) := by
  rw [Fin.ext h]

/-- Group 0 of a context tile is the specification's row. -/
theorem tileA0_spec (t : Fin cfg0.N) (ht : t.val % 33 = 0) (r : Fin 256) (p : Fin 4) (d : Fin 64) :
    tileA0 (F := Ideal) (iblk m c 0 t) (iblk m c 1 t) (iblk m c 2 t) (ix3 0 r ⟨64 * p + d, by omega⟩)
      = ((gspecC D (bt t) r 0 p d : ℝ) : EReal) := by
  unfold tileA0
  refine (grpA_real _ _ _ _ p r d
    (fun l => D.qc (bt t) r ⟨256 * ((0 : Fin 2) : ℕ) + l, by have := l.isLt; show 256 * 0 + l.val < 512; omega⟩ * (1 / 8))
    (fun l => D.qc (bt t) r ⟨256 * ((0 : Fin 2) : ℕ) + (128 + l), by have := l.isLt; show 256 * 0 + (128 + l.val) < 512; omega⟩ * (1 / 8))
    (fun j l => D.kc (bt t) j (klane 0 ⟨l.val % 64, by omega⟩)) (fun j => D.vc (bt t) j (klane 0 d))
    (fun l => (by pointwise [ldQ] : ldQ _ _ _ (ix3 0 r l) = _).trans ((q_ctx H t ht r ⟨0 + l, by omega⟩).trans (qcongr (D.qc (bt t) r) _ _ (by show 0 + l.val = 256 * 0 + l.val; omega))))
    (fun l => (by pointwise [ldQ] : ldQ _ _ _ (ix3 0 r l) = _).trans ((q_ctx H t ht r ⟨128 + l, by omega⟩).trans (qcongr (D.qc (bt t) r) _ _ (by show 128 + l.val = 256 * 0 + (128 + l.val); omega))))
    (fun j l => (by pointwise [ldC] : ldC _ _ _ (ix3 0 j l) = _).trans (k_ctx H t 0 j l ⟨j, by omega⟩ rfl ⟨0 + l, by omega⟩ (by simp)))
    (fun j => (by pointwise [ldC] : ldC _ _ _ (ix3 0 j ⟨d.val, by omega⟩) = _).trans (v_ctx H t 0 j d ⟨j, by omega⟩ rfl ⟨0 + d, by omega⟩ (by simp)))
    (fun j => (by pointwise [ldC] : ldC _ _ _ (ix3 0 j 64) = _).trans (v_one (m := m) (c := c) t 0 ⟨j, by omega⟩ ⟨64, by omega⟩ (by simp)))).trans ?_
  rw [sco_part (D.qc (bt t) r) (fun j => D.kc (bt t) j) 0 p]
  rfl

/-- Group 0 of a latent tile is the specification's row. -/
theorem tileB0_spec (t : Fin cfg0.N) (ht : 1 ≤ t.val % 33) (r : Fin 256) (p : Fin 4) (d : Fin 64) :
    tileB0 (F := Ideal) (iblk m c 0 t) (iblk m c 1 t) (iblk m c 2 t) (ix3 0 r ⟨64 * p + d, by omega⟩)
      = ((gspecL D (bt t) (lr t r) 0 p d : ℝ) : EReal) := by
  unfold tileB0
  refine (grpB_real _ _ _ _ _ _ _ _ _ _ _ _ p r d
    (fun l => D.ql (bt t) (lr t r) ⟨256 * ((0 : Fin 2) : ℕ) + l, by have := l.isLt; show 256 * 0 + l.val < 512; omega⟩ * (1 / 8))
    (fun l => D.ql (bt t) (lr t r) ⟨256 * ((0 : Fin 2) : ℕ) + (128 + l), by have := l.isLt; show 256 * 0 + (128 + l.val) < 512; omega⟩ * (1 / 8))
    (fun j l => D.kc (bt t) j (klane 0 ⟨l.val % 64, by omega⟩)) (fun j => D.vc (bt t) j (klane 0 d))
    (fun j l => D.kl (bt t) j (klane 0 ⟨l.val % 64, by omega⟩)) (fun j => D.vl (bt t) j (klane 0 d))
    (fun l => (by pointwise [ldQ] : ldQ _ _ _ (ix3 0 r l) = _).trans ((q_lat H t ht r ⟨0 + l, by omega⟩).trans (qcongr (D.ql (bt t) (lr t r)) _ _ (by show 0 + l.val = 256 * 0 + l.val; omega))))
    (fun l => (by pointwise [ldQ] : ldQ _ _ _ (ix3 0 r l) = _).trans ((q_lat H t ht r ⟨128 + l, by omega⟩).trans (qcongr (D.ql (bt t) (lr t r)) _ _ (by show 128 + l.val = 256 * 0 + (128 + l.val); omega))))
    (fun j l => (by pointwise [ldC] : ldC _ _ _ (ix3 0 j l) = _).trans (k_ctx H t 0 j l ⟨j, by omega⟩ rfl ⟨0 + l, by omega⟩ (by simp)))
    (fun j => (by pointwise [ldC] : ldC _ _ _ (ix3 0 j ⟨d.val, by omega⟩) = _).trans (v_ctx H t 0 j d ⟨j, by omega⟩ rfl ⟨0 + d, by omega⟩ (by simp)))
    (fun j => (by pointwise [ldC] : ldC _ _ _ (ix3 0 j 64) = _).trans (v_one (m := m) (c := c) t 0 ⟨j, by omega⟩ ⟨64, by omega⟩ (by simp)))
    (fun j l => (by pointwise [ldL] : ldL _ _ _ (ix3 0 j l) = _).trans (k_lat H t 0 ⟨j, by omega⟩ l ⟨256 + j, by omega⟩ (by first | (simp only []; omega) | rfl) ⟨0 + l, by omega⟩ (by simp)))
    (fun j => (by pointwise [ldL] : ldL _ _ _ (ix3 0 j ⟨d.val, by omega⟩) = _).trans (v_lat H t 0 ⟨j, by omega⟩ d ⟨256 + j, by omega⟩ (by first | (simp only []; omega) | rfl) ⟨0 + d, by omega⟩ (by simp)))
    (fun j => (by pointwise [ldL] : ldL _ _ _ (ix3 0 j 64) = _).trans (v_one (m := m) (c := c) t 0 ⟨256 + j, by omega⟩ ⟨64, by omega⟩ (by simp)))
    (fun j l => (by pointwise [ldL] : ldL _ _ _ (ix3 0 j l) = _).trans (k_lat H t 0 ⟨2048 + j, by omega⟩ l ⟨2304 + j, by omega⟩ (by first | (simp only []; omega) | rfl) ⟨0 + l, by omega⟩ (by simp)))
    (fun j => (by pointwise [ldL] : ldL _ _ _ (ix3 0 j ⟨d.val, by omega⟩) = _).trans (v_lat H t 0 ⟨2048 + j, by omega⟩ d ⟨2304 + j, by omega⟩ (by first | (simp only []; omega) | rfl) ⟨0 + d, by omega⟩ (by simp)))
    (fun j => (by pointwise [ldL] : ldL _ _ _ (ix3 0 j 64) = _).trans (v_one (m := m) (c := c) t 0 ⟨2304 + j, by omega⟩ ⟨64, by omega⟩ (by simp)))
    (fun j l => (by pointwise [ldL] : ldL _ _ _ (ix3 0 j l) = _).trans (k_lat H t 0 ⟨4096 + j, by omega⟩ l ⟨4352 + j, by omega⟩ (by first | (simp only []; omega) | rfl) ⟨0 + l, by omega⟩ (by simp)))
    (fun j => (by pointwise [ldL] : ldL _ _ _ (ix3 0 j ⟨d.val, by omega⟩) = _).trans (v_lat H t 0 ⟨4096 + j, by omega⟩ d ⟨4352 + j, by omega⟩ (by first | (simp only []; omega) | rfl) ⟨0 + d, by omega⟩ (by simp)))
    (fun j => (by pointwise [ldL] : ldL _ _ _ (ix3 0 j 64) = _).trans (v_one (m := m) (c := c) t 0 ⟨4352 + j, by omega⟩ ⟨64, by omega⟩ (by simp)))
    (fun j l => (by pointwise [ldL] : ldL _ _ _ (ix3 0 j l) = _).trans (k_lat H t 0 ⟨6144 + j, by omega⟩ l ⟨6400 + j, by omega⟩ (by first | (simp only []; omega) | rfl) ⟨0 + l, by omega⟩ (by simp)))
    (fun j => (by pointwise [ldL] : ldL _ _ _ (ix3 0 j ⟨d.val, by omega⟩) = _).trans (v_lat H t 0 ⟨6144 + j, by omega⟩ d ⟨6400 + j, by omega⟩ (by first | (simp only []; omega) | rfl) ⟨0 + d, by omega⟩ (by simp)))
    (fun j => (by pointwise [ldL] : ldL _ _ _ (ix3 0 j 64) = _).trans (v_one (m := m) (c := c) t 0 ⟨6400 + j, by omega⟩ ⟨64, by omega⟩ (by simp)))).trans ?_
  rw [sco_part (D.ql (bt t) (lr t r)) (fun j => D.kc (bt t) j) 0 p, sco_part (D.ql (bt t) (lr t r)) (fun j => D.kl (bt t) j) 0 p]
  rfl

/-- Group 1 of a context tile is the specification's row. -/
theorem tileA1_spec (t : Fin cfg0.N) (ht : t.val % 33 = 0) (r : Fin 256) (p : Fin 4) (d : Fin 64) :
    tileA1 (F := Ideal) (iblk m c 0 t) (iblk m c 1 t) (iblk m c 2 t) (ix3 0 r ⟨64 * p + d, by omega⟩)
      = ((gspecC D (bt t) r 1 p d : ℝ) : EReal) := by
  unfold tileA1
  refine (grpA_real _ _ _ _ p r d
    (fun l => D.qc (bt t) r ⟨256 * ((1 : Fin 2) : ℕ) + l, by have := l.isLt; show 256 * 1 + l.val < 512; omega⟩ * (1 / 8))
    (fun l => D.qc (bt t) r ⟨256 * ((1 : Fin 2) : ℕ) + (128 + l), by have := l.isLt; show 256 * 1 + (128 + l.val) < 512; omega⟩ * (1 / 8))
    (fun j l => D.kc (bt t) j (klane 1 ⟨l.val % 64, by omega⟩)) (fun j => D.vc (bt t) j (klane 1 d))
    (fun l => (by pointwise [ldQ] : ldQ _ _ _ (ix3 0 r l) = _).trans ((q_ctx H t ht r ⟨256 + l, by omega⟩).trans (qcongr (D.qc (bt t) r) _ _ (by show 256 + l.val = 256 * 1 + l.val; omega))))
    (fun l => (by pointwise [ldQ] : ldQ _ _ _ (ix3 0 r l) = _).trans ((q_ctx H t ht r ⟨384 + l, by omega⟩).trans (qcongr (D.qc (bt t) r) _ _ (by show 384 + l.val = 256 * 1 + (128 + l.val); omega))))
    (fun j l => (by pointwise [ldC] : ldC _ _ _ (ix3 0 j l) = _).trans (k_ctx H t 1 j l ⟨j, by omega⟩ rfl ⟨128 + l, by omega⟩ (by simp)))
    (fun j => (by pointwise [ldC] : ldC _ _ _ (ix3 0 j ⟨d.val, by omega⟩) = _).trans (v_ctx H t 1 j d ⟨j, by omega⟩ rfl ⟨128 + d, by omega⟩ (by simp)))
    (fun j => (by pointwise [ldC] : ldC _ _ _ (ix3 0 j 64) = _).trans (v_one (m := m) (c := c) t 1 ⟨j, by omega⟩ ⟨192, by omega⟩ (by simp)))).trans ?_
  rw [sco_part (D.qc (bt t) r) (fun j => D.kc (bt t) j) 1 p]
  rfl

/-- Group 1 of a latent tile is the specification's row. -/
theorem tileB1_spec (t : Fin cfg0.N) (ht : 1 ≤ t.val % 33) (r : Fin 256) (p : Fin 4) (d : Fin 64) :
    tileB1 (F := Ideal) (iblk m c 0 t) (iblk m c 1 t) (iblk m c 2 t) (ix3 0 r ⟨64 * p + d, by omega⟩)
      = ((gspecL D (bt t) (lr t r) 1 p d : ℝ) : EReal) := by
  unfold tileB1
  refine (grpB_real _ _ _ _ _ _ _ _ _ _ _ _ p r d
    (fun l => D.ql (bt t) (lr t r) ⟨256 * ((1 : Fin 2) : ℕ) + l, by have := l.isLt; show 256 * 1 + l.val < 512; omega⟩ * (1 / 8))
    (fun l => D.ql (bt t) (lr t r) ⟨256 * ((1 : Fin 2) : ℕ) + (128 + l), by have := l.isLt; show 256 * 1 + (128 + l.val) < 512; omega⟩ * (1 / 8))
    (fun j l => D.kc (bt t) j (klane 1 ⟨l.val % 64, by omega⟩)) (fun j => D.vc (bt t) j (klane 1 d))
    (fun j l => D.kl (bt t) j (klane 1 ⟨l.val % 64, by omega⟩)) (fun j => D.vl (bt t) j (klane 1 d))
    (fun l => (by pointwise [ldQ] : ldQ _ _ _ (ix3 0 r l) = _).trans ((q_lat H t ht r ⟨256 + l, by omega⟩).trans (qcongr (D.ql (bt t) (lr t r)) _ _ (by show 256 + l.val = 256 * 1 + l.val; omega))))
    (fun l => (by pointwise [ldQ] : ldQ _ _ _ (ix3 0 r l) = _).trans ((q_lat H t ht r ⟨384 + l, by omega⟩).trans (qcongr (D.ql (bt t) (lr t r)) _ _ (by show 384 + l.val = 256 * 1 + (128 + l.val); omega))))
    (fun j l => (by pointwise [ldC] : ldC _ _ _ (ix3 0 j l) = _).trans (k_ctx H t 1 j l ⟨j, by omega⟩ rfl ⟨128 + l, by omega⟩ (by simp)))
    (fun j => (by pointwise [ldC] : ldC _ _ _ (ix3 0 j ⟨d.val, by omega⟩) = _).trans (v_ctx H t 1 j d ⟨j, by omega⟩ rfl ⟨128 + d, by omega⟩ (by simp)))
    (fun j => (by pointwise [ldC] : ldC _ _ _ (ix3 0 j 64) = _).trans (v_one (m := m) (c := c) t 1 ⟨j, by omega⟩ ⟨192, by omega⟩ (by simp)))
    (fun j l => (by pointwise [ldL] : ldL _ _ _ (ix3 0 j l) = _).trans (k_lat H t 1 ⟨j, by omega⟩ l ⟨256 + j, by omega⟩ (by first | (simp only []; omega) | rfl) ⟨128 + l, by omega⟩ (by simp)))
    (fun j => (by pointwise [ldL] : ldL _ _ _ (ix3 0 j ⟨d.val, by omega⟩) = _).trans (v_lat H t 1 ⟨j, by omega⟩ d ⟨256 + j, by omega⟩ (by first | (simp only []; omega) | rfl) ⟨128 + d, by omega⟩ (by simp)))
    (fun j => (by pointwise [ldL] : ldL _ _ _ (ix3 0 j 64) = _).trans (v_one (m := m) (c := c) t 1 ⟨256 + j, by omega⟩ ⟨192, by omega⟩ (by simp)))
    (fun j l => (by pointwise [ldL] : ldL _ _ _ (ix3 0 j l) = _).trans (k_lat H t 1 ⟨2048 + j, by omega⟩ l ⟨2304 + j, by omega⟩ (by first | (simp only []; omega) | rfl) ⟨128 + l, by omega⟩ (by simp)))
    (fun j => (by pointwise [ldL] : ldL _ _ _ (ix3 0 j ⟨d.val, by omega⟩) = _).trans (v_lat H t 1 ⟨2048 + j, by omega⟩ d ⟨2304 + j, by omega⟩ (by first | (simp only []; omega) | rfl) ⟨128 + d, by omega⟩ (by simp)))
    (fun j => (by pointwise [ldL] : ldL _ _ _ (ix3 0 j 64) = _).trans (v_one (m := m) (c := c) t 1 ⟨2304 + j, by omega⟩ ⟨192, by omega⟩ (by simp)))
    (fun j l => (by pointwise [ldL] : ldL _ _ _ (ix3 0 j l) = _).trans (k_lat H t 1 ⟨4096 + j, by omega⟩ l ⟨4352 + j, by omega⟩ (by first | (simp only []; omega) | rfl) ⟨128 + l, by omega⟩ (by simp)))
    (fun j => (by pointwise [ldL] : ldL _ _ _ (ix3 0 j ⟨d.val, by omega⟩) = _).trans (v_lat H t 1 ⟨4096 + j, by omega⟩ d ⟨4352 + j, by omega⟩ (by first | (simp only []; omega) | rfl) ⟨128 + d, by omega⟩ (by simp)))
    (fun j => (by pointwise [ldL] : ldL _ _ _ (ix3 0 j 64) = _).trans (v_one (m := m) (c := c) t 1 ⟨4352 + j, by omega⟩ ⟨192, by omega⟩ (by simp)))
    (fun j l => (by pointwise [ldL] : ldL _ _ _ (ix3 0 j l) = _).trans (k_lat H t 1 ⟨6144 + j, by omega⟩ l ⟨6400 + j, by omega⟩ (by first | (simp only []; omega) | rfl) ⟨128 + l, by omega⟩ (by simp)))
    (fun j => (by pointwise [ldL] : ldL _ _ _ (ix3 0 j ⟨d.val, by omega⟩) = _).trans (v_lat H t 1 ⟨6144 + j, by omega⟩ d ⟨6400 + j, by omega⟩ (by first | (simp only []; omega) | rfl) ⟨128 + d, by omega⟩ (by simp)))
    (fun j => (by pointwise [ldL] : ldL _ _ _ (ix3 0 j 64) = _).trans (v_one (m := m) (c := c) t 1 ⟨6400 + j, by omega⟩ ⟨192, by omega⟩ (by simp)))).trans ?_
  rw [sco_part (D.ql (bt t) (lr t r)) (fun j => D.kc (bt t) j) 1 p, sco_part (D.ql (bt t) (lr t r)) (fun j => D.kl (bt t) j) 1 p]
  rfl

/-! ## The blocks, and the array -/

/-- The specification as an array of results. -/
def result (D : Data2) : S4x8448x512.Idx → EReal :=
  fun i => gspec D (i 0) (i 1) ⟨(i 2).val / 256, by have := (i 2).isLt; change (i 2).val < 512 at this; omega⟩
    ⟨(i 2).val / 64 % 4, by omega⟩ ⟨(i 2).val % 64, by omega⟩

omit H in
theorem gspec_congr {b b' : Fin 4} {s s' : Fin 8448} {g g' : Fin 2} {p p' : Fin 4} {d d' : Fin 64} (hb : b.val = b'.val) (hs : s.val = s'.val)
    (hg : g.val = g'.val) (hp : p.val = p'.val) (hd : d.val = d'.val) : gspec D b s g p d = gspec D b' s' g' p' d' := by
  rw [Fin.ext hb, Fin.ext hs, Fin.ext hg, Fin.ext hp, Fin.ext hd]

omit H in
theorem gspec_ctx (b : Fin 4) (s : Fin 256) (g : Fin 2) (p : Fin 4) (d : Fin 64) :
    gspec D b ⟨s, by omega⟩ g p d = ((gspecC D b s g p d : ℝ) : EReal) := dif_pos s.isLt

omit H in
theorem gspec_lat (b : Fin 4) (s : Fin 8192) (g : Fin 2) (p : Fin 4) (d : Fin 64) :
    gspec D b ⟨256 + s, by omega⟩ g p d = ((gspecL D b s g p d : ℝ) : EReal) := by
  rw [gspec, dif_neg (by simp only []; omega)]
  rw [show (⟨256 + s.val - 256, by omega⟩ : Fin 8192) = s from Fin.ext (by simp only []; omega)]

/-- The specification on the block of point `t`. -/
def blockSpec (D : Data2) (t : Fin cfg0.N) : S1x256x512.Idx → EReal :=
  fun y => gspec D (bt t) ⟨256 * (t.val % 33) + (y 1).val, by have := (y 1).isLt; change (y 1).val < 256 at this; omega⟩
    ⟨(y 2).val / 256, by have := (y 2).isLt; change (y 2).val < 512 at this; omega⟩ ⟨(y 2).val / 64 % 4, by omega⟩ ⟨(y 2).val % 64, by omega⟩

omit H in
/-- A lane of a group's block by its head and its lane there. -/
theorem lane_split (x : Fin 256) : x = ⟨64 * (⟨x.val / 64, by omega⟩ : Fin 4).val + (⟨x.val % 64, by omega⟩ : Fin 64).val, by simp only []; omega⟩ :=
  Fin.ext (by simp only []; omega)

/-- Case A's two stores leave the specification on the block. -/
theorem canonA (t : Fin cfg0.N) (ht : t.val % 33 = 0) (y : S1x256x512.Idx) :
    View.canon (Val := Elt Ideal)
          [(⟨Rect.unit (s := S1x256x512) ![0, 0, 256] S1x256x256.size inb_S1x256x512_S1x256x256_0_0_256, tileA1 (iblk m c 0 t) (iblk m c 1 t) (iblk m c 2 t)⟩ : View.Piece (Elt Ideal) S1x256x512 .bf16),
           ⟨Rect.unit (s := S1x256x512) ![0, 0, 0] S1x256x256.size inb_S1x256x512_S1x256x256_0_0_0, tileA0 (iblk m c 0 t) (iblk m c 1 t) (iblk m c 2 t)⟩] y
      = blockSpec D t y := by
  refine View.canon_apply_of_pieces (Val := Elt Ideal) (e := .bf16) (blockSpec D t) _ ?_ y ?_
  · intro q hq x
    rcases List.mem_cons.mp hq with rfl | hq
    · change S1x256x256.Idx at x
      idx_vars x
      obtain rfl : x0 = 0 := Subsingleton.elim _ _
      have e : tileA1 (F := Ideal) (iblk m c 0 t) (iblk m c 1 t) (iblk m c 2 t) (ix3 0 x1 x2) = _ :=
        (congrArg (fun x => tileA1 (F := Ideal) (iblk m c 0 t) (iblk m c 1 t) (iblk m c 2 t) (ix3 0 x1 x)) (lane_split x2)).trans
          (tileA1_spec H t ht x1 ⟨x2.val / 64, by omega⟩ ⟨x2.val % 64, by omega⟩)
      refine e.trans ((gspec_ctx _ _ _ _ _).symm.trans (gspec_congr rfl ?_ ?_ ?_ ?_))
      · show x1.val = 256 * (t.val % 33) + (0 + 1 * x1.val); omega
      · show 1 = (256 + 1 * x2.val) / 256; omega
      · show x2.val / 64 = (256 + 1 * x2.val) / 64 % 4; omega
      · show x2.val % 64 = (256 + 1 * x2.val) % 64; omega
    · rcases List.mem_singleton.mp hq with rfl
      change S1x256x256.Idx at x
      idx_vars x
      obtain rfl : x0 = 0 := Subsingleton.elim _ _
      have e : tileA0 (F := Ideal) (iblk m c 0 t) (iblk m c 1 t) (iblk m c 2 t) (ix3 0 x1 x2) = _ :=
        (congrArg (fun x => tileA0 (F := Ideal) (iblk m c 0 t) (iblk m c 1 t) (iblk m c 2 t) (ix3 0 x1 x)) (lane_split x2)).trans
          (tileA0_spec H t ht x1 ⟨x2.val / 64, by omega⟩ ⟨x2.val % 64, by omega⟩)
      refine e.trans ((gspec_ctx _ _ _ _ _).symm.trans (gspec_congr rfl ?_ ?_ ?_ ?_))
      · show x1.val = 256 * (t.val % 33) + (0 + 1 * x1.val); omega
      · show 0 = (0 + 1 * x2.val) / 256; omega
      · show x2.val / 64 = (0 + 1 * x2.val) / 64 % 4; omega
      · show x2.val % 64 = (0 + 1 * x2.val) % 64; omega
  · idx_vars y
    by_cases hy : y2.val < 256
    · refine ⟨_, List.mem_cons_of_mem _ List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 0 ≤ y2.val ∧ y2.val < 0 + 256; omega
    · refine ⟨_, List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 256 ≤ y2.val ∧ y2.val < 256 + 256; omega

/-- Case B's two stores leave the specification on the block. -/
theorem canonB (t : Fin cfg0.N) (ht : 1 ≤ t.val % 33) (y : S1x256x512.Idx) :
    View.canon (Val := Elt Ideal)
          [(⟨Rect.unit (s := S1x256x512) ![0, 0, 256] S1x256x256.size inb_S1x256x512_S1x256x256_0_0_256, tileB1 (iblk m c 0 t) (iblk m c 1 t) (iblk m c 2 t)⟩ : View.Piece (Elt Ideal) S1x256x512 .bf16),
           ⟨Rect.unit (s := S1x256x512) ![0, 0, 0] S1x256x256.size inb_S1x256x512_S1x256x256_0_0_0, tileB0 (iblk m c 0 t) (iblk m c 1 t) (iblk m c 2 t)⟩] y
      = blockSpec D t y := by
  refine View.canon_apply_of_pieces (Val := Elt Ideal) (e := .bf16) (blockSpec D t) _ ?_ y ?_
  · intro q hq x
    rcases List.mem_cons.mp hq with rfl | hq
    · change S1x256x256.Idx at x
      idx_vars x
      obtain rfl : x0 = 0 := Subsingleton.elim _ _
      have e : tileB1 (F := Ideal) (iblk m c 0 t) (iblk m c 1 t) (iblk m c 2 t) (ix3 0 x1 x2) = _ :=
        (congrArg (fun x => tileB1 (F := Ideal) (iblk m c 0 t) (iblk m c 1 t) (iblk m c 2 t) (ix3 0 x1 x)) (lane_split x2)).trans
          (tileB1_spec H t ht x1 ⟨x2.val / 64, by omega⟩ ⟨x2.val % 64, by omega⟩)
      refine e.trans ((gspec_lat _ _ _ _ _).symm.trans (gspec_congr rfl ?_ ?_ ?_ ?_))
      · show 256 + (256 * (t.val % 33 - 1) + x1.val) = 256 * (t.val % 33) + (0 + 1 * x1.val); omega
      · show 1 = (256 + 1 * x2.val) / 256; omega
      · show x2.val / 64 = (256 + 1 * x2.val) / 64 % 4; omega
      · show x2.val % 64 = (256 + 1 * x2.val) % 64; omega
    · rcases List.mem_singleton.mp hq with rfl
      change S1x256x256.Idx at x
      idx_vars x
      obtain rfl : x0 = 0 := Subsingleton.elim _ _
      have e : tileB0 (F := Ideal) (iblk m c 0 t) (iblk m c 1 t) (iblk m c 2 t) (ix3 0 x1 x2) = _ :=
        (congrArg (fun x => tileB0 (F := Ideal) (iblk m c 0 t) (iblk m c 1 t) (iblk m c 2 t) (ix3 0 x1 x)) (lane_split x2)).trans
          (tileB0_spec H t ht x1 ⟨x2.val / 64, by omega⟩ ⟨x2.val % 64, by omega⟩)
      refine e.trans ((gspec_lat _ _ _ _ _).symm.trans (gspec_congr rfl ?_ ?_ ?_ ?_))
      · show 256 + (256 * (t.val % 33 - 1) + x1.val) = 256 * (t.val % 33) + (0 + 1 * x1.val); omega
      · show 0 = (0 + 1 * x2.val) / 256; omega
      · show x2.val / 64 = (0 + 1 * x2.val) / 64 % 4; omega
      · show x2.val % 64 = (0 + 1 * x2.val) % 64; omega
  · idx_vars y
    by_cases hy : y2.val < 256
    · refine ⟨_, List.mem_cons_of_mem _ List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 0 ≤ y2.val ∧ y2.val < 0 + 256; omega
    · refine ⟨_, List.mem_cons_self, ?_⟩
      rw [Rect.mem_set_unit]
      intro a
      match a with
      | ⟨0, _⟩ => show 0 ≤ y0.val ∧ y0.val < 0 + 1; omega
      | ⟨1, _⟩ => show 0 ≤ y1.val ∧ y1.val < 0 + 256; omega
      | ⟨2, _⟩ => show 256 ≤ y2.val ∧ y2.val < 256 + 256; omega

/-- What point `t` writes back is the specification read through its block. -/
theorem flushed_spec (t : Fin cfg0.N) (hf : (cfg0.win 3).flush t = true) :
    (dats m 0 c).flushed 3 t = ((cfg0.win 3).blk t).view.read (Elt Ideal) (result D : Buf (Elt Ideal) ((c : Thread nD τ).loc main_v17)) := by
  obtain ⟨i0, i1, i2⟩ := index3 t
  have key : ∀ y : S1x256x512.Idx, blockSpec D t y
      = (((cfg0.win 3).blk t).view.read (Elt Ideal) (result D : Buf (Elt Ideal) ((c : Thread nD τ).loc main_v17)) : S1x256x512.Idx → EReal) y := by
    intro y
    idx_vars y
    rw [View.read_apply]
    refine gspec_congr ?_ ?_ ?_ ?_ ?_
    · show t.val / 33 = win0_3.index t 0 * 1 + 1 * y0.val; omega
    · show 256 * (t.val % 33) + y1.val = win0_3.index t 1 * 256 + 1 * y1.val; omega
    · show y2.val / 256 = (win0_3.index t 2 * 512 + 1 * y2.val) / 256; omega
    · show y2.val / 64 % 4 = (win0_3.index t 2 * 512 + 1 * y2.val) / 64 % 4; omega
    · show y2.val % 64 = (win0_3.index t 2 * 512 + 1 * y2.val) % 64; omega
  by_cases h : t.val % 33 = 0
  · rw [Value.flushed3_A m c t h (by omega), out_A]
    funext y
    exact (canonA H t h y).trans (key y)
  · rw [Value.flushed3_B m c t h (by omega), out_B]
    funext y
    exact (canonB H t (by omega) y).trans (key y)

/-- The result array is the specification. -/
theorem final : (dats m 0 c).arrAt 3 cfg0.N = (result D : Buf (Elt Ideal) ((c : Thread nD τ).loc main_v17)) :=
  (dats m 0 c).arrAt_eq_of_cover 3 (result D : Buf (Elt Ideal) ((c : Thread nD τ).loc main_v17)) (flushed_spec H) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index3 t
    refine ⟨t, flush0_3 t, ?_⟩
    show i ∈ ((View.whole main_v17).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; omega
    | ⟨1, _⟩ => show win0_3.index t 1 * 256 ≤ (i 1 : Nat) ∧ (i 1 : Nat) < win0_3.index t 1 * 256 + 256; omega
    | ⟨2, _⟩ => show win0_3.index t 2 * 512 ≤ (i 2 : Nat) ∧ (i 2 : Nat) < win0_3.index t 2 * 512 + 512; omega

end Cert.Kernel2Ideal.Flash

end
-- ==== Proof.Ref2Stages.lean ====
/- The grouped-query attention's reference, its result in named stages (context `C`, latent `L`). -/
module

public import proofs.«01_k».proof.Proof.Gen.Reference2Ideal.Run
public import proofs.«01_k».proof.Proof.Spec2
public import proofs.«01_k».proof.Proof.RefAt

@[expose] public section

set_option maxRecDepth 16384

noncomputable section

namespace Cert.Reference2Ideal.Stages

open Cert.Reference2Ideal Cert.Reference2Ideal.Gen Idealize.ShloMosaic Idealize.ShloMosaic.TcCoe Cert.Softmax

variable {F : FTy → Type} [FloatOps F]

/-- The context keys by head. -/
def kCtx (kc : FVec F S4x256x128 .f32) : FVec F S4x256x2x64 .f32 :=
  shapeCast S4x256x2x64 kc shapeCasts_S4x256x128_S4x256x2x64

/-- The context values by head. -/
def vCtx (vc : FVec F S4x256x128 .f32) : FVec F S4x256x2x64 .f32 :=
  shapeCast S4x256x2x64 vc shapeCasts_S4x256x128_S4x256x2x64

/-- All keys, the latent first. -/
def kAll (kl : FVec F S4x8192x128 .f32) (kc : FVec F S4x256x128 .f32) : FVec F S4x8448x2x64 .f32 :=
  have v2 : FVec F S4x8192x2x64 .f32 := shapeCast S4x8192x2x64 kl shapeCasts_S4x8192x128_S4x8192x2x64
  have v0 : FVec F S4x256x2x64 .f32 := shapeCast S4x256x2x64 kc shapeCasts_S4x256x128_S4x256x2x64
  concatenate S4x8448x2x64 1 [⟨S4x8192x2x64, v2⟩, ⟨S4x256x2x64, v0⟩] concatenates_S4x8192x2x64_S4x256x2x64_S4x8448x2x64_d1

/-- All values, the latent first. -/
def vAll (vl : FVec F S4x8192x128 .f32) (vc : FVec F S4x256x128 .f32) : FVec F S4x8448x2x64 .f32 :=
  have v4 : FVec F S4x8192x2x64 .f32 := shapeCast S4x8192x2x64 vl shapeCasts_S4x8192x128_S4x8192x2x64
  have v1 : FVec F S4x256x2x64 .f32 := shapeCast S4x256x2x64 vc shapeCasts_S4x256x128_S4x256x2x64
  concatenate S4x8448x2x64 1 [⟨S4x8192x2x64, v4⟩, ⟨S4x256x2x64, v1⟩] concatenates_S4x8192x2x64_S4x256x2x64_S4x8448x2x64_d1

/-- The context queries' scores. -/
def scC (q : FVec F S4x256x512 .f32) (k : FVec F S4x256x2x64 .f32) : FVec F S4x2x4x256x256 .f32 :=
  have v25 : FVec F S4x256x2x4x64 .f32 := shapeCast S4x256x2x4x64 q shapeCasts_S4x256x512_S4x256x2x4x64
  have v26 : FVec F S4x2x256x256x4 .f32 := Host.dotGeneral dot_S4x256x2x64_S4x256x2x4x64_S4x2x256x256x4_3_4_1_13_02_02 none k v25
  have v27 : FVec F S4x2x4x256x256 .f32 := transpose S4x2x4x256x256 [0, 1, 4, 3, 2] v26 transposes_S4x2x256x256x4_S4x2x4x256x256_0_1_4_3_2
  have cst_3 : FVec F S_ .f32 := constant S_ .f32 0x3E000000#32
  have v28 : FVec F S4x2x4x256x256 .f32 := broadcastInDim S4x2x4x256x256 ![] bcast_S_S4x2x4x256x256 cst_3
  mulf v27 v28

/-- Their maximum over the keys. -/
def mxC (s : FVec F S4x2x4x256x256 .f32) : FVec F S4x2x4x256 .f32 :=
  have cst_5 : FVec F S_ .f32 := constant S_ .f32 0xFF800000#32
  have v31 : FVec F S4x2x4x256 .f32 := broadcastInDim S4x2x4x256 ![] bcast_S_S4x2x4x256 cst_5
  have cst_4 : FVec F S_ .f32 := constant S_ .f32 0xFF800000#32
  have v30 : FVec F S4x2x4x256 .f32 := Host.reduce FloatOps.maximumf s cst_4 reducesTo_S4x2x4x256x256_S4x2x4x256_d4 h_S_
  maximumf v31 v30

/-- Their softmax weights. -/
def prC (m : FVec F S4x2x4x256 .f32) (s : FVec F S4x2x4x256x256 .f32) : FVec F S4x2x4x256x256 .f32 :=
  have v33 : FVec F S4x2x4x256x1 .f32 := broadcastInDim S4x2x4x256x1 ![0, 1, 2, 3] bcast_S4x2x4x256_S4x2x4x256x1_0_1_2_3 m
  have v34 : FVec F S4x2x4x256x256 .f32 := broadcastInDim S4x2x4x256x256 ![0, 1, 2, 3, 4] bcast_S4x2x4x256x1_S4x2x4x256x256_0_1_2_3_4 v33
  have v35 : FVec F S4x2x4x256x256 .f32 := subf s v34
  have v36 : FVec F S4x2x4x256x256 .f32 := Host.exp v35
  have cst_6 : FVec F S_ .f32 := constant S_ .f32 0x00000000#32
  have v37 : FVec F S4x2x4x256 .f32 := Host.reduceAdd v36 cst_6 reducesTo_S4x2x4x256x256_S4x2x4x256_d4 h_S_
  have v38 : FVec F S4x2x4x256x1 .f32 := broadcastInDim S4x2x4x256x1 ![0, 1, 2, 3] bcast_S4x2x4x256_S4x2x4x256x1_0_1_2_3 v37
  have v39 : FVec F S4x2x4x256x256 .f32 := broadcastInDim S4x2x4x256x256 ![0, 1, 2, 3, 4] bcast_S4x2x4x256x1_S4x2x4x256x256_0_1_2_3_4 v38
  Host.divf v36 v39

/-- The weighted values, the heads side by side. -/
def avC (v : FVec F S4x256x2x64 .f32) (a : FVec F S4x2x4x256x256 .f32) : FVec F S4x256x512 .f32 :=
  have v41 : FVec F S4x2x64x4x256 .f32 := Host.dotGeneral dot_S4x256x2x64_S4x2x4x256x256_S4x2x64x4x256_1_4_3_23_02_01 none v a
  have v42 : FVec F S4x256x2x4x64 .f32 := transpose S4x256x2x4x64 [0, 4, 1, 3, 2] v41 transposes_S4x2x64x4x256_S4x256x2x4x64_0_4_1_3_2
  shapeCast S4x256x512 v42 shapeCasts_S4x256x2x4x64_S4x256x512

/-- The latent queries' scores. -/
def scL (q : FVec F S4x8192x512 .f32) (k : FVec F S4x8448x2x64 .f32) : FVec F S4x2x4x8192x8448 .f32 :=
  have v6 : FVec F S4x8192x2x4x64 .f32 := shapeCast S4x8192x2x4x64 q shapeCasts_S4x8192x512_S4x8192x2x4x64
  have v7 : FVec F S4x2x8448x8192x4 .f32 := Host.dotGeneral dot_S4x8448x2x64_S4x8192x2x4x64_S4x2x8448x8192x4_3_4_1_13_02_02 none k v6
  have v8 : FVec F S4x2x4x8192x8448 .f32 := transpose S4x2x4x8192x8448 [0, 1, 4, 3, 2] v7 transposes_S4x2x8448x8192x4_S4x2x4x8192x8448_0_1_4_3_2
  have cst : FVec F S_ .f32 := constant S_ .f32 0x3E000000#32
  have v9 : FVec F S4x2x4x8192x8448 .f32 := broadcastInDim S4x2x4x8192x8448 ![] bcast_S_S4x2x4x8192x8448 cst
  mulf v8 v9

/-- Their maximum over the keys. -/
def mxL (s : FVec F S4x2x4x8192x8448 .f32) : FVec F S4x2x4x8192 .f32 :=
  have cst_1 : FVec F S_ .f32 := constant S_ .f32 0xFF800000#32
  have v12 : FVec F S4x2x4x8192 .f32 := broadcastInDim S4x2x4x8192 ![] bcast_S_S4x2x4x8192 cst_1
  have cst_0 : FVec F S_ .f32 := constant S_ .f32 0xFF800000#32
  have v11 : FVec F S4x2x4x8192 .f32 := Host.reduce FloatOps.maximumf s cst_0 reducesTo_S4x2x4x8192x8448_S4x2x4x8192_d4 h_S_
  maximumf v12 v11

/-- Their softmax weights. -/
def prL (m : FVec F S4x2x4x8192 .f32) (s : FVec F S4x2x4x8192x8448 .f32) : FVec F S4x2x4x8192x8448 .f32 :=
  have v14 : FVec F S4x2x4x8192x1 .f32 := broadcastInDim S4x2x4x8192x1 ![0, 1, 2, 3] bcast_S4x2x4x8192_S4x2x4x8192x1_0_1_2_3 m
  have v15 : FVec F S4x2x4x8192x8448 .f32 := broadcastInDim S4x2x4x8192x8448 ![0, 1, 2, 3, 4] bcast_S4x2x4x8192x1_S4x2x4x8192x8448_0_1_2_3_4 v14
  have v16 : FVec F S4x2x4x8192x8448 .f32 := subf s v15
  have v17 : FVec F S4x2x4x8192x8448 .f32 := Host.exp v16
  have cst_2 : FVec F S_ .f32 := constant S_ .f32 0x00000000#32
  have v18 : FVec F S4x2x4x8192 .f32 := Host.reduceAdd v17 cst_2 reducesTo_S4x2x4x8192x8448_S4x2x4x8192_d4 h_S_
  have v19 : FVec F S4x2x4x8192x1 .f32 := broadcastInDim S4x2x4x8192x1 ![0, 1, 2, 3] bcast_S4x2x4x8192_S4x2x4x8192x1_0_1_2_3 v18
  have v20 : FVec F S4x2x4x8192x8448 .f32 := broadcastInDim S4x2x4x8192x8448 ![0, 1, 2, 3, 4] bcast_S4x2x4x8192x1_S4x2x4x8192x8448_0_1_2_3_4 v19
  Host.divf v17 v20

/-- The weighted values, the heads side by side. -/
def avL (v : FVec F S4x8448x2x64 .f32) (a : FVec F S4x2x4x8192x8448 .f32) : FVec F S4x8192x512 .f32 :=
  have v22 : FVec F S4x2x64x4x8192 .f32 := Host.dotGeneral dot_S4x8448x2x64_S4x2x4x8192x8448_S4x2x64x4x8192_1_4_3_23_02_01 none v a
  have v23 : FVec F S4x8192x2x4x64 .f32 := transpose S4x8192x2x4x64 [0, 4, 1, 3, 2] v22 transposes_S4x2x64x4x8192_S4x8192x2x4x64_0_4_1_3_2
  shapeCast S4x8192x512 v23 shapeCasts_S4x8192x2x4x64_S4x8192x512

/-- Context rows, then latent rows. -/
def both (yc : FVec F S4x256x512 .f32) (yl : FVec F S4x8192x512 .f32) : FVec F S4x8448x512 .bf16 :=
  have v44 : FVec F S4x8448x512 .f32 := concatenate S4x8448x512 1 [⟨S4x256x512, yc⟩, ⟨S4x8192x512, yl⟩] concatenates_S4x256x512_S4x8192x512_S4x8448x512_d1
  truncf .bf16 v44 bitsLt_bf16_f32

/-- The reference's result is these stages, one after another. -/
theorem res_eq (m : (ℓ : Loc nD τ sig) → Buf (Elt F) ℓ) (c : Dev nD) :
    Value.res_main_v45 m c
      = (have sC := scC (m ((c.tc : Thread nD τ).loc main_arg0)) (kCtx (m ((c.tc : Thread nD τ).loc main_arg1)))
         have sL := scL (m ((c.tc : Thread nD τ).loc main_arg3)) (kAll (m ((c.tc : Thread nD τ).loc main_arg4)) (m ((c.tc : Thread nD τ).loc main_arg1)))
         both (avC (vCtx (m ((c.tc : Thread nD τ).loc main_arg2))) (prC (mxC sC) sC)) (avL (vAll (m ((c.tc : Thread nD τ).loc main_arg5)) (m ((c.tc : Thread nD τ).loc main_arg2))) (prL (mxL sL) sL))) := rfl

end Cert.Reference2Ideal.Stages

end
-- ==== Proof.Ref2At.lean ====
/- The prepared arrays and the result of the grouped-query attention's reference at an index. -/
module

public import proofs.«01_k».proof.Proof.Ref2Stages

@[expose] public section

set_option maxRecDepth 16384

noncomputable section

namespace Cert.Reference2Ideal.Stages

open Cert.Reference2Ideal Cert.Reference2Ideal.Gen Idealize.ShloMosaic Idealize.ShloMosaic.TcCoe Cert.Softmax

theorem klane_eq (g : Fin 2) (d : Fin 64) : klane g d = ⟨g * 64 + d, by omega⟩ := by
  unfold klane; congr 1; omega

theorem qlane_eq (g : Fin 2) (p : Fin 4) (d : Fin 64) : qlane g p d = ⟨g * 256 + p * 64 + d, by omega⟩ := by
  unfold qlane; congr 1; omega

theorem kCtx_apply (kc : FVec Ideal S4x256x128 .f32) (b : Fin 4) (j : Fin 256) (g : Fin 2) (d : Fin 64) :
    kCtx kc (ix4 b j g d) = kc (ix3 b j (klane g d)) := by
  pointwise [kCtx, klane_eq]

theorem vCtx_apply (vc : FVec Ideal S4x256x128 .f32) (b : Fin 4) (j : Fin 256) (g : Fin 2) (d : Fin 64) :
    vCtx vc (ix4 b j g d) = vc (ix3 b j (klane g d)) := by
  pointwise [vCtx, klane_eq]

theorem kAll_lat (kl : FVec Ideal S4x8192x128 .f32) (kc : FVec Ideal S4x256x128 .f32) (b : Fin 4) (j : Fin 8192) (g : Fin 2) (d : Fin 64) :
    kAll kl kc (ix4 b ⟨j, by omega⟩ g d) = kl (ix3 b j (klane g d)) := by
  pointwise [kAll, klane_eq]

theorem kAll_ctx (kl : FVec Ideal S4x8192x128 .f32) (kc : FVec Ideal S4x256x128 .f32) (b : Fin 4) (j : Fin 256) (g : Fin 2) (d : Fin 64) :
    kAll kl kc (ix4 b ⟨8192 + j, by omega⟩ g d) = kc (ix3 b j (klane g d)) := by
  pointwise [kAll, klane_eq]

theorem vAll_lat (vl : FVec Ideal S4x8192x128 .f32) (vc : FVec Ideal S4x256x128 .f32) (b : Fin 4) (j : Fin 8192) (g : Fin 2) (d : Fin 64) :
    vAll vl vc (ix4 b ⟨j, by omega⟩ g d) = vl (ix3 b j (klane g d)) := by
  pointwise [vAll, klane_eq]

theorem vAll_ctx (vl : FVec Ideal S4x8192x128 .f32) (vc : FVec Ideal S4x256x128 .f32) (b : Fin 4) (j : Fin 256) (g : Fin 2) (d : Fin 64) :
    vAll vl vc (ix4 b ⟨8192 + j, by omega⟩ g d) = vc (ix3 b j (klane g d)) := by
  pointwise [vAll, klane_eq]

theorem both_ctx (yc : FVec Ideal S4x256x512 .f32) (yl : FVec Ideal S4x8192x512 .f32) (b : Fin 4) (r : Fin 256) (e : Fin 512) :
    both yc yl (ix3 b ⟨r, by omega⟩ e) = yc (ix3 b r e) := by
  pointwise [both]

theorem both_lat (yc : FVec Ideal S4x256x512 .f32) (yl : FVec Ideal S4x8192x512 .f32) (b : Fin 4) (r : Fin 8192) (e : Fin 512) :
    both yc yl (ix3 b ⟨256 + r, by omega⟩ e) = yl (ix3 b r e) := by
  pointwise [both]

end Cert.Reference2Ideal.Stages

end
-- ==== Proof.Ref2AtC.lean ====
/- The context stages of the grouped-query attention's reference at an index. -/
module

public import proofs.«01_k».proof.Proof.Ref2At

@[expose] public section

set_option maxRecDepth 16384

noncomputable section

namespace Cert.Reference2Ideal.Stages

open Cert.Reference2Ideal Cert.Reference2Ideal.Gen Idealize.ShloMosaic Idealize.ShloMosaic.TcCoe Cert.Softmax

theorem scC_apply (q : FVec Ideal S4x256x512 .f32) (k : FVec Ideal S4x256x2x64 .f32) (b : Fin 4) (g : Fin 2) (p : Fin 4) (r : Fin 256) (j : Fin 256) :
    scC q k (ix5 b g p r j) = (∑ d : Fin 64, k (ix4 b j g d) * q (ix3 b r (qlane g p d))) * Ideal.ofBits .f32 0x3E000000#32 := by
  pointwise [scC, qlane_eq]

theorem mxC_apply (s : FVec Ideal S4x2x4x256x256 .f32) (b : Fin 4) (g : Fin 2) (p : Fin 4) (r : Fin 256) :
    mxC s (ix4 b g p r) = mx ⊥ (fun j : Fin 256 => s (ix5 b g p r j)) := by
  exact ReferenceIdeal.Stages.max_last s _ _ _ b g p r

theorem prC_apply (m : FVec Ideal S4x2x4x256 .f32) (s : FVec Ideal S4x2x4x256x256 .f32) (b : Fin 4) (g : Fin 2) (p : Fin 4) (r : Fin 256) (j : Fin 256) :
    prC m s (ix5 b g p r j) = Ideal.div (Ideal.exp (s (ix5 b g p r j) - m (ix4 b g p r))) (∑ j' : Fin 256, Ideal.exp (s (ix5 b g p r j') - m (ix4 b g p r))) := by
  pointwise [prC]

theorem avC_apply (v : FVec Ideal S4x256x2x64 .f32) (a : FVec Ideal S4x2x4x256x256 .f32) (b : Fin 4) (g : Fin 2) (p : Fin 4) (r : Fin 256) (d : Fin 64) :
    avC v a (ix3 b r (qlane g p d)) = ∑ j : Fin 256, v (ix4 b j g d) * a (ix5 b g p r j) := by
  pointwise [avC, qlane_eq]

end Cert.Reference2Ideal.Stages

end
-- ==== Proof.Ref2AtL.lean ====
/- The latent stages of the grouped-query attention's reference at an index. -/
module

public import proofs.«01_k».proof.Proof.Ref2At

@[expose] public section

set_option maxRecDepth 16384

noncomputable section

namespace Cert.Reference2Ideal.Stages

open Cert.Reference2Ideal Cert.Reference2Ideal.Gen Idealize.ShloMosaic Idealize.ShloMosaic.TcCoe Cert.Softmax

theorem scL_apply (q : FVec Ideal S4x8192x512 .f32) (k : FVec Ideal S4x8448x2x64 .f32) (b : Fin 4) (g : Fin 2) (p : Fin 4) (r : Fin 8192) (j : Fin 8448) :
    scL q k (ix5 b g p r j) = (∑ d : Fin 64, k (ix4 b j g d) * q (ix3 b r (qlane g p d))) * Ideal.ofBits .f32 0x3E000000#32 := by
  pointwise [scL, qlane_eq]

theorem mxL_apply (s : FVec Ideal S4x2x4x8192x8448 .f32) (b : Fin 4) (g : Fin 2) (p : Fin 4) (r : Fin 8192) :
    mxL s (ix4 b g p r) = mx ⊥ (fun j : Fin 8448 => s (ix5 b g p r j)) := by
  exact ReferenceIdeal.Stages.max_last s _ _ _ b g p r

theorem prL_apply (m : FVec Ideal S4x2x4x8192 .f32) (s : FVec Ideal S4x2x4x8192x8448 .f32) (b : Fin 4) (g : Fin 2) (p : Fin 4) (r : Fin 8192) (j : Fin 8448) :
    prL m s (ix5 b g p r j) = Ideal.div (Ideal.exp (s (ix5 b g p r j) - m (ix4 b g p r))) (∑ j' : Fin 8448, Ideal.exp (s (ix5 b g p r j') - m (ix4 b g p r))) := by
  pointwise [prL]

theorem avL_apply (v : FVec Ideal S4x8448x2x64 .f32) (a : FVec Ideal S4x2x4x8192x8448 .f32) (b : Fin 4) (g : Fin 2) (p : Fin 4) (r : Fin 8192) (d : Fin 64) :
    avL v a (ix3 b r (qlane g p d)) = ∑ j : Fin 8448, v (ix4 b j g d) * a (ix5 b g p r j) := by
  pointwise [avL, qlane_eq]

end Cert.Reference2Ideal.Stages

end
-- ==== Proof.Ref2Final.lean ====
/- The grouped-query attention's reference on real inputs: its result is the specification's, position by position. -/
module

public import proofs.«01_k».proof.Proof.RefFinal
public import proofs.«01_k».proof.Proof.Ref2AtC
public import proofs.«01_k».proof.Proof.Ref2AtL

@[expose] public section

set_option maxRecDepth 16384

noncomputable section

namespace Cert.Softmax

/-- The values averaged with a softmax's weights. -/
theorem avg_weights {n : ℕ} (S V : Fin n → ℝ) : ∑ j, V j * (Real.exp (S j) / ∑ i, Real.exp (S i)) = avg S V := by
  rw [avg, Finset.sum_div]
  exact Finset.sum_congr rfl fun j _ => by ring

end Cert.Softmax

namespace Cert.Reference2Ideal.Stages

open Cert.Reference2Ideal Cert.Reference2Ideal.Gen Idealize.ShloMosaic Idealize.ShloMosaic.TcCoe Cert.Softmax

/-- A context position's weighted values, on real scores and values. -/
theorem avC_real (v : FVec Ideal S4x256x2x64 .f32) (s : FVec Ideal S4x2x4x256x256 .f32) (b : Fin 4) (g : Fin 2) (p : Fin 4) (r : Fin 256)
    (d : Fin 64) (S V : Fin 256 → ℝ) (hs : ∀ j, s (ix5 b g p r j) = ((S j : ℝ) : EReal))
    (hv : ∀ j, v (ix4 b j g d) = ((V j : ℝ) : EReal)) :
    avC v (prC (mxC s) s) (ix3 b r (qlane g p d)) = ((avg S V : ℝ) : EReal) := by
  rw [avC_apply, ← avg_weights, ← coe_sum]
  refine Finset.sum_congr rfl fun j _ => ?_
  rw [prC_apply, hv]
  simp only [hs]
  rw [weight (by norm_num) S (by rw [mxC_apply]; simp only [hs]), ← EReal.coe_mul]

/-- A latent position's weighted values, on real scores and values. -/
theorem avL_real (v : FVec Ideal S4x8448x2x64 .f32) (s : FVec Ideal S4x2x4x8192x8448 .f32) (b : Fin 4) (g : Fin 2) (p : Fin 4) (r : Fin 8192)
    (d : Fin 64) (S V : Fin 8448 → ℝ) (hs : ∀ j, s (ix5 b g p r j) = ((S j : ℝ) : EReal))
    (hv : ∀ j, v (ix4 b j g d) = ((V j : ℝ) : EReal)) :
    avL v (prL (mxL s) s) (ix3 b r (qlane g p d)) = ((avg S V : ℝ) : EReal) := by
  rw [avL_apply, ← avg_weights, ← coe_sum]
  refine Finset.sum_congr rfl fun j _ => ?_
  rw [prL_apply, hv]
  simp only [hs]
  rw [weight (by norm_num) S (by rw [mxL_apply]; simp only [hs]), ← EReal.coe_mul]

variable (m : (ℓ : Loc nD τ sig) → Buf (Elt Ideal) ℓ) (c : Dev nD)

/-- The launch's arguments hold the specification's inputs. -/
structure Holds (D : Data2) : Prop where
  qc : ∀ b s e, (m ((c.tc : Thread nD τ).loc main_arg0) : Vec Ideal S4x256x512 .f32) (ix3 b s e) = ((D.qc b s e : ℝ) : EReal)
  kc : ∀ b s e, (m ((c.tc : Thread nD τ).loc main_arg1) : Vec Ideal S4x256x128 .f32) (ix3 b s e) = ((D.kc b s e : ℝ) : EReal)
  vc : ∀ b s e, (m ((c.tc : Thread nD τ).loc main_arg2) : Vec Ideal S4x256x128 .f32) (ix3 b s e) = ((D.vc b s e : ℝ) : EReal)
  ql : ∀ b s e, (m ((c.tc : Thread nD τ).loc main_arg3) : Vec Ideal S4x8192x512 .f32) (ix3 b s e) = ((D.ql b s e : ℝ) : EReal)
  kl : ∀ b s e, (m ((c.tc : Thread nD τ).loc main_arg4) : Vec Ideal S4x8192x128 .f32) (ix3 b s e) = ((D.kl b s e : ℝ) : EReal)
  vl : ∀ b s e, (m ((c.tc : Thread nD τ).loc main_arg5) : Vec Ideal S4x8192x128 .f32) (ix3 b s e) = ((D.vl b s e : ℝ) : EReal)

variable {m c} {D : Data2} (H : Holds m c D)

/-- A score on real rows. -/
theorem gscore_real (q : Fin 512 → ℝ) (k : Fin 128 → ℝ) (g : Fin 2) (p : Fin 4) :
    (∑ d : Fin 64, ((k (klane g d) : ℝ) : EReal) * ((q (qlane g p d) : ℝ) : EReal)) * Ideal.ofBits .f32 0x3E000000#32
      = ((gscore q k g p : ℝ) : EReal) := by
  rw [Cert.ReferenceIdeal.Stages.eighth, gscore, EReal.coe_mul, ← coe_sum]
  congr 1
  exact Finset.sum_congr rfl fun d _ => by rw [EReal.coe_mul, mul_comm]

include H

theorem ctx_row (b : Fin 4) (s : Fin 256) (g : Fin 2) (p : Fin 4) (d : Fin 64) :
    Value.res_main_v45 m c (ix3 b ⟨s, by omega⟩ (qlane g p d)) = ((gspecC D b s g p d : ℝ) : EReal) := by
  rw [res_eq]
  refine (both_ctx _ _ b s (qlane g p d)).trans ?_
  exact avC_real _ _ b g p s d (fun j => gscore (D.qc b s) (D.kc b j) g p) (fun j => D.vc b j (klane g d))
    (fun j => by rw [scC_apply]; simp only [kCtx_apply, H.qc, H.kc]; exact gscore_real (D.qc b s) (D.kc b j) g p)
    (fun j => by rw [vCtx_apply, H.vc])

theorem lat_row (b : Fin 4) (s : Fin 8192) (g : Fin 2) (p : Fin 4) (d : Fin 64) :
    Value.res_main_v45 m c (ix3 b ⟨256 + s, by omega⟩ (qlane g p d)) = ((gspecL D b s g p d : ℝ) : EReal) := by
  rw [res_eq]
  refine (both_lat _ _ b s (qlane g p d)).trans ?_
  have hk : ∀ j : Fin 8448, (∃ j' : Fin 8192, j = ⟨j', by omega⟩) ∨ ∃ j' : Fin 256, j = ⟨8192 + j', by omega⟩ := fun j => by
    by_cases hj : j.val < 8192
    · exact .inl ⟨⟨j, hj⟩, rfl⟩
    · exact .inr ⟨⟨j - 8192, by omega⟩, Fin.ext (by simp only []; omega)⟩
  let K : Fin 8448 → Fin 128 → ℝ := fun j e => if hj : j.val < 8192 then D.kl b ⟨j, hj⟩ e else D.kc b ⟨j - 8192, by omega⟩ e
  let V : Fin 8448 → Fin 128 → ℝ := fun j e => if hj : j.val < 8192 then D.vl b ⟨j, hj⟩ e else D.vc b ⟨j - 8192, by omega⟩ e
  have Kl : ∀ j : Fin 8192, K ⟨j, by omega⟩ = D.kl b j := fun j => funext fun e => dif_pos j.isLt
  have Vl : ∀ j : Fin 8192, V ⟨j, by omega⟩ = D.vl b j := fun j => funext fun e => dif_pos j.isLt
  have Kc : ∀ j : Fin 256, K ⟨8192 + j, by omega⟩ = D.kc b j := fun j => funext fun e =>
    (dif_neg (by simp only []; omega)).trans (congrArg (fun j' => D.kc b j' e) (Fin.ext (by simp only []; omega)))
  have Vc : ∀ j : Fin 256, V ⟨8192 + j, by omega⟩ = D.vc b j := fun j => funext fun e =>
    (dif_neg (by simp only []; omega)).trans (congrArg (fun j' => D.vc b j' e) (Fin.ext (by simp only []; omega)))
  refine (avL_real _ _ b g p s d (fun j => gscore (D.ql b s) (K j) g p) (fun j => V j (klane g d)) ?_ ?_).trans ?_
  · intro j
    rw [scL_apply]
    rcases hk j with ⟨j, rfl⟩ | ⟨j, rfl⟩
    · simp only [kAll_lat, H.ql, H.kl, Kl]; exact gscore_real (D.ql b s) (D.kl b j) g p
    · simp only [kAll_ctx, H.ql, H.kc, Kc]; exact gscore_real (D.ql b s) (D.kc b j) g p
  · intro j
    rcases hk j with ⟨j, rfl⟩ | ⟨j, rfl⟩
    · rw [vAll_lat, H.vl, Vl]
    · rw [vAll_ctx, H.vc, Vc]
  · rw [avg_keys]
    simp only [Kl, Kc, Vl, Vc]
    rfl

/-- The reference's result is the specification, as an array. -/
theorem ref_final : Value.res_main_v45 m c = (fun i : S4x8448x512.Idx => gspec D (i 0) (i 1)
      ⟨(i 2).val / 256, by have := (i 2).isLt; change (i 2).val < 512 at this; omega⟩ ⟨(i 2).val / 64 % 4, by omega⟩ ⟨(i 2).val % 64, by omega⟩) := by
  refine funext fun (i : S4x8448x512.Idx) => ?_
  idx_vars i
  show Value.res_main_v45 m c (ix3 i0 i1 i2) = gspec D i0 i1 ⟨i2.val / 256, _⟩ ⟨i2.val / 64 % 4, _⟩ ⟨i2.val % 64, _⟩
  have e : i2 = qlane ⟨i2.val / 256, by omega⟩ ⟨i2.val / 64 % 4, by omega⟩ ⟨i2.val % 64, by omega⟩ := Fin.ext (by simp only [qlane]; omega)
  by_cases hs : i1.val < 256
  · have := ctx_row H i0 ⟨i1, hs⟩ ⟨i2.val / 256, by omega⟩ ⟨i2.val / 64 % 4, by omega⟩ ⟨i2.val % 64, by omega⟩
    rw [← e] at this
    rw [gspec, dif_pos hs]
    exact this
  · have := lat_row H i0 ⟨i1 - 256, by omega⟩ ⟨i2.val / 256, by omega⟩ ⟨i2.val / 64 % 4, by omega⟩ ⟨i2.val % 64, by omega⟩
    rw [← e, show (⟨256 + (⟨i1.val - 256, by omega⟩ : Fin 8192).val, by simp only []; omega⟩ : Fin 8448) = i1 from Fin.ext (by simp only []; omega)] at this
    rw [gspec, dif_neg hs]
    exact this

end Cert.Reference2Ideal.Stages

end
-- ==== Proof.Finite2.lean ====
/- What the second precondition says of its arrays: every entry is a real number. -/
module

public import proofs.«01_k».proof.Proof.Finite
public import proofs.«01_k».proof.Proof.Gen.Pre_finite_args2

@[expose] public section

noncomputable section

namespace Cert.Softmax

open Idealize.ShloMosaic

/-- Every array the second precondition names has real entries. -/
theorem reals2 (a0 : FVec Ideal Pre_finite_args2.S4x256x512 .f32) (a1 a2 : FVec Ideal Pre_finite_args2.S4x256x128 .f32)
    (a3 : FVec Ideal Pre_finite_args2.S4x8192x512 .f32) (a4 a5 : FVec Ideal Pre_finite_args2.S4x8192x128 .f32)
    (h : Pre_finite_args2.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h := congrFun h (fun k => k.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ _ h0, real_of_all a1 _ _ _ _ h1, real_of_all a2 _ _ _ _ h2, real_of_all a3 _ _ _ _ h3,
    real_of_all a4 _ _ _ _ h4, real_of_all a5 _ _ _ _ h5⟩

end Cert.Softmax

end
-- ==== Proof.Algebra2.lean ====
/- The grouped-query attention: kernel and reference end with the same result on real inputs. -/
module

public import proofs.«01_k».proof.Defs
public import proofs.«01_k».proof.Proof.Final2
public import proofs.«01_k».proof.Proof.Ref2Final
public import proofs.«01_k».proof.Proof.Finite2
public import Idealize.ShloMosaic.Lib.Claim

@[expose] public section

set_option maxRecDepth 16384

noncomputable section

namespace Cert.Proof

open Idealize.ShloMosaic Idealize.SL.Sem Cert.Softmax

/-- On real inputs both programs end with the specification's array. -/
theorem algebraic2 : Cert.algebraic_Kernel2Ideal_Reference2Ideal_pre_finite_args2 := by
  have key : ∀ (m : (ℓ : Loc Kernel2Ideal.nD Kernel2Ideal.τ Kernel2Ideal.sig) → Buf (Elt Ideal) ℓ)
      (m' : (ℓ : Loc Reference2Ideal.nD Reference2Ideal.τ Reference2Ideal.sig) → Buf (Elt Ideal) ℓ), Pre_Kernel2Ideal_finite_args2 m →
      ∀ c : Dev Kernel2Ideal.nD,
      (m' ((c.tc : Thread Reference2Ideal.nD Reference2Ideal.τ).loc Reference2Ideal.main_arg0) = m ((c.tc : Thread Kernel2Ideal.nD Kernel2Ideal.τ).loc Kernel2Ideal.main_arg0)
      ∧ m' ((c.tc : Thread Reference2Ideal.nD Reference2Ideal.τ).loc Reference2Ideal.main_arg1) = m ((c.tc : Thread Kernel2Ideal.nD Kernel2Ideal.τ).loc Kernel2Ideal.main_arg1)
      ∧ m' ((c.tc : Thread Reference2Ideal.nD Reference2Ideal.τ).loc Reference2Ideal.main_arg2) = m ((c.tc : Thread Kernel2Ideal.nD Kernel2Ideal.τ).loc Kernel2Ideal.main_arg2)
      ∧ m' ((c.tc : Thread Reference2Ideal.nD Reference2Ideal.τ).loc Reference2Ideal.main_arg3) = m ((c.tc : Thread Kernel2Ideal.nD Kernel2Ideal.τ).loc Kernel2Ideal.main_arg3)
      ∧ m' ((c.tc : Thread Reference2Ideal.nD Reference2Ideal.τ).loc Reference2Ideal.main_arg4) = m ((c.tc : Thread Kernel2Ideal.nD Kernel2Ideal.τ).loc Kernel2Ideal.main_arg4)
      ∧ m' ((c.tc : Thread Reference2Ideal.nD Reference2Ideal.τ).loc Reference2Ideal.main_arg5) = m ((c.tc : Thread Kernel2Ideal.nD Kernel2Ideal.τ).loc Kernel2Ideal.main_arg5)) →
      (Reference2Ideal.Value.res_main_v45 m' c : Reference2Ideal.S4x8448x512.Idx → EReal) = (Kernel2Ideal.Gen.dats m 0 c).arrAt 3 Kernel2Ideal.cfg0.N := by
    intro m m' hpre c ⟨e0, e1, e2, e3, e4, e5⟩
    obtain ⟨r0, r1, r2, r3, r4, r5⟩ := reals2 _ _ _ _ _ _ (hpre c)
    choose f0 h0 using r0
    choose f1 h1 using r1
    choose f2 h2 using r2
    choose f3 h3 using r3
    choose f4 h4 using r4
    choose f5 h5 using r5
    let D : Data2 :=
      { qc := fun b s e => f0 (ix3 b s e), kc := fun b s e => f1 (ix3 b s e), vc := fun b s e => f2 (ix3 b s e),
        ql := fun b s e => f3 (ix3 b s e), kl := fun b s e => f4 (ix3 b s e), vl := fun b s e => f5 (ix3 b s e) }
    have HK : Kernel2Ideal.Flash.Holds m c D :=
      ⟨fun _ _ _ => h0 _, fun _ _ _ => h1 _, fun _ _ _ => h2 _, fun _ _ _ => h3 _, fun _ _ _ => h4 _, fun _ _ _ => h5 _⟩
    have HR : Reference2Ideal.Stages.Holds m' c D :=
      ⟨fun _ _ _ => by rw [e0]; exact h0 _, fun _ _ _ => by rw [e1]; exact h1 _, fun _ _ _ => by rw [e2]; exact h2 _,
        fun _ _ _ => by rw [e3]; exact h3 _, fun _ _ _ => by rw [e4]; exact h4 _, fun _ _ _ => by rw [e5]; exact h5 _⟩
    rw [Reference2Ideal.Stages.ref_final HR, Kernel2Ideal.Flash.final HK]
    rfl
  pair_intro
  · run_from (Kernel2Ideal.Value.run_blocks m g)
  · run_from (Reference2Ideal.Value.run m' g')
    exact key m m' hpre _ (hagree _)

end Cert.Proof

end
-- ==== Proof.Spec3.lean ====
/- The merge of the four mixers' outputs, as functions of one token's rows over the extended reals. The float literals other
   than 1 are kept as the words both programs spell. -/
module

public import Idealize.ShloMosaic.Lib.Pointwise

@[expose] public section

noncomputable section

namespace Cert.Merge

open Idealize.ShloMosaic

/-- The literal 1024, a row's length. -/
abbrev wN : EReal := Ideal.ofBits .f32 0x44800000#32
/-- The norms' epsilon. -/
abbrev wE : EReal := Ideal.ofBits .f32 0x358637BD#32
/-- The literal 1/2. -/
abbrev wH : EReal := Ideal.ofBits .f32 0x3F000000#32
/-- The literal for the square root of 1/2. -/
abbrev wR : EReal := Ideal.ofBits .f32 0x3F3504F3#32
/-- The literal 128, a head's length. -/
abbrev wL : EReal := Ideal.ofBits .f32 0x43000000#32
/-- The residual's weight. -/
abbrev wA : EReal := Ideal.ofBits .f32 0x3FB504F3#32

/-- The logistic function. -/
def lgst (x : EReal) : EReal := Ideal.div 1 (1 + Ideal.exp (-x))
/-- The exact GELU. -/
def gelu (x : EReal) : EReal := wH * x * (1 + Ideal.erf (x * wR))
/-- A row's mean. -/
def mu (x : Fin 1024 → EReal) : EReal := Ideal.div (∑ k, x k) wN
/-- A row normalized to mean 0 and variance 1. -/
def lnorm (x : Fin 1024 → EReal) (e : Fin 1024) : EReal :=
  (x e - mu x) * Ideal.rsqrt (mu (fun k => (x k - mu x) * (x k - mu x)) + wE)
/-- The modulated row. -/
def xm (x sh sc : Fin 1024 → EReal) (e : Fin 1024) : EReal := lnorm x e * (1 + sc e) + sh e
/-- A row times a matrix, at one column. -/
def dot {n : ℕ} (a w : Fin n → EReal) : EReal := ∑ k, a k * w k
/-- The S5 mixer's gated linear unit, before its gate. -/
def z (u d sf sb : Fin 512 → EReal) (w : Fin 512 → Fin 1024 → EReal) (b : Fin 1024 → EReal) (e : Fin 1024) : EReal :=
  dot (fun k => gelu (u k * d k + sf k + sb k)) (fun k => w k e) + b e
/-- The S5 mixer's output row. -/
def ys (z : Fin 1024 → EReal) (e : Fin 512) : EReal := z ⟨e, by omega⟩ * lgst (z ⟨512 + e, by omega⟩)
/-- Lane `d` of the head that lane `e` belongs to. -/
abbrev inHead (e : Fin 512) (d : Fin 128) : Fin 512 := ⟨e.val / 128 * 128 + d, by omega⟩
/-- The mLSTM mixer's output row. -/
def ym (hf hb g mo : Fin 512 → EReal) (e : Fin 512) : EReal :=
  (hf e + hb e) * Ideal.rsqrt (Ideal.div (∑ d, (hf (inHead e d) + hb (inHead e d)) * (hf (inHead e d) + hb (inHead e d))) wL + wE)
    * g e * lgst (mo e)
/-- One branch's gated projection. -/
def term (xm : Fin 1024 → EReal) (w : Fin 1024 → EReal) (b : EReal) (y v : Fin 512 → EReal) : EReal :=
  lgst (dot xm w + b) * dot y v
/-- The residual and the merged row. -/
def resid (x g1 mix : EReal) : EReal := wA * x + g1 * mix
/-- The result row. -/
def out (x g b : Fin 1024 → EReal) (e : Fin 1024) : EReal := lnorm x e * g e + b e

/-- The rows of one token that the merge reads. -/
structure Tok where
  x : Fin 1024 → EReal
  sh : Fin 1024 → EReal
  sc : Fin 1024 → EReal
  g1 : Fin 1024 → EReal
  yd : Fin 512 → EReal
  yg : Fin 512 → EReal
  u : Fin 512 → EReal
  sf : Fin 512 → EReal
  sb : Fin 512 → EReal
  hf : Fin 512 → EReal
  hb : Fin 512 → EReal
  mo : Fin 512 → EReal

/-- The weights all tokens share. -/
structure Wts where
  d : Fin 512 → EReal
  wglu : Fin 512 → Fin 1024 → EReal
  bglu : Fin 1024 → EReal
  g : Fin 512 → EReal
  wg : Fin 1024 → Fin 4096 → EReal
  bg : Fin 4096 → EReal
  v : Fin 4 → Fin 512 → Fin 1024 → EReal
  wo : Fin 1024 → Fin 1024 → EReal
  lg : Fin 1024 → EReal
  lb : Fin 1024 → EReal

/-- The four branches' gated projections, added up. -/
def mixed (W : Wts) (T : Tok) (j : Fin 1024) : EReal :=
  term (xm T.x T.sh T.sc) (fun k => W.wg k ⟨j, by omega⟩) (W.bg ⟨j, by omega⟩) T.yd (fun k => W.v 0 k j)
    + term (xm T.x T.sh T.sc) (fun k => W.wg k ⟨1024 + j, by omega⟩) (W.bg ⟨1024 + j, by omega⟩)
        (ys (z T.u W.d T.sf T.sb W.wglu W.bglu)) (fun k => W.v 1 k j)
    + term (xm T.x T.sh T.sc) (fun k => W.wg k ⟨2048 + j, by omega⟩) (W.bg ⟨2048 + j, by omega⟩) (ym T.hf T.hb W.g T.mo) (fun k => W.v 2 k j)
    + term (xm T.x T.sh T.sc) (fun k => W.wg k ⟨3072 + j, by omega⟩) (W.bg ⟨3072 + j, by omega⟩) T.yg (fun k => W.v 3 k j)

/-- One token's row of the result. -/
def row (W : Wts) (T : Tok) (e : Fin 1024) : EReal :=
  out (fun k => resid (T.x k) (T.g1 k) (dot (mixed W T) (fun j => W.wo j k))) W.lg W.lb e

/-- All the arguments, as functions of their positions. -/
structure Data3 where
  h : Fin 4 → Fin 8448 → Fin 1024 → EReal
  mc : Fin 6144 → EReal
  ml : Fin 4 → Fin 6144 → EReal
  yd : Fin 4 → Fin 8448 → Fin 512 → EReal
  yg : Fin 4 → Fin 8448 → Fin 512 → EReal
  u : Fin 4 → Fin 8448 → Fin 512 → EReal
  sf : Fin 4 → Fin 8448 → Fin 512 → EReal
  sb : Fin 4 → Fin 8448 → Fin 512 → EReal
  hf : Fin 4 → Fin 8448 → Fin 512 → EReal
  hb : Fin 4 → Fin 8448 → Fin 512 → EReal
  mo : Fin 4 → Fin 8448 → Fin 512 → EReal
  W : Wts

/-- A token's modulation: the context's for the first 256 tokens, its batch's after them. -/
def modOf (D : Data3) (b : Fin 4) (s : Fin 8448) (k : Fin 6144) : EReal := if s.val < 256 then D.mc k else D.ml b k

/-- The rows of token `s` of batch `b`. -/
def tok (D : Data3) (b : Fin 4) (s : Fin 8448) : Tok :=
  { x := D.h b s
    sh := fun k => modOf D b s ⟨k, by omega⟩
    sc := fun k => modOf D b s ⟨1024 + k, by omega⟩
    g1 := fun k => modOf D b s ⟨2048 + k, by omega⟩
    yd := D.yd b s, yg := D.yg b s, u := D.u b s, sf := D.sf b s, sb := D.sb b s, hf := D.hf b s, hb := D.hb b s, mo := D.mo b s }

/-! ## The head's mean by ones on the diagonal blocks -/

/-- The literal `1/128` times is the literal `128` under a division. -/
theorem over_len (x : EReal) : x * Ideal.ofBits .f32 0x3C000000#32 = Ideal.div x wL := by
  have h1 : Ideal.ofBits .f32 0x3C000000#32 = ((1 / 128 : ℝ) : EReal) := by
    simp [Ideal.ofBits, Ideal.ieee]
    rw [← EReal.coe_mul]
    norm_num
  have h2 : wL = ((128 : ℝ) : EReal) := by
    simp [wL, Ideal.ofBits, Ideal.ieee]
    rw [← EReal.coe_mul]
    norm_num
  rw [h1, h2, Ideal.div_coe (by norm_num)]

/-- A sum over all lanes, each times one in the lane's head and times zero elsewhere, is the sum over the head. -/
theorem head_sum (f : Fin 512 → EReal) (e : Fin 512) :
    (∑ k : Fin 512, f k * (if k.val / 128 = e.val / 128 then 1 else 0)) = ∑ d : Fin 128, f (inHead e d) := by
  simp only [mul_ite, mul_one, mul_zero]
  rw [← Finset.sum_filter]
  symm
  refine Finset.sum_bij (fun d _ => inHead e d) ?_ ?_ ?_ ?_
  · intro d _
    simp only [Finset.mem_filter, Finset.mem_univ, true_and]
    omega
  · intro a _ b _ hab
    have := congrArg Fin.val hab
    apply Fin.ext
    simp only at this
    omega
  · intro k hk
    simp only [Finset.mem_filter, Finset.mem_univ, true_and] at hk
    exact ⟨⟨k.val % 128, by omega⟩, Finset.mem_univ _, Fin.ext (by simp only []; omega)⟩
  · intro d _
    rfl

end Cert.Merge

end
-- ==== Proof.Inputs3.lean ====
/- What the merge kernel's windows read: the host's arrays at an index, from the arguments. -/
module

public import proofs.«01_k».proof.Proof.Gen.Kernel3Ideal.Value
public import proofs.«01_k».proof.Proof.Spec3
public import Idealize.ShloMosaic.Lib.Pointwise
public import Idealize.ShloMosaic.Lib.StableHlo.ReadAt
public import Idealize.ShloMosaic.Lib.StableHlo.RunClose

@[expose] public section

set_option maxRecDepth 16384

noncomputable section

namespace Cert.Kernel3Ideal.Merge

open Idealize.ShloMosaic.StableHlo
open Cert.Kernel3Ideal Cert.Kernel3Ideal.Gen Idealize.ShloMosaic Idealize.ShloMosaic.TcCoe Cert.Merge

variable (m : (ℓ : Loc nD τ sig) → Buf (Elt Ideal) ℓ) (c : Dev nD)

/-- The arguments on core `c`. -/
def data : Data3 :=
  { h := fun b s e => (m ((c : Thread nD τ).loc main_arg0) : Vec Ideal S4x8448x1024 .f32) (ix3 b s e)
    mc := fun e => (m ((c : Thread nD τ).loc main_arg1) : Vec Ideal S6144 .f32) (ix1 e)
    ml := fun b e => (m ((c : Thread nD τ).loc main_arg2) : Vec Ideal S4x6144 .f32) (ix2 b e)
    yd := fun b s e => (m ((c : Thread nD τ).loc main_arg3) : Vec Ideal S4x8448x512 .f32) (ix3 b s e)
    yg := fun b s e => (m ((c : Thread nD τ).loc main_arg4) : Vec Ideal S4x8448x512 .f32) (ix3 b s e)
    u := fun b s e => (m ((c : Thread nD τ).loc main_arg5) : Vec Ideal S4x8448x512 .f32) (ix3 b s e)
    sf := fun b s e => (m ((c : Thread nD τ).loc main_arg6) : Vec Ideal S4x8448x512 .f32) (ix3 b s e)
    sb := fun b s e => (m ((c : Thread nD τ).loc main_arg7) : Vec Ideal S4x8448x512 .f32) (ix3 b s e)
    hf := fun b s e => (m ((c : Thread nD τ).loc main_arg8) : Vec Ideal S4x8448x512 .f32) (ix3 b s e)
    hb := fun b s e => (m ((c : Thread nD τ).loc main_arg9) : Vec Ideal S4x8448x512 .f32) (ix3 b s e)
    mo := fun b s e => (m ((c : Thread nD τ).loc main_arg10) : Vec Ideal S4x8448x512 .f32) (ix3 b s e)
    W :=
      { d := fun e => (m ((c : Thread nD τ).loc main_arg11) : Vec Ideal S512 .f32) (ix1 e)
        wglu := fun k e => (m ((c : Thread nD τ).loc main_arg12) : Vec Ideal S512x1024 .f32) (ix2 k e)
        bglu := fun e => (m ((c : Thread nD τ).loc main_arg13) : Vec Ideal S1024 .f32) (ix1 e)
        g := fun e => (m ((c : Thread nD τ).loc main_arg14) : Vec Ideal S512 .f32) (ix1 e)
        wg := fun k e => (m ((c : Thread nD τ).loc main_arg15) : Vec Ideal S1024x4096 .f32) (ix2 k e)
        bg := fun e => (m ((c : Thread nD τ).loc main_arg16) : Vec Ideal S4096 .f32) (ix1 e)
        v := fun p k e => (m ((c : Thread nD τ).loc main_arg17) : Vec Ideal S4x512x1024 .f32) (ix3 p k e)
        wo := fun k e => (m ((c : Thread nD τ).loc main_arg18) : Vec Ideal S1024x1024 .f32) (ix2 k e)
        lg := fun e => (m ((c : Thread nD τ).loc main_arg19) : Vec Ideal S1024 .f32) (ix1 e)
        lb := fun e => (m ((c : Thread nD τ).loc main_arg20) : Vec Ideal S1024 .f32) (ix1 e) } }

/-- The context's modulation above each batch's. -/
def mods (a : FVec Ideal S6144 .f32) (b : FVec Ideal S4x6144 .f32) : FVec Ideal S4x2x6x1024 .f32 :=
  shapeCast S4x2x6x1024 (concatenate S4x2x6144 1 [⟨S4x1x6144, (broadcastInDim S4x1x6144 ![0, 2] bcast_S4x6144_S4x1x6144_0_2 (broadcastInDim S4x6144 ![1] bcast_S6144_S4x6144_1 a : FVec Ideal S4x6144 .f32) : FVec Ideal S4x1x6144 .f32)⟩,
    ⟨S4x1x6144, (broadcastInDim S4x1x6144 ![0, 2] bcast_S4x6144_S4x1x6144_0_2 b : FVec Ideal S4x1x6144 .f32)⟩] concatenates_S4x1x6144_S4x1x6144_S4x2x6144_d1) shapeCasts_S4x2x6144_S4x2x6x1024

/-- Tokens down the rows, batches along the lanes. -/
def flat (a : FVec Ideal S4x8448x512 .f32) : FVec Ideal S8448x2048 .f32 :=
  shapeCast S8448x2048 (transpose S8448x4x512 [1, 0, 2] a transposes_S4x8448x512_S8448x4x512_1_0_2) shapeCasts_S8448x4x512_S8448x2048

/-- Ones on the diagonal blocks of 128. -/
def diag : FVec Ideal S512x512 .bf16 :=
  truncf .bf16 (shapeCast S512x512 (uitofp .f32 (cmpi .eq (iotaInDim S4x128x4x128 32 0) (iotaInDim S4x128x4x128 32 2)) : FVec Ideal S4x128x4x128 .f32) shapeCasts_S4x128x4x128_S512x512) bitsLt_bf16_f32

theorem mods_ctx (a : FVec Ideal S6144 .f32) (b : FVec Ideal S4x6144 .f32) (q : Fin 4) (p : Fin 6) (e : Fin 1024) :
    mods a b (ix4 q 0 p e) = a (ix1 ⟨p * 1024 + e, by omega⟩) := by
  pointwise [mods]

theorem mods_lat (a : FVec Ideal S6144 .f32) (b : FVec Ideal S4x6144 .f32) (q : Fin 4) (p : Fin 6) (e : Fin 1024) :
    mods a b (ix4 q 1 p e) = b (ix2 q ⟨p * 1024 + e, by omega⟩) := by
  pointwise [mods]

theorem flat_apply (a : FVec Ideal S4x8448x512 .f32) (b : Fin 4) (s : Fin 8448) (e : Fin 512) :
    flat a (ix2 s ⟨512 * b + e, by omega⟩) = a (ix3 b s e) := by
  pointwise [flat]

theorem diag_apply (k e : Fin 512) : diag (ix2 k e) = if k.val / 128 = e.val / 128 then 1 else 0 := by
  pointwise [diag]
  have key : ∀ a b : Fin 4, FloatOps.uitofp (F := Ideal) .f32 (IntOp.cmpi .eq (BitVec.ofNat 32 a.val) (BitVec.ofNat 32 b.val))
      = if a.val = b.val then (1 : EReal) else 0 := by
    intro a b
    have hc : IntOp.cmpi .eq (BitVec.ofNat 32 a.val) (BitVec.ofNat 32 b.val) = if a.val = b.val then 1#1 else 0#1 := by
      revert a b
      decide
    rw [hc]
    by_cases h : a.val = b.val
    · rw [if_pos h, if_pos h]
      simp [FloatOps.uitofp]
    · rw [if_neg h, if_neg h]
      simp [FloatOps.uitofp]
  exact key ⟨k.val / 128, by omega⟩ ⟨e.val / 128, by omega⟩

theorem V4_eq : (V m c main_v4 : Vec Ideal S4x2x6x1024 .f32) = mods (m ((c : Thread nD τ).loc main_arg1)) (m ((c : Thread nD τ).loc main_arg2)) := by
  unfold V
  after_results_entrywise (rounds := 1) []

theorem V5_eq : (V m c main_v5 : Vec Ideal S4x8448x512 .bf16) = (truncf .bf16 (m ((c : Thread nD τ).loc main_arg3) : Vec Ideal S4x8448x512 .f32) bitsLt_bf16_f32 : FVec Ideal S4x8448x512 .bf16) := by
  unfold V
  after_results

theorem V5_at (i0 : Fin 4) (i1 : Fin 8448) (i2 : Fin 512) : (V m c main_v5 : Vec Ideal S4x8448x512 .bf16) (ix3 i0 i1 i2) = (m ((c : Thread nD τ).loc main_arg3) : Vec Ideal S4x8448x512 .f32) (ix3 i0 i1 i2) := by
  rw [V5_eq]
  pointwise []

theorem V6_eq : (V m c main_v6 : Vec Ideal S4x8448x512 .bf16) = (truncf .bf16 (m ((c : Thread nD τ).loc main_arg4) : Vec Ideal S4x8448x512 .f32) bitsLt_bf16_f32 : FVec Ideal S4x8448x512 .bf16) := by
  unfold V
  after_results

theorem V6_at (i0 : Fin 4) (i1 : Fin 8448) (i2 : Fin 512) : (V m c main_v6 : Vec Ideal S4x8448x512 .bf16) (ix3 i0 i1 i2) = (m ((c : Thread nD τ).loc main_arg4) : Vec Ideal S4x8448x512 .f32) (ix3 i0 i1 i2) := by
  rw [V6_eq]
  pointwise []

theorem V14_eq : (V m c main_v14 : Vec Ideal S512x1024 .bf16) = (truncf .bf16 (m ((c : Thread nD τ).loc main_arg12) : Vec Ideal S512x1024 .f32) bitsLt_bf16_f32 : FVec Ideal S512x1024 .bf16) := by
  unfold V
  after_results

theorem V14_at (i0 : Fin 512) (i1 : Fin 1024) : (V m c main_v14 : Vec Ideal S512x1024 .bf16) (ix2 i0 i1) = (m ((c : Thread nD τ).loc main_arg12) : Vec Ideal S512x1024 .f32) (ix2 i0 i1) := by
  rw [V14_eq]
  pointwise []

theorem V17_eq : (V m c main_v17 : Vec Ideal S1024x4096 .bf16) = (truncf .bf16 (m ((c : Thread nD τ).loc main_arg15) : Vec Ideal S1024x4096 .f32) bitsLt_bf16_f32 : FVec Ideal S1024x4096 .bf16) := by
  unfold V
  after_results

theorem V17_at (i0 : Fin 1024) (i1 : Fin 4096) : (V m c main_v17 : Vec Ideal S1024x4096 .bf16) (ix2 i0 i1) = (m ((c : Thread nD τ).loc main_arg15) : Vec Ideal S1024x4096 .f32) (ix2 i0 i1) := by
  rw [V17_eq]
  pointwise []

theorem V19_eq : (V m c main_v19 : Vec Ideal S4x512x1024 .bf16) = (truncf .bf16 (m ((c : Thread nD τ).loc main_arg17) : Vec Ideal S4x512x1024 .f32) bitsLt_bf16_f32 : FVec Ideal S4x512x1024 .bf16) := by
  unfold V
  after_results

theorem V19_at (i0 : Fin 4) (i1 : Fin 512) (i2 : Fin 1024) : (V m c main_v19 : Vec Ideal S4x512x1024 .bf16) (ix3 i0 i1 i2) = (m ((c : Thread nD τ).loc main_arg17) : Vec Ideal S4x512x1024 .f32) (ix3 i0 i1 i2) := by
  rw [V19_eq]
  pointwise []

theorem V20_eq : (V m c main_v20 : Vec Ideal S1024x1024 .bf16) = (truncf .bf16 (m ((c : Thread nD τ).loc main_arg18) : Vec Ideal S1024x1024 .f32) bitsLt_bf16_f32 : FVec Ideal S1024x1024 .bf16) := by
  unfold V
  after_results

theorem V20_at (i0 : Fin 1024) (i1 : Fin 1024) : (V m c main_v20 : Vec Ideal S1024x1024 .bf16) (ix2 i0 i1) = (m ((c : Thread nD τ).loc main_arg18) : Vec Ideal S1024x1024 .f32) (ix2 i0 i1) := by
  rw [V20_eq]
  pointwise []

theorem V8_eq : (V m c main_v8 : Vec Ideal S8448x2048 .f32) = flat (m ((c : Thread nD τ).loc main_arg5)) := by
  unfold V
  after_results <;> rfl

theorem V10_eq : (V m c main_v10 : Vec Ideal S8448x2048 .f32) = flat (m ((c : Thread nD τ).loc main_arg6)) := by
  unfold V
  after_results <;> rfl

theorem V12_eq : (V m c main_v12 : Vec Ideal S8448x2048 .f32) = flat (m ((c : Thread nD τ).loc main_arg7)) := by
  unfold V
  after_results <;> rfl

theorem V13_eq : (V m c main_v13 : Vec Ideal S1x512 .f32) = (broadcastInDim S1x512 ![1] bcast_S512_S1x512_1 (m ((c : Thread nD τ).loc main_arg11) : Vec Ideal S512 .f32) : FVec Ideal S1x512 .f32) := by
  unfold V
  after_results

theorem V13_at (e : Fin 512) : (V m c main_v13 : Vec Ideal S1x512 .f32) (ix2 0 e) = (m ((c : Thread nD τ).loc main_arg11) : Vec Ideal S512 .f32) (ix1 e) := by
  rw [V13_eq]
  pointwise []

theorem V15_eq : (V m c main_v15 : Vec Ideal S1x1024 .f32) = (broadcastInDim S1x1024 ![1] bcast_S1024_S1x1024_1 (m ((c : Thread nD τ).loc main_arg13) : Vec Ideal S1024 .f32) : FVec Ideal S1x1024 .f32) := by
  unfold V
  after_results

theorem V15_at (e : Fin 1024) : (V m c main_v15 : Vec Ideal S1x1024 .f32) (ix2 0 e) = (m ((c : Thread nD τ).loc main_arg13) : Vec Ideal S1024 .f32) (ix1 e) := by
  rw [V15_eq]
  pointwise []

theorem V16_eq : (V m c main_v16 : Vec Ideal S1x512 .f32) = (broadcastInDim S1x512 ![1] bcast_S512_S1x512_1 (m ((c : Thread nD τ).loc main_arg14) : Vec Ideal S512 .f32) : FVec Ideal S1x512 .f32) := by
  unfold V
  after_results

theorem V16_at (e : Fin 512) : (V m c main_v16 : Vec Ideal S1x512 .f32) (ix2 0 e) = (m ((c : Thread nD τ).loc main_arg14) : Vec Ideal S512 .f32) (ix1 e) := by
  rw [V16_eq]
  pointwise []

theorem V18_eq : (V m c main_v18 : Vec Ideal S1x4096 .f32) = (broadcastInDim S1x4096 ![1] bcast_S4096_S1x4096_1 (m ((c : Thread nD τ).loc main_arg16) : Vec Ideal S4096 .f32) : FVec Ideal S1x4096 .f32) := by
  unfold V
  after_results

theorem V18_at (e : Fin 4096) : (V m c main_v18 : Vec Ideal S1x4096 .f32) (ix2 0 e) = (m ((c : Thread nD τ).loc main_arg16) : Vec Ideal S4096 .f32) (ix1 e) := by
  rw [V18_eq]
  pointwise []

theorem V21_eq : (V m c main_v21 : Vec Ideal S1x1024 .f32) = (broadcastInDim S1x1024 ![1] bcast_S1024_S1x1024_1 (m ((c : Thread nD τ).loc main_arg19) : Vec Ideal S1024 .f32) : FVec Ideal S1x1024 .f32) := by
  unfold V
  after_results

theorem V21_at (e : Fin 1024) : (V m c main_v21 : Vec Ideal S1x1024 .f32) (ix2 0 e) = (m ((c : Thread nD τ).loc main_arg19) : Vec Ideal S1024 .f32) (ix1 e) := by
  rw [V21_eq]
  pointwise []

theorem V22_eq : (V m c main_v22 : Vec Ideal S1x1024 .f32) = (broadcastInDim S1x1024 ![1] bcast_S1024_S1x1024_1 (m ((c : Thread nD τ).loc main_arg20) : Vec Ideal S1024 .f32) : FVec Ideal S1x1024 .f32) := by
  unfold V
  after_results

theorem V22_at (e : Fin 1024) : (V m c main_v22 : Vec Ideal S1x1024 .f32) (ix2 0 e) = (m ((c : Thread nD τ).loc main_arg20) : Vec Ideal S1024 .f32) (ix1 e) := by
  rw [V22_eq]
  pointwise []

theorem V28_eq : (V m c main_v28 : Vec Ideal S512x512 .bf16) = diag := by
  unfold V
  after_results <;> rfl

end Cert.Kernel3Ideal.Merge

end
-- ==== Proof.Blocks3.lean ====
/- The blocks the merge kernel's windows read, as slices of the host's arrays. -/
module

public import proofs.«01_k».proof.Proof.Inputs3

@[expose] public section

set_option maxRecDepth 16384

noncomputable section

namespace Cert.Kernel3Ideal.Merge

open Idealize.ShloMosaic.StableHlo
open Cert.Kernel3Ideal Cert.Kernel3Ideal.Gen Idealize.ShloMosaic Idealize.ShloMosaic.TcCoe Cert.Merge

/-! ## Which block each grid point works on: batch `t / 33`, tile of rows `t % 33` -/

theorem tN (t : Fin cfg0.N) : t.val < 132 := lt_of_lt_of_eq t.isLt N_0
theorem tb (t : Fin cfg0.N) : t.val / 33 < 4 := by
  have h := tN t
  omega

/-- The batch of a point. -/
abbrev bt (t : Fin cfg0.N) : Fin 4 := ⟨t.val / 33, tb t⟩
/-- The token of row `r` of a point's tile. -/
abbrev sr (t : Fin cfg0.N) (r : Fin 256) : Fin 8448 := ⟨256 * (t.val % 33) + r, by omega⟩
/-- The row of the modulations a point uses. -/
abbrev mr (t : Fin cfg0.N) : Fin 2 := ⟨if t.val % 33 = 0 then 0 else 1, by split <;> omega⟩

theorem index0 (t : Fin cfg0.N) : win0_0.index t 0 = t.val / 33 ∧ win0_0.index t 1 = t.val % 33 ∧ win0_0.index t 2 = 0 :=
  (by decide +kernel : ∀ t : Fin grid0.N, win0_0.index t 0 = t.val / 33 ∧ win0_0.index t 1 = t.val % 33 ∧ win0_0.index t 2 = 0) t
theorem index1 (t : Fin cfg0.N) : win0_1.index t 0 = t.val / 33 ∧ win0_1.index t 1 = (if t.val % 33 = 0 then 0 else 1) ∧ win0_1.index t 2 = 0 ∧ win0_1.index t 3 = 0 :=
  (by decide +kernel : ∀ t : Fin grid0.N, win0_1.index t 0 = t.val / 33 ∧ win0_1.index t 1 = (if t.val % 33 = 0 then 0 else 1) ∧ win0_1.index t 2 = 0 ∧ win0_1.index t 3 = 0) t
theorem index2 (t : Fin cfg0.N) : win0_2.index t 0 = t.val / 33 ∧ win0_2.index t 1 = t.val % 33 ∧ win0_2.index t 2 = 0 :=
  (by decide +kernel : ∀ t : Fin grid0.N, win0_2.index t 0 = t.val / 33 ∧ win0_2.index t 1 = t.val % 33 ∧ win0_2.index t 2 = 0) t
theorem index3 (t : Fin cfg0.N) : win0_3.index t 0 = t.val / 33 ∧ win0_3.index t 1 = t.val % 33 ∧ win0_3.index t 2 = 0 :=
  (by decide +kernel : ∀ t : Fin grid0.N, win0_3.index t 0 = t.val / 33 ∧ win0_3.index t 1 = t.val % 33 ∧ win0_3.index t 2 = 0) t
theorem index4 (t : Fin cfg0.N) : win0_4.index t 0 = t.val % 33 ∧ win0_4.index t 1 = t.val / 33 :=
  (by decide +kernel : ∀ t : Fin grid0.N, win0_4.index t 0 = t.val % 33 ∧ win0_4.index t 1 = t.val / 33) t
theorem index5 (t : Fin cfg0.N) : win0_5.index t 0 = t.val % 33 ∧ win0_5.index t 1 = t.val / 33 :=
  (by decide +kernel : ∀ t : Fin grid0.N, win0_5.index t 0 = t.val % 33 ∧ win0_5.index t 1 = t.val / 33) t
theorem index6 (t : Fin cfg0.N) : win0_6.index t 0 = t.val % 33 ∧ win0_6.index t 1 = t.val / 33 :=
  (by decide +kernel : ∀ t : Fin grid0.N, win0_6.index t 0 = t.val % 33 ∧ win0_6.index t 1 = t.val / 33) t
theorem index7 (t : Fin cfg0.N) : win0_7.index t 0 = t.val / 33 ∧ win0_7.index t 1 = t.val % 33 ∧ win0_7.index t 2 = 0 :=
  (by decide +kernel : ∀ t : Fin grid0.N, win0_7.index t 0 = t.val / 33 ∧ win0_7.index t 1 = t.val % 33 ∧ win0_7.index t 2 = 0) t
theorem index8 (t : Fin cfg0.N) : win0_8.index t 0 = t.val / 33 ∧ win0_8.index t 1 = t.val % 33 ∧ win0_8.index t 2 = 0 :=
  (by decide +kernel : ∀ t : Fin grid0.N, win0_8.index t 0 = t.val / 33 ∧ win0_8.index t 1 = t.val % 33 ∧ win0_8.index t 2 = 0) t
theorem index9 (t : Fin cfg0.N) : win0_9.index t 0 = t.val / 33 ∧ win0_9.index t 1 = t.val % 33 ∧ win0_9.index t 2 = 0 :=
  (by decide +kernel : ∀ t : Fin grid0.N, win0_9.index t 0 = t.val / 33 ∧ win0_9.index t 1 = t.val % 33 ∧ win0_9.index t 2 = 0) t
theorem index10 (t : Fin cfg0.N) : win0_10.index t 0 = 0 ∧ win0_10.index t 1 = 0 :=
  (by decide +kernel : ∀ t : Fin grid0.N, win0_10.index t 0 = 0 ∧ win0_10.index t 1 = 0) t
theorem index11 (t : Fin cfg0.N) : win0_11.index t 0 = 0 ∧ win0_11.index t 1 = 0 :=
  (by decide +kernel : ∀ t : Fin grid0.N, win0_11.index t 0 = 0 ∧ win0_11.index t 1 = 0) t
theorem index12 (t : Fin cfg0.N) : win0_12.index t 0 = 0 ∧ win0_12.index t 1 = 0 :=
  (by decide +kernel : ∀ t : Fin grid0.N, win0_12.index t 0 = 0 ∧ win0_12.index t 1 = 0) t
theorem index13 (t : Fin cfg0.N) : win0_13.index t 0 = 0 ∧ win0_13.index t 1 = 0 :=
  (by decide +kernel : ∀ t : Fin grid0.N, win0_13.index t 0 = 0 ∧ win0_13.index t 1 = 0) t
theorem index14 (t : Fin cfg0.N) : win0_14.index t 0 = 0 ∧ win0_14.index t 1 = 0 :=
  (by decide +kernel : ∀ t : Fin grid0.N, win0_14.index t 0 = 0 ∧ win0_14.index t 1 = 0) t
theorem index15 (t : Fin cfg0.N) : win0_15.index t 0 = 0 ∧ win0_15.index t 1 = 0 :=
  (by decide +kernel : ∀ t : Fin grid0.N, win0_15.index t 0 = 0 ∧ win0_15.index t 1 = 0) t
theorem index16 (t : Fin cfg0.N) : win0_16.index t 0 = 0 ∧ win0_16.index t 1 = 0 ∧ win0_16.index t 2 = 0 :=
  (by decide +kernel : ∀ t : Fin grid0.N, win0_16.index t 0 = 0 ∧ win0_16.index t 1 = 0 ∧ win0_16.index t 2 = 0) t
theorem index17 (t : Fin cfg0.N) : win0_17.index t 0 = 0 ∧ win0_17.index t 1 = 0 :=
  (by decide +kernel : ∀ t : Fin grid0.N, win0_17.index t 0 = 0 ∧ win0_17.index t 1 = 0) t
theorem index18 (t : Fin cfg0.N) : win0_18.index t 0 = 0 ∧ win0_18.index t 1 = 0 :=
  (by decide +kernel : ∀ t : Fin grid0.N, win0_18.index t 0 = 0 ∧ win0_18.index t 1 = 0) t
theorem index19 (t : Fin cfg0.N) : win0_19.index t 0 = 0 ∧ win0_19.index t 1 = 0 :=
  (by decide +kernel : ∀ t : Fin grid0.N, win0_19.index t 0 = 0 ∧ win0_19.index t 1 = 0) t
theorem index20 (t : Fin cfg0.N) : win0_20.index t 0 = 0 ∧ win0_20.index t 1 = 0 :=
  (by decide +kernel : ∀ t : Fin grid0.N, win0_20.index t 0 = 0 ∧ win0_20.index t 1 = 0) t
theorem index21 (t : Fin cfg0.N) : win0_21.index t 0 = t.val ∧ win0_21.index t 1 = 0 :=
  (by decide +kernel : ∀ t : Fin grid0.N, win0_21.index t 0 = t.val ∧ win0_21.index t 1 = 0) t

variable (m : (ℓ : Loc nD τ sig) → Buf (Elt Ideal) ℓ) (c : Dev nD)

theorem blk0 (t : Fin cfg0.N) (i1 : Fin 256) (i2 : Fin 1024) :
    (iblk m c 0 t : Vec Ideal S1x256x1024 .f32) (ix3 0 i1 i2) = (V m c main_arg0 : Vec Ideal S4x8448x1024 .f32) (ix3 (bt t) (sr t i1) i2) := by
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val / 33; omega
  | ⟨1, _⟩ => show win0_0.index t 1 * 256 + 1 * i1.val = 256 * (t.val % 33) + i1.val; omega
  | ⟨2, _⟩ => show win0_0.index t 2 * 1024 + 1 * i2.val = i2.val; omega

theorem blk1 (t : Fin cfg0.N) (i2 : Fin 6) (i3 : Fin 1024) :
    (iblk m c 1 t : Vec Ideal S1x1x6x1024 .f32) (ix4 0 0 i2 i3) = (V m c main_v4 : Vec Ideal S4x2x6x1024 .f32) (ix4 (bt t) (mr t) i2 i3) := by
  obtain ⟨h0, h1, h2, h3⟩ := index1 t
  unfold iblk
  rw [View.read_apply]
  show V m c main_v4 _ = V m c main_v4 _
  congr 1
  funext a
  apply Fin.ext
  match a with
  | ⟨0, _⟩ => show win0_1.index t 0 * 1 + 1 * 0 = t.val / 33; omega
  | ⟨1, _⟩ => show win0_1.index t 1 * 1 + 1 * 0 = (if t.val % 33 = 0 then 0 else 1); omega
  | ⟨2, _⟩ => show win0_1.index t 2 * 6 + 1 * i2.val = i2.val; omega
  | ⟨3, _⟩ => show win0_1.index t 3 * 1024 + 1 * i3.val = i3.val; omega

theorem blk2 (t : Fin cfg0.N) (i1 : Fin 256) (i2 : Fin 512) :
    (iblk m c 2 t : Vec Ideal S1x256x512 .bf16) (ix3 0 i1 i2) = (V m c main_v5 : Vec Ideal S4x8448x512 .bf16) (ix3 (bt t) (sr t i1) i2) := by
  obtain ⟨h0, h1, h2⟩ := index2 t
  unfold iblk
  rw [View.read_apply]
  show V m c main_v5 _ = V m c main_v5 _
  congr 1
  funext a
  apply Fin.ext
  match a with
  | ⟨0, _⟩ => show win0_2.index t 0 * 1 + 1 * 0 = t.val / 33; omega
  | ⟨1, _⟩ => show win0_2.index t 1 * 256 + 1 * i1.val = 256 * (t.val % 33) + i1.val; omega
  | ⟨2, _⟩ => show win0_2.index t 2 * 512 + 1 * i2.val = i2.val; omega

theorem blk3 (t : Fin cfg0.N) (i1 : Fin 256) (i2 : Fin 512) :
    (iblk m c 3 t : Vec Ideal S1x256x512 .bf16) (ix3 0 i1 i2) = (V m c main_v6 : Vec Ideal S4x8448x512 .bf16) (ix3 (bt t) (sr t i1) i2) := by
  obtain ⟨h0, h1, h2⟩ := index3 t
  unfold iblk
  rw [View.read_apply]
  show V m c main_v6 _ = V m c main_v6 _
  congr 1
  funext a
  apply Fin.ext
  match a with
  | ⟨0, _⟩ => show win0_3.index t 0 * 1 + 1 * 0 = t.val / 33; omega
  | ⟨1, _⟩ => show win0_3.index t 1 * 256 + 1 * i1.val = 256 * (t.val % 33) + i1.val; omega
  | ⟨2, _⟩ => show win0_3.index t 2 * 512 + 1 * i2.val = i2.val; omega

theorem blk4 (t : Fin cfg0.N) (i0 : Fin 256) (i1 : Fin 512) :
    (iblk m c 4 t : Vec Ideal S256x512 .f32) (ix2 i0 i1) = (V m c main_v8 : Vec Ideal S8448x2048 .f32) (ix2 (sr t i0) ⟨512 * (bt t).val + i1, by omega⟩) := by
  obtain ⟨h0, h1⟩ := index4 t
  unfold iblk
  rw [View.read_apply]
  show V m c main_v8 _ = V m c main_v8 _
  congr 1
  funext a
  apply Fin.ext
  match a with
  | ⟨0, _⟩ => show win0_4.index t 0 * 256 + 1 * i0.val = 256 * (t.val % 33) + i0.val; omega
  | ⟨1, _⟩ => show win0_4.index t 1 * 512 + 1 * i1.val = 512 * (t.val / 33) + i1.val; omega

theorem blk5 (t : Fin cfg0.N) (i0 : Fin 256) (i1 : Fin 512) :
    (iblk m c 5 t : Vec Ideal S256x512 .f32) (ix2 i0 i1) = (V m c main_v10 : Vec Ideal S8448x2048 .f32) (ix2 (sr t i0) ⟨512 * (bt t).val + i1, by omega⟩) := by
  obtain ⟨h0, h1⟩ := index5 t
  unfold iblk
  rw [View.read_apply]
  show V m c main_v10 _ = V m c main_v10 _
  congr 1
  funext a
  apply Fin.ext
  match a with
  | ⟨0, _⟩ => show win0_5.index t 0 * 256 + 1 * i0.val = 256 * (t.val % 33) + i0.val; omega
  | ⟨1, _⟩ => show win0_5.index t 1 * 512 + 1 * i1.val = 512 * (t.val / 33) + i1.val; omega

theorem blk6 (t : Fin cfg0.N) (i0 : Fin 256) (i1 : Fin 512) :
    (iblk m c 6 t : Vec Ideal S256x512 .f32) (ix2 i0 i1) = (V m c main_v12 : Vec Ideal S8448x2048 .f32) (ix2 (sr t i0) ⟨512 * (bt t).val + i1, by omega⟩) := by
  obtain ⟨h0, h1⟩ := index6 t
  unfold iblk
  rw [View.read_apply]
  show V m c main_v12 _ = V m c main_v12 _
  congr 1
  funext a
  apply Fin.ext
  match a with
  | ⟨0, _⟩ => show win0_6.index t 0 * 256 + 1 * i0.val = 256 * (t.val % 33) + i0.val; omega
  | ⟨1, _⟩ => show win0_6.index t 1 * 512 + 1 * i1.val = 512 * (t.val / 33) + i1.val; omega

theorem blk7 (t : Fin cfg0.N) (i1 : Fin 256) (i2 : Fin 512) :
    (iblk m c 7 t : Vec Ideal S1x256x512 .f32) (ix3 0 i1 i2) = (V m c main_arg8 : Vec Ideal S4x8448x512 .f32) (ix3 (bt t) (sr t i1) i2) := by
  obtain ⟨h0, h1, h2⟩ := index7 t
  unfold iblk
  rw [View.read_apply]
  show V m c main_arg8 _ = V m c main_arg8 _
  congr 1
  funext a
  apply Fin.ext
  match a with
  | ⟨0, _⟩ => show win0_7.index t 0 * 1 + 1 * 0 = t.val / 33; omega
  | ⟨1, _⟩ => show win0_7.index t 1 * 256 + 1 * i1.val = 256 * (t.val % 33) + i1.val; omega
  | ⟨2, _⟩ => show win0_7.index t 2 * 512 + 1 * i2.val = i2.val; omega

theorem blk8 (t : Fin cfg0.N) (i1 : Fin 256) (i2 : Fin 512) :
    (iblk m c 8 t : Vec Ideal S1x256x512 .f32) (ix3 0 i1 i2) = (V m c main_arg9 : Vec Ideal S4x8448x512 .f32) (ix3 (bt t) (sr t i1) i2) := by
  obtain ⟨h0, h1, h2⟩ := index8 t
  unfold iblk
  rw [View.read_apply]
  show V m c main_arg9 _ = V m c main_arg9 _
  congr 1
  funext a
  apply Fin.ext
  match a with
  | ⟨0, _⟩ => show win0_8.index t 0 * 1 + 1 * 0 = t.val / 33; omega
  | ⟨1, _⟩ => show win0_8.index t 1 * 256 + 1 * i1.val = 256 * (t.val % 33) + i1.val; omega
  | ⟨2, _⟩ => show win0_8.index t 2 * 512 + 1 * i2.val = i2.val; omega

theorem blk9 (t : Fin cfg0.N) (i1 : Fin 256) (i2 : Fin 512) :
    (iblk m c 9 t : Vec Ideal S1x256x512 .f32) (ix3 0 i1 i2) = (V m c main_arg10 : Vec Ideal S4x8448x512 .f32) (ix3 (bt t) (sr t i1) i2) := by
  obtain ⟨h0, h1, h2⟩ := index9 t
  unfold iblk
  rw [View.read_apply]
  show V m c main_arg10 _ = V m c main_arg10 _
  congr 1
  funext a
  apply Fin.ext
  match a with
  | ⟨0, _⟩ => show win0_9.index t 0 * 1 + 1 * 0 = t.val / 33; omega
  | ⟨1, _⟩ => show win0_9.index t 1 * 256 + 1 * i1.val = 256 * (t.val % 33) + i1.val; omega
  | ⟨2, _⟩ => show win0_9.index t 2 * 512 + 1 * i2.val = i2.val; omega

theorem blk10 (t : Fin cfg0.N) (i1 : Fin 512) :
    (iblk m c 10 t : Vec Ideal S1x512 .f32) (ix2 0 i1) = (V m c main_v13 : Vec Ideal S1x512 .f32) (ix2 0 i1) := by
  obtain ⟨h0, h1⟩ := index10 t
  unfold iblk
  rw [View.read_apply]
  show V m c main_v13 _ = V m c main_v13 _
  congr 1
  funext a
  apply Fin.ext
  match a with
  | ⟨0, _⟩ => show win0_10.index t 0 * 1 + 1 * 0 = 0; omega
  | ⟨1, _⟩ => show win0_10.index t 1 * 512 + 1 * i1.val = i1.val; omega

theorem blk11 (t : Fin cfg0.N) (i0 : Fin 512) (i1 : Fin 1024) :
    (iblk m c 11 t : Vec Ideal S512x1024 .bf16) (ix2 i0 i1) = (V m c main_v14 : Vec Ideal S512x1024 .bf16) (ix2 i0 i1) := by
  obtain ⟨h0, h1⟩ := index11 t
  unfold iblk
  rw [View.read_apply]
  show V m c main_v14 _ = V m c main_v14 _
  congr 1
  funext a
  apply Fin.ext
  match a with
  | ⟨0, _⟩ => show win0_11.index t 0 * 512 + 1 * i0.val = i0.val; omega
  | ⟨1, _⟩ => show win0_11.index t 1 * 1024 + 1 * i1.val = i1.val; omega

theorem blk12 (t : Fin cfg0.N) (i1 : Fin 1024) :
    (iblk m c 12 t : Vec Ideal S1x1024 .f32) (ix2 0 i1) = (V m c main_v15 : Vec Ideal S1x1024 .f32) (ix2 0 i1) := by
  obtain ⟨h0, h1⟩ := index12 t
  unfold iblk
  rw [View.read_apply]
  show V m c main_v15 _ = V m c main_v15 _
  congr 1
  funext a
  apply Fin.ext
  match a with
  | ⟨0, _⟩ => show win0_12.index t 0 * 1 + 1 * 0 = 0; omega
  | ⟨1, _⟩ => show win0_12.index t 1 * 1024 + 1 * i1.val = i1.val; omega

theorem blk13 (t : Fin cfg0.N) (i1 : Fin 512) :
    (iblk m c 13 t : Vec Ideal S1x512 .f32) (ix2 0 i1) = (V m c main_v16 : Vec Ideal S1x512 .f32) (ix2 0 i1) := by
  obtain ⟨h0, h1⟩ := index13 t
  unfold iblk
  rw [View.read_apply]
  show V m c main_v16 _ = V m c main_v16 _
  congr 1
  funext a
  apply Fin.ext
  match a with
  | ⟨0, _⟩ => show win0_13.index t 0 * 1 + 1 * 0 = 0; omega
  | ⟨1, _⟩ => show win0_13.index t 1 * 512 + 1 * i1.val = i1.val; omega

theorem blk14 (t : Fin cfg0.N) (i0 : Fin 1024) (i1 : Fin 4096) :
    (iblk m c 14 t : Vec Ideal S1024x4096 .bf16) (ix2 i0 i1) = (V m c main_v17 : Vec Ideal S1024x4096 .bf16) (ix2 i0 i1) := by
  obtain ⟨h0, h1⟩ := index14 t
  unfold iblk
  rw [View.read_apply]
  show V m c main_v17 _ = V m c main_v17 _
  congr 1
  funext a
  apply Fin.ext
  match a with
  | ⟨0, _⟩ => show win0_14.index t 0 * 1024 + 1 * i0.val = i0.val; omega
  | ⟨1, _⟩ => show win0_14.index t 1 * 4096 + 1 * i1.val = i1.val; omega

theorem blk15 (t : Fin cfg0.N) (i1 : Fin 4096) :
    (iblk m c 15 t : Vec Ideal S1x4096 .f32) (ix2 0 i1) = (V m c main_v18 : Vec Ideal S1x4096 .f32) (ix2 0 i1) := by
  obtain ⟨h0, h1⟩ := index15 t
  unfold iblk
  rw [View.read_apply]
  show V m c main_v18 _ = V m c main_v18 _
  congr 1
  funext a
  apply Fin.ext
  match a with
  | ⟨0, _⟩ => show win0_15.index t 0 * 1 + 1 * 0 = 0; omega
  | ⟨1, _⟩ => show win0_15.index t 1 * 4096 + 1 * i1.val = i1.val; omega

theorem blk16 (t : Fin cfg0.N) (i0 : Fin 4) (i1 : Fin 512) (i2 : Fin 1024) :
    (iblk m c 16 t : Vec Ideal S4x512x1024 .bf16) (ix3 i0 i1 i2) = (V m c main_v19 : Vec Ideal S4x512x1024 .bf16) (ix3 i0 i1 i2) := by
  obtain ⟨h0, h1, h2⟩ := index16 t
  unfold iblk
  rw [View.read_apply]
  show V m c main_v19 _ = V m c main_v19 _
  congr 1
  funext a
  apply Fin.ext
  match a with
  | ⟨0, _⟩ => show win0_16.index t 0 * 4 + 1 * i0.val = i0.val; omega
  | ⟨1, _⟩ => show win0_16.index t 1 * 512 + 1 * i1.val = i1.val; omega
  | ⟨2, _⟩ => show win0_16.index t 2 * 1024 + 1 * i2.val = i2.val; omega

theorem blk17 (t : Fin cfg0.N) (i0 : Fin 1024) (i1 : Fin 1024) :
    (iblk m c 17 t : Vec Ideal S1024x1024 .bf16) (ix2 i0 i1) = (V m c main_v20 : Vec Ideal S1024x1024 .bf16) (ix2 i0 i1) := by
  obtain ⟨h0, h1⟩ := index17 t
  unfold iblk
  rw [View.read_apply]
  show V m c main_v20 _ = V m c main_v20 _
  congr 1
  funext a
  apply Fin.ext
  match a with
  | ⟨0, _⟩ => show win0_17.index t 0 * 1024 + 1 * i0.val = i0.val; omega
  | ⟨1, _⟩ => show win0_17.index t 1 * 1024 + 1 * i1.val = i1.val; omega

theorem blk18 (t : Fin cfg0.N) (i1 : Fin 1024) :
    (iblk m c 18 t : Vec Ideal S1x1024 .f32) (ix2 0 i1) = (V m c main_v21 : Vec Ideal S1x1024 .f32) (ix2 0 i1) := by
  obtain ⟨h0, h1⟩ := index18 t
  unfold iblk
  rw [View.read_apply]
  show V m c main_v21 _ = V m c main_v21 _
  congr 1
  funext a
  apply Fin.ext
  match a with
  | ⟨0, _⟩ => show win0_18.index t 0 * 1 + 1 * 0 = 0; omega
  | ⟨1, _⟩ => show win0_18.index t 1 * 1024 + 1 * i1.val = i1.val; omega

theorem blk19 (t : Fin cfg0.N) (i1 : Fin 1024) :
    (iblk m c 19 t : Vec Ideal S1x1024 .f32) (ix2 0 i1) = (V m c main_v22 : Vec Ideal S1x1024 .f32) (ix2 0 i1) := by
  obtain ⟨h0, h1⟩ := index19 t
  unfold iblk
  rw [View.read_apply]
  show V m c main_v22 _ = V m c main_v22 _
  congr 1
  funext a
  apply Fin.ext
  match a with
  | ⟨0, _⟩ => show win0_19.index t 0 * 1 + 1 * 0 = 0; omega
  | ⟨1, _⟩ => show win0_19.index t 1 * 1024 + 1 * i1.val = i1.val; omega

theorem blk20 (t : Fin cfg0.N) (i0 : Fin 512) (i1 : Fin 512) :
    (iblk m c 20 t : Vec Ideal S512x512 .bf16) (ix2 i0 i1) = (V m c main_v28 : Vec Ideal S512x512 .bf16) (ix2 i0 i1) := by
  obtain ⟨h0, h1⟩ := index20 t
  unfold iblk
  rw [View.read_apply]
  show V m c main_v28 _ = V m c main_v28 _
  congr 1
  funext a
  apply Fin.ext
  match a with
  | ⟨0, _⟩ => show win0_20.index t 0 * 512 + 1 * i0.val = i0.val; omega
  | ⟨1, _⟩ => show win0_20.index t 1 * 512 + 1 * i1.val = i1.val; omega

end Cert.Kernel3Ideal.Merge

end
-- ==== Proof.Merge3.lean ====
/- The merge kernel's payloads at an index. -/
module

public import proofs.«01_k».proof.Proof.Gen.Kernel3Ideal.Skeleton
public import proofs.«01_k».proof.Proof.Spec3

@[expose] public section

set_option maxRecDepth 16384

noncomputable section

namespace Cert.Kernel3Ideal.Merge

open Cert.Kernel3Ideal Cert.Kernel3Ideal.Gen Idealize.ShloMosaic Cert.Merge

theorem pay2_apply (x : Vec Ideal S1x256x1024 .f32) (r : Fin 256) (e : Fin 1024) : k0_pay2 x (ix2 r e) = x (ix3 0 r e) := by
  pointwise [k0_pay2]

theorem pay3_apply (x : Vec Ideal S1x1x6x1024 .f32) (r : Fin 6) (e : Fin 1024) : k0_pay3 x (ix2 r e) = x (ix4 0 0 r e) := by
  pointwise [k0_pay3]

theorem pay4_apply (x : Vec Ideal S1x256x1024 .f32) (d : Vec Ideal S1x1x6x1024 .f32) (r : Fin 256) (e : Fin 1024) :
    k0_pay4 x d (ix2 r e) = xm (fun k => x (ix3 0 r k)) (fun k => d (ix4 0 0 0 k)) (fun k => d (ix4 0 0 1 k)) e := by
  pointwise [k0_pay4, k0_pay2, k0_pay3, xm, lnorm, mu]

theorem pay5_apply (u : Vec Ideal S256x512 .f32) (d : Vec Ideal S1x512 .f32) (s : Vec Ideal S256x512 .f32) (r : Fin 256) (e : Fin 512) :
    k0_pay5 u d s (ix2 r e) = u (ix2 r e) * d (ix2 0 e) + s (ix2 r e) := by
  pointwise [k0_pay5]

theorem pay6_apply (v : FVec Ideal S256x512 .f32) (s : Vec Ideal S256x512 .f32) (w : Vec Ideal S512x1024 .bf16) (b : Vec Ideal S1x1024 .f32)
    (r : Fin 256) (e : Fin 512) :
    k0_pay6 v s w b (ix2 r e) = ys (fun c => dot (fun k => gelu (v (ix2 r k) + s (ix2 r k))) (fun k => w (ix2 k c)) + b (ix2 0 c)) e := by
  pointwise [k0_pay6, ys, dot, gelu, lgst, Ideal.erf_def, zero_sub]

theorem pay7_apply (a b : Vec Ideal S1x256x512 .f32) (r : Fin 256) (e : Fin 512) :
    k0_pay7 a b (ix2 r e) = a (ix3 0 r e) + b (ix3 0 r e) := by
  pointwise [k0_pay7]

theorem pay8_apply (a b : Vec Ideal S1x256x512 .f32) (o : Vec Ideal S512x512 .bf16) (r : Fin 256) (e : Fin 512) :
    k0_pay8 a b o (ix2 r e)
      = ∑ k : Fin 512, (a (ix3 0 r k) + b (ix3 0 r k)) * (a (ix3 0 r k) + b (ix3 0 r k)) * o (ix2 k e) := by
  pointwise [k0_pay8, k0_pay7]

theorem pay9_apply (x : Vec Ideal S1x256x512 .bf16) (r : Fin 256) (e : Fin 512) : k0_pay9 x (ix2 r e) = x (ix3 0 r e) := by
  pointwise [k0_pay9]

theorem pay10_apply (x : FVec Ideal S256x512 .f32) (r : Fin 256) (e : Fin 512) : k0_pay10 x (ix2 r e) = x (ix2 r e) := by
  pointwise [k0_pay10]

theorem pay12_apply (x : Vec Ideal S1x256x512 .bf16) (r : Fin 256) (e : Fin 512) : k0_pay12 x (ix2 r e) = x (ix3 0 r e) := by
  pointwise [k0_pay12]

theorem pay11_apply (h s : FVec Ideal S256x512 .f32) (g : Vec Ideal S1x512 .f32) (o : Vec Ideal S1x256x512 .f32) (r : Fin 256) (e : Fin 512) :
    k0_pay11 h s g o (ix2 r e)
      = h (ix2 r e) * Ideal.rsqrt (s (ix2 r e) * Ideal.ofBits .f32 0x3C000000#32 + wE) * g (ix2 0 e) * lgst (o (ix3 0 r e)) := by
  pointwise [k0_pay11, lgst, zero_sub]

theorem pay13_apply (x : FVec Ideal S256x1024 .bf16) (w : Vec Ideal S1024x1024 .bf16) (b : Vec Ideal S1x1024 .f32) (r : Fin 256) (e : Fin 1024) :
    k0_pay13 x w b (ix2 r e) = Ideal.exp (-(dot (fun k => x (ix2 r k)) (fun k => w (ix2 k e)) + b (ix2 0 e))) := by
  pointwise [k0_pay13, dot, zero_sub]

theorem pay16_apply (x : FVec Ideal S256x1024 .bf16) (w : Vec Ideal S1024x1024 .bf16) (b : Vec Ideal S1x1024 .f32) (r : Fin 256) (e : Fin 1024) :
    k0_pay16 x w b (ix2 r e) = Ideal.exp (-(dot (fun k => x (ix2 r k)) (fun k => w (ix2 k e)) + b (ix2 0 e))) := by
  pointwise [k0_pay16, dot, zero_sub]

theorem pay14_apply (r : Fin 256) (e : Fin 1024) : k0_pay14 (F := Ideal) (ix2 r e) = 1 := by
  pointwise [k0_pay14]

/-- The first two branches, the first one's gate given as its exponential. -/
theorem pay15_apply (x : FVec Ideal S256x1024 .bf16) (y0 y1 : FVec Ideal S256x512 .bf16) (p o : FVec Ideal S256x1024 .f32)
    (v0 : Vec Ideal S1x512x1024 .bf16) (w1 : Vec Ideal S1024x1024 .bf16) (b1 : Vec Ideal S1x1024 .f32) (v1 : Vec Ideal S1x512x1024 .bf16)
    (r : Fin 256) (e : Fin 1024) :
    k0_pay15 x y0 y1 p o v0 w1 b1 v1 (ix2 r e)
      = Ideal.div 1 (o (ix2 r e) + p (ix2 r e)) * dot (fun k => y0 (ix2 r k)) (fun k => v0 (ix3 0 k e))
        + term (fun k => x (ix2 r k)) (fun k => w1 (ix2 k e)) (b1 (ix2 0 e)) (fun k => y1 (ix2 r k)) (fun k => v1 (ix3 0 k e)) := by
  pointwise [k0_pay15, term, dot, lgst, zero_sub]

/-- The other two branches, the output projection and the residual. -/
theorem pay17_apply (x : FVec Ideal S256x1024 .f32) (d : FVec Ideal S6x1024 .f32) (xn : FVec Ideal S256x1024 .bf16) (y2 y3 : FVec Ideal S256x512 .bf16)
    (t p : FVec Ideal S256x1024 .f32) (o : EReal) (v2 : Vec Ideal S1x512x1024 .bf16) (w3 : Vec Ideal S1024x1024 .bf16) (b3 : Vec Ideal S1x1024 .f32)
    (v3 : Vec Ideal S1x512x1024 .bf16) (wo : Vec Ideal S1024x1024 .bf16) (r : Fin 256) (e : Fin 1024) :
    k0_pay17 (F := Ideal) x d xn y2 y3 t p o v2 w3 b3 v3 wo (ix2 r e)
      = resid (x (ix2 r e)) (d (ix2 2 e))
        (dot (fun j => t (ix2 r j) + Ideal.div 1 (o + p (ix2 r j)) * dot (fun k => y2 (ix2 r k)) (fun k => v2 (ix3 0 k j))
            + term (fun k => xn (ix2 r k)) (fun k => w3 (ix2 k j)) (b3 (ix2 0 j)) (fun k => y3 (ix2 r k)) (fun k => v3 (ix3 0 k j)))
          (fun j => wo (ix2 j e))) := by
  pointwise [k0_pay17, resid, term, dot, lgst, zero_sub]

theorem pay1_apply (x : FVec Ideal S256x1024 .f32) (g b : Vec Ideal S1x1024 .f32) (r : Fin 256) (e : Fin 1024) :
    k0_pay1 x g b (ix2 r e) = out (fun k => x (ix2 r k)) (fun k => g (ix2 0 k)) (fun k => b (ix2 0 k)) e := by
  pointwise [k0_pay1, out, lnorm, mu]

end Cert.Kernel3Ideal.Merge

end
-- ==== Proof.Block3.lean ====
/- The merge kernel's block, as a function of the blocks its windows read: each row is the specification's row. -/
module

public import proofs.«01_k».proof.Proof.Gen.Kernel3Ideal.Frame
public import proofs.«01_k».proof.Proof.Merge3
public import Idealize.ShloMosaic.Lib.Pipeline.ValueKit.Basic
public import Idealize.ShloMosaic.Lib.Pipeline.ValueKit.Tiles

@[expose] public section

set_option maxRecDepth 16384

noncomputable section

namespace Cert.Kernel3Ideal.Merge

open Cert.Kernel3Ideal Cert.Kernel3Ideal.Gen Idealize.ShloMosaic Cert.Merge

/-- The weights in the blocks of the weights' windows. -/
def wtsB (x10 : Vec Ideal S1x512 .f32) (x11 : Vec Ideal S512x1024 .bf16) (x12 : Vec Ideal S1x1024 .f32) (x13 : Vec Ideal S1x512 .f32) (x14 : Vec Ideal S1024x4096 .bf16) (x15 : Vec Ideal S1x4096 .f32) (x16 : Vec Ideal S4x512x1024 .bf16) (x17 : Vec Ideal S1024x1024 .bf16) (x18 : Vec Ideal S1x1024 .f32) (x19 : Vec Ideal S1x1024 .f32) : Wts :=
  { d := fun k => x10 (ix2 0 k), wglu := fun k e => x11 (ix2 k e), bglu := fun e => x12 (ix2 0 e), g := fun k => x13 (ix2 0 k)
    wg := fun k e => x14 (ix2 k e), bg := fun e => x15 (ix2 0 e), v := fun p k e => x16 (ix3 p k e), wo := fun k e => x17 (ix2 k e)
    lg := fun e => x18 (ix2 0 e), lb := fun e => x19 (ix2 0 e) }

/-- Row `r` of the blocks of the tokens' windows. -/
def tokB (x0 : Vec Ideal S1x256x1024 .f32) (x1 : Vec Ideal S1x1x6x1024 .f32) (x2 : Vec Ideal S1x256x512 .bf16) (x3 : Vec Ideal S1x256x512 .bf16) (x4 : Vec Ideal S256x512 .f32) (x5 : Vec Ideal S256x512 .f32) (x6 : Vec Ideal S256x512 .f32) (x7 : Vec Ideal S1x256x512 .f32) (x8 : Vec Ideal S1x256x512 .f32) (x9 : Vec Ideal S1x256x512 .f32) (r : Fin 256) : Tok :=
  { x := fun e => x0 (ix3 0 r e), sh := fun e => x1 (ix4 0 0 0 e), sc := fun e => x1 (ix4 0 0 1 e), g1 := fun e => x1 (ix4 0 0 2 e)
    yd := fun e => x2 (ix3 0 r e), yg := fun e => x3 (ix3 0 r e), u := fun e => x4 (ix2 r e), sf := fun e => x5 (ix2 r e)
    sb := fun e => x6 (ix2 r e), hf := fun e => x7 (ix3 0 r e), hb := fun e => x8 (ix3 0 r e), mo := fun e => x9 (ix3 0 r e) }

theorem ldG0 (x : Vec Ideal S1024x4096 .bf16) (k : Fin 1024) (e : Fin 1024) : View.ld x r0_8 (ix2 k e) = x (ix2 k ⟨e, by omega⟩) := by
  rw [View.ld_apply]
  congr 1
  funext a
  apply Fin.ext
  match a with
  | ⟨0, _⟩ => show 0 + 1 * k.val = k.val; omega
  | ⟨1, _⟩ => show 0 + 1 * e.val = e.val; omega

theorem ldB0 (x : Vec Ideal S1x4096 .f32) (e : Fin 1024) : View.ld x r0_9 (ix2 0 e) = x (ix2 0 ⟨e, by omega⟩) := by
  rw [View.ld_apply]
  congr 1
  funext a
  apply Fin.ext
  match a with
  | ⟨0, _⟩ => rfl
  | ⟨1, _⟩ => show 0 + 1 * e.val = e.val; omega

theorem ldV0 (x : Vec Ideal S4x512x1024 .bf16) (k : Fin 512) (e : Fin 1024) : View.ld x r0_10 (ix3 0 k e) = x (ix3 0 k e) := by
  rw [View.ld_apply]
  congr 1
  funext a
  apply Fin.ext
  match a with
  | ⟨0, _⟩ => rfl
  | ⟨1, _⟩ => show 0 + 1 * k.val = k.val; omega
  | ⟨2, _⟩ => show 0 + 1 * e.val = e.val; omega

theorem ldG1 (x : Vec Ideal S1024x4096 .bf16) (k : Fin 1024) (e : Fin 1024) : View.ld x r0_11 (ix2 k e) = x (ix2 k ⟨1024 + e, by omega⟩) := by
  rw [View.ld_apply]
  congr 1
  funext a
  apply Fin.ext
  match a with
  | ⟨0, _⟩ => show 0 + 1 * k.val = k.val; omega
  | ⟨1, _⟩ => show 1024 + 1 * e.val = 1024 + e.val; omega

theorem ldB1 (x : Vec Ideal S1x4096 .f32) (e : Fin 1024) : View.ld x r0_12 (ix2 0 e) = x (ix2 0 ⟨1024 + e, by omega⟩) := by
  rw [View.ld_apply]
  congr 1
  funext a
  apply Fin.ext
  match a with
  | ⟨0, _⟩ => rfl
  | ⟨1, _⟩ => show 1024 + 1 * e.val = 1024 + e.val; omega

theorem ldV1 (x : Vec Ideal S4x512x1024 .bf16) (k : Fin 512) (e : Fin 1024) : View.ld x r0_13 (ix3 0 k e) = x (ix3 1 k e) := by
  rw [View.ld_apply]
  congr 1
  funext a
  apply Fin.ext
  match a with
  | ⟨0, _⟩ => rfl
  | ⟨1, _⟩ => show 0 + 1 * k.val = k.val; omega
  | ⟨2, _⟩ => show 0 + 1 * e.val = e.val; omega

theorem ldG2 (x : Vec Ideal S1024x4096 .bf16) (k : Fin 1024) (e : Fin 1024) : View.ld x r0_14 (ix2 k e) = x (ix2 k ⟨2048 + e, by omega⟩) := by
  rw [View.ld_apply]
  congr 1
  funext a
  apply Fin.ext
  match a with
  | ⟨0, _⟩ => show 0 + 1 * k.val = k.val; omega
  | ⟨1, _⟩ => show 2048 + 1 * e.val = 2048 + e.val; omega

theorem ldB2 (x : Vec Ideal S1x4096 .f32) (e : Fin 1024) : View.ld x r0_15 (ix2 0 e) = x (ix2 0 ⟨2048 + e, by omega⟩) := by
  rw [View.ld_apply]
  congr 1
  funext a
  apply Fin.ext
  match a with
  | ⟨0, _⟩ => rfl
  | ⟨1, _⟩ => show 2048 + 1 * e.val = 2048 + e.val; omega

theorem ldV2 (x : Vec Ideal S4x512x1024 .bf16) (k : Fin 512) (e : Fin 1024) : View.ld x r0_16 (ix3 0 k e) = x (ix3 2 k e) := by
  rw [View.ld_apply]
  congr 1
  funext a
  apply Fin.ext
  match a with
  | ⟨0, _⟩ => rfl
  | ⟨1, _⟩ => show 0 + 1 * k.val = k.val; omega
  | ⟨2, _⟩ => show 0 + 1 * e.val = e.val; omega

theorem ldG3 (x : Vec Ideal S1024x4096 .bf16) (k : Fin 1024) (e : Fin 1024) : View.ld x r0_17 (ix2 k e) = x (ix2 k ⟨3072 + e, by omega⟩) := by
  rw [View.ld_apply]
  congr 1
  funext a
  apply Fin.ext
  match a with
  | ⟨0, _⟩ => show 0 + 1 * k.val = k.val; omega
  | ⟨1, _⟩ => show 3072 + 1 * e.val = 3072 + e.val; omega

theorem ldB3 (x : Vec Ideal S1x4096 .f32) (e : Fin 1024) : View.ld x r0_18 (ix2 0 e) = x (ix2 0 ⟨3072 + e, by omega⟩) := by
  rw [View.ld_apply]
  congr 1
  funext a
  apply Fin.ext
  match a with
  | ⟨0, _⟩ => rfl
  | ⟨1, _⟩ => show 3072 + 1 * e.val = 3072 + e.val; omega

theorem ldV3 (x : Vec Ideal S4x512x1024 .bf16) (k : Fin 512) (e : Fin 1024) : View.ld x r0_19 (ix3 0 k e) = x (ix3 3 k e) := by
  rw [View.ld_apply]
  congr 1
  funext a
  apply Fin.ext
  match a with
  | ⟨0, _⟩ => rfl
  | ⟨1, _⟩ => show 0 + 1 * k.val = k.val; omega
  | ⟨2, _⟩ => show 0 + 1 * e.val = e.val; omega

theorem out_row (x0 : Vec Ideal S1x256x1024 .f32) (x1 : Vec Ideal S1x1x6x1024 .f32) (x2 : Vec Ideal S1x256x512 .bf16) (x3 : Vec Ideal S1x256x512 .bf16) (x4 : Vec Ideal S256x512 .f32) (x5 : Vec Ideal S256x512 .f32) (x6 : Vec Ideal S256x512 .f32) (x7 : Vec Ideal S1x256x512 .f32) (x8 : Vec Ideal S1x256x512 .f32) (x9 : Vec Ideal S1x256x512 .f32) (x10 : Vec Ideal S1x512 .f32) (x11 : Vec Ideal S512x1024 .bf16) (x12 : Vec Ideal S1x1024 .f32) (x13 : Vec Ideal S1x512 .f32) (x14 : Vec Ideal S1024x4096 .bf16) (x15 : Vec Ideal S1x4096 .f32) (x16 : Vec Ideal S4x512x1024 .bf16) (x17 : Vec Ideal S1024x1024 .bf16) (x18 : Vec Ideal S1x1024 .f32) (x19 : Vec Ideal S1x1024 .f32) (x20 : Vec Ideal S512x512 .bf16)
    (h : ∀ k e : Fin 512, x20 (ix2 k e) = if k.val / 128 = e.val / 128 then 1 else 0) (r : Fin 256) (e : Fin 1024) :
    (out0_21 x0 x1 x2 x3 x4 x5 x6 x7 x8 x9 x10 x11 x12 x13 x14 x15 x16 x17 x18 x19 x20 : FVec Ideal S256x1024 .f32) (ix2 r e)
      = row (wtsB x10 x11 x12 x13 x14 x15 x16 x17 x18 x19) (tokB x0 x1 x2 x3 x4 x5 x6 x7 x8 x9 r) e := by
  unfold_out out0_21
  rw [View.canon_cons_unit_lit _ _ _ (by decide)]
  rw [View.ld_unit_lit (Val := Elt Ideal) _ x0 (by decide), View.ld_unit_lit (Val := Elt Ideal) _ x1 (by decide),
    View.ld_unit_lit (Val := Elt Ideal) _ x2 (by decide),
    View.ld_unit_lit (Val := Elt Ideal) _ x3 (by decide),
    View.ld_unit_lit (Val := Elt Ideal) _ x4 (by decide),
    View.ld_unit_lit (Val := Elt Ideal) _ x5 (by decide),
    View.ld_unit_lit (Val := Elt Ideal) _ x6 (by decide),
    View.ld_unit_lit (Val := Elt Ideal) _ x7 (by decide),
    View.ld_unit_lit (Val := Elt Ideal) _ x8 (by decide),
    View.ld_unit_lit (Val := Elt Ideal) _ x9 (by decide),
    View.ld_unit_lit (Val := Elt Ideal) _ x10 (by decide),
    View.ld_unit_lit (Val := Elt Ideal) _ x11 (by decide),
    View.ld_unit_lit (Val := Elt Ideal) _ x12 (by decide),
    View.ld_unit_lit (Val := Elt Ideal) _ x13 (by decide),
    View.ld_unit_lit (Val := Elt Ideal) _ x17 (by decide),
    View.ld_unit_lit (Val := Elt Ideal) _ x18 (by decide),
    View.ld_unit_lit (Val := Elt Ideal) _ x19 (by decide),
    View.ld_unit_lit (Val := Elt Ideal) _ x20 (by decide)]
  have hd : ∀ q : Fin 256, ∀ k : Fin 512, k0_pay8 x7 x8 x20 (ix2 q k)
      = ∑ d : Fin 128, (x7 (ix3 0 q (inHead k d)) + x8 (ix3 0 q (inHead k d))) * (x7 (ix3 0 q (inHead k d)) + x8 (ix3 0 q (inHead k d))) := by
    intro q k
    rw [pay8_apply]
    simp only [h]
    exact head_sum (fun k => (x7 (ix3 0 q k) + x8 (ix3 0 q k)) * (x7 (ix3 0 q k) + x8 (ix3 0 q k))) k
  have one : (FloatOps.ofBits (F := Ideal) .f32 0x3F800000#32) = (1 : EReal) := by
    show Ideal.ofBits .f32 0x3F800000#32 = 1
    simp [Ideal.ofBits, Ideal.ieee]
    rw [← EReal.coe_mul]
    norm_num
  obtain ⟨G0, eG0, hG0⟩ : ∃ G : Vec Ideal S1024x1024 .bf16, View.ld x14 r0_8 = G ∧ ∀ k e : Fin 1024, G (ix2 k e) = x14 (ix2 k ⟨e, by omega⟩) := ⟨_, rfl, ldG0 x14⟩
  obtain ⟨B0, eB0, hB0⟩ : ∃ B : Vec Ideal S1x1024 .f32, View.ld x15 r0_9 = B ∧ ∀ e : Fin 1024, B (ix2 0 e) = x15 (ix2 0 ⟨e, by omega⟩) := ⟨_, rfl, ldB0 x15⟩
  obtain ⟨V0, eV0, hV0⟩ : ∃ V : Vec Ideal S1x512x1024 .bf16, View.ld x16 r0_10 = V ∧ ∀ (k : Fin 512) (e : Fin 1024), V (ix3 0 k e) = x16 (ix3 0 k e) := ⟨_, rfl, ldV0 x16⟩
  obtain ⟨G1, eG1, hG1⟩ : ∃ G : Vec Ideal S1024x1024 .bf16, View.ld x14 r0_11 = G ∧ ∀ k e : Fin 1024, G (ix2 k e) = x14 (ix2 k ⟨1024 + e, by omega⟩) := ⟨_, rfl, ldG1 x14⟩
  obtain ⟨B1, eB1, hB1⟩ : ∃ B : Vec Ideal S1x1024 .f32, View.ld x15 r0_12 = B ∧ ∀ e : Fin 1024, B (ix2 0 e) = x15 (ix2 0 ⟨1024 + e, by omega⟩) := ⟨_, rfl, ldB1 x15⟩
  obtain ⟨V1, eV1, hV1⟩ : ∃ V : Vec Ideal S1x512x1024 .bf16, View.ld x16 r0_13 = V ∧ ∀ (k : Fin 512) (e : Fin 1024), V (ix3 0 k e) = x16 (ix3 1 k e) := ⟨_, rfl, ldV1 x16⟩
  obtain ⟨G2, eG2, hG2⟩ : ∃ G : Vec Ideal S1024x1024 .bf16, View.ld x14 r0_14 = G ∧ ∀ k e : Fin 1024, G (ix2 k e) = x14 (ix2 k ⟨2048 + e, by omega⟩) := ⟨_, rfl, ldG2 x14⟩
  obtain ⟨B2, eB2, hB2⟩ : ∃ B : Vec Ideal S1x1024 .f32, View.ld x15 r0_15 = B ∧ ∀ e : Fin 1024, B (ix2 0 e) = x15 (ix2 0 ⟨2048 + e, by omega⟩) := ⟨_, rfl, ldB2 x15⟩
  obtain ⟨V2, eV2, hV2⟩ : ∃ V : Vec Ideal S1x512x1024 .bf16, View.ld x16 r0_16 = V ∧ ∀ (k : Fin 512) (e : Fin 1024), V (ix3 0 k e) = x16 (ix3 2 k e) := ⟨_, rfl, ldV2 x16⟩
  obtain ⟨G3, eG3, hG3⟩ : ∃ G : Vec Ideal S1024x1024 .bf16, View.ld x14 r0_17 = G ∧ ∀ k e : Fin 1024, G (ix2 k e) = x14 (ix2 k ⟨3072 + e, by omega⟩) := ⟨_, rfl, ldG3 x14⟩
  obtain ⟨B3, eB3, hB3⟩ : ∃ B : Vec Ideal S1x1024 .f32, View.ld x15 r0_18 = B ∧ ∀ e : Fin 1024, B (ix2 0 e) = x15 (ix2 0 ⟨3072 + e, by omega⟩) := ⟨_, rfl, ldB3 x15⟩
  obtain ⟨V3, eV3, hV3⟩ : ∃ V : Vec Ideal S1x512x1024 .bf16, View.ld x16 r0_19 = V ∧ ∀ (k : Fin 512) (e : Fin 1024), V (ix3 0 k e) = x16 (ix3 3 k e) := ⟨_, rfl, ldV3 x16⟩
  rw [eG0, eB0, eV0, eG1, eB1, eV1, eG2, eB2, eV2, eG3, eB3, eV3]
  rw [pay1_apply]
  unfold row
  congr 1
  funext k
  rw [pay17_apply]
  simp only [pay2_apply, pay3_apply, pay4_apply, pay5_apply, pay6_apply, pay7_apply, hd, pay9_apply, pay10_apply, pay11_apply, pay12_apply,
    pay13_apply, pay14_apply, pay15_apply, pay16_apply, over_len, one, hG0, hG1, hG2, hG3, hB0, hB1, hB2, hB3, hV0, hV1, hV2, hV3]
  rfl

end Cert.Kernel3Ideal.Merge

end
-- ==== Proof.Final3.lean ====
/- The merge kernel's result array: each grid point's block is the specification's rows, and the blocks cover the array. -/
module

public import proofs.«01_k».proof.Proof.Blocks3
public import proofs.«01_k».proof.Proof.Block3

@[expose] public section

set_option maxRecDepth 16384

noncomputable section

namespace Cert.Kernel3Ideal.Merge

open Idealize.ShloMosaic.StableHlo
open Cert.Kernel3Ideal Cert.Kernel3Ideal.Gen Idealize.ShloMosaic Idealize.ShloMosaic.TcCoe Cert.Merge

/-! ## From blocks to the arguments -/

theorem wts_eq (x10 : Vec Ideal S1x512 .f32) (x11 : Vec Ideal S512x1024 .bf16) (x12 : Vec Ideal S1x1024 .f32) (x13 : Vec Ideal S1x512 .f32) (x14 : Vec Ideal S1024x4096 .bf16) (x15 : Vec Ideal S1x4096 .f32) (x16 : Vec Ideal S4x512x1024 .bf16) (x17 : Vec Ideal S1024x1024 .bf16) (x18 : Vec Ideal S1x1024 .f32) (x19 : Vec Ideal S1x1024 .f32) (W : Wts)
    (h10 : ∀ e, x10 (ix2 0 e) = W.d e)
    (h11 : ∀ k e, x11 (ix2 k e) = W.wglu k e)
    (h12 : ∀ e, x12 (ix2 0 e) = W.bglu e)
    (h13 : ∀ e, x13 (ix2 0 e) = W.g e)
    (h14 : ∀ k e, x14 (ix2 k e) = W.wg k e)
    (h15 : ∀ e, x15 (ix2 0 e) = W.bg e)
    (h16 : ∀ p k e, x16 (ix3 p k e) = W.v p k e)
    (h17 : ∀ k e, x17 (ix2 k e) = W.wo k e)
    (h18 : ∀ e, x18 (ix2 0 e) = W.lg e)
    (h19 : ∀ e, x19 (ix2 0 e) = W.lb e) :
    wtsB x10 x11 x12 x13 x14 x15 x16 x17 x18 x19 = W := by
  unfold wtsB
  simp only [h10, h11, h12, h13, h14, h15, h16, h17, h18, h19]

theorem tok_eq (x0 : Vec Ideal S1x256x1024 .f32) (x1 : Vec Ideal S1x1x6x1024 .f32) (x2 : Vec Ideal S1x256x512 .bf16) (x3 : Vec Ideal S1x256x512 .bf16) (x4 : Vec Ideal S256x512 .f32) (x5 : Vec Ideal S256x512 .f32) (x6 : Vec Ideal S256x512 .f32) (x7 : Vec Ideal S1x256x512 .f32) (x8 : Vec Ideal S1x256x512 .f32) (x9 : Vec Ideal S1x256x512 .f32) (r : Fin 256) (T : Tok)
    (h0 : ∀ e, x0 (ix3 0 r e) = T.x e)
    (h2 : ∀ e, x2 (ix3 0 r e) = T.yd e)
    (h3 : ∀ e, x3 (ix3 0 r e) = T.yg e)
    (h4 : ∀ e, x4 (ix2 r e) = T.u e)
    (h5 : ∀ e, x5 (ix2 r e) = T.sf e)
    (h6 : ∀ e, x6 (ix2 r e) = T.sb e)
    (h7 : ∀ e, x7 (ix3 0 r e) = T.hf e)
    (h8 : ∀ e, x8 (ix3 0 r e) = T.hb e)
    (h9 : ∀ e, x9 (ix3 0 r e) = T.mo e)
    (h10 : ∀ e, x1 (ix4 0 0 0 e) = T.sh e)
    (h11 : ∀ e, x1 (ix4 0 0 1 e) = T.sc e)
    (h12 : ∀ e, x1 (ix4 0 0 2 e) = T.g1 e) :
    tokB x0 x1 x2 x3 x4 x5 x6 x7 x8 x9 r = T := by
  unfold tokB
  simp only [h0, h2, h3, h4, h5, h6, h7, h8, h9, h10, h11, h12]

variable (m : (ℓ : Loc nD τ sig) → Buf (Elt Ideal) ℓ) (c : Dev nD)

theorem mod_eq (t : Fin cfg0.N) (r : Fin 256) (p : Fin 6) (e : Fin 1024) (q : Fin 6144) (hq : q.val = 1024 * p.val + e.val) :
    (V m c main_v4 : Vec Ideal S4x2x6x1024 .f32) (ix4 (bt t) (mr t) p e) = modOf (data m c) (bt t) (sr t r) q := by
  rw [show q = ⟨p.val * 1024 + e.val, by omega⟩ from Fin.ext (by simp only []; omega)]
  rw [V4_eq]
  unfold modOf
  by_cases h : t.val % 33 = 0
  · rw [if_pos (show 256 * (t.val % 33) + r.val < 256 by omega), show mr t = 0 from Fin.ext (by simp only [h]; rfl), mods_ctx]
    rfl
  · rw [if_neg (show ¬ 256 * (t.val % 33) + r.val < 256 by omega), show mr t = 1 from Fin.ext (by simp only [h]; rfl), mods_lat]
    rfl

theorem tok_blocks (t : Fin cfg0.N) (r : Fin 256) :
    tokB (iblk m c 0 t) (iblk m c 1 t) (iblk m c 2 t) (iblk m c 3 t) (iblk m c 4 t) (iblk m c 5 t) (iblk m c 6 t) (iblk m c 7 t) (iblk m c 8 t) (iblk m c 9 t) r = tok (data m c) (bt t) (sr t r) :=
  tok_eq (iblk m c 0 t) (iblk m c 1 t) (iblk m c 2 t) (iblk m c 3 t) (iblk m c 4 t) (iblk m c 5 t) (iblk m c 6 t) (iblk m c 7 t) (iblk m c 8 t) (iblk m c 9 t) r _
    (fun e => (blk0 m c t r e).trans (congrFun (V_main_arg0 m c) _))
    (fun e => (blk2 m c t r e).trans (V5_at m c _ _ _))
    (fun e => (blk3 m c t r e).trans (V6_at m c _ _ _))
    (fun e => (blk4 m c t r e).trans ((congrFun (V8_eq m c) _).trans (flat_apply _ _ _ _)))
    (fun e => (blk5 m c t r e).trans ((congrFun (V10_eq m c) _).trans (flat_apply _ _ _ _)))
    (fun e => (blk6 m c t r e).trans ((congrFun (V12_eq m c) _).trans (flat_apply _ _ _ _)))
    (fun e => (blk7 m c t r e).trans (congrFun (V_main_arg8 m c) _))
    (fun e => (blk8 m c t r e).trans (congrFun (V_main_arg9 m c) _))
    (fun e => (blk9 m c t r e).trans (congrFun (V_main_arg10 m c) _))
    (fun e => (blk1 m c t 0 e).trans (mod_eq m c t r 0 e _ (by show e.val = 1024 * 0 + e.val; omega)))
    (fun e => (blk1 m c t 1 e).trans (mod_eq m c t r 1 e _ (by show 1024 + e.val = 1024 * 1 + e.val; omega)))
    (fun e => (blk1 m c t 2 e).trans (mod_eq m c t r 2 e _ (by show 2048 + e.val = 1024 * 2 + e.val; omega)))

theorem wts_blocks (t : Fin cfg0.N) :
    wtsB (iblk m c 10 t) (iblk m c 11 t) (iblk m c 12 t) (iblk m c 13 t) (iblk m c 14 t) (iblk m c 15 t) (iblk m c 16 t) (iblk m c 17 t) (iblk m c 18 t) (iblk m c 19 t) = (data m c).W :=
  wts_eq (iblk m c 10 t) (iblk m c 11 t) (iblk m c 12 t) (iblk m c 13 t) (iblk m c 14 t) (iblk m c 15 t) (iblk m c 16 t) (iblk m c 17 t) (iblk m c 18 t) (iblk m c 19 t) _
    (fun e => (blk10 m c t e).trans (V13_at m c _))
    (fun k e => (blk11 m c t k e).trans (V14_at m c _ _))
    (fun e => (blk12 m c t e).trans (V15_at m c _))
    (fun e => (blk13 m c t e).trans (V16_at m c _))
    (fun k e => (blk14 m c t k e).trans (V17_at m c _ _))
    (fun e => (blk15 m c t e).trans (V18_at m c _))
    (fun p k e => (blk16 m c t p k e).trans (V19_at m c _ _ _))
    (fun k e => (blk17 m c t k e).trans (V20_at m c _ _))
    (fun e => (blk18 m c t e).trans (V21_at m c _))
    (fun e => (blk19 m c t e).trans (V22_at m c _))

/-- Row `r` of what a point leaves is the specification's row there. -/
theorem point_row (t : Fin cfg0.N) (r : Fin 256) (e : Fin 1024) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) : FVec Ideal S256x1024 .f32) (ix2 r e)
      = row (data m c).W (tok (data m c) (bt t) (sr t r)) e := by
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    (fun k e => (blk20 m c t k e).trans ((congrFun (V28_eq m c) _).trans (diag_apply k e))) r e).trans ?_
  rw [tok_blocks, wts_blocks]

/-- The whole result, token by token. -/
def result (D : Data3) : S33792x1024.Idx → EReal :=
  fun i => row D.W (tok D ⟨(i 0).val / 8448, Nat.div_lt_of_lt_mul (i 0).isLt⟩ ⟨(i 0).val % 8448, Nat.mod_lt _ (by decide)⟩) (i 1)

/-- What point `t` writes back is the specification read through its block. -/
theorem flushed_spec (t : Fin cfg0.N) (hf : (cfg0.win 21).flush t = true) :
    (dats m 0 c).flushed 21 t = ((cfg0.win 21).blk t).view.read (Elt Ideal) (result (data m c) : Buf (Elt Ideal) ((c : Thread nD τ).loc main_v29)) := by
  obtain ⟨i0, i1⟩ := index21 t
  have hN := tN t
  rw [Value.flushed21]
  funext y
  change S256x1024.Idx at y
  idx_vars y
  refine (point_row m c t y0 y1).trans ?_
  rw [View.read_apply]
  have hr : ∀ {b b' : Fin 4} {s s' : Fin 8448} {e e' : Fin 1024}, b.val = b'.val → s.val = s'.val → e.val = e'.val →
      row (data m c).W (tok (data m c) b s) e = row (data m c).W (tok (data m c) b' s') e' := by
    intro b b' s s' e e' hb hs he
    obtain rfl := Fin.ext hb
    obtain rfl := Fin.ext hs
    obtain rfl := Fin.ext he
    rfl
  refine hr ?_ ?_ ?_
  · show t.val / 33 = (win0_21.index t 0 * 256 + 1 * y0.val) / 8448; omega
  · show 256 * (t.val % 33) + y0.val = (win0_21.index t 0 * 256 + 1 * y0.val) % 8448; omega
  · show y1.val = win0_21.index t 1 * 1024 + 1 * y1.val; omega

/-- The result array is the specification. -/
theorem final : (dats m 0 c).arrAt 21 cfg0.N = (result (data m c) : Buf (Elt Ideal) ((c : Thread nD τ).loc main_v29)) :=
  (dats m 0 c).arrAt_eq_of_cover 21 (result (data m c) : Buf (Elt Ideal) ((c : Thread nD τ).loc main_v29)) (flushed_spec m c) fun i => by
    have h0 : (i 0).val < 33792 := (i 0).isLt
    have h1 : (i 1).val < 1024 := (i 1).isLt
    have hN : cfg0.N = 132 := N_0
    let t : Fin cfg0.N := ⟨(i 0).val / 256, by omega⟩
    have ht : t.val = (i 0).val / 256 := rfl
    obtain ⟨i0, i1⟩ := index21 t
    refine ⟨t, flush0_21 t, ?_⟩
    show i ∈ ((View.whole main_v29).slice (win0_21.rect t)).set
    rw [View.set_slice_whole, Rect.mem_set_unit]
    intro a
    match a with
    | ⟨0, _⟩ => show win0_21.index t 0 * 256 ≤ (i 0 : Nat) ∧ (i 0 : Nat) < win0_21.index t 0 * 256 + 256; omega
    | ⟨1, _⟩ => show win0_21.index t 1 * 1024 ≤ (i 1 : Nat) ∧ (i 1 : Nat) < win0_21.index t 1 * 1024 + 1024; omega

end Cert.Kernel3Ideal.Merge

end
-- ==== Proof.Ref3Stages.lean ====
/- The merge's reference, its result in named stages. -/
module

public import proofs.«01_k».proof.Proof.Gen.Reference3Ideal.Run
public import proofs.«01_k».proof.Proof.Spec3

@[expose] public section

set_option maxRecDepth 16384

noncomputable section

namespace Cert.Reference3Ideal.Stages

open Cert.Reference3Ideal Cert.Reference3Ideal.Gen Idealize.ShloMosaic Idealize.ShloMosaic.TcCoe Idealize.ShloMosaic.StableHlo Cert.Merge

variable {F : FTy → Type} [FloatOps F]

/-- Each token's modulation. -/
def tokMod (mc : FVec F S6144 .f32) (ml : FVec F S4x6144 .f32) : FVec F S4x8448x6144 .f32 :=
  have v0 : FVec F S1x1x6144 .f32 := broadcastInDim S1x1x6144 ![2] bcast_S6144_S1x1x6144_2 mc
  have v1 : FVec F S4x256x6144 .f32 := broadcastInDim S4x256x6144 ![0, 1, 2] bcast_S1x1x6144_S4x256x6144_0_1_2 v0
  have v2 : FVec F S4x1x6144 .f32 := broadcastInDim S4x1x6144 ![0, 2] bcast_S4x6144_S4x1x6144_0_2 ml
  have v3 : FVec F S4x8192x6144 .f32 := broadcastInDim S4x8192x6144 ![0, 1, 2] bcast_S4x1x6144_S4x8192x6144_0_1_2 v2
  concatenate S4x8448x6144 1 [⟨S4x256x6144, v1⟩, ⟨S4x8192x6144, v3⟩] concatenates_S4x256x6144_S4x8192x6144_S4x8448x6144_d1

/-- The modulated tokens. -/
def xmA (x : FVec F S4x8448x1024 .f32) (d : FVec F S4x8448x6144 .f32) : FVec F S4x8448x1024 .f32 :=
  have cst : FVec F S_ .f32 := constant S_ .f32 0x00000000#32
  have v11 : FVec F S4x8448 .f32 := Host.reduceAdd x cst reducesTo_S4x8448x1024_S4x8448_d2 h_S_
  have v12 : FVec F S4x8448x1 .f32 := broadcastInDim S4x8448x1 ![0, 1] bcast_S4x8448_S4x8448x1_0_1 v11
  have cst_0 : FVec F S_ .f32 := constant S_ .f32 0x44800000#32
  have v13 : FVec F S4x8448x1 .f32 := broadcastInDim S4x8448x1 ![] bcast_S_S4x8448x1 cst_0
  have v14 : FVec F S4x8448x1 .f32 := Host.divf v12 v13
  have v15 : FVec F S4x8448x1024 .f32 := broadcastInDim S4x8448x1024 ![0, 1, 2] bcast_S4x8448x1_S4x8448x1024_0_1_2 v14
  have v16 : FVec F S4x8448x1024 .f32 := subf x v15
  have v17 : FVec F S4x8448x1024 .f32 := mulf v16 v16
  have cst_1 : FVec F S_ .f32 := constant S_ .f32 0x00000000#32
  have v18 : FVec F S4x8448 .f32 := Host.reduceAdd v17 cst_1 reducesTo_S4x8448x1024_S4x8448_d2 h_S_
  have v19 : FVec F S4x8448x1 .f32 := broadcastInDim S4x8448x1 ![0, 1] bcast_S4x8448_S4x8448x1_0_1 v18
  have cst_2 : FVec F S_ .f32 := constant S_ .f32 0x44800000#32
  have v20 : FVec F S4x8448x1 .f32 := broadcastInDim S4x8448x1 ![] bcast_S_S4x8448x1 cst_2
  have v21 : FVec F S4x8448x1 .f32 := Host.divf v19 v20
  have cst_3 : FVec F S_ .f32 := constant S_ .f32 0x358637BD#32
  have v22 : FVec F S4x8448x1 .f32 := broadcastInDim S4x8448x1 ![] bcast_S_S4x8448x1 cst_3
  have v23 : FVec F S4x8448x1 .f32 := addf v21 v22
  have v24 : FVec F S4x8448x1 .f32 := Host.rsqrt v23
  have v25 : FVec F S4x8448x1024 .f32 := broadcastInDim S4x8448x1024 ![0, 1, 2] bcast_S4x8448x1_S4x8448x1024_0_1_2 v24
  have v26 : FVec F S4x8448x1024 .f32 := mulf v16 v25
  have cst_4 : FVec F S_ .f32 := constant S_ .f32 0x3F800000#32
  have v27 : FVec F S4x8448x1024 .f32 := broadcastInDim S4x8448x1024 ![] bcast_S_S4x8448x1024 cst_4
  have v6 : FVec F S4x8448x1024 .f32 := extractStridedSlice S4x8448x1024 ![0, 0, 1024] d slices_S4x8448x6144_S4x8448x1024_0_0_1024
  have v28 : FVec F S4x8448x1024 .f32 := addf v27 v6
  have v29 : FVec F S4x8448x1024 .f32 := mulf v26 v28
  have v5 : FVec F S4x8448x1024 .f32 := extractStridedSlice S4x8448x1024 ![0, 0, 0] d slices_S4x8448x6144_S4x8448x1024_0_0_0
  addf v29 v5

/-- The branches' gates. -/
def gateA (xn : FVec F S4x8448x1024 .f32) (w : FVec F S1024x4096 .f32) (b : FVec F S4096 .f32) : FVec F S4x8448x4096 .f32 :=
  have cst_15 : FVec F S_ .f32 := constant S_ .f32 0x3F800000#32
  have v89 : FVec F S4x8448x4096 .f32 := broadcastInDim S4x8448x4096 ![] bcast_S_S4x8448x4096 cst_15
  have cst_14 : FVec F S_ .f32 := constant S_ .f32 0x3F800000#32
  have v87 : FVec F S4x8448x4096 .f32 := broadcastInDim S4x8448x4096 ![] bcast_S_S4x8448x4096 cst_14
  have v31 : FVec F S4x8448x4096 .f32 := Host.dotGeneral dot_S4x8448x1024_S1024x4096_S4x8448x4096_2_0_01_1_n_n none xn w
  have v82 : FVec F S1x1x4096 .f32 := broadcastInDim S1x1x4096 ![2] bcast_S4096_S1x1x4096_2 b
  have v83 : FVec F S4x8448x4096 .f32 := broadcastInDim S4x8448x4096 ![0, 1, 2] bcast_S1x1x4096_S4x8448x4096_0_1_2 v82
  have v84 : FVec F S4x8448x4096 .f32 := addf v31 v83
  have v85 : FVec F S4x8448x4096 .f32 := Host.negf v84
  have v86 : FVec F S4x8448x4096 .f32 := Host.exp v85
  have v88 : FVec F S4x8448x4096 .f32 := addf v87 v86
  Host.divf v89 v88

/-- The S5 mixer's gated linear unit before its gate. -/
def zA (u : FVec F S4x8448x512 .f32) (d : FVec F S512 .f32) (sf : FVec F S4x8448x512 .f32) (sb : FVec F S4x8448x512 .f32) (w : FVec F S512x1024 .f32) (b : FVec F S1024 .f32) : FVec F S4x8448x1024 .f32 :=
  have cst_5 : FVec F S_ .f32 := constant S_ .f32 0x3F000000#32
  have v37 : FVec F S4x8448x512 .f32 := broadcastInDim S4x8448x512 ![] bcast_S_S4x8448x512 cst_5
  have v32 : FVec F S1x1x512 .f32 := broadcastInDim S1x1x512 ![2] bcast_S512_S1x1x512_2 d
  have v33 : FVec F S4x8448x512 .f32 := broadcastInDim S4x8448x512 ![0, 1, 2] bcast_S1x1x512_S4x8448x512_0_1_2 v32
  have v34 : FVec F S4x8448x512 .f32 := mulf u v33
  have v35 : FVec F S4x8448x512 .f32 := addf v34 sf
  have v36 : FVec F S4x8448x512 .f32 := addf v35 sb
  have v38 : FVec F S4x8448x512 .f32 := mulf v37 v36
  have v39 : FVec F S4x8448x512 .f32 := Host.negf v36
  have cst_6 : FVec F S_ .f32 := constant S_ .f32 0x3F3504F3#32
  have v40 : FVec F S4x8448x512 .f32 := broadcastInDim S4x8448x512 ![] bcast_S_S4x8448x512 cst_6
  have v41 : FVec F S4x8448x512 .f32 := mulf v39 v40
  have v42 : FVec F S4x8448x512 .f32 := Host.erfc v41
  have v43 : FVec F S4x8448x512 .f32 := mulf v38 v42
  have v44 : FVec F S4x8448x1024 .f32 := Host.dotGeneral dot_S4x8448x512_S512x1024_S4x8448x1024_2_0_01_1_n_n none v43 w
  have v45 : FVec F S1x1x1024 .f32 := broadcastInDim S1x1x1024 ![2] bcast_S1024_S1x1x1024_2 b
  have v46 : FVec F S4x8448x1024 .f32 := broadcastInDim S4x8448x1024 ![0, 1, 2] bcast_S1x1x1024_S4x8448x1024_0_1_2 v45
  addf v44 v46

/-- The S5 mixer's output. -/
def ysA (z : FVec F S4x8448x1024 .f32) : FVec F S4x8448x512 .f32 :=
  have v48 : FVec F S4x8448x512 .f32 := extractStridedSlice S4x8448x512 ![0, 0, 0] z slices_S4x8448x1024_S4x8448x512_0_0_0
  have cst_8 : FVec F S_ .f32 := constant S_ .f32 0x3F800000#32
  have v54 : FVec F S4x8448x512 .f32 := broadcastInDim S4x8448x512 ![] bcast_S_S4x8448x512 cst_8
  have cst_7 : FVec F S_ .f32 := constant S_ .f32 0x3F800000#32
  have v52 : FVec F S4x8448x512 .f32 := broadcastInDim S4x8448x512 ![] bcast_S_S4x8448x512 cst_7
  have v49 : FVec F S4x8448x512 .f32 := extractStridedSlice S4x8448x512 ![0, 0, 512] z slices_S4x8448x1024_S4x8448x512_0_0_512
  have v50 : FVec F S4x8448x512 .f32 := Host.negf v49
  have v51 : FVec F S4x8448x512 .f32 := Host.exp v50
  have v53 : FVec F S4x8448x512 .f32 := addf v52 v51
  have v55 : FVec F S4x8448x512 .f32 := Host.divf v54 v53
  mulf v48 v55

/-- The mLSTM mixer's output. -/
def ymA (hf : FVec F S4x8448x512 .f32) (hb : FVec F S4x8448x512 .f32) (g : FVec F S512 .f32) (mo : FVec F S4x8448x512 .f32) : FVec F S4x8448x512 .f32 :=
  have v57 : FVec F S4x8448x512 .f32 := addf hf hb
  have v58 : FVec F S4x8448x4x128 .f32 := shapeCast S4x8448x4x128 v57 shapeCasts_S4x8448x512_S4x8448x4x128
  have v60 : FVec F S4x8448x4x128 .f32 := mulf v58 v58
  have cst_9 : FVec F S_ .f32 := constant S_ .f32 0x00000000#32
  have v61 : FVec F S4x8448x4 .f32 := Host.reduceAdd v60 cst_9 reducesTo_S4x8448x4x128_S4x8448x4_d3 h_S_
  have v62 : FVec F S4x8448x4x1 .f32 := broadcastInDim S4x8448x4x1 ![0, 1, 2] bcast_S4x8448x4_S4x8448x4x1_0_1_2 v61
  have cst_10 : FVec F S_ .f32 := constant S_ .f32 0x43000000#32
  have v63 : FVec F S4x8448x4x1 .f32 := broadcastInDim S4x8448x4x1 ![] bcast_S_S4x8448x4x1 cst_10
  have v64 : FVec F S4x8448x4x1 .f32 := Host.divf v62 v63
  have cst_11 : FVec F S_ .f32 := constant S_ .f32 0x358637BD#32
  have v65 : FVec F S4x8448x4x1 .f32 := broadcastInDim S4x8448x4x1 ![] bcast_S_S4x8448x4x1 cst_11
  have v66 : FVec F S4x8448x4x1 .f32 := addf v64 v65
  have v67 : FVec F S4x8448x4x1 .f32 := Host.rsqrt v66
  have v68 : FVec F S4x8448x4x128 .f32 := broadcastInDim S4x8448x4x128 ![0, 1, 2, 3] bcast_S4x8448x4x1_S4x8448x4x128_0_1_2_3 v67
  have v69 : FVec F S4x8448x4x128 .f32 := mulf v58 v68
  have v59 : FVec F S4x128 .f32 := shapeCast S4x128 g shapeCasts_S512_S4x128
  have v70 : FVec F S1x1x4x128 .f32 := broadcastInDim S1x1x4x128 ![2, 3] bcast_S4x128_S1x1x4x128_2_3 v59
  have v71 : FVec F S4x8448x4x128 .f32 := broadcastInDim S4x8448x4x128 ![0, 1, 2, 3] bcast_S1x1x4x128_S4x8448x4x128_0_1_2_3 v70
  have v72 : FVec F S4x8448x4x128 .f32 := mulf v69 v71
  have cst_13 : FVec F S_ .f32 := constant S_ .f32 0x3F800000#32
  have v77 : FVec F S4x8448x512 .f32 := broadcastInDim S4x8448x512 ![] bcast_S_S4x8448x512 cst_13
  have cst_12 : FVec F S_ .f32 := constant S_ .f32 0x3F800000#32
  have v75 : FVec F S4x8448x512 .f32 := broadcastInDim S4x8448x512 ![] bcast_S_S4x8448x512 cst_12
  have v73 : FVec F S4x8448x512 .f32 := Host.negf mo
  have v74 : FVec F S4x8448x512 .f32 := Host.exp v73
  have v76 : FVec F S4x8448x512 .f32 := addf v75 v74
  have v78 : FVec F S4x8448x512 .f32 := Host.divf v77 v76
  have v79 : FVec F S4x8448x4x128 .f32 := shapeCast S4x8448x4x128 v78 shapeCasts_S4x8448x512_S4x8448x4x128
  have v80 : FVec F S4x8448x4x128 .f32 := mulf v72 v79
  shapeCast S4x8448x512 v80 shapeCasts_S4x8448x4x128_S4x8448x512

/-- The gated sum of the branches' projections. -/
def mrgA (g : FVec F S4x8448x4096 .f32) (y0 : FVec F S4x8448x512 .f32) (y1 : FVec F S4x8448x512 .f32) (y2 : FVec F S4x8448x512 .f32) (y3 : FVec F S4x8448x512 .f32) (v : FVec F S4x512x1024 .f32) : FVec F S4x8448x1024 .f32 :=
  have v91 : FVec F S4x8448x1024 .f32 := extractStridedSlice S4x8448x1024 ![0, 0, 0] g slices_S4x8448x4096_S4x8448x1024_0_0_0
  have v95 : FVec F S1x512x1024 .f32 := extractStridedSlice S1x512x1024 ![0, 0, 0] v slices_S4x512x1024_S1x512x1024_0_0_0
  have v96 : FVec F S512x1024 .f32 := shapeCast S512x1024 v95 shapeCasts_S1x512x1024_S512x1024
  have v97 : FVec F S4x8448x1024 .f32 := Host.dotGeneral dot_S4x8448x512_S512x1024_S4x8448x1024_2_0_01_1_n_n none y0 v96
  have v98 : FVec F S4x8448x1024 .f32 := mulf v91 v97
  have v92 : FVec F S4x8448x1024 .f32 := extractStridedSlice S4x8448x1024 ![0, 0, 1024] g slices_S4x8448x4096_S4x8448x1024_0_0_1024
  have v99 : FVec F S1x512x1024 .f32 := extractStridedSlice S1x512x1024 ![1, 0, 0] v slices_S4x512x1024_S1x512x1024_1_0_0
  have v100 : FVec F S512x1024 .f32 := shapeCast S512x1024 v99 shapeCasts_S1x512x1024_S512x1024
  have v101 : FVec F S4x8448x1024 .f32 := Host.dotGeneral dot_S4x8448x512_S512x1024_S4x8448x1024_2_0_01_1_n_n none y1 v100
  have v102 : FVec F S4x8448x1024 .f32 := mulf v92 v101
  have v103 : FVec F S4x8448x1024 .f32 := addf v98 v102
  have v93 : FVec F S4x8448x1024 .f32 := extractStridedSlice S4x8448x1024 ![0, 0, 2048] g slices_S4x8448x4096_S4x8448x1024_0_0_2048
  have v104 : FVec F S1x512x1024 .f32 := extractStridedSlice S1x512x1024 ![2, 0, 0] v slices_S4x512x1024_S1x512x1024_2_0_0
  have v105 : FVec F S512x1024 .f32 := shapeCast S512x1024 v104 shapeCasts_S1x512x1024_S512x1024
  have v106 : FVec F S4x8448x1024 .f32 := Host.dotGeneral dot_S4x8448x512_S512x1024_S4x8448x1024_2_0_01_1_n_n none y2 v105
  have v107 : FVec F S4x8448x1024 .f32 := mulf v93 v106
  have v108 : FVec F S4x8448x1024 .f32 := addf v103 v107
  have v94 : FVec F S4x8448x1024 .f32 := extractStridedSlice S4x8448x1024 ![0, 0, 3072] g slices_S4x8448x4096_S4x8448x1024_0_0_3072
  have v109 : FVec F S1x512x1024 .f32 := extractStridedSlice S1x512x1024 ![3, 0, 0] v slices_S4x512x1024_S1x512x1024_3_0_0
  have v110 : FVec F S512x1024 .f32 := shapeCast S512x1024 v109 shapeCasts_S1x512x1024_S512x1024
  have v111 : FVec F S4x8448x1024 .f32 := Host.dotGeneral dot_S4x8448x512_S512x1024_S4x8448x1024_2_0_01_1_n_n none y3 v110
  have v112 : FVec F S4x8448x1024 .f32 := mulf v94 v111
  addf v108 v112

/-- The residual and the merged tokens. -/
def resA (x : FVec F S4x8448x1024 .f32) (d : FVec F S4x8448x6144 .f32) (t : FVec F S4x8448x1024 .f32) (w : FVec F S1024x1024 .f32) : FVec F S4x8448x1024 .f32 :=
  have cst_16 : FVec F S_ .f32 := constant S_ .f32 0x3FB504F3#32
  have v115 : FVec F S4x8448x1024 .f32 := broadcastInDim S4x8448x1024 ![] bcast_S_S4x8448x1024 cst_16
  have v116 : FVec F S4x8448x1024 .f32 := mulf v115 x
  have v7 : FVec F S4x8448x1024 .f32 := extractStridedSlice S4x8448x1024 ![0, 0, 2048] d slices_S4x8448x6144_S4x8448x1024_0_0_2048
  have v114 : FVec F S4x8448x1024 .f32 := Host.dotGeneral dot_S4x8448x1024_S1024x1024_S4x8448x1024_2_0_01_1_n_n none t w
  have v117 : FVec F S4x8448x1024 .f32 := mulf v7 v114
  addf v116 v117

/-- The result. -/
def outA (x : FVec F S4x8448x1024 .f32) (g : FVec F S1024 .f32) (b : FVec F S1024 .f32) : FVec F S33792x1024 .f32 :=
  have cst_17 : FVec F S_ .f32 := constant S_ .f32 0x00000000#32
  have v119 : FVec F S4x8448 .f32 := Host.reduceAdd x cst_17 reducesTo_S4x8448x1024_S4x8448_d2 h_S_
  have v120 : FVec F S4x8448x1 .f32 := broadcastInDim S4x8448x1 ![0, 1] bcast_S4x8448_S4x8448x1_0_1 v119
  have cst_18 : FVec F S_ .f32 := constant S_ .f32 0x44800000#32
  have v121 : FVec F S4x8448x1 .f32 := broadcastInDim S4x8448x1 ![] bcast_S_S4x8448x1 cst_18
  have v122 : FVec F S4x8448x1 .f32 := Host.divf v120 v121
  have v123 : FVec F S4x8448x1024 .f32 := broadcastInDim S4x8448x1024 ![0, 1, 2] bcast_S4x8448x1_S4x8448x1024_0_1_2 v122
  have v124 : FVec F S4x8448x1024 .f32 := subf x v123
  have v125 : FVec F S4x8448x1024 .f32 := mulf v124 v124
  have cst_19 : FVec F S_ .f32 := constant S_ .f32 0x00000000#32
  have v126 : FVec F S4x8448 .f32 := Host.reduceAdd v125 cst_19 reducesTo_S4x8448x1024_S4x8448_d2 h_S_
  have v127 : FVec F S4x8448x1 .f32 := broadcastInDim S4x8448x1 ![0, 1] bcast_S4x8448_S4x8448x1_0_1 v126
  have cst_20 : FVec F S_ .f32 := constant S_ .f32 0x44800000#32
  have v128 : FVec F S4x8448x1 .f32 := broadcastInDim S4x8448x1 ![] bcast_S_S4x8448x1 cst_20
  have v129 : FVec F S4x8448x1 .f32 := Host.divf v127 v128
  have cst_21 : FVec F S_ .f32 := constant S_ .f32 0x358637BD#32
  have v130 : FVec F S4x8448x1 .f32 := broadcastInDim S4x8448x1 ![] bcast_S_S4x8448x1 cst_21
  have v131 : FVec F S4x8448x1 .f32 := addf v129 v130
  have v132 : FVec F S4x8448x1 .f32 := Host.rsqrt v131
  have v133 : FVec F S4x8448x1024 .f32 := broadcastInDim S4x8448x1024 ![0, 1, 2] bcast_S4x8448x1_S4x8448x1024_0_1_2 v132
  have v134 : FVec F S4x8448x1024 .f32 := mulf v124 v133
  have v135 : FVec F S1x1x1024 .f32 := broadcastInDim S1x1x1024 ![2] bcast_S1024_S1x1x1024_2 g
  have v136 : FVec F S4x8448x1024 .f32 := broadcastInDim S4x8448x1024 ![0, 1, 2] bcast_S1x1x1024_S4x8448x1024_0_1_2 v135
  have v137 : FVec F S4x8448x1024 .f32 := mulf v134 v136
  have v138 : FVec F S1x1x1024 .f32 := broadcastInDim S1x1x1024 ![2] bcast_S1024_S1x1x1024_2 b
  have v139 : FVec F S4x8448x1024 .f32 := broadcastInDim S4x8448x1024 ![0, 1, 2] bcast_S1x1x1024_S4x8448x1024_0_1_2 v138
  have v140 : FVec F S4x8448x1024 .f32 := addf v137 v139
  shapeCast S33792x1024 v140 shapeCasts_S4x8448x1024_S33792x1024

/-- The reference's result is these stages, one after another. -/
theorem res_eq (m : (ℓ : Loc nD τ sig) → Buf (Elt F) ℓ) (c : Dev nD) :
    ((shapeCast S33792x1024 (addf (mulf (mulf (Value.res_main_v124 (launchContents m c)) (broadcastInDim S4x8448x1024 ![0, 1, 2] bcast_S4x8448x1_S4x8448x1024_0_1_2 (Host.rsqrt (addf (Host.divf (broadcastInDim S4x8448x1 ![0, 1] bcast_S4x8448_S4x8448x1_0_1 (Host.reduceAdd (mulf (Value.res_main_v124 (launchContents m c)) (Value.res_main_v124 (launchContents m c))) (constant S_ .f32 0x00000000#32) reducesTo_S4x8448x1024_S4x8448_d2 h_S_)) (broadcastInDim S4x8448x1 ![] bcast_S_S4x8448x1 (constant S_ .f32 0x44800000#32))) (broadcastInDim S4x8448x1 ![] bcast_S_S4x8448x1 (constant S_ .f32 0x358637BD#32)))))) (broadcastInDim S4x8448x1024 ![0, 1, 2] bcast_S1x1x1024_S4x8448x1024_0_1_2 (broadcastInDim S1x1x1024 ![2] bcast_S1024_S1x1x1024_2 ((launchContents m c) (Proc.devRef .tc main_arg19))))) (broadcastInDim S4x8448x1024 ![0, 1, 2] bcast_S1x1x1024_S4x8448x1024_0_1_2 (broadcastInDim S1x1x1024 ![2] bcast_S1024_S1x1x1024_2 ((launchContents m c) (Proc.devRef .tc main_arg20))))) shapeCasts_S4x8448x1024_S33792x1024) : FVec F S33792x1024 .f32)
      = (have d := tokMod (m ((c.tc : Thread nD τ).loc main_arg1)) (m ((c.tc : Thread nD τ).loc main_arg2))
         outA (resA (m ((c.tc : Thread nD τ).loc main_arg0)) d (mrgA (gateA (xmA (m ((c.tc : Thread nD τ).loc main_arg0)) d) (m ((c.tc : Thread nD τ).loc main_arg15)) (m ((c.tc : Thread nD τ).loc main_arg16))) (m ((c.tc : Thread nD τ).loc main_arg3))
           (ysA (zA (m ((c.tc : Thread nD τ).loc main_arg5)) (m ((c.tc : Thread nD τ).loc main_arg11)) (m ((c.tc : Thread nD τ).loc main_arg6)) (m ((c.tc : Thread nD τ).loc main_arg7)) (m ((c.tc : Thread nD τ).loc main_arg12)) (m ((c.tc : Thread nD τ).loc main_arg13))))
           (ymA (m ((c.tc : Thread nD τ).loc main_arg8)) (m ((c.tc : Thread nD τ).loc main_arg9)) (m ((c.tc : Thread nD τ).loc main_arg14)) (m ((c.tc : Thread nD τ).loc main_arg10))) (m ((c.tc : Thread nD τ).loc main_arg4)) (m ((c.tc : Thread nD τ).loc main_arg17))) (m ((c.tc : Thread nD τ).loc main_arg18))) (m ((c.tc : Thread nD τ).loc main_arg19)) (m ((c.tc : Thread nD τ).loc main_arg20))) := rfl

end Cert.Reference3Ideal.Stages

end
-- ==== Proof.Ref3At.lean ====
/- The stages of the merge's reference at an index. -/
module

public import proofs.«01_k».proof.Proof.Ref3Stages

@[expose] public section

set_option maxRecDepth 16384

noncomputable section

namespace Cert.Reference3Ideal.Stages

open Cert.Reference3Ideal Cert.Reference3Ideal.Gen Idealize.ShloMosaic Idealize.ShloMosaic.TcCoe Idealize.ShloMosaic.StableHlo Cert.Merge

theorem tok_ctx (mc : FVec Ideal S6144 .f32) (ml : FVec Ideal S4x6144 .f32) (b : Fin 4) (s : Fin 256) (e : Fin 6144) :
    tokMod mc ml (ix3 b ⟨s, by omega⟩ e) = mc (ix1 e) := by
  pointwise [tokMod]

theorem tok_lat (mc : FVec Ideal S6144 .f32) (ml : FVec Ideal S4x6144 .f32) (b : Fin 4) (s : Fin 8192) (e : Fin 6144) :
    tokMod mc ml (ix3 b ⟨256 + s, by omega⟩ e) = ml (ix2 b e) := by
  pointwise [tokMod]

theorem xmA_apply (x : FVec Ideal S4x8448x1024 .f32) (d : FVec Ideal S4x8448x6144 .f32) (b : Fin 4) (s : Fin 8448) (e : Fin 1024) :
    xmA x d (ix3 b s e) = xm (fun k => x (ix3 b s k)) (fun k => d (ix3 b s ⟨k, by omega⟩)) (fun k => d (ix3 b s ⟨1024 + k, by omega⟩)) e := by
  pointwise [xmA, xm, lnorm, mu]

theorem gateA_apply (x : FVec Ideal S4x8448x1024 .f32) (w : FVec Ideal S1024x4096 .f32) (a : FVec Ideal S4096 .f32) (b : Fin 4) (s : Fin 8448) (e : Fin 4096) :
    gateA x w a (ix3 b s e) = lgst (dot (fun k => x (ix3 b s k)) (fun k => w (ix2 k e)) + a (ix1 e)) := by
  pointwise [gateA, lgst, dot]

theorem zA_apply (u : FVec Ideal S4x8448x512 .f32) (d : FVec Ideal S512 .f32) (sf sb : FVec Ideal S4x8448x512 .f32) (w : FVec Ideal S512x1024 .f32) (a : FVec Ideal S1024 .f32)
    (b : Fin 4) (s : Fin 8448) (e : Fin 1024) :
    zA u d sf sb w a (ix3 b s e) = z (fun k => u (ix3 b s k)) (fun k => d (ix1 k)) (fun k => sf (ix3 b s k)) (fun k => sb (ix3 b s k))
      (fun k c => w (ix2 k c)) (fun c => a (ix1 c)) e := by
  pointwise [zA, z, gelu, dot, Ideal.erf_def, Ideal.hostUnary_erfc_def, Ideal.erfc_neg, neg_mul]

theorem ysA_apply (x : FVec Ideal S4x8448x1024 .f32) (b : Fin 4) (s : Fin 8448) (e : Fin 512) :
    ysA x (ix3 b s e) = ys (fun k => x (ix3 b s k)) e := by
  pointwise [ysA, ys, lgst]

theorem ymA_apply (hf hb : FVec Ideal S4x8448x512 .f32) (g : FVec Ideal S512 .f32) (mo : FVec Ideal S4x8448x512 .f32) (b : Fin 4) (s : Fin 8448) (e : Fin 512) :
    ymA hf hb g mo (ix3 b s e) = ym (fun k => hf (ix3 b s k)) (fun k => hb (ix3 b s k)) (fun k => g (ix1 k)) (fun k => mo (ix3 b s k)) e := by
  pointwise [ymA, ym, lgst]

theorem mrgA_apply (g : FVec Ideal S4x8448x4096 .f32) (y0 y1 y2 y3 : FVec Ideal S4x8448x512 .f32) (v : FVec Ideal S4x512x1024 .f32) (b : Fin 4) (s : Fin 8448) (e : Fin 1024) :
    mrgA g y0 y1 y2 y3 v (ix3 b s e)
      = g (ix3 b s ⟨e, by omega⟩) * dot (fun k => y0 (ix3 b s k)) (fun k => v (ix3 0 k e))
        + g (ix3 b s ⟨1024 + e, by omega⟩) * dot (fun k => y1 (ix3 b s k)) (fun k => v (ix3 1 k e))
        + g (ix3 b s ⟨2048 + e, by omega⟩) * dot (fun k => y2 (ix3 b s k)) (fun k => v (ix3 2 k e))
        + g (ix3 b s ⟨3072 + e, by omega⟩) * dot (fun k => y3 (ix3 b s k)) (fun k => v (ix3 3 k e)) := by
  pointwise [mrgA, dot]

theorem resA_apply (x : FVec Ideal S4x8448x1024 .f32) (d : FVec Ideal S4x8448x6144 .f32) (t : FVec Ideal S4x8448x1024 .f32) (w : FVec Ideal S1024x1024 .f32) (b : Fin 4) (s : Fin 8448) (e : Fin 1024) :
    resA x d t w (ix3 b s e) = resid (x (ix3 b s e)) (d (ix3 b s ⟨2048 + e, by omega⟩)) (dot (fun k => t (ix3 b s k)) (fun k => w (ix2 k e))) := by
  pointwise [resA, resid, dot]

theorem outA_apply (x : FVec Ideal S4x8448x1024 .f32) (g a : FVec Ideal S1024 .f32) (b : Fin 4) (s : Fin 8448) (e : Fin 1024) :
    outA x g a (ix2 ⟨8448 * b + s, by omega⟩ e) = out (fun k => x (ix3 b s k)) (fun k => g (ix1 k)) (fun k => a (ix1 k)) e := by
  pointwise [outA, out, lnorm, mu]

end Cert.Reference3Ideal.Stages

end
-- ==== Proof.Ref3Final.lean ====
/- The merge reference's result, row by row: the specification's rows. -/
module

public import proofs.«01_k».proof.Proof.Ref3At

@[expose] public section

set_option maxRecDepth 16384

noncomputable section

namespace Cert.Reference3Ideal.Stages

open Cert.Reference3Ideal Cert.Reference3Ideal.Gen Idealize.ShloMosaic Idealize.ShloMosaic.TcCoe Idealize.ShloMosaic.StableHlo Cert.Merge

variable (m : (ℓ : Loc nD τ sig) → Buf (Elt Ideal) ℓ) (c : Dev nD)

/-- The arguments on core `c`. -/
def data : Data3 :=
  { h := fun b s e => (m ((c.tc : Thread nD τ).loc main_arg0) : FVec Ideal S4x8448x1024 .f32) (ix3 b s e)
    mc := fun e => (m ((c.tc : Thread nD τ).loc main_arg1) : FVec Ideal S6144 .f32) (ix1 e)
    ml := fun b e => (m ((c.tc : Thread nD τ).loc main_arg2) : FVec Ideal S4x6144 .f32) (ix2 b e)
    yd := fun b s e => (m ((c.tc : Thread nD τ).loc main_arg3) : FVec Ideal S4x8448x512 .f32) (ix3 b s e)
    yg := fun b s e => (m ((c.tc : Thread nD τ).loc main_arg4) : FVec Ideal S4x8448x512 .f32) (ix3 b s e)
    u := fun b s e => (m ((c.tc : Thread nD τ).loc main_arg5) : FVec Ideal S4x8448x512 .f32) (ix3 b s e)
    sf := fun b s e => (m ((c.tc : Thread nD τ).loc main_arg6) : FVec Ideal S4x8448x512 .f32) (ix3 b s e)
    sb := fun b s e => (m ((c.tc : Thread nD τ).loc main_arg7) : FVec Ideal S4x8448x512 .f32) (ix3 b s e)
    hf := fun b s e => (m ((c.tc : Thread nD τ).loc main_arg8) : FVec Ideal S4x8448x512 .f32) (ix3 b s e)
    hb := fun b s e => (m ((c.tc : Thread nD τ).loc main_arg9) : FVec Ideal S4x8448x512 .f32) (ix3 b s e)
    mo := fun b s e => (m ((c.tc : Thread nD τ).loc main_arg10) : FVec Ideal S4x8448x512 .f32) (ix3 b s e)
    W :=
      { d := fun e => (m ((c.tc : Thread nD τ).loc main_arg11) : FVec Ideal S512 .f32) (ix1 e)
        wglu := fun k e => (m ((c.tc : Thread nD τ).loc main_arg12) : FVec Ideal S512x1024 .f32) (ix2 k e)
        bglu := fun e => (m ((c.tc : Thread nD τ).loc main_arg13) : FVec Ideal S1024 .f32) (ix1 e)
        g := fun e => (m ((c.tc : Thread nD τ).loc main_arg14) : FVec Ideal S512 .f32) (ix1 e)
        wg := fun k e => (m ((c.tc : Thread nD τ).loc main_arg15) : FVec Ideal S1024x4096 .f32) (ix2 k e)
        bg := fun e => (m ((c.tc : Thread nD τ).loc main_arg16) : FVec Ideal S4096 .f32) (ix1 e)
        v := fun p k e => (m ((c.tc : Thread nD τ).loc main_arg17) : FVec Ideal S4x512x1024 .f32) (ix3 p k e)
        wo := fun k e => (m ((c.tc : Thread nD τ).loc main_arg18) : FVec Ideal S1024x1024 .f32) (ix2 k e)
        lg := fun e => (m ((c.tc : Thread nD τ).loc main_arg19) : FVec Ideal S1024 .f32) (ix1 e)
        lb := fun e => (m ((c.tc : Thread nD τ).loc main_arg20) : FVec Ideal S1024 .f32) (ix1 e) } }

theorem tok_mod (b : Fin 4) (s : Fin 8448) (e : Fin 6144) : (tokMod (m ((c.tc : Thread nD τ).loc main_arg1)) (m ((c.tc : Thread nD τ).loc main_arg2)) : FVec Ideal S4x8448x6144 .f32) (ix3 b s e) = modOf (data m c) b s e := by
  unfold modOf
  by_cases h : s.val < 256
  · rw [if_pos h]
    exact tok_ctx _ _ b ⟨s.val, h⟩ e
  · rw [if_neg h, show s = ⟨256 + (⟨s.val - 256, by omega⟩ : Fin 8192).val, by simp only []; omega⟩ from Fin.ext (by simp only []; omega)]
    exact tok_lat _ _ b ⟨s.val - 256, by omega⟩ e

/-- The reference's result on core `c`, by its stages. -/
def staged : FVec Ideal S33792x1024 .f32 :=
  have d := tokMod (m ((c.tc : Thread nD τ).loc main_arg1)) (m ((c.tc : Thread nD τ).loc main_arg2))
  outA (resA (m ((c.tc : Thread nD τ).loc main_arg0)) d (mrgA (gateA (xmA (m ((c.tc : Thread nD τ).loc main_arg0)) d) (m ((c.tc : Thread nD τ).loc main_arg15)) (m ((c.tc : Thread nD τ).loc main_arg16))) (m ((c.tc : Thread nD τ).loc main_arg3))
    (ysA (zA (m ((c.tc : Thread nD τ).loc main_arg5)) (m ((c.tc : Thread nD τ).loc main_arg11)) (m ((c.tc : Thread nD τ).loc main_arg6)) (m ((c.tc : Thread nD τ).loc main_arg7)) (m ((c.tc : Thread nD τ).loc main_arg12)) (m ((c.tc : Thread nD τ).loc main_arg13))))
    (ymA (m ((c.tc : Thread nD τ).loc main_arg8)) (m ((c.tc : Thread nD τ).loc main_arg9)) (m ((c.tc : Thread nD τ).loc main_arg14)) (m ((c.tc : Thread nD τ).loc main_arg10))) (m ((c.tc : Thread nD τ).loc main_arg4)) (m ((c.tc : Thread nD τ).loc main_arg17))) (m ((c.tc : Thread nD τ).loc main_arg18))) (m ((c.tc : Thread nD τ).loc main_arg19)) (m ((c.tc : Thread nD τ).loc main_arg20))

/-- One row of it. -/
theorem ref_row (b : Fin 4) (s : Fin 8448) (e : Fin 1024) :
    staged m c (ix2 ⟨8448 * b + s, by omega⟩ e) = row (data m c).W (tok (data m c) b s) e := by
  obtain ⟨d, hd, hdm⟩ : ∃ d : FVec Ideal S4x8448x6144 .f32, (tokMod (m ((c.tc : Thread nD τ).loc main_arg1)) (m ((c.tc : Thread nD τ).loc main_arg2)) : FVec Ideal S4x8448x6144 .f32) = d ∧ ∀ b s e, d (ix3 b s e) = modOf (data m c) b s e :=
    ⟨_, rfl, tok_mod m c⟩
  unfold staged
  rw [hd]
  simp only [outA_apply, resA_apply, mrgA_apply, gateA_apply, xmA_apply, ysA_apply, zA_apply, ymA_apply, hdm]
  rfl

end Cert.Reference3Ideal.Stages

end
-- ==== Proof.Algebra3.lean ====
/- The merge: kernel and reference end with the same result on all inputs. -/
module

public import proofs.«01_k».proof.Defs
public import proofs.«01_k».proof.Proof.Final3
public import proofs.«01_k».proof.Proof.Ref3Final
public import Idealize.ShloMosaic.Lib.Claim

@[expose] public section

set_option maxRecDepth 16384

noncomputable section

namespace Cert.Proof

open Idealize.ShloMosaic Idealize.SL.Sem Cert.Merge

/-- Both programs end with the specification's array. -/
theorem algebraic3 : Cert.algebraic_Kernel3Ideal_Reference3Ideal := by
  have key : ∀ (m : (ℓ : Loc Kernel3Ideal.nD Kernel3Ideal.τ Kernel3Ideal.sig) → Buf (Elt Ideal) ℓ)
      (m' : (ℓ : Loc Reference3Ideal.nD Reference3Ideal.τ Reference3Ideal.sig) → Buf (Elt Ideal) ℓ),
      ∀ c : Dev Kernel3Ideal.nD,
      (m' ((c.tc : Thread Reference3Ideal.nD Reference3Ideal.τ).loc Reference3Ideal.main_arg0) = m ((c.tc : Thread Kernel3Ideal.nD Kernel3Ideal.τ).loc Kernel3Ideal.main_arg0)
      ∧ m' ((c.tc : Thread Reference3Ideal.nD Reference3Ideal.τ).loc Reference3Ideal.main_arg1) = m ((c.tc : Thread Kernel3Ideal.nD Kernel3Ideal.τ).loc Kernel3Ideal.main_arg1)
      ∧ m' ((c.tc : Thread Reference3Ideal.nD Reference3Ideal.τ).loc Reference3Ideal.main_arg2) = m ((c.tc : Thread Kernel3Ideal.nD Kernel3Ideal.τ).loc Kernel3Ideal.main_arg2)
      ∧ m' ((c.tc : Thread Reference3Ideal.nD Reference3Ideal.τ).loc Reference3Ideal.main_arg3) = m ((c.tc : Thread Kernel3Ideal.nD Kernel3Ideal.τ).loc Kernel3Ideal.main_arg3)
      ∧ m' ((c.tc : Thread Reference3Ideal.nD Reference3Ideal.τ).loc Reference3Ideal.main_arg4) = m ((c.tc : Thread Kernel3Ideal.nD Kernel3Ideal.τ).loc Kernel3Ideal.main_arg4)
      ∧ m' ((c.tc : Thread Reference3Ideal.nD Reference3Ideal.τ).loc Reference3Ideal.main_arg5) = m ((c.tc : Thread Kernel3Ideal.nD Kernel3Ideal.τ).loc Kernel3Ideal.main_arg5)
      ∧ m' ((c.tc : Thread Reference3Ideal.nD Reference3Ideal.τ).loc Reference3Ideal.main_arg6) = m ((c.tc : Thread Kernel3Ideal.nD Kernel3Ideal.τ).loc Kernel3Ideal.main_arg6)
      ∧ m' ((c.tc : Thread Reference3Ideal.nD Reference3Ideal.τ).loc Reference3Ideal.main_arg7) = m ((c.tc : Thread Kernel3Ideal.nD Kernel3Ideal.τ).loc Kernel3Ideal.main_arg7)
      ∧ m' ((c.tc : Thread Reference3Ideal.nD Reference3Ideal.τ).loc Reference3Ideal.main_arg8) = m ((c.tc : Thread Kernel3Ideal.nD Kernel3Ideal.τ).loc Kernel3Ideal.main_arg8)
      ∧ m' ((c.tc : Thread Reference3Ideal.nD Reference3Ideal.τ).loc Reference3Ideal.main_arg9) = m ((c.tc : Thread Kernel3Ideal.nD Kernel3Ideal.τ).loc Kernel3Ideal.main_arg9)
      ∧ m' ((c.tc : Thread Reference3Ideal.nD Reference3Ideal.τ).loc Reference3Ideal.main_arg10) = m ((c.tc : Thread Kernel3Ideal.nD Kernel3Ideal.τ).loc Kernel3Ideal.main_arg10)
      ∧ m' ((c.tc : Thread Reference3Ideal.nD Reference3Ideal.τ).loc Reference3Ideal.main_arg11) = m ((c.tc : Thread Kernel3Ideal.nD Kernel3Ideal.τ).loc Kernel3Ideal.main_arg11)
      ∧ m' ((c.tc : Thread Reference3Ideal.nD Reference3Ideal.τ).loc Reference3Ideal.main_arg12) = m ((c.tc : Thread Kernel3Ideal.nD Kernel3Ideal.τ).loc Kernel3Ideal.main_arg12)
      ∧ m' ((c.tc : Thread Reference3Ideal.nD Reference3Ideal.τ).loc Reference3Ideal.main_arg13) = m ((c.tc : Thread Kernel3Ideal.nD Kernel3Ideal.τ).loc Kernel3Ideal.main_arg13)
      ∧ m' ((c.tc : Thread Reference3Ideal.nD Reference3Ideal.τ).loc Reference3Ideal.main_arg14) = m ((c.tc : Thread Kernel3Ideal.nD Kernel3Ideal.τ).loc Kernel3Ideal.main_arg14)
      ∧ m' ((c.tc : Thread Reference3Ideal.nD Reference3Ideal.τ).loc Reference3Ideal.main_arg15) = m ((c.tc : Thread Kernel3Ideal.nD Kernel3Ideal.τ).loc Kernel3Ideal.main_arg15)
      ∧ m' ((c.tc : Thread Reference3Ideal.nD Reference3Ideal.τ).loc Reference3Ideal.main_arg16) = m ((c.tc : Thread Kernel3Ideal.nD Kernel3Ideal.τ).loc Kernel3Ideal.main_arg16)
      ∧ m' ((c.tc : Thread Reference3Ideal.nD Reference3Ideal.τ).loc Reference3Ideal.main_arg17) = m ((c.tc : Thread Kernel3Ideal.nD Kernel3Ideal.τ).loc Kernel3Ideal.main_arg17)
      ∧ m' ((c.tc : Thread Reference3Ideal.nD Reference3Ideal.τ).loc Reference3Ideal.main_arg18) = m ((c.tc : Thread Kernel3Ideal.nD Kernel3Ideal.τ).loc Kernel3Ideal.main_arg18)
      ∧ m' ((c.tc : Thread Reference3Ideal.nD Reference3Ideal.τ).loc Reference3Ideal.main_arg19) = m ((c.tc : Thread Kernel3Ideal.nD Kernel3Ideal.τ).loc Kernel3Ideal.main_arg19)
      ∧ m' ((c.tc : Thread Reference3Ideal.nD Reference3Ideal.τ).loc Reference3Ideal.main_arg20) = m ((c.tc : Thread Kernel3Ideal.nD Kernel3Ideal.τ).loc Kernel3Ideal.main_arg20)) →
      (Reference3Ideal.Stages.staged m' c : Reference3Ideal.S33792x1024.Idx → EReal) = (Kernel3Ideal.Gen.dats m 0 c).arrAt 21 Kernel3Ideal.cfg0.N := by
    intro m m' c ⟨e0, e1, e2, e3, e4, e5, e6, e7, e8, e9, e10, e11, e12, e13, e14, e15, e16, e17, e18, e19, e20⟩
    have hd : Reference3Ideal.Stages.data m' c = Kernel3Ideal.Merge.data m c := by
      unfold Reference3Ideal.Stages.data Kernel3Ideal.Merge.data
      rw [e0, e1, e2, e3, e4, e5, e6, e7, e8, e9, e10, e11, e12, e13, e14, e15, e16, e17, e18, e19, e20]
    rw [Kernel3Ideal.Merge.final, ← hd]
    funext i
    idx_vars i
    have h0 : i0.val < 33792 := i0.isLt
    have hi : i0 = ⟨8448 * (⟨i0.val / 8448, by omega⟩ : Fin 4).val + (⟨i0.val % 8448, by omega⟩ : Fin 8448).val, by simp only []; omega⟩ :=
      Fin.ext (by simp only []; omega)
    exact (congrArg (fun x => Reference3Ideal.Stages.staged m' c (ix2 x i1)) hi).trans
      (Reference3Ideal.Stages.ref_row m' c ⟨i0.val / 8448, by omega⟩ ⟨i0.val % 8448, by omega⟩ i1)
  pair_intro
  · run_from (Kernel3Ideal.Value.run_blocks m g)
  · run_from (Reference3Ideal.Value.run m' g')
    rw [← (hagree _).2.2.2.2.2.2.2.2.2.2.2.2.2.2.2.2.2.2.2.1, ← (hagree _).2.2.2.2.2.2.2.2.2.2.2.2.2.2.2.2.2.2.2.2]
    exact (Reference3Ideal.Stages.res_eq m' _).trans (key m m' _ (hagree _))

end Cert.Proof

end
-- ==== Proof.Spec4.lean ====
/- The input projection of the S5 and mLSTM mixers, as functions of the arguments over the extended reals. -/
module

public import proofs.«01_k».proof.Proof.Spec3

@[expose] public section

set_option maxRecDepth 16384

noncomputable section

namespace Cert.Seq

open Idealize.ShloMosaic Cert.Merge

/-- All the arguments, as functions of their positions. -/
structure Data4 where
  h : Fin 4 → Fin 8448 → Fin 1024 → EReal
  mc : Fin 6144 → EReal
  ml : Fin 4 → Fin 6144 → EReal
  w : Fin 1024 → Fin 8976 → EReal
  gb : Fin 16 → EReal

/-- A token's modulation: the context's for the first 256 tokens, its batch's after them. -/
def mod4 (D : Data4) (b : Fin 4) (s : Fin 8448) (k : Fin 6144) : EReal := if s.val < 256 then D.mc k else D.ml b k

/-- The modulated row of token `s` of batch `b`. -/
def tokX (D : Data4) (b : Fin 4) (s : Fin 8448) : Fin 1024 → EReal :=
  xm (D.h b s) (fun k => mod4 D b s ⟨k, by omega⟩) (fun k => mod4 D b s ⟨1024 + k, by omega⟩)

/-- Column `j` of a token's projection. -/
def proj (D : Data4) (b : Fin 4) (s : Fin 8448) (j : Fin 8976) : EReal := dot (tokX D b s) (fun k => D.w k j)

/-- The S5 mixer's input: tokens down the rows, batches along the lanes. -/
def resU (D : Data4) (s : Fin 8448) (e : Fin 2048) : EReal :=
  proj D ⟨e.val / 512, by omega⟩ s ⟨1536 + e.val % 512, by omega⟩
/-- The mLSTM mixer's queries beside its keys. -/
def resQK (D : Data4) (b : Fin 4) (s : Fin 8448) (e : Fin 1024) : EReal := proj D b s ⟨2048 + e.val, by omega⟩
/-- The mLSTM mixer's values. -/
def resV (D : Data4) (b : Fin 4) (s : Fin 8448) (e : Fin 512) : EReal := proj D b s ⟨3072 + e.val, by omega⟩
/-- The mLSTM mixer's output gate before its logistic function. -/
def resO (D : Data4) (b : Fin 4) (s : Fin 8448) (e : Fin 512) : EReal := proj D b s ⟨3584 + e.val, by omega⟩
/-- The mLSTM mixer's gates, in the first 16 lanes, and zeros. -/
def resG (D : Data4) (b : Fin 4) (s : Fin 8448) (e : Fin 128) : EReal :=
  if h : e.val < 16 then proj D b s ⟨4096 + e.val, by omega⟩ + D.gb ⟨e.val, h⟩ else 0

end Cert.Seq

end
-- ==== Proof.Inputs4.lean ====
/- What the projection kernel's windows read: the host's arrays at an index, from the arguments. -/
module

public import proofs.«01_k».proof.Proof.Gen.Kernel4Ideal.Value
public import proofs.«01_k».proof.Proof.Spec4
public import Idealize.ShloMosaic.Lib.Pointwise
public import Idealize.ShloMosaic.Lib.StableHlo.ReadAt
public import Idealize.ShloMosaic.Lib.StableHlo.RunClose

@[expose] public section

set_option maxRecDepth 16384

noncomputable section

namespace Cert.Kernel4Ideal.Seq

open Idealize.ShloMosaic.StableHlo
open Cert.Kernel4Ideal Cert.Kernel4Ideal.Gen Idealize.ShloMosaic Idealize.ShloMosaic.TcCoe Cert.Merge Cert.Seq

variable (m : (ℓ : Loc nD τ sig) → Buf (Elt Ideal) ℓ) (c : Dev nD)

/-- The arguments on core `c`. -/
def data : Data4 :=
  { h := fun b s e => (m ((c : Thread nD τ).loc main_arg0) : Vec Ideal S4x8448x1024 .f32) (ix3 b s e)
    mc := fun e => (m ((c : Thread nD τ).loc main_arg1) : Vec Ideal S6144 .f32) (ix1 e)
    ml := fun b e => (m ((c : Thread nD τ).loc main_arg2) : Vec Ideal S4x6144 .f32) (ix2 b e)
    w := fun k e => (m ((c : Thread nD τ).loc main_arg3) : Vec Ideal S1024x8976 .f32) (ix2 k e)
    gb := fun e => (m ((c : Thread nD τ).loc main_arg4) : Vec Ideal S16 .f32) (ix1 e) }

/-- The context's modulation above each batch's. -/
def mods (a : FVec Ideal S6144 .f32) (b : FVec Ideal S4x6144 .f32) : FVec Ideal S4x2x6x1024 .f32 :=
  shapeCast S4x2x6x1024 (concatenate S4x2x6144 1 [⟨S4x1x6144, (broadcastInDim S4x1x6144 ![0, 2] bcast_S4x6144_S4x1x6144_0_2 (broadcastInDim S4x6144 ![1] bcast_S6144_S4x6144_1 a : FVec Ideal S4x6144 .f32) : FVec Ideal S4x1x6144 .f32)⟩,
    ⟨S4x1x6144, (broadcastInDim S4x1x6144 ![0, 2] bcast_S4x6144_S4x1x6144_0_2 b : FVec Ideal S4x1x6144 .f32)⟩] concatenates_S4x1x6144_S4x1x6144_S4x2x6144_d1) shapeCasts_S4x2x6144_S4x2x6x1024

/-- The weights' columns of the two mixers, and zeros to a whole number of lanes. -/
def wb (a : FVec Ideal S1024x8976 .f32) : FVec Ideal S1024x2688 .bf16 :=
  truncf .bf16 (concatenate S1024x2688 1 [⟨S1024x512, (extractStridedSlice S1024x512 ![0, 1536] a slices_S1024x8976_S1024x512_0_1536 : FVec Ideal S1024x512 .f32)⟩,
    ⟨S1024x512, (extractStridedSlice S1024x512 ![0, 2048] a slices_S1024x8976_S1024x512_0_2048 : FVec Ideal S1024x512 .f32)⟩,
    ⟨S1024x512, (extractStridedSlice S1024x512 ![0, 2560] a slices_S1024x8976_S1024x512_0_2560 : FVec Ideal S1024x512 .f32)⟩,
    ⟨S1024x512, (extractStridedSlice S1024x512 ![0, 3072] a slices_S1024x8976_S1024x512_0_3072 : FVec Ideal S1024x512 .f32)⟩,
    ⟨S1024x512, (extractStridedSlice S1024x512 ![0, 3584] a slices_S1024x8976_S1024x512_0_3584 : FVec Ideal S1024x512 .f32)⟩,
    ⟨S1024x16, (extractStridedSlice S1024x16 ![0, 4096] a slices_S1024x8976_S1024x16_0_4096 : FVec Ideal S1024x16 .f32)⟩,
    ⟨S1024x112, (broadcastInDim S1024x112 ![] bcast_S_S1024x112 (constant S_ .f32 0x00000000#32) : FVec Ideal S1024x112 .f32)⟩] concatenates_S1024x512_S1024x512_S1024x512_S1024x512_S1024x512_S1024x16_S1024x112_S1024x2688_d1 : FVec Ideal S1024x2688 .f32) bitsLt_bf16_f32

/-- The gates' bias, and zeros to a whole number of lanes. -/
def gbB (a : FVec Ideal S16 .f32) : FVec Ideal S1x128 .f32 :=
  broadcastInDim S1x128 ![1] bcast_S128_S1x128_1 (concatenate S128 0 [⟨S16, a⟩, ⟨S112, (broadcastInDim S112 ![] bcast_S_S112 (constant S_ .f32 0x00000000#32) : FVec Ideal S112 .f32)⟩] concatenates_S16_S112_S128_d0 : FVec Ideal S128 .f32)

theorem mods_ctx (a : FVec Ideal S6144 .f32) (b : FVec Ideal S4x6144 .f32) (q : Fin 4) (p : Fin 6) (e : Fin 1024) :
    mods a b (ix4 q 0 p e) = a (ix1 ⟨p * 1024 + e, by omega⟩) := by
  pointwise [mods]

theorem mods_lat (a : FVec Ideal S6144 .f32) (b : FVec Ideal S4x6144 .f32) (q : Fin 4) (p : Fin 6) (e : Fin 1024) :
    mods a b (ix4 q 1 p e) = b (ix2 q ⟨p * 1024 + e, by omega⟩) := by
  pointwise [mods]

theorem wb_0 (a : FVec Ideal S1024x8976 .f32) (k : Fin 1024) (e : Fin 512) : wb a (ix2 k ⟨e, by omega⟩) = a (ix2 k ⟨1536 + e, by omega⟩) := by
  pointwise [wb]

theorem wb_1 (a : FVec Ideal S1024x8976 .f32) (k : Fin 1024) (e : Fin 512) : wb a (ix2 k ⟨512 + e, by omega⟩) = a (ix2 k ⟨2048 + e, by omega⟩) := by
  pointwise [wb]

theorem wb_2 (a : FVec Ideal S1024x8976 .f32) (k : Fin 1024) (e : Fin 512) : wb a (ix2 k ⟨1024 + e, by omega⟩) = a (ix2 k ⟨2560 + e, by omega⟩) := by
  pointwise [wb]
  rw [dif_neg (by omega), dif_neg (by omega), dif_pos (by omega)]
  exact congrArg a (congrArg (ix2 k) (Fin.ext (by simp only []; omega)))

theorem wb_3 (a : FVec Ideal S1024x8976 .f32) (k : Fin 1024) (e : Fin 512) : wb a (ix2 k ⟨1536 + e, by omega⟩) = a (ix2 k ⟨3072 + e, by omega⟩) := by
  pointwise [wb]
  rw [dif_neg (by omega), dif_neg (by omega), dif_neg (by omega), dif_pos (by omega)]
  exact congrArg a (congrArg (ix2 k) (Fin.ext (by simp only []; omega)))

theorem wb_4 (a : FVec Ideal S1024x8976 .f32) (k : Fin 1024) (e : Fin 512) : wb a (ix2 k ⟨2048 + e, by omega⟩) = a (ix2 k ⟨3584 + e, by omega⟩) := by
  pointwise [wb]
  rw [dif_neg (by omega), dif_neg (by omega), dif_neg (by omega), dif_neg (by omega), dif_pos (by omega)]
  exact congrArg a (congrArg (ix2 k) (Fin.ext (by simp only []; omega)))

theorem wb_5 (a : FVec Ideal S1024x8976 .f32) (k : Fin 1024) (e : Fin 16) : wb a (ix2 k ⟨2560 + e, by omega⟩) = a (ix2 k ⟨4096 + e, by omega⟩) := by
  pointwise [wb]
  rw [dif_neg (by omega), dif_neg (by omega), dif_neg (by omega), dif_neg (by omega), dif_neg (by omega), dif_pos (by omega)]
  exact congrArg a (congrArg (ix2 k) (Fin.ext (by simp only []; omega)))

theorem wb_6 (a : FVec Ideal S1024x8976 .f32) (k : Fin 1024) (e : Fin 112) : wb a (ix2 k ⟨2576 + e, by omega⟩) = 0 := by
  pointwise [wb]
  rw [dif_neg (by omega), dif_neg (by omega), dif_neg (by omega), dif_neg (by omega), dif_neg (by omega), dif_neg (by omega)]

theorem gbB_lo (a : FVec Ideal S16 .f32) (e : Fin 16) : gbB a (ix2 0 ⟨e, by omega⟩) = a (ix1 e) := by
  pointwise [gbB]

theorem gbB_hi (a : FVec Ideal S16 .f32) (e : Fin 112) : gbB a (ix2 0 ⟨16 + e, by omega⟩) = 0 := by
  pointwise [gbB]

/-- Every column of the weights before the zeros is the argument's, 1536 columns on. -/
theorem wb_at (a : FVec Ideal S1024x8976 .f32) (k : Fin 1024) (j : Fin 2688) (q : Fin 8976) (hj : j.val < 2576) (hq : q.val = 1536 + j.val) :
    wb a (ix2 k j) = a (ix2 k q) := by
  have key : ∀ {p : Fin 2688} {q' : Fin 8976}, j = p → q' = q → wb a (ix2 k p) = a (ix2 k q') → wb a (ix2 k j) = a (ix2 k q) := by
    intro p q' h h' h''
    rw [h, ← h']
    exact h''
  by_cases h0 : j.val < 512
  · exact key (Fin.ext (by simp only []; omega)) (Fin.ext (by simp only []; omega)) (wb_0 a k ⟨j.val - 0, by omega⟩)
  by_cases h1 : j.val < 1024
  · exact key (Fin.ext (by simp only []; omega)) (Fin.ext (by simp only []; omega)) (wb_1 a k ⟨j.val - 512, by omega⟩)
  by_cases h2 : j.val < 1536
  · exact key (Fin.ext (by simp only []; omega)) (Fin.ext (by simp only []; omega)) (wb_2 a k ⟨j.val - 1024, by omega⟩)
  by_cases h3 : j.val < 2048
  · exact key (Fin.ext (by simp only []; omega)) (Fin.ext (by simp only []; omega)) (wb_3 a k ⟨j.val - 1536, by omega⟩)
  by_cases h4 : j.val < 2560
  · exact key (Fin.ext (by simp only []; omega)) (Fin.ext (by simp only []; omega)) (wb_4 a k ⟨j.val - 2048, by omega⟩)
  by_cases h5 : j.val < 2576
  · exact key (Fin.ext (by simp only []; omega)) (Fin.ext (by simp only []; omega)) (wb_5 a k ⟨j.val - 2560, by omega⟩)
  omega

/-- The rest are zeros. -/
theorem wb_zero (a : FVec Ideal S1024x8976 .f32) (k : Fin 1024) (j : Fin 2688) (hj : 2576 ≤ j.val) : wb a (ix2 k j) = 0 := by
  rw [show j = ⟨2576 + (⟨j.val - 2576, by omega⟩ : Fin 112).val, by simp only []; omega⟩ from Fin.ext (by simp only []; omega)]
  exact wb_6 a k _

theorem V4_eq : (V m c main_v4 : Vec Ideal S4x2x6x1024 .f32) = mods (m ((c : Thread nD τ).loc main_arg1)) (m ((c : Thread nD τ).loc main_arg2)) := by
  unfold V
  after_results_entrywise (rounds := 1) []

theorem V13_eq : (V m c main_v13 : Vec Ideal S1024x2688 .bf16) = wb (m ((c : Thread nD τ).loc main_arg3)) := by
  unfold V
  after_results_entrywise (rounds := 1) []

theorem V16_eq : (V m c main_v16 : Vec Ideal S1x128 .f32) = gbB (m ((c : Thread nD τ).loc main_arg4)) := by
  unfold V
  after_results_entrywise (rounds := 1) []

end Cert.Kernel4Ideal.Seq

end
-- ==== Proof.Blocks4.lean ====
/- The blocks the projection kernel's windows read, as slices of the host's arrays. -/
module

public import proofs.«01_k».proof.Proof.Inputs4

@[expose] public section

set_option maxRecDepth 16384

noncomputable section

namespace Cert.Kernel4Ideal.Seq

open Idealize.ShloMosaic.StableHlo
open Cert.Kernel4Ideal Cert.Kernel4Ideal.Gen Idealize.ShloMosaic Idealize.ShloMosaic.TcCoe Cert.Merge Cert.Seq

/-! ## Which block each grid point works on: batch `t / 33`, tile of rows `t % 33` -/

theorem tN (t : Fin cfg0.N) : t.val < 132 := lt_of_lt_of_eq t.isLt N_0
theorem tb (t : Fin cfg0.N) : t.val / 33 < 4 := by
  have h := tN t
  omega

/-- The batch of a point. -/
abbrev bt (t : Fin cfg0.N) : Fin 4 := ⟨t.val / 33, tb t⟩
/-- The token of row `r` of a point's tile. -/
abbrev sr (t : Fin cfg0.N) (r : Fin 256) : Fin 8448 := ⟨256 * (t.val % 33) + r, by omega⟩
/-- The row of the modulations a point uses. -/
abbrev mr (t : Fin cfg0.N) : Fin 2 := ⟨if t.val % 33 = 0 then 0 else 1, by split <;> omega⟩

theorem index0 (t : Fin cfg0.N) : win0_0.index t 0 = t.val / 33 ∧ win0_0.index t 1 = t.val % 33 ∧ win0_0.index t 2 = 0 :=
  (by decide +kernel : ∀ t : Fin grid0.N, win0_0.index t 0 = t.val / 33 ∧ win0_0.index t 1 = t.val % 33 ∧ win0_0.index t 2 = 0) t
theorem index1 (t : Fin cfg0.N) : win0_1.index t 0 = t.val / 33 ∧ win0_1.index t 1 = (if t.val % 33 = 0 then 0 else 1) ∧ win0_1.index t 2 = 0 ∧ win0_1.index t 3 = 0 :=
  (by decide +kernel : ∀ t : Fin grid0.N, win0_1.index t 0 = t.val / 33 ∧ win0_1.index t 1 = (if t.val % 33 = 0 then 0 else 1) ∧ win0_1.index t 2 = 0 ∧ win0_1.index t 3 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = t.val % 33 ∧ win0_4.index t 1 = t.val / 33 :=
  (by decide +kernel : ∀ t : Fin grid0.N, win0_4.index t 0 = t.val % 33 ∧ win0_4.index t 1 = t.val / 33) t
theorem index5 (t : Fin cfg0.N) : win0_5.index t 0 = t.val / 33 ∧ win0_5.index t 1 = t.val % 33 ∧ win0_5.index t 2 = 0 :=
  (by decide +kernel : ∀ t : Fin grid0.N, win0_5.index t 0 = t.val / 33 ∧ win0_5.index t 1 = t.val % 33 ∧ win0_5.index t 2 = 0) t
theorem index6 (t : Fin cfg0.N) : win0_6.index t 0 = t.val / 33 ∧ win0_6.index t 1 = t.val % 33 ∧ win0_6.index t 2 = 0 :=
  (by decide +kernel : ∀ t : Fin grid0.N, win0_6.index t 0 = t.val / 33 ∧ win0_6.index t 1 = t.val % 33 ∧ win0_6.index t 2 = 0) t
theorem index7 (t : Fin cfg0.N) : win0_7.index t 0 = t.val / 33 ∧ win0_7.index t 1 = t.val % 33 ∧ win0_7.index t 2 = 0 :=
  (by decide +kernel : ∀ t : Fin grid0.N, win0_7.index t 0 = t.val / 33 ∧ win0_7.index t 1 = t.val % 33 ∧ win0_7.index t 2 = 0) t
theorem index8 (t : Fin cfg0.N) : win0_8.index t 0 = t.val / 33 ∧ win0_8.index t 1 = t.val % 33 ∧ win0_8.index t 2 = 0 :=
  (by decide +kernel : ∀ t : Fin grid0.N, win0_8.index t 0 = t.val / 33 ∧ win0_8.index t 1 = t.val % 33 ∧ win0_8.index t 2 = 0) t

variable (m : (ℓ : Loc nD τ sig) → Buf (Elt Ideal) ℓ) (c : Dev nD)

theorem blk0 (t : Fin cfg0.N) (i1 : Fin 256) (i2 : Fin 1024) :
    (iblk m c 0 t : Vec Ideal S1x256x1024 .f32) (ix3 0 i1 i2) = (V m c main_arg0 : Vec Ideal S4x8448x1024 .f32) (ix3 (bt t) (sr t i1) i2) := by
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val / 33; omega
  | ⟨1, _⟩ => show win0_0.index t 1 * 256 + 1 * i1.val = 256 * (t.val % 33) + i1.val; omega
  | ⟨2, _⟩ => show win0_0.index t 2 * 1024 + 1 * i2.val = i2.val; omega

theorem blk1 (t : Fin cfg0.N) (i2 : Fin 6) (i3 : Fin 1024) :
    (iblk m c 1 t : Vec Ideal S1x1x6x1024 .f32) (ix4 0 0 i2 i3) = (V m c main_v4 : Vec Ideal S4x2x6x1024 .f32) (ix4 (bt t) (mr t) i2 i3) := by
  obtain ⟨h0, h1, h2, h3⟩ := index1 t
  unfold iblk
  rw [View.read_apply]
  show V m c main_v4 _ = V m c main_v4 _
  congr 1
  funext a
  apply Fin.ext
  match a with
  | ⟨0, _⟩ => show win0_1.index t 0 * 1 + 1 * 0 = t.val / 33; omega
  | ⟨1, _⟩ => show win0_1.index t 1 * 1 + 1 * 0 = (if t.val % 33 = 0 then 0 else 1); omega
  | ⟨2, _⟩ => show win0_1.index t 2 * 6 + 1 * i2.val = i2.val; omega
  | ⟨3, _⟩ => show win0_1.index t 3 * 1024 + 1 * i3.val = i3.val; omega

theorem blk2 (t : Fin cfg0.N) (i0 : Fin 1024) (i1 : Fin 2688) :
    (iblk m c 2 t : Vec Ideal S1024x2688 .bf16) (ix2 i0 i1) = (V m c main_v13 : Vec Ideal S1024x2688 .bf16) (ix2 i0 i1) := by
  obtain ⟨h0, h1⟩ := index2 t
  unfold iblk
  rw [View.read_apply]
  show V m c main_v13 _ = V m c main_v13 _
  congr 1
  funext a
  apply Fin.ext
  match a with
  | ⟨0, _⟩ => show win0_2.index t 0 * 1024 + 1 * i0.val = i0.val; omega
  | ⟨1, _⟩ => show win0_2.index t 1 * 2688 + 1 * i1.val = i1.val; omega

theorem blk3 (t : Fin cfg0.N) (i1 : Fin 128) :
    (iblk m c 3 t : Vec Ideal S1x128 .f32) (ix2 0 i1) = (V m c main_v16 : Vec Ideal S1x128 .f32) (ix2 0 i1) := by
  obtain ⟨h0, h1⟩ := index3 t
  unfold iblk
  rw [View.read_apply]
  show V m c main_v16 _ = V m c main_v16 _
  congr 1
  funext a
  apply Fin.ext
  match a with
  | ⟨0, _⟩ => show win0_3.index t 0 * 1 + 1 * 0 = 0; omega
  | ⟨1, _⟩ => show win0_3.index t 1 * 128 + 1 * i1.val = i1.val; omega

theorem mod_eq (t : Fin cfg0.N) (r : Fin 256) (p : Fin 6) (e : Fin 1024) (q : Fin 6144) (hq : q.val = 1024 * p.val + e.val) :
    (V m c main_v4 : Vec Ideal S4x2x6x1024 .f32) (ix4 (bt t) (mr t) p e) = mod4 (data m c) (bt t) (sr t r) q := by
  rw [show q = ⟨p.val * 1024 + e.val, by omega⟩ from Fin.ext (by simp only []; omega)]
  rw [V4_eq]
  unfold mod4
  by_cases h : t.val % 33 = 0
  · rw [if_pos (show 256 * (t.val % 33) + r.val < 256 by omega), show mr t = 0 from Fin.ext (by simp only [h]; rfl), mods_ctx]
    rfl
  · rw [if_neg (show ¬ 256 * (t.val % 33) + r.val < 256 by omega), show mr t = 1 from Fin.ext (by simp only [h]; rfl), mods_lat]
    rfl

end Cert.Kernel4Ideal.Seq

end
-- ==== Proof.Block4.lean ====
/- The projection kernel's blocks, as functions of the blocks its windows read. -/
module

public import proofs.«01_k».proof.Proof.Gen.Kernel4Ideal.Frame
public import proofs.«01_k».proof.Proof.Spec4
public import Idealize.ShloMosaic.Lib.Pipeline.ValueKit.Basic
public import Idealize.ShloMosaic.Lib.Pipeline.ValueKit.Tiles

@[expose] public section

set_option maxRecDepth 16384

noncomputable section

namespace Cert.Kernel4Ideal.Seq

open Cert.Kernel4Ideal Cert.Kernel4Ideal.Gen Idealize.ShloMosaic Cert.Merge Cert.Seq

/-! ## The payloads at an index -/

theorem pay5_apply (d : Vec Ideal S1x1x6x1024 .f32) (x : Vec Ideal S1x256x1024 .f32) (r : Fin 256) (e : Fin 1024) :
    k0_pay5 d x (ix2 r e) = xm (fun k => x (ix3 0 r k)) (fun k => d (ix4 0 0 0 k)) (fun k => d (ix4 0 0 1 k)) e := by
  pointwise [k0_pay5, xm, lnorm, mu]

theorem pay6_apply (d : Vec Ideal S1x1x6x1024 .f32) (x : Vec Ideal S1x256x1024 .f32) (w : Vec Ideal S1024x512 .bf16) (r : Fin 256) (e : Fin 512) :
    k0_pay6 d x w (ix2 r e) = dot (fun k => k0_pay5 d x (ix2 r k)) (fun k => w (ix2 k e)) := by
  unfold k0_pay6
  generalize k0_pay5 d x = y
  pointwise [dot]

theorem pay7_apply (d : Vec Ideal S1x1x6x1024 .f32) (x : Vec Ideal S1x256x1024 .f32) (w : Vec Ideal S1024x1024 .bf16) (r : Fin 256) (e : Fin 1024) :
    k0_pay7 d x w (ix2 r e) = dot (fun k => k0_pay5 d x (ix2 r k)) (fun k => w (ix2 k e)) := by
  unfold k0_pay7
  generalize k0_pay5 d x = y
  pointwise [dot]

theorem pay1_apply (x : FVec Ideal S256x1024 .f32) (r : Fin 256) (e : Fin 1024) : k0_pay1 x (ix3 0 r e) = x (ix2 r e) := by
  pointwise [k0_pay1]

theorem pay2_apply (y : FVec Ideal S256x1024 .bf16) (w : Vec Ideal S1024x512 .bf16) (r : Fin 256) (e : Fin 512) :
    k0_pay2 y w (ix3 0 r e) = dot (fun k => y (ix2 r k)) (fun k => w (ix2 k e)) := by
  pointwise [k0_pay2, dot]

theorem pay3_apply (y : FVec Ideal S256x1024 .bf16) (w : Vec Ideal S1024x512 .bf16) (r : Fin 256) (e : Fin 512) :
    k0_pay3 y w (ix3 0 r e) = dot (fun k => y (ix2 r k)) (fun k => w (ix2 k e)) := by
  pointwise [k0_pay3, dot]

theorem pay4_apply (y : FVec Ideal S256x1024 .bf16) (w : Vec Ideal S1024x128 .bf16) (b : Vec Ideal S1x128 .f32) (r : Fin 256) (e : Fin 128) :
    k0_pay4 y w b (ix3 0 r e) = dot (fun k => y (ix2 r k)) (fun k => w (ix2 k e)) + b (ix2 0 e) := by
  pointwise [k0_pay4, dot]

/-! ## The weight columns each result reads -/

theorem ldU (x : Vec Ideal S1024x2688 .bf16) (k : Fin 1024) (e : Fin 512) : View.ld x r0_2 (ix2 k e) = x (ix2 k ⟨0 + e, by omega⟩) := by
  rw [View.ld_apply]
  congr 1
  funext a
  apply Fin.ext
  match a with
  | ⟨0, _⟩ => show 0 + 1 * k.val = k.val; omega
  | ⟨1, _⟩ => show 0 + 1 * e.val = 0 + e.val; omega

theorem ldQK (x : Vec Ideal S1024x2688 .bf16) (k : Fin 1024) (e : Fin 1024) : View.ld x r0_4 (ix2 k e) = x (ix2 k ⟨512 + e, by omega⟩) := by
  rw [View.ld_apply]
  congr 1
  funext a
  apply Fin.ext
  match a with
  | ⟨0, _⟩ => show 0 + 1 * k.val = k.val; omega
  | ⟨1, _⟩ => show 512 + 1 * e.val = 512 + e.val; omega

theorem ldV (x : Vec Ideal S1024x2688 .bf16) (k : Fin 1024) (e : Fin 512) : View.ld x r0_5 (ix2 k e) = x (ix2 k ⟨1536 + e, by omega⟩) := by
  rw [View.ld_apply]
  congr 1
  funext a
  apply Fin.ext
  match a with
  | ⟨0, _⟩ => show 0 + 1 * k.val = k.val; omega
  | ⟨1, _⟩ => show 1536 + 1 * e.val = 1536 + e.val; omega

theorem ldO (x : Vec Ideal S1024x2688 .bf16) (k : Fin 1024) (e : Fin 512) : View.ld x r0_7 (ix2 k e) = x (ix2 k ⟨2048 + e, by omega⟩) := by
  rw [View.ld_apply]
  congr 1
  funext a
  apply Fin.ext
  match a with
  | ⟨0, _⟩ => show 0 + 1 * k.val = k.val; omega
  | ⟨1, _⟩ => show 2048 + 1 * e.val = 2048 + e.val; omega

theorem ldG (x : Vec Ideal S1024x2688 .bf16) (k : Fin 1024) (e : Fin 128) : View.ld x r0_8 (ix2 k e) = x (ix2 k ⟨2560 + e, by omega⟩) := by
  rw [View.ld_apply]
  congr 1
  funext a
  apply Fin.ext
  match a with
  | ⟨0, _⟩ => show 0 + 1 * k.val = k.val; omega
  | ⟨1, _⟩ => show 2560 + 1 * e.val = 2560 + e.val; omega

/-! ## The five blocks a point leaves -/

/-- Row `r` of the modulated tokens. -/
def xmB (x0 : Vec Ideal S1x256x1024 .f32) (x1 : Vec Ideal S1x1x6x1024 .f32) (r : Fin 256) : Fin 1024 → EReal :=
  xm (fun k => x0 (ix3 0 r k)) (fun k => x1 (ix4 0 0 0 k)) (fun k => x1 (ix4 0 0 1 k))

theorem out4_row (x0 : Vec Ideal S1x256x1024 .f32) (x1 : Vec Ideal S1x1x6x1024 .f32) (x2 : Vec Ideal S1024x2688 .bf16) (x3 : Vec Ideal S1x128 .f32) (r : Fin 256) (e : Fin 512) :
    (out0_4 x0 x1 x2 x3 : FVec Ideal S256x512 .f32) (ix2 r e)
      = dot (xmB x0 x1 r) (fun k => x2 (ix2 k ⟨0 + e, by omega⟩)) := by
  unfold_out out0_4
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x512 .bf16, View.ld x2 r0_2 = G ∧ ∀ (k : Fin 1024) (e : Fin 512), G (ix2 k e) = x2 (ix2 k ⟨0 + e, by omega⟩) := ⟨_, rfl, ldU x2⟩
  rw [eG]
  simp only [pay6_apply, pay5_apply, hG]
  rfl

theorem out5_row (x0 : Vec Ideal S1x256x1024 .f32) (x1 : Vec Ideal S1x1x6x1024 .f32) (x2 : Vec Ideal S1024x2688 .bf16) (x3 : Vec Ideal S1x128 .f32) (r : Fin 256) (e : Fin 1024) :
    (out0_5 x0 x1 x2 x3 : FVec Ideal S1x256x1024 .f32) (ix3 0 r e)
      = dot (xmB x0 x1 r) (fun k => x2 (ix2 k ⟨512 + e, by omega⟩)) := by
  unfold_out out0_5
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x1024 .bf16, View.ld x2 r0_4 = G ∧ ∀ (k : Fin 1024) (e : Fin 1024), G (ix2 k e) = x2 (ix2 k ⟨512 + e, by omega⟩) := ⟨_, rfl, ldQK x2⟩
  rw [eG]
  simp only [pay1_apply, pay7_apply, pay5_apply, hG]
  rfl

theorem out6_row (x0 : Vec Ideal S1x256x1024 .f32) (x1 : Vec Ideal S1x1x6x1024 .f32) (x2 : Vec Ideal S1024x2688 .bf16) (x3 : Vec Ideal S1x128 .f32) (r : Fin 256) (e : Fin 512) :
    (out0_6 x0 x1 x2 x3 : FVec Ideal S1x256x512 .f32) (ix3 0 r e)
      = dot (xmB x0 x1 r) (fun k => x2 (ix2 k ⟨1536 + e, by omega⟩)) := by
  unfold_out out0_6
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x512 .bf16, View.ld x2 r0_5 = G ∧ ∀ (k : Fin 1024) (e : Fin 512), G (ix2 k e) = x2 (ix2 k ⟨1536 + e, by omega⟩) := ⟨_, rfl, ldV x2⟩
  rw [eG]
  simp only [pay2_apply, pay5_apply, hG]
  rfl

theorem out7_row (x0 : Vec Ideal S1x256x1024 .f32) (x1 : Vec Ideal S1x1x6x1024 .f32) (x2 : Vec Ideal S1024x2688 .bf16) (x3 : Vec Ideal S1x128 .f32) (r : Fin 256) (e : Fin 512) :
    (out0_7 x0 x1 x2 x3 : FVec Ideal S1x256x512 .f32) (ix3 0 r e)
      = dot (xmB x0 x1 r) (fun k => x2 (ix2 k ⟨2048 + e, by omega⟩)) := by
  unfold_out out0_7
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x512 .bf16, View.ld x2 r0_7 = G ∧ ∀ (k : Fin 1024) (e : Fin 512), G (ix2 k e) = x2 (ix2 k ⟨2048 + e, by omega⟩) := ⟨_, rfl, ldO x2⟩
  rw [eG]
  simp only [pay3_apply, pay5_apply, hG]
  rfl

theorem out8_row (x0 : Vec Ideal S1x256x1024 .f32) (x1 : Vec Ideal S1x1x6x1024 .f32) (x2 : Vec Ideal S1024x2688 .bf16) (x3 : Vec Ideal S1x128 .f32) (r : Fin 256) (e : Fin 128) :
    (out0_8 x0 x1 x2 x3 : FVec Ideal S1x256x128 .f32) (ix3 0 r e)
      = dot (xmB x0 x1 r) (fun k => x2 (ix2 k ⟨2560 + e, by omega⟩)) + x3 (ix2 0 e) := by
  unfold_out out0_8
  rw [View.canon_cons_unit_lit _ _ _ (by decide)]
  rw [View.ld_unit_lit (Val := Elt Ideal) _ x0 (by decide), View.ld_unit_lit (Val := Elt Ideal) _ x1 (by decide), View.ld_unit_lit (Val := Elt Ideal) _ x3 (by decide)]
  obtain ⟨G, eG, hG⟩ : ∃ G : Vec Ideal S1024x128 .bf16, View.ld x2 r0_8 = G ∧ ∀ (k : Fin 1024) (e : Fin 128), G (ix2 k e) = x2 (ix2 k ⟨2560 + e, by omega⟩) := ⟨_, rfl, ldG x2⟩
  rw [eG]
  simp only [pay4_apply, pay5_apply, hG]
  rfl

end Cert.Kernel4Ideal.Seq

end
-- ==== Proof.Final4.lean ====
/- The projection kernel's result arrays: each grid point's blocks are the specification's, and the blocks cover the arrays. -/
module

public import proofs.«01_k».proof.Proof.Blocks4
public import proofs.«01_k».proof.Proof.Block4

@[expose] public section

set_option maxRecDepth 16384

noncomputable section

namespace Cert.Kernel4Ideal.Seq

open Idealize.ShloMosaic.StableHlo
open Cert.Kernel4Ideal Cert.Kernel4Ideal.Gen Idealize.ShloMosaic Idealize.ShloMosaic.TcCoe Cert.Merge Cert.Seq

theorem xmB_eq (x0 : Vec Ideal S1x256x1024 .f32) (x1 : Vec Ideal S1x1x6x1024 .f32) (r : Fin 256) (x sh sc : Fin 1024 → EReal)
    (h0 : ∀ e, x0 (ix3 0 r e) = x e) (h1 : ∀ e, x1 (ix4 0 0 0 e) = sh e) (h2 : ∀ e, x1 (ix4 0 0 1 e) = sc e) :
    xmB x0 x1 r = xm x sh sc := by
  unfold xmB
  simp only [h0, h1, h2]

variable (m : (ℓ : Loc nD τ sig) → Buf (Elt Ideal) ℓ) (c : Dev nD)

theorem xm_blocks (t : Fin cfg0.N) (r : Fin 256) : xmB (iblk m c 0 t) (iblk m c 1 t) r = tokX (data m c) (bt t) (sr t r) :=
  xmB_eq (iblk m c 0 t) (iblk m c 1 t) r _ _ _
    (fun e => (blk0 m c t r e).trans (congrFun (V_main_arg0 m c) _))
    (fun e => (blk1 m c t 0 e).trans (mod_eq m c t r 0 e _ (by show e.val = 1024 * 0 + e.val; omega)))
    (fun e => (blk1 m c t 1 e).trans (mod_eq m c t r 1 e _ (by show 1024 + e.val = 1024 * 1 + e.val; omega)))

theorem w_blocks (t : Fin cfg0.N) (k : Fin 1024) (j : Fin 2688) (q : Fin 8976) (hj : j.val < 2576) (hq : q.val = 1536 + j.val) :
    (iblk m c 2 t : Vec Ideal S1024x2688 .bf16) (ix2 k j) = (data m c).w k q :=
  (blk2 m c t k j).trans ((congrFun (V13_eq m c) _).trans (wb_at _ k j q hj hq))

theorem w_zeros (t : Fin cfg0.N) (k : Fin 1024) (j : Fin 2688) (hj : 2576 ≤ j.val) :
    (iblk m c 2 t : Vec Ideal S1024x2688 .bf16) (ix2 k j) = (0 : EReal) :=
  (blk2 m c t k j).trans ((congrFun (V13_eq m c) _).trans (wb_zero _ k j hj))

/-- Result 0, as an array. -/
def arr4 (D : Data4) : S8448x2048.Idx → EReal := fun i => resU D (i 0) (i 1)

theorem point4 (t : Fin cfg0.N) (r : Fin 256) (e : Fin 512) :
    (out0_4 (iblk m c 0 t) (iblk m c 1 t) (iblk m c 2 t) (iblk m c 3 t) : FVec Ideal S256x512 .f32) (ix2 r e) = resU (data m c) (sr t r) ⟨512 * (bt t).val + e.val, by have := tb t; simp only []; omega⟩ := by
  refine (out4_row (iblk m c 0 t) (iblk m c 1 t) (iblk m c 2 t) (iblk m c 3 t) r e).trans ?_
  rw [xm_blocks]
  unfold resU proj dot
  refine (Finset.sum_congr rfl fun k _ => congrArg (tokX (data m c) (bt t) (sr t r) k * ·)
    (w_blocks m c t k ⟨0 + e.val, by omega⟩ ⟨1536 + e.val, by omega⟩ (by show 0 + e.val < 2576; omega) (by show 1536 + e.val = 1536 + (0 + e.val); omega))).trans ?_
  have hb : (⟨(512 * (bt t).val + e.val) / 512, by have := tb t; simp only []; omega⟩ : Fin 4) = bt t := Fin.ext (by simp only []; omega)
  have hj : (⟨1536 + (512 * (bt t).val + e.val) % 512, by omega⟩ : Fin 8976) = ⟨1536 + e.val, by omega⟩ := Fin.ext (by simp only []; omega)
  simp only [hb, hj]

theorem flushed_spec4 (t : Fin cfg0.N) (hf : (cfg0.win 4).flush t = true) :
    (dats m 0 c).flushed 4 t = ((cfg0.win 4).blk t).view.read (Elt Ideal) (arr4 (data m c) : Buf (Elt Ideal) ((c : Thread nD τ).loc main_v17_0)) := by
  obtain ⟨i0, i1⟩ := index4 t
  have hN := tN t
  rw [Value.flushed4]
  funext y
  change S256x512.Idx at y
  idx_vars y
  refine (point4 m c t y0 y1).trans ?_
  rw [View.read_apply]
  have hr : ∀ {s s' : Fin 8448} {e e' : Fin 2048}, s.val = s'.val → e.val = e'.val → resU (data m c) s e = resU (data m c) s' e' := by
    intro s s' e e' hs he
    obtain rfl := Fin.ext hs
    obtain rfl := Fin.ext he
    rfl
  refine hr ?_ ?_
  · show 256 * (t.val % 33) + y0.val = win0_4.index t 0 * 256 + 1 * y0.val; omega
  · show 512 * (t.val / 33) + y1.val = win0_4.index t 1 * 512 + 1 * y1.val; omega

theorem final4 : (dats m 0 c).arrAt 4 cfg0.N = (arr4 (data m c) : Buf (Elt Ideal) ((c : Thread nD τ).loc main_v17_0)) :=
  (dats m 0 c).arrAt_eq_of_cover 4 (arr4 (data m c) : Buf (Elt Ideal) ((c : Thread nD τ).loc main_v17_0)) (flushed_spec4 m c) fun i => by
    have h0 : (i 0).val < 8448 := (i 0).isLt
    have h1 : (i 1).val < 2048 := (i 1).isLt
    have hN : cfg0.N = 132 := N_0
    let t : Fin cfg0.N := ⟨33 * ((i 1).val / 512) + (i 0).val / 256, by omega⟩
    have ht : t.val = 33 * ((i 1).val / 512) + (i 0).val / 256 := rfl
    obtain ⟨i0, i1⟩ := index4 t
    refine ⟨t, flush0_4 t, ?_⟩
    show i ∈ ((View.whole main_v17_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256; omega
    | ⟨1, _⟩ => show win0_4.index t 1 * 512 ≤ (i 1 : Nat) ∧ (i 1 : Nat) < win0_4.index t 1 * 512 + 512; omega

/-- Result 1, as an array. -/
def arr5 (D : Data4) : S4x8448x1024.Idx → EReal := fun i => resQK D (i 0) (i 1) (i 2)

theorem point5 (t : Fin cfg0.N) (r : Fin 256) (e : Fin 1024) :
    (out0_5 (iblk m c 0 t) (iblk m c 1 t) (iblk m c 2 t) (iblk m c 3 t) : FVec Ideal S1x256x1024 .f32) (ix3 0 r e) = resQK (data m c) (bt t) (sr t r) e := by
  refine (out5_row (iblk m c 0 t) (iblk m c 1 t) (iblk m c 2 t) (iblk m c 3 t) r e).trans ?_
  rw [xm_blocks]
  unfold resQK proj dot
  exact Finset.sum_congr rfl fun k _ => congrArg _ (w_blocks m c t k _ _ (by simp only []; omega) (by simp only []; omega))

theorem flushed_spec5 (t : Fin cfg0.N) (hf : (cfg0.win 5).flush t = true) :
    (dats m 0 c).flushed 5 t = ((cfg0.win 5).blk t).view.read (Elt Ideal) (arr5 (data m c) : Buf (Elt Ideal) ((c : Thread nD τ).loc main_v17_1)) := by
  obtain ⟨i0, i1, i2⟩ := index5 t
  have hN := tN t
  rw [Value.flushed5]
  funext y
  change S1x256x1024.Idx at y
  idx_vars y
  obtain rfl : y0 = 0 := Subsingleton.elim _ _
  refine (point5 m c t y1 y2).trans ?_
  rw [View.read_apply]
  have hr : ∀ {b b' : Fin 4} {s s' : Fin 8448} {e e' : Fin 1024}, b.val = b'.val → s.val = s'.val → e.val = e'.val → resQK (data m c) b s e = resQK (data m c) b' s' e' := by
    intro b b' s s' e e' hb hs he
    obtain rfl := Fin.ext hb
    obtain rfl := Fin.ext hs
    obtain rfl := Fin.ext he
    rfl
  refine hr ?_ ?_ ?_
  · show t.val / 33 = win0_5.index t 0 * 1 + 1 * 0; omega
  · show 256 * (t.val % 33) + y1.val = win0_5.index t 1 * 256 + 1 * y1.val; omega
  · show y2.val = win0_5.index t 2 * 1024 + 1 * y2.val; omega

theorem final5 : (dats m 0 c).arrAt 5 cfg0.N = (arr5 (data m c) : Buf (Elt Ideal) ((c : Thread nD τ).loc main_v17_1)) :=
  (dats m 0 c).arrAt_eq_of_cover 5 (arr5 (data m c) : Buf (Elt Ideal) ((c : Thread nD τ).loc main_v17_1)) (flushed_spec5 m c) fun i => by
    have h0 : (i 0).val < 4 := (i 0).isLt
    have h1 : (i 1).val < 8448 := (i 1).isLt
    have h2 : (i 2).val < 1024 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index5 t
    refine ⟨t, flush0_5 t, ?_⟩
    show i ∈ ((View.whole main_v17_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega
    | ⟨2, _⟩ => show win0_5.index t 2 * 1024 ≤ (i 2 : Nat) ∧ (i 2 : Nat) < win0_5.index t 2 * 1024 + 1024; omega

/-- Result 2, as an array. -/
def arr6 (D : Data4) : S4x8448x512.Idx → EReal := fun i => resV D (i 0) (i 1) (i 2)

theorem point6 (t : Fin cfg0.N) (r : Fin 256) (e : Fin 512) :
    (out0_6 (iblk m c 0 t) (iblk m c 1 t) (iblk m c 2 t) (iblk m c 3 t) : FVec Ideal S1x256x512 .f32) (ix3 0 r e) = resV (data m c) (bt t) (sr t r) e := by
  refine (out6_row (iblk m c 0 t) (iblk m c 1 t) (iblk m c 2 t) (iblk m c 3 t) r e).trans ?_
  rw [xm_blocks]
  unfold resV proj dot
  exact Finset.sum_congr rfl fun k _ => congrArg _ (w_blocks m c t k _ _ (by simp only []; omega) (by simp only []; omega))

theorem flushed_spec6 (t : Fin cfg0.N) (hf : (cfg0.win 6).flush t = true) :
    (dats m 0 c).flushed 6 t = ((cfg0.win 6).blk t).view.read (Elt Ideal) (arr6 (data m c) : Buf (Elt Ideal) ((c : Thread nD τ).loc main_v17_2)) := by
  obtain ⟨i0, i1, i2⟩ := index6 t
  have hN := tN t
  rw [Value.flushed6]
  funext y
  change S1x256x512.Idx at y
  idx_vars y
  obtain rfl : y0 = 0 := Subsingleton.elim _ _
  refine (point6 m c t y1 y2).trans ?_
  rw [View.read_apply]
  have hr : ∀ {b b' : Fin 4} {s s' : Fin 8448} {e e' : Fin 512}, b.val = b'.val → s.val = s'.val → e.val = e'.val → resV (data m c) b s e = resV (data m c) b' s' e' := by
    intro b b' s s' e e' hb hs he
    obtain rfl := Fin.ext hb
    obtain rfl := Fin.ext hs
    obtain rfl := Fin.ext he
    rfl
  refine hr ?_ ?_ ?_
  · show t.val / 33 = win0_6.index t 0 * 1 + 1 * 0; omega
  · show 256 * (t.val % 33) + y1.val = win0_6.index t 1 * 256 + 1 * y1.val; omega
  · show y2.val = win0_6.index t 2 * 512 + 1 * y2.val; omega

theorem final6 : (dats m 0 c).arrAt 6 cfg0.N = (arr6 (data m c) : Buf (Elt Ideal) ((c : Thread nD τ).loc main_v17_2)) :=
  (dats m 0 c).arrAt_eq_of_cover 6 (arr6 (data m c) : Buf (Elt Ideal) ((c : Thread nD τ).loc main_v17_2)) (flushed_spec6 m c) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index6 t
    refine ⟨t, flush0_6 t, ?_⟩
    show i ∈ ((View.whole main_v17_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; omega
    | ⟨1, _⟩ => show win0_6.index t 1 * 256 ≤ (i 1 : Nat) ∧ (i 1 : Nat) < win0_6.index t 1 * 256 + 256; omega
    | ⟨2, _⟩ => show win0_6.index t 2 * 512 ≤ (i 2 : Nat) ∧ (i 2 : Nat) < win0_6.index t 2 * 512 + 512; omega

/-- Result 3, as an array. -/
def arr7 (D : Data4) : S4x8448x512.Idx → EReal := fun i => resO D (i 0) (i 1) (i 2)

theorem point7 (t : Fin cfg0.N) (r : Fin 256) (e : Fin 512) :
    (out0_7 (iblk m c 0 t) (iblk m c 1 t) (iblk m c 2 t) (iblk m c 3 t) : FVec Ideal S1x256x512 .f32) (ix3 0 r e) = resO (data m c) (bt t) (sr t r) e := by
  refine (out7_row (iblk m c 0 t) (iblk m c 1 t) (iblk m c 2 t) (iblk m c 3 t) r e).trans ?_
  rw [xm_blocks]
  unfold resO proj dot
  exact Finset.sum_congr rfl fun k _ => congrArg _ (w_blocks m c t k _ _ (by simp only []; omega) (by simp only []; omega))

theorem flushed_spec7 (t : Fin cfg0.N) (hf : (cfg0.win 7).flush t = true) :
    (dats m 0 c).flushed 7 t = ((cfg0.win 7).blk t).view.read (Elt Ideal) (arr7 (data m c) : Buf (Elt Ideal) ((c : Thread nD τ).loc main_v17_3)) := by
  obtain ⟨i0, i1, i2⟩ := index7 t
  have hN := tN t
  rw [Value.flushed7]
  funext y
  change S1x256x512.Idx at y
  idx_vars y
  obtain rfl : y0 = 0 := Subsingleton.elim _ _
  refine (point7 m c t y1 y2).trans ?_
  rw [View.read_apply]
  have hr : ∀ {b b' : Fin 4} {s s' : Fin 8448} {e e' : Fin 512}, b.val = b'.val → s.val = s'.val → e.val = e'.val → resO (data m c) b s e = resO (data m c) b' s' e' := by
    intro b b' s s' e e' hb hs he
    obtain rfl := Fin.ext hb
    obtain rfl := Fin.ext hs
    obtain rfl := Fin.ext he
    rfl
  refine hr ?_ ?_ ?_
  · show t.val / 33 = win0_7.index t 0 * 1 + 1 * 0; omega
  · show 256 * (t.val % 33) + y1.val = win0_7.index t 1 * 256 + 1 * y1.val; omega
  · show y2.val = win0_7.index t 2 * 512 + 1 * y2.val; omega

theorem final7 : (dats m 0 c).arrAt 7 cfg0.N = (arr7 (data m c) : Buf (Elt Ideal) ((c : Thread nD τ).loc main_v17_3)) :=
  (dats m 0 c).arrAt_eq_of_cover 7 (arr7 (data m c) : Buf (Elt Ideal) ((c : Thread nD τ).loc main_v17_3)) (flushed_spec7 m c) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index7 t
    refine ⟨t, flush0_7 t, ?_⟩
    show i ∈ ((View.whole main_v17_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; omega
    | ⟨1, _⟩ => show win0_7.index t 1 * 256 ≤ (i 1 : Nat) ∧ (i 1 : Nat) < win0_7.index t 1 * 256 + 256; omega
    | ⟨2, _⟩ => show win0_7.index t 2 * 512 ≤ (i 2 : Nat) ∧ (i 2 : Nat) < win0_7.index t 2 * 512 + 512; omega

/-- Result 4, as an array. -/
def arr8 (D : Data4) : S4x8448x128.Idx → EReal := fun i => resG D (i 0) (i 1) (i 2)

theorem point8 (t : Fin cfg0.N) (r : Fin 256) (e : Fin 128) :
    (out0_8 (iblk m c 0 t) (iblk m c 1 t) (iblk m c 2 t) (iblk m c 3 t) : FVec Ideal S1x256x128 .f32) (ix3 0 r e) = resG (data m c) (bt t) (sr t r) e := by
  refine (out8_row (iblk m c 0 t) (iblk m c 1 t) (iblk m c 2 t) (iblk m c 3 t) r e).trans ?_
  rw [xm_blocks]
  unfold resG
  by_cases h : e.val < 16
  · rw [dif_pos h]
    refine congrArg₂ (· + ·) ?_ ?_
    · unfold proj dot
      exact Finset.sum_congr rfl fun k _ => congrArg _ (w_blocks m c t k _ _ (by simp only []; omega) (by simp only []; omega))
    · exact (blk3 m c t e).trans ((congrFun (V16_eq m c) _).trans (gbB_lo _ ⟨e.val, h⟩))
  · rw [dif_neg h]
    have hz : dot (tokX (data m c) (bt t) (sr t r)) (fun k => (iblk m c 2 t : Vec Ideal S1024x2688 .bf16) (ix2 k ⟨2560 + e, by omega⟩)) = 0 := by
      unfold dot
      refine Finset.sum_eq_zero fun k _ => ?_
      exact (congrArg (tokX (data m c) (bt t) (sr t r) k * ·) (w_zeros m c t k ⟨2560 + e.val, by omega⟩ (by show 2576 ≤ 2560 + e.val; omega))).trans (mul_zero _)
    rw [hz, zero_add]
    refine (blk3 m c t e).trans ((congrFun (V16_eq m c) _).trans ?_)
    rw [show e = ⟨16 + (⟨e.val - 16, by omega⟩ : Fin 112).val, by simp only []; omega⟩ from Fin.ext (by simp only []; omega)]
    exact gbB_hi _ _

theorem flushed_spec8 (t : Fin cfg0.N) (hf : (cfg0.win 8).flush t = true) :
    (dats m 0 c).flushed 8 t = ((cfg0.win 8).blk t).view.read (Elt Ideal) (arr8 (data m c) : Buf (Elt Ideal) ((c : Thread nD τ).loc main_v17_4)) := by
  obtain ⟨i0, i1, i2⟩ := index8 t
  have hN := tN t
  rw [Value.flushed8]
  funext y
  change S1x256x128.Idx at y
  idx_vars y
  obtain rfl : y0 = 0 := Subsingleton.elim _ _
  refine (point8 m c t y1 y2).trans ?_
  rw [View.read_apply]
  have hr : ∀ {b b' : Fin 4} {s s' : Fin 8448} {e e' : Fin 128}, b.val = b'.val → s.val = s'.val → e.val = e'.val → resG (data m c) b s e = resG (data m c) b' s' e' := by
    intro b b' s s' e e' hb hs he
    obtain rfl := Fin.ext hb
    obtain rfl := Fin.ext hs
    obtain rfl := Fin.ext he
    rfl
  refine hr ?_ ?_ ?_
  · show t.val / 33 = win0_8.index t 0 * 1 + 1 * 0; omega
  · show 256 * (t.val % 33) + y1.val = win0_8.index t 1 * 256 + 1 * y1.val; omega
  · show y2.val = win0_8.index t 2 * 128 + 1 * y2.val; omega

theorem final8 : (dats m 0 c).arrAt 8 cfg0.N = (arr8 (data m c) : Buf (Elt Ideal) ((c : Thread nD τ).loc main_v17_4)) :=
  (dats m 0 c).arrAt_eq_of_cover 8 (arr8 (data m c) : Buf (Elt Ideal) ((c : Thread nD τ).loc main_v17_4)) (flushed_spec8 m c) fun i => by
    have h0 : (i 0).val < 4 := (i 0).isLt
    have h1 : (i 1).val < 8448 := (i 1).isLt
    have h2 : (i 2).val < 128 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index8 t
    refine ⟨t, flush0_8 t, ?_⟩
    show i ∈ ((View.whole main_v17_4).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; omega
    | ⟨1, _⟩ => show win0_8.index t 1 * 256 ≤ (i 1 : Nat) ∧ (i 1 : Nat) < win0_8.index t 1 * 256 + 256; omega
    | ⟨2, _⟩ => show win0_8.index t 2 * 128 ≤ (i 2 : Nat) ∧ (i 2 : Nat) < win0_8.index t 2 * 128 + 128; omega

end Cert.Kernel4Ideal.Seq

end
-- ==== Proof.Ref4Stages.lean ====
/- The projection's reference, its results in named stages. -/
module

public import proofs.«01_k».proof.Proof.Gen.Reference4Ideal.Run
public import proofs.«01_k».proof.Proof.Spec4

@[expose] public section

set_option maxRecDepth 16384

noncomputable section

namespace Cert.Reference4Ideal.Stages

open Cert.Reference4Ideal Cert.Reference4Ideal.Gen Idealize.ShloMosaic Idealize.ShloMosaic.TcCoe Idealize.ShloMosaic.StableHlo Idealize.SL.Sem Cert.Merge Cert.Seq

variable {F : FTy → Type} [FloatOps F]

/-- Each token's modulation. -/
def tokMod (mc : FVec F S6144 .f32) (ml : FVec F S4x6144 .f32) : FVec F S4x8448x6144 .f32 :=
  have v0 : FVec F S1x1x6144 .f32 := broadcastInDim S1x1x6144 ![2] bcast_S6144_S1x1x6144_2 mc
  have v1 : FVec F S4x256x6144 .f32 := broadcastInDim S4x256x6144 ![0, 1, 2] bcast_S1x1x6144_S4x256x6144_0_1_2 v0
  have v2 : FVec F S4x1x6144 .f32 := broadcastInDim S4x1x6144 ![0, 2] bcast_S4x6144_S4x1x6144_0_2 ml
  have v3 : FVec F S4x8192x6144 .f32 := broadcastInDim S4x8192x6144 ![0, 1, 2] bcast_S4x1x6144_S4x8192x6144_0_1_2 v2
  concatenate S4x8448x6144 1 [⟨S4x256x6144, v1⟩, ⟨S4x8192x6144, v3⟩] concatenates_S4x256x6144_S4x8192x6144_S4x8448x6144_d1

/-- The modulated tokens. -/
def xmA (x : FVec F S4x8448x1024 .f32) (d : FVec F S4x8448x6144 .f32) : FVec F S4x8448x1024 .f32 :=
  have cst : FVec F S_ .f32 := constant S_ .f32 0x00000000#32
  have v11 : FVec F S4x8448 .f32 := Host.reduceAdd x cst reducesTo_S4x8448x1024_S4x8448_d2 h_S_
  have v12 : FVec F S4x8448x1 .f32 := broadcastInDim S4x8448x1 ![0, 1] bcast_S4x8448_S4x8448x1_0_1 v11
  have cst_0 : FVec F S_ .f32 := constant S_ .f32 0x44800000#32
  have v13 : FVec F S4x8448x1 .f32 := broadcastInDim S4x8448x1 ![] bcast_S_S4x8448x1 cst_0
  have v14 : FVec F S4x8448x1 .f32 := Host.divf v12 v13
  have v15 : FVec F S4x8448x1024 .f32 := broadcastInDim S4x8448x1024 ![0, 1, 2] bcast_S4x8448x1_S4x8448x1024_0_1_2 v14
  have v16 : FVec F S4x8448x1024 .f32 := subf x v15
  have v17 : FVec F S4x8448x1024 .f32 := mulf v16 v16
  have cst_1 : FVec F S_ .f32 := constant S_ .f32 0x00000000#32
  have v18 : FVec F S4x8448 .f32 := Host.reduceAdd v17 cst_1 reducesTo_S4x8448x1024_S4x8448_d2 h_S_
  have v19 : FVec F S4x8448x1 .f32 := broadcastInDim S4x8448x1 ![0, 1] bcast_S4x8448_S4x8448x1_0_1 v18
  have cst_2 : FVec F S_ .f32 := constant S_ .f32 0x44800000#32
  have v20 : FVec F S4x8448x1 .f32 := broadcastInDim S4x8448x1 ![] bcast_S_S4x8448x1 cst_2
  have v21 : FVec F S4x8448x1 .f32 := Host.divf v19 v20
  have cst_3 : FVec F S_ .f32 := constant S_ .f32 0x358637BD#32
  have v22 : FVec F S4x8448x1 .f32 := broadcastInDim S4x8448x1 ![] bcast_S_S4x8448x1 cst_3
  have v23 : FVec F S4x8448x1 .f32 := addf v21 v22
  have v24 : FVec F S4x8448x1 .f32 := Host.rsqrt v23
  have v25 : FVec F S4x8448x1024 .f32 := broadcastInDim S4x8448x1024 ![0, 1, 2] bcast_S4x8448x1_S4x8448x1024_0_1_2 v24
  have v26 : FVec F S4x8448x1024 .f32 := mulf v16 v25
  have cst_4 : FVec F S_ .f32 := constant S_ .f32 0x3F800000#32
  have v27 : FVec F S4x8448x1024 .f32 := broadcastInDim S4x8448x1024 ![] bcast_S_S4x8448x1024 cst_4
  have v6 : FVec F S4x8448x1024 .f32 := extractStridedSlice S4x8448x1024 ![0, 0, 1024] d slices_S4x8448x6144_S4x8448x1024_0_0_1024
  have v28 : FVec F S4x8448x1024 .f32 := addf v27 v6
  have v29 : FVec F S4x8448x1024 .f32 := mulf v26 v28
  have v5 : FVec F S4x8448x1024 .f32 := extractStridedSlice S4x8448x1024 ![0, 0, 0] d slices_S4x8448x6144_S4x8448x1024_0_0_0
  addf v29 v5

/-- The tokens' projection, all columns. -/
def projA (x : FVec F S4x8448x1024 .f32) (w : FVec F S1024x8976 .f32) : FVec F S4x8448x8976 .f32 :=
  Host.dotGeneral dot_S4x8448x1024_S1024x8976_S4x8448x8976_2_0_01_1_n_n none x w

/-- The S5 mixer's input. -/
def uA (p : FVec F S4x8448x8976 .f32) : FVec F S8448x2048 .f32 :=
  shapeCast S8448x2048 (transpose S8448x4x512 [1, 0, 2] (extractStridedSlice S4x8448x512 ![0, 0, 1536] p slices_S4x8448x8976_S4x8448x512_0_0_1536 : FVec F S4x8448x512 .f32) transposes_S4x8448x512_S8448x4x512_1_0_2 : FVec F S8448x4x512 .f32) shapeCasts_S8448x4x512_S8448x2048

/-- The mLSTM mixer's queries beside its keys. -/
def qkA (p : FVec F S4x8448x8976 .f32) : FVec F S4x8448x1024 .f32 :=
  concatenate S4x8448x1024 2 [⟨S4x8448x512, (extractStridedSlice S4x8448x512 ![0, 0, 2048] p slices_S4x8448x8976_S4x8448x512_0_0_2048 : FVec F S4x8448x512 .f32)⟩,
    ⟨S4x8448x512, (extractStridedSlice S4x8448x512 ![0, 0, 2560] p slices_S4x8448x8976_S4x8448x512_0_0_2560 : FVec F S4x8448x512 .f32)⟩] concatenates_S4x8448x512_S4x8448x512_S4x8448x1024_d2

/-- The mLSTM mixer's values. -/
def vA (p : FVec F S4x8448x8976 .f32) : FVec F S4x8448x512 .f32 :=
  extractStridedSlice S4x8448x512 ![0, 0, 3072] p slices_S4x8448x8976_S4x8448x512_0_0_3072

/-- The mLSTM mixer's output gate. -/
def oA (p : FVec F S4x8448x8976 .f32) : FVec F S4x8448x512 .f32 :=
  extractStridedSlice S4x8448x512 ![0, 0, 3584] p slices_S4x8448x8976_S4x8448x512_0_0_3584

/-- The mLSTM mixer's gates and zeros. -/
def gA (p : FVec F S4x8448x8976 .f32) (b : FVec F S16 .f32) : FVec F S4x8448x128 .f32 :=
  concatenate S4x8448x128 2 [⟨S4x8448x16, (addf (extractStridedSlice S4x8448x16 ![0, 0, 4096] p slices_S4x8448x8976_S4x8448x16_0_0_4096 : FVec F S4x8448x16 .f32)
      (broadcastInDim S4x8448x16 ![0, 1, 2] bcast_S1x1x16_S4x8448x16_0_1_2 (broadcastInDim S1x1x16 ![2] bcast_S16_S1x1x16_2 b : FVec F S1x1x16 .f32) : FVec F S4x8448x16 .f32) : FVec F S4x8448x16 .f32)⟩,
    ⟨S4x8448x112, (broadcastInDim S4x8448x112 ![] bcast_S_S4x8448x112 (constant S_ .f32 0x00000000#32) : FVec F S4x8448x112 .f32)⟩] concatenates_S4x8448x16_S4x8448x112_S4x8448x128_d2

/-- The projection of the arguments. -/
def all (m : (ℓ : Loc nD τ sig) → Buf (Elt F) ℓ) (c : Dev nD) : FVec F S4x8448x8976 .f32 :=
  projA (xmA (m ((c.tc : Thread nD τ).loc main_arg0)) (tokMod (m ((c.tc : Thread nD τ).loc main_arg1)) (m ((c.tc : Thread nD τ).loc main_arg2)))) (m ((c.tc : Thread nD τ).loc main_arg3))

/-- The reference ends with these stages' results and its arguments unchanged. -/
theorem run4 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = uA (all m c)
      ∧ r.2.mem ((c.tc : Thread nD τ).loc main_v47) = qkA (all m c)
      ∧ r.2.mem ((c.tc : Thread nD τ).loc main_v38) = vA (all m c)
      ∧ r.2.mem ((c.tc : Thread nD τ).loc main_v39) = oA (all m c)
      ∧ r.2.mem ((c.tc : Thread nD τ).loc main_v52) = gA (all m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rfl), (h c).2.1.trans (by rfl), (h c).2.2.1.trans (by rfl), (h c).2.2.2.1.trans (by rfl),
    (h c).2.2.2.2.1.trans (by rfl), (h c).2.2.2.2.2⟩) (Value.run m ρ)

end Cert.Reference4Ideal.Stages

end
-- ==== Proof.Ref4At.lean ====
/- The stages of the projection's reference at an index: the specification's results. -/
module

public import proofs.«01_k».proof.Proof.Ref4Stages

@[expose] public section

set_option maxRecDepth 16384

noncomputable section

namespace Cert.Reference4Ideal.Stages

open Cert.Reference4Ideal Cert.Reference4Ideal.Gen Idealize.ShloMosaic Idealize.ShloMosaic.TcCoe Idealize.ShloMosaic.StableHlo Cert.Merge Cert.Seq

theorem tok_ctx (mc : FVec Ideal S6144 .f32) (ml : FVec Ideal S4x6144 .f32) (b : Fin 4) (s : Fin 256) (e : Fin 6144) :
    tokMod mc ml (ix3 b ⟨s, by omega⟩ e) = mc (ix1 e) := by
  pointwise [tokMod]

theorem tok_lat (mc : FVec Ideal S6144 .f32) (ml : FVec Ideal S4x6144 .f32) (b : Fin 4) (s : Fin 8192) (e : Fin 6144) :
    tokMod mc ml (ix3 b ⟨256 + s, by omega⟩ e) = ml (ix2 b e) := by
  pointwise [tokMod]

theorem xmA_apply (x : FVec Ideal S4x8448x1024 .f32) (d : FVec Ideal S4x8448x6144 .f32) (b : Fin 4) (s : Fin 8448) (e : Fin 1024) :
    xmA x d (ix3 b s e) = xm (fun k => x (ix3 b s k)) (fun k => d (ix3 b s ⟨k, by omega⟩)) (fun k => d (ix3 b s ⟨1024 + k, by omega⟩)) e := by
  pointwise [xmA, xm, lnorm, mu]

theorem projA_apply (x : FVec Ideal S4x8448x1024 .f32) (w : FVec Ideal S1024x8976 .f32) (b : Fin 4) (s : Fin 8448) (e : Fin 8976) :
    projA x w (ix3 b s e) = dot (fun k => x (ix3 b s k)) (fun k => w (ix2 k e)) := by
  pointwise [projA, dot]

theorem uA_apply (p : FVec Ideal S4x8448x8976 .f32) (b : Fin 4) (s : Fin 8448) (e : Fin 512) :
    uA p (ix2 s ⟨512 * b + e, by omega⟩) = p (ix3 b s ⟨1536 + e, by omega⟩) := by
  pointwise [uA]

theorem qkA_lo (p : FVec Ideal S4x8448x8976 .f32) (b : Fin 4) (s : Fin 8448) (e : Fin 512) :
    qkA p (ix3 b s ⟨e, by omega⟩) = p (ix3 b s ⟨2048 + e, by omega⟩) := by
  pointwise [qkA]

theorem qkA_hi (p : FVec Ideal S4x8448x8976 .f32) (b : Fin 4) (s : Fin 8448) (e : Fin 512) :
    qkA p (ix3 b s ⟨512 + e, by omega⟩) = p (ix3 b s ⟨2560 + e, by omega⟩) := by
  pointwise [qkA]

theorem vA_apply (p : FVec Ideal S4x8448x8976 .f32) (b : Fin 4) (s : Fin 8448) (e : Fin 512) :
    vA p (ix3 b s e) = p (ix3 b s ⟨3072 + e, by omega⟩) := by
  pointwise [vA]

theorem oA_apply (p : FVec Ideal S4x8448x8976 .f32) (b : Fin 4) (s : Fin 8448) (e : Fin 512) :
    oA p (ix3 b s e) = p (ix3 b s ⟨3584 + e, by omega⟩) := by
  pointwise [oA]

theorem gA_lo (p : FVec Ideal S4x8448x8976 .f32) (a : FVec Ideal S16 .f32) (b : Fin 4) (s : Fin 8448) (e : Fin 16) :
    gA p a (ix3 b s ⟨e, by omega⟩) = p (ix3 b s ⟨4096 + e, by omega⟩) + a (ix1 e) := by
  pointwise [gA]

theorem gA_hi (p : FVec Ideal S4x8448x8976 .f32) (a : FVec Ideal S16 .f32) (b : Fin 4) (s : Fin 8448) (e : Fin 112) :
    gA p a (ix3 b s ⟨16 + e, by omega⟩) = 0 := by
  pointwise [gA]

end Cert.Reference4Ideal.Stages

end
-- ==== Proof.Ref4Final.lean ====
/- The projection reference's results, entry by entry: the specification's. -/
module

public import proofs.«01_k».proof.Proof.Ref4At

@[expose] public section

set_option maxRecDepth 16384

noncomputable section

namespace Cert.Reference4Ideal.Stages

open Cert.Reference4Ideal Cert.Reference4Ideal.Gen Idealize.ShloMosaic Idealize.ShloMosaic.TcCoe Idealize.ShloMosaic.StableHlo Cert.Merge Cert.Seq

variable (m : (ℓ : Loc nD τ sig) → Buf (Elt Ideal) ℓ) (c : Dev nD)

/-- The arguments on core `c`. -/
def data : Data4 :=
  { h := fun b s e => (m ((c.tc : Thread nD τ).loc main_arg0) : FVec Ideal S4x8448x1024 .f32) (ix3 b s e)
    mc := fun e => (m ((c.tc : Thread nD τ).loc main_arg1) : FVec Ideal S6144 .f32) (ix1 e)
    ml := fun b e => (m ((c.tc : Thread nD τ).loc main_arg2) : FVec Ideal S4x6144 .f32) (ix2 b e)
    w := fun k e => (m ((c.tc : Thread nD τ).loc main_arg3) : FVec Ideal S1024x8976 .f32) (ix2 k e)
    gb := fun e => (m ((c.tc : Thread nD τ).loc main_arg4) : FVec Ideal S16 .f32) (ix1 e) }

theorem tok_mod (b : Fin 4) (s : Fin 8448) (e : Fin 6144) : (tokMod (m ((c.tc : Thread nD τ).loc main_arg1)) (m ((c.tc : Thread nD τ).loc main_arg2)) : FVec Ideal S4x8448x6144 .f32) (ix3 b s e) = mod4 (data m c) b s e := by
  unfold mod4
  by_cases h : s.val < 256
  · rw [if_pos h]
    exact tok_ctx _ _ b ⟨s.val, h⟩ e
  · rw [if_neg h, show s = ⟨256 + (⟨s.val - 256, by omega⟩ : Fin 8192).val, by simp only []; omega⟩ from Fin.ext (by simp only []; omega)]
    exact tok_lat _ _ b ⟨s.val - 256, by omega⟩ e

/-- One entry of the projection. -/
theorem all_apply (b : Fin 4) (s : Fin 8448) (j : Fin 8976) : all m c (ix3 b s j) = proj (data m c) b s j := by
  obtain ⟨d, hd, hdm⟩ : ∃ d : FVec Ideal S4x8448x6144 .f32, (tokMod (m ((c.tc : Thread nD τ).loc main_arg1)) (m ((c.tc : Thread nD τ).loc main_arg2)) : FVec Ideal S4x8448x6144 .f32) = d ∧ ∀ b s e, d (ix3 b s e) = mod4 (data m c) b s e :=
    ⟨_, rfl, tok_mod m c⟩
  unfold all
  rw [hd]
  simp only [projA_apply, xmA_apply, hdm]
  rfl

theorem u_eq (s : Fin 8448) (e : Fin 2048) : uA (all m c) (ix2 s e) = resU (data m c) s e := by
  have he : e = ⟨512 * (⟨e.val / 512, by omega⟩ : Fin 4).val + (⟨e.val % 512, by omega⟩ : Fin 512).val, by simp only []; omega⟩ :=
    Fin.ext (by simp only []; omega)
  refine (congrArg (fun x => uA (all m c) (ix2 s x)) he).trans ?_
  exact (uA_apply (all m c) ⟨e.val / 512, by omega⟩ s ⟨e.val % 512, by omega⟩).trans (all_apply m c _ _ _)

theorem qk_eq (b : Fin 4) (s : Fin 8448) (e : Fin 1024) : qkA (all m c) (ix3 b s e) = resQK (data m c) b s e := by
  by_cases h : e.val < 512
  · exact (qkA_lo (all m c) b s ⟨e.val, h⟩).trans (all_apply m c _ _ _)
  · have he : e = ⟨512 + (⟨e.val - 512, by omega⟩ : Fin 512).val, by simp only []; omega⟩ := Fin.ext (by simp only []; omega)
    refine (congrArg (fun x => qkA (all m c) (ix3 b s x)) he).trans ?_
    refine (qkA_hi (all m c) b s ⟨e.val - 512, by omega⟩).trans ((all_apply m c _ _ _).trans ?_)
    unfold resQK
    exact congrArg (proj (data m c) b s) (Fin.ext (by simp only []; omega))

theorem v_eq (b : Fin 4) (s : Fin 8448) (e : Fin 512) : vA (all m c) (ix3 b s e) = resV (data m c) b s e :=
  (vA_apply (all m c) b s e).trans (all_apply m c _ _ _)

theorem o_eq (b : Fin 4) (s : Fin 8448) (e : Fin 512) : oA (all m c) (ix3 b s e) = resO (data m c) b s e :=
  (oA_apply (all m c) b s e).trans (all_apply m c _ _ _)

theorem g_eq (b : Fin 4) (s : Fin 8448) (e : Fin 128) :
    gA (all m c) (m ((c.tc : Thread nD τ).loc main_arg4)) (ix3 b s e) = resG (data m c) b s e := by
  unfold resG
  by_cases h : e.val < 16
  · rw [dif_pos h]
    exact (gA_lo (all m c) _ b s ⟨e.val, h⟩).trans (congrArg (· + (data m c).gb ⟨e.val, h⟩) (all_apply m c _ _ _))
  · rw [dif_neg h]
    have he : e = ⟨16 + (⟨e.val - 16, by omega⟩ : Fin 112).val, by simp only []; omega⟩ := Fin.ext (by simp only []; omega)
    refine (congrArg (fun x => gA (all m c) (m ((c.tc : Thread nD τ).loc main_arg4)) (ix3 b s x)) he).trans ?_
    exact gA_hi (all m c) _ b s _

end Cert.Reference4Ideal.Stages

end
-- ==== Proof.Algebra4.lean ====
/- The input projection of the S5 and mLSTM mixers: kernel and reference end with the same results on all inputs. -/
module

public import proofs.«01_k».proof.Defs
public import proofs.«01_k».proof.Proof.Final4
public import proofs.«01_k».proof.Proof.Ref4Final
public import Idealize.ShloMosaic.Lib.Claim

@[expose] public section

set_option maxRecDepth 16384

noncomputable section

namespace Cert.Proof

open Idealize.ShloMosaic Idealize.SL.Sem Cert.Merge Cert.Seq

/-- Both programs end with the specification's arrays. -/
theorem algebraic4 : Cert.algebraic_Kernel4Ideal_Reference4Ideal := by
  have same : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      (m' ((c.tc : Thread Reference4Ideal.nD Reference4Ideal.τ).loc Reference4Ideal.main_arg0) = m ((c.tc : Thread Kernel4Ideal.nD Kernel4Ideal.τ).loc Kernel4Ideal.main_arg0)
      ∧ m' ((c.tc : Thread Reference4Ideal.nD Reference4Ideal.τ).loc Reference4Ideal.main_arg1) = m ((c.tc : Thread Kernel4Ideal.nD Kernel4Ideal.τ).loc Kernel4Ideal.main_arg1)
      ∧ m' ((c.tc : Thread Reference4Ideal.nD Reference4Ideal.τ).loc Reference4Ideal.main_arg2) = m ((c.tc : Thread Kernel4Ideal.nD Kernel4Ideal.τ).loc Kernel4Ideal.main_arg2)
      ∧ m' ((c.tc : Thread Reference4Ideal.nD Reference4Ideal.τ).loc Reference4Ideal.main_arg3) = m ((c.tc : Thread Kernel4Ideal.nD Kernel4Ideal.τ).loc Kernel4Ideal.main_arg3)
      ∧ m' ((c.tc : Thread Reference4Ideal.nD Reference4Ideal.τ).loc Reference4Ideal.main_arg4) = m ((c.tc : Thread Kernel4Ideal.nD Kernel4Ideal.τ).loc Kernel4Ideal.main_arg4)) →
      Reference4Ideal.Stages.data m' c = Kernel4Ideal.Seq.data m c := by
    intro m m' c ⟨e0, e1, e2, e3, e4⟩
    unfold Reference4Ideal.Stages.data Kernel4Ideal.Seq.data
    rw [e0, e1, e2, e3, e4]
  have key4 : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      Reference4Ideal.Stages.data m' c = Kernel4Ideal.Seq.data m c →
      (Reference4Ideal.Stages.uA (Reference4Ideal.Stages.all m' c) : Reference4Ideal.S8448x2048.Idx → EReal) = (Kernel4Ideal.Gen.dats m 0 c).arrAt 4 Kernel4Ideal.cfg0.N := by
    intro m m' c hd
    rw [Kernel4Ideal.Seq.final4, ← hd]
    funext i
    idx_vars i
    exact Reference4Ideal.Stages.u_eq m' c i0 i1
  have key5 : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      Reference4Ideal.Stages.data m' c = Kernel4Ideal.Seq.data m c →
      (Reference4Ideal.Stages.qkA (Reference4Ideal.Stages.all m' c) : Reference4Ideal.S4x8448x1024.Idx → EReal) = (Kernel4Ideal.Gen.dats m 0 c).arrAt 5 Kernel4Ideal.cfg0.N := by
    intro m m' c hd
    rw [Kernel4Ideal.Seq.final5, ← hd]
    funext i
    idx_vars i
    exact Reference4Ideal.Stages.qk_eq m' c i0 i1 i2
  have key6 : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      Reference4Ideal.Stages.data m' c = Kernel4Ideal.Seq.data m c →
      (Reference4Ideal.Stages.vA (Reference4Ideal.Stages.all m' c) : Reference4Ideal.S4x8448x512.Idx → EReal) = (Kernel4Ideal.Gen.dats m 0 c).arrAt 6 Kernel4Ideal.cfg0.N := by
    intro m m' c hd
    rw [Kernel4Ideal.Seq.final6, ← hd]
    funext i
    idx_vars i
    exact Reference4Ideal.Stages.v_eq m' c i0 i1 i2
  have key7 : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      Reference4Ideal.Stages.data m' c = Kernel4Ideal.Seq.data m c →
      (Reference4Ideal.Stages.oA (Reference4Ideal.Stages.all m' c) : Reference4Ideal.S4x8448x512.Idx → EReal) = (Kernel4Ideal.Gen.dats m 0 c).arrAt 7 Kernel4Ideal.cfg0.N := by
    intro m m' c hd
    rw [Kernel4Ideal.Seq.final7, ← hd]
    funext i
    idx_vars i
    exact Reference4Ideal.Stages.o_eq m' c i0 i1 i2
  have key8 : ∀ (m : (ℓ : Loc Kernel4Ideal.nD Kernel4Ideal.τ Kernel4Ideal.sig) → Buf (Elt Ideal) ℓ)
      (m' : (ℓ : Loc Reference4Ideal.nD Reference4Ideal.τ Reference4Ideal.sig) → Buf (Elt Ideal) ℓ) (c : Dev Kernel4Ideal.nD),
      Reference4Ideal.Stages.data m' c = Kernel4Ideal.Seq.data m c →
      (Reference4Ideal.Stages.gA (Reference4Ideal.Stages.all m' c) (m' ((c.tc : Thread Reference4Ideal.nD Reference4Ideal.τ).loc Reference4Ideal.main_arg4)) : Reference4Ideal.S4x8448x128.Idx → EReal) = (Kernel4Ideal.Gen.dats m 0 c).arrAt 8 Kernel4Ideal.cfg0.N := by
    intro m m' c hd
    rw [Kernel4Ideal.Seq.final8, ← hd]
    funext i
    idx_vars i
    exact Reference4Ideal.Stages.g_eq m' c i0 i1 i2
  pair_intro
  · run_from (Kernel4Ideal.Value.run_blocks m g)
  · run_from (Reference4Ideal.Stages.run4 m' g')
    · exact key4 m m' _ (same m m' _ (hagree _))
    · exact key5 m m' _ (same m m' _ (hagree _))
    · exact key6 m m' _ (same m m' _ (hagree _))
    · exact key7 m m' _ (same m m' _ (hagree _))
    · rw [← (hagree _).2.2.2.2]
      exact key8 m m' _ (same m m' _ (hagree _))

end Cert.Proof

end
-- ==== Proof.Spec5.lean ====
/- The adaLN modulation vectors and the mLSTM's convolution, as functions of the arguments over the extended reals. -/
module

public import proofs.«01_k».proof.Proof.Spec3

@[expose] public section

set_option maxRecDepth 16384

noncomputable section

namespace Cert.Prep

open Idealize.ShloMosaic Cert.Merge

/-- The SiLU. -/
def silu (x : EReal) : EReal := x * lgst x

theorem silu_zero : silu 0 = 0 := zero_mul _

/-- The conditioning vectors of latents and context, the weights and the bias. -/
structure Data5 where
  cl : Fin 4 → Fin 1024 → EReal
  cc : Fin 1024 → EReal
  w : Fin 1024 → Fin 6144 → EReal
  b : Fin 6144 → EReal

/-- The modulation vector of a conditioning vector. -/
def ada (D : Data5) (x : Fin 1024 → EReal) (e : Fin 6144) : EReal := dot (fun k => silu (x k)) (fun k => D.w k e) + D.b e

/-- The conditioning rows: the batches', the context's, and zeros. -/
def cRow (D : Data5) (r : Fin 8) (k : Fin 1024) : EReal :=
  if h : r.val < 4 then D.cl ⟨r.val, h⟩ k else if r.val = 4 then D.cc k else 0

/-- The vector of a row of zeros is the bias. -/
theorem ada_zero (D : Data5) (e : Fin 6144) : ada D (fun _ => 0) e = D.b e := by
  unfold ada dot
  simp only [silu_zero, zero_mul, Finset.sum_const_zero, zero_add]

/-- The convolution's input, weights and bias. -/
structure Data6 where
  x : Fin 4 → Fin 8448 → Fin 1024 → EReal
  w : Fin 3 → Fin 1024 → EReal
  b : Fin 1024 → EReal

/-- The token before, zero at the start of the context and of the latents. -/
def prevT (D : Data6) (b : Fin 4) (s : Fin 8448) (e : Fin 1024) : EReal :=
  if s.val = 0 ∨ s.val = 256 then 0 else D.x b ⟨s.val - 1, by omega⟩ e

/-- The token after, zero at the end of the context and of the latents. -/
def nextT (D : Data6) (b : Fin 4) (s : Fin 8448) (e : Fin 1024) : EReal :=
  if h : s.val = 255 ∨ s.val = 8447 then 0 else D.x b ⟨s.val + 1, by omega⟩ e

/-- Three taps around a value, the bias first. -/
def taps (b p x n w0 w1 w2 : EReal) : EReal := b + p * w0 + x * w1 + n * w2

/-- One entry of the convolution's SiLU. -/
def conv (D : Data6) (b : Fin 4) (s : Fin 8448) (e : Fin 1024) : EReal :=
  silu (taps (D.b e) (prevT D b s e) (D.x b s e) (nextT D b s e) (D.w 0 e) (D.w 1 e) (D.w 2 e))

/-- The keys' scale. -/
abbrev wS : EReal := Ideal.ofBits .f32 0x3DB504F3#32

/-- The queries. -/
def resQ6 (D : Data6) (b : Fin 4) (s : Fin 8448) (e : Fin 512) : EReal := conv D b s ⟨e, by omega⟩
/-- The scaled keys. -/
def resK6 (D : Data6) (b : Fin 4) (s : Fin 8448) (e : Fin 512) : EReal := conv D b s ⟨512 + e, by omega⟩ * wS

end Cert.Prep

end
-- ==== Proof.Ada5.lean ====
/- The adaLN kernel's result array: each grid point's block of columns is the specification's. -/
module

public import proofs.«01_k».proof.Proof.Gen.Kernel5Ideal.Value
public import proofs.«01_k».proof.Proof.Spec5
public import Idealize.ShloMosaic.Lib.Pointwise
public import Idealize.ShloMosaic.Lib.StableHlo.ReadAt
public import Idealize.ShloMosaic.Lib.StableHlo.RunClose
public import Idealize.ShloMosaic.Lib.Pipeline.ValueKit.Basic
public import Idealize.ShloMosaic.Lib.Pipeline.ValueKit.Tiles

@[expose] public section

set_option maxRecDepth 16384

noncomputable section

namespace Cert.Kernel5Ideal.Ada

open Idealize.ShloMosaic.StableHlo
open Cert.Kernel5Ideal Cert.Kernel5Ideal.Gen Idealize.ShloMosaic Idealize.ShloMosaic.TcCoe Cert.Merge Cert.Prep

theorem pay1_apply (x : Vec Ideal S8x1024 .f32) (w : Vec Ideal S1024x1536 .bf16) (b : Vec Ideal S1x1536 .f32) (r : Fin 8) (e : Fin 1536) :
    k0_pay1 x w b (ix2 r e) = dot (fun k => silu (x (ix2 r k))) (fun k => w (ix2 k e)) + b (ix2 0 e) := by
  pointwise [k0_pay1, dot, silu, lgst]
  simp only [zero_sub]

theorem out3_row (x0 : Vec Ideal S8x1024 .f32) (x1 : Vec Ideal S1024x1536 .bf16) (x2 : Vec Ideal S1x1536 .f32) (r : Fin 8) (e : Fin 1536) :
    (out0_3 x0 x1 x2 : FVec Ideal S8x1536 .f32) (ix2 r e)
      = dot (fun k => silu (x0 (ix2 r k))) (fun k => x1 (ix2 k e)) + x2 (ix2 0 e) := by
  unfold out0_3
  rw [View.canon_cons_unit_lit _ _ _ (by decide)]
  rw [View.ld_unit_lit (Val := Elt Ideal) _ x0 (by decide), View.ld_unit_lit (Val := Elt Ideal) _ x1 (by decide), View.ld_unit_lit (Val := Elt Ideal) _ x2 (by decide)]
  exact pay1_apply x0 x1 x2 r e

variable (m : (ℓ : Loc nD τ sig) → Buf (Elt Ideal) ℓ) (c : Dev nD)

/-- The arguments on core `c`. -/
def data : Data5 :=
  { cl := fun b k => (m ((c : Thread nD τ).loc main_arg0) : Vec Ideal S4x1024 .f32) (ix2 b k)
    cc := fun k => (m ((c : Thread nD τ).loc main_arg1) : Vec Ideal S1024 .f32) (ix1 k)
    w := fun k e => (m ((c : Thread nD τ).loc main_arg2) : Vec Ideal S1024x6144 .f32) (ix2 k e)
    b := fun e => (m ((c : Thread nD τ).loc main_arg3) : Vec Ideal S6144 .f32) (ix1 e) }

/-- The conditioning vectors as rows, and rows of zeros. -/
def rows (a : FVec Ideal S4x1024 .f32) (b : FVec Ideal S1024 .f32) : FVec Ideal S8x1024 .f32 :=
  concatenate S8x1024 0 [⟨S4x1024, a⟩, ⟨S1x1024, (broadcastInDim S1x1024 ![1] bcast_S1024_S1x1024_1 b : FVec Ideal S1x1024 .f32)⟩,
    ⟨S3x1024, (broadcastInDim S3x1024 ![] bcast_S_S3x1024 (constant S_ .f32 0x00000000#32) : FVec Ideal S3x1024 .f32)⟩] concatenates_S4x1024_S1x1024_S3x1024_S8x1024_d0

/-- The weights in the kernel's type. -/
def wts (a : FVec Ideal S1024x6144 .f32) : FVec Ideal S1024x6144 .bf16 := truncf .bf16 a bitsLt_bf16_f32
/-- The bias as a row. -/
def bias (a : FVec Ideal S6144 .f32) : FVec Ideal S1x6144 .f32 := broadcastInDim S1x6144 ![1] bcast_S6144_S1x6144_1 a

theorem rows_lat (a : FVec Ideal S4x1024 .f32) (b : FVec Ideal S1024 .f32) (r : Fin 4) (k : Fin 1024) : rows a b (ix2 ⟨r, by omega⟩ k) = a (ix2 r k) := by
  pointwise [rows]
theorem rows_ctx (a : FVec Ideal S4x1024 .f32) (b : FVec Ideal S1024 .f32) (k : Fin 1024) : rows a b (ix2 4 k) = b (ix1 k) := by
  pointwise [rows]
theorem rows_zero (a : FVec Ideal S4x1024 .f32) (b : FVec Ideal S1024 .f32) (r : Fin 3) (k : Fin 1024) : rows a b (ix2 ⟨5 + r, by omega⟩ k) = 0 := by
  pointwise [rows]
  rw [dif_neg (by omega), dif_neg (by omega)]
theorem wts_apply (a : FVec Ideal S1024x6144 .f32) (k : Fin 1024) (e : Fin 6144) : wts a (ix2 k e) = a (ix2 k e) := by
  pointwise [wts]
theorem bias_apply (a : FVec Ideal S6144 .f32) (e : Fin 6144) : bias a (ix2 0 e) = a (ix1 e) := by
  pointwise [bias]

theorem V2_eq : (V m c main_v2 : Vec Ideal S8x1024 .f32) = rows (m ((c : Thread nD τ).loc main_arg0)) (m ((c : Thread nD τ).loc main_arg1)) := by
  unfold V
  after_results_entrywise (rounds := 1) []
theorem V3_eq : (V m c main_v3 : Vec Ideal S1024x6144 .bf16) = wts (m ((c : Thread nD τ).loc main_arg2)) := by
  unfold V
  after_results_entrywise (rounds := 1) []
theorem V4_eq : (V m c main_v4 : Vec Ideal S1x6144 .f32) = bias (m ((c : Thread nD τ).loc main_arg3)) := by
  unfold V
  after_results_entrywise (rounds := 1) []

theorem rows_eq (r : Fin 8) (k : Fin 1024) :
    rows (m ((c : Thread nD τ).loc main_arg0)) (m ((c : Thread nD τ).loc main_arg1)) (ix2 r k) = cRow (data m c) r k := by
  unfold cRow
  by_cases h : r.val < 4
  · rw [dif_pos h]
    exact rows_lat _ _ ⟨r.val, h⟩ k
  rw [dif_neg h]
  by_cases h' : r.val = 4
  · rw [if_pos h', show r = 4 from Fin.ext h']
    exact rows_ctx _ _ k
  · rw [if_neg h', show r = ⟨5 + (⟨r.val - 5, by omega⟩ : Fin 3).val, by simp only []; omega⟩ from Fin.ext (by simp only []; omega)]
    exact rows_zero _ _ _ k

theorem index0 (t : Fin cfg0.N) : win0_0.index t 0 = 0 ∧ win0_0.index t 1 = 0 :=
  (by decide +kernel : ∀ t : Fin grid0.N, win0_0.index t 0 = 0 ∧ win0_0.index t 1 = 0) t
theorem index1 (t : Fin cfg0.N) : win0_1.index t 0 = 0 ∧ win0_1.index t 1 = t.val :=
  (by decide +kernel : ∀ t : Fin grid0.N, win0_1.index t 0 = 0 ∧ win0_1.index t 1 = t.val) t
theorem index2 (t : Fin cfg0.N) : win0_2.index t 0 = 0 ∧ win0_2.index t 1 = t.val :=
  (by decide +kernel : ∀ t : Fin grid0.N, win0_2.index t 0 = 0 ∧ win0_2.index t 1 = t.val) t
theorem index3 (t : Fin cfg0.N) : win0_3.index t 0 = 0 ∧ win0_3.index t 1 = t.val :=
  (by decide +kernel : ∀ t : Fin grid0.N, win0_3.index t 0 = 0 ∧ win0_3.index t 1 = t.val) t

theorem tN (t : Fin cfg0.N) : t.val < 4 := lt_of_lt_of_eq t.isLt N_0

/-- The column of the result that a point's column is. -/
abbrev col (t : Fin cfg0.N) (e : Fin 1536) : Fin 6144 := ⟨1536 * t.val + e, by have := tN t; omega⟩

theorem blk0 (t : Fin cfg0.N) (r : Fin 8) (k : Fin 1024) :
    (iblk m c 0 t : Vec Ideal S8x1024 .f32) (ix2 r k) = (V m c main_v2 : Vec Ideal S8x1024 .f32) (ix2 r k) := by
  obtain ⟨h0, h1⟩ := index0 t
  unfold iblk
  rw [View.read_apply]
  show V m c main_v2 _ = V m c main_v2 _
  congr 1
  funext a
  apply Fin.ext
  match a with
  | ⟨0, _⟩ => show win0_0.index t 0 * 8 + 1 * r.val = r.val; omega
  | ⟨1, _⟩ => show win0_0.index t 1 * 1024 + 1 * k.val = k.val; omega

theorem blk1 (t : Fin cfg0.N) (k : Fin 1024) (e : Fin 1536) :
    (iblk m c 1 t : Vec Ideal S1024x1536 .bf16) (ix2 k e) = (V m c main_v3 : Vec Ideal S1024x6144 .bf16) (ix2 k (col t e)) := by
  obtain ⟨h0, h1⟩ := index1 t
  unfold iblk
  rw [View.read_apply]
  show V m c main_v3 _ = V m c main_v3 _
  congr 1
  funext a
  apply Fin.ext
  match a with
  | ⟨0, _⟩ => show win0_1.index t 0 * 1024 + 1 * k.val = k.val; omega
  | ⟨1, _⟩ => show win0_1.index t 1 * 1536 + 1 * e.val = 1536 * t.val + e.val; omega

theorem blk2 (t : Fin cfg0.N) (e : Fin 1536) :
    (iblk m c 2 t : Vec Ideal S1x1536 .f32) (ix2 0 e) = (V m c main_v4 : Vec Ideal S1x6144 .f32) (ix2 0 (col t e)) := by
  obtain ⟨h0, h1⟩ := index2 t
  unfold iblk
  rw [View.read_apply]
  show V m c main_v4 _ = V m c main_v4 _
  congr 1
  funext a
  apply Fin.ext
  match a with
  | ⟨0, _⟩ => show win0_2.index t 0 * 1 + 1 * 0 = 0; omega
  | ⟨1, _⟩ => show win0_2.index t 1 * 1536 + 1 * e.val = 1536 * t.val + e.val; omega

/-- The result, as an array. -/
def arr (D : Data5) : S8x6144.Idx → EReal := fun i => ada D (cRow D (i 0)) (i 1)

theorem point (t : Fin cfg0.N) (r : Fin 8) (e : Fin 1536) :
    (out0_3 (iblk m c 0 t) (iblk m c 1 t) (iblk m c 2 t) : FVec Ideal S8x1536 .f32) (ix2 r e) = ada (data m c) (cRow (data m c) r) (col t e) := by
  refine (out3_row (iblk m c 0 t) (iblk m c 1 t) (iblk m c 2 t) r e).trans ?_
  have hx : ∀ k, (iblk m c 0 t : Vec Ideal S8x1024 .f32) (ix2 r k) = cRow (data m c) r k := fun k =>
    (blk0 m c t r k).trans ((congrFun (V2_eq m c) _).trans (rows_eq m c r k))
  have hw : ∀ k, (iblk m c 1 t : Vec Ideal S1024x1536 .bf16) (ix2 k e) = (data m c).w k (col t e) := fun k =>
    (blk1 m c t k e).trans ((congrFun (V3_eq m c) _).trans (wts_apply _ k _))
  have hb : (iblk m c 2 t : Vec Ideal S1x1536 .f32) (ix2 0 e) = (data m c).b (col t e) :=
    (blk2 m c t e).trans ((congrFun (V4_eq m c) _).trans (bias_apply _ _))
  unfold ada dot
  exact congr (congrArg (· + ·) (Finset.sum_congr rfl fun k _ => congr (congrArg (fun x y => silu x * y) (hx k)) (hw k))) hb

theorem flushed_spec (t : Fin cfg0.N) (hf : (cfg0.win 3).flush t = true) :
    (dats m 0 c).flushed 3 t = ((cfg0.win 3).blk t).view.read (Elt Ideal) (arr (data m c) : Buf (Elt Ideal) ((c : Thread nD τ).loc main_v5)) := by
  obtain ⟨i0, i1⟩ := index3 t
  have hN := tN t
  rw [Value.flushed3]
  funext y
  change S8x1536.Idx at y
  idx_vars y
  refine (point m c t y0 y1).trans ?_
  rw [View.read_apply]
  have hr : ∀ {r r' : Fin 8} {e e' : Fin 6144}, r.val = r'.val → e.val = e'.val → ada (data m c) (cRow (data m c) r) e = ada (data m c) (cRow (data m c) r') e' := by
    intro r r' e e' hs he
    obtain rfl := Fin.ext hs
    obtain rfl := Fin.ext he
    rfl
  refine hr ?_ ?_
  · show y0.val = win0_3.index t 0 * 8 + 1 * y0.val; omega
  · show 1536 * t.val + y1.val = win0_3.index t 1 * 1536 + 1 * y1.val; omega

theorem final : (dats m 0 c).arrAt 3 cfg0.N = (arr (data m c) : Buf (Elt Ideal) ((c : Thread nD τ).loc main_v5)) :=
  (dats m 0 c).arrAt_eq_of_cover 3 (arr (data m c) : Buf (Elt Ideal) ((c : Thread nD τ).loc main_v5)) (flushed_spec m c) fun i => by
    have h0 : (i 0).val < 8 := (i 0).isLt
    have h1 : (i 1).val < 6144 := (i 1).isLt
    have hN : cfg0.N = 4 := N_0
    let t : Fin cfg0.N := ⟨(i 1).val / 1536, by omega⟩
    have ht : t.val = (i 1).val / 1536 := rfl
    obtain ⟨i0, i1⟩ := index3 t
    refine ⟨t, flush0_3 t, ?_⟩
    show i ∈ ((View.whole main_v5).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8; omega
    | ⟨1, _⟩ => show win0_3.index t 1 * 1536 ≤ (i 1 : Nat) ∧ (i 1 : Nat) < win0_3.index t 1 * 1536 + 1536; omega

end Cert.Kernel5Ideal.Ada

end
-- ==== Proof.Ref5.lean ====
/- The adaLN reference's result, entry by entry: the specification's. -/
module

public import proofs.«01_k».proof.Proof.Gen.Reference5Ideal.Run
public import proofs.«01_k».proof.Proof.Spec5
public import Idealize.ShloMosaic.Lib.Pointwise

@[expose] public section

set_option maxRecDepth 16384

noncomputable section

namespace Cert.Reference5Ideal.Stages

open Cert.Reference5Ideal Cert.Reference5Ideal.Gen Idealize.ShloMosaic Idealize.ShloMosaic.TcCoe Idealize.ShloMosaic.StableHlo Idealize.SL.Sem Cert.Merge Cert.Prep

/-- The latents' vectors. -/
def latA (a : FVec Ideal S4x1024 .f32) (w : FVec Ideal S1024x6144 .f32) (b : FVec Ideal S6144 .f32) : FVec Ideal S4x6144 .f32 :=
  addf (Host.dotGeneral dot_S4x1024_S1024x6144_S4x6144_1_0_0_1_n_n none (mulf a (Host.divf (broadcastInDim S4x1024 ![] bcast_S_S4x1024 (constant S_ .f32 0x3F800000#32)) (addf (broadcastInDim S4x1024 ![] bcast_S_S4x1024 (constant S_ .f32 0x3F800000#32)) (Host.exp (Host.negf a))))) w) (broadcastInDim S4x6144 ![0, 1] bcast_S1x6144_S4x6144_0_1 (broadcastInDim S1x6144 ![1] bcast_S6144_S1x6144_1 b))

/-- The context's vector. -/
def ctxA (a : FVec Ideal S1024 .f32) (w : FVec Ideal S1024x6144 .f32) (b : FVec Ideal S6144 .f32) : FVec Ideal S6144 .f32 :=
  addf (Host.dotGeneral dot_S1024_S1024x6144_S6144_0_0_n_1_n_n none (mulf a (Host.divf (broadcastInDim S1024 ![] bcast_S_S1024 (constant S_ .f32 0x3F800000#32)) (addf (broadcastInDim S1024 ![] bcast_S_S1024 (constant S_ .f32 0x3F800000#32)) (Host.exp (Host.negf a))))) w) b

/-- The vectors as rows, and the bias as the further ones. -/
def allA (l : FVec Ideal S4x6144 .f32) (x : FVec Ideal S6144 .f32) (b : FVec Ideal S6144 .f32) : FVec Ideal S8x6144 .f32 :=
  concatenate S8x6144 0 [⟨S4x6144, l⟩, ⟨S1x6144, (broadcastInDim S1x6144 ![1] bcast_S6144_S1x6144_1 x : FVec Ideal S1x6144 .f32)⟩, ⟨S3x6144, (broadcastInDim S3x6144 ![1] bcast_S6144_S3x6144_1 b : FVec Ideal S3x6144 .f32)⟩] concatenates_S4x6144_S1x6144_S3x6144_S8x6144_d0

theorem latA_apply (a : FVec Ideal S4x1024 .f32) (w : FVec Ideal S1024x6144 .f32) (b : FVec Ideal S6144 .f32) (r : Fin 4) (e : Fin 6144) :
    latA a w b (ix2 r e) = dot (fun k => silu (a (ix2 r k))) (fun k => w (ix2 k e)) + b (ix1 e) := by
  pointwise [latA, dot, silu, lgst]
theorem ctxA_apply (a : FVec Ideal S1024 .f32) (w : FVec Ideal S1024x6144 .f32) (b : FVec Ideal S6144 .f32) (e : Fin 6144) :
    ctxA a w b (ix1 e) = dot (fun k => silu (a (ix1 k))) (fun k => w (ix2 k e)) + b (ix1 e) := by
  pointwise [ctxA, dot, silu, lgst]
theorem allA_lat (l : FVec Ideal S4x6144 .f32) (x : FVec Ideal S6144 .f32) (b : FVec Ideal S6144 .f32) (r : Fin 4) (e : Fin 6144) :
    allA l x b (ix2 ⟨r, by omega⟩ e) = l (ix2 r e) := by
  pointwise [allA]
theorem allA_ctx (l : FVec Ideal S4x6144 .f32) (x : FVec Ideal S6144 .f32) (b : FVec Ideal S6144 .f32) (e : Fin 6144) :
    allA l x b (ix2 4 e) = x (ix1 e) := by
  pointwise [allA]
theorem allA_bias (l : FVec Ideal S4x6144 .f32) (x : FVec Ideal S6144 .f32) (b : FVec Ideal S6144 .f32) (r : Fin 3) (e : Fin 6144) :
    allA l x b (ix2 ⟨5 + r, by omega⟩ e) = b (ix1 e) := by
  pointwise [allA]
  rw [dif_neg (by omega), dif_neg (by omega)]

variable (m : (ℓ : Loc nD τ sig) → Buf (Elt Ideal) ℓ) (c : Dev nD)

/-- The arguments on core `c`. -/
def data : Data5 :=
  { cl := fun b k => (m ((c.tc : Thread nD τ).loc main_arg0) : FVec Ideal S4x1024 .f32) (ix2 b k)
    cc := fun k => (m ((c.tc : Thread nD τ).loc main_arg1) : FVec Ideal S1024 .f32) (ix1 k)
    w := fun k e => (m ((c.tc : Thread nD τ).loc main_arg2) : FVec Ideal S1024x6144 .f32) (ix2 k e)
    b := fun e => (m ((c.tc : Thread nD τ).loc main_arg3) : FVec Ideal S6144 .f32) (ix1 e) }

/-- The result. -/
def resA : FVec Ideal S8x6144 .f32 :=
  allA (latA (m ((c.tc : Thread nD τ).loc main_arg0)) (m ((c.tc : Thread nD τ).loc main_arg2)) (m ((c.tc : Thread nD τ).loc main_arg3)))
    (ctxA (m ((c.tc : Thread nD τ).loc main_arg1)) (m ((c.tc : Thread nD τ).loc main_arg2)) (m ((c.tc : Thread nD τ).loc main_arg3)))
    (m ((c.tc : Thread nD τ).loc main_arg3))

theorem resA_eq (r : Fin 8) (e : Fin 6144) : resA m c (ix2 r e) = ada (data m c) (cRow (data m c) r) e := by
  by_cases h : r.val < 4
  · rw [show cRow (data m c) r = (data m c).cl ⟨r.val, h⟩ from funext fun k => by unfold cRow; rw [dif_pos h]]
    exact (allA_lat _ _ _ ⟨r.val, h⟩ e).trans (latA_apply _ _ _ _ e)
  by_cases h' : r.val = 4
  · rw [show cRow (data m c) r = (data m c).cc from funext fun k => by unfold cRow; rw [dif_neg h, if_pos h'], show r = 4 from Fin.ext h']
    exact (allA_ctx _ _ _ e).trans (ctxA_apply _ _ _ e)
  · rw [show cRow (data m c) r = fun _ => 0 from funext fun k => by unfold cRow; rw [dif_neg h, if_neg h'], ada_zero,
      show r = ⟨5 + (⟨r.val - 5, by omega⟩ : Fin 3).val, by simp only []; omega⟩ from Fin.ext (by simp only []; omega)]
    exact allA_bias _ _ _ _ e

/-- The reference ends with this result and its arguments unchanged. -/
theorem run5 (ρ : Dev nD → PrngReg) :
    θ_run defs (onTc (τ := τ) (main (F := Ideal))) ⟨m, fun _ => 0, ρ⟩ fun r => ∀ c : Dev nD,
      r.2.mem ((c.tc : Thread nD τ).loc main_v10) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rfl), (h c).2⟩) (Value.run m ρ)

end Cert.Reference5Ideal.Stages

end
-- ==== Proof.Algebra5.lean ====
/- The adaLN projection: kernel and reference end with the same result on all inputs. -/
module

public import proofs.«01_k».proof.Defs
public import proofs.«01_k».proof.Proof.Ada5
public import proofs.«01_k».proof.Proof.Ref5
public import Idealize.ShloMosaic.Lib.Claim

@[expose] public section

set_option maxRecDepth 16384

noncomputable section

namespace Cert.Proof

open Idealize.ShloMosaic Idealize.SL.Sem Cert.Merge Cert.Prep

/-- Both programs end with the specification's array. -/
theorem algebraic5 : Cert.algebraic_Kernel5Ideal_Reference5Ideal := by
  have key : ∀ (m : (ℓ : Loc Kernel5Ideal.nD Kernel5Ideal.τ Kernel5Ideal.sig) → Buf (Elt Ideal) ℓ)
      (m' : (ℓ : Loc Reference5Ideal.nD Reference5Ideal.τ Reference5Ideal.sig) → Buf (Elt Ideal) ℓ) (c : Dev Kernel5Ideal.nD),
      (m' ((c.tc : Thread Reference5Ideal.nD Reference5Ideal.τ).loc Reference5Ideal.main_arg0) = m ((c.tc : Thread Kernel5Ideal.nD Kernel5Ideal.τ).loc Kernel5Ideal.main_arg0)
      ∧ m' ((c.tc : Thread Reference5Ideal.nD Reference5Ideal.τ).loc Reference5Ideal.main_arg1) = m ((c.tc : Thread Kernel5Ideal.nD Kernel5Ideal.τ).loc Kernel5Ideal.main_arg1)
      ∧ m' ((c.tc : Thread Reference5Ideal.nD Reference5Ideal.τ).loc Reference5Ideal.main_arg2) = m ((c.tc : Thread Kernel5Ideal.nD Kernel5Ideal.τ).loc Kernel5Ideal.main_arg2)
      ∧ m' ((c.tc : Thread Reference5Ideal.nD Reference5Ideal.τ).loc Reference5Ideal.main_arg3) = m ((c.tc : Thread Kernel5Ideal.nD Kernel5Ideal.τ).loc Kernel5Ideal.main_arg3)) →
      (Reference5Ideal.Stages.resA m' c : Reference5Ideal.S8x6144.Idx → EReal) = (Kernel5Ideal.Gen.dats m 0 c).arrAt 3 Kernel5Ideal.cfg0.N := by
    intro m m' c ⟨e0, e1, e2, e3⟩
    have hd : Reference5Ideal.Stages.data m' c = Kernel5Ideal.Ada.data m c := by
      unfold Reference5Ideal.Stages.data Kernel5Ideal.Ada.data
      rw [e0, e1, e2, e3]
    rw [Kernel5Ideal.Ada.final, ← hd]
    funext i
    idx_vars i
    exact Reference5Ideal.Stages.resA_eq m' c i0 i1
  pair_intro
  · run_from (Kernel5Ideal.Value.run_blocks m g)
  · run_from (Reference5Ideal.Stages.run5 m' g')
    exact key m m' _ (hagree _)

end Cert.Proof

end
-- ==== Proof.Block6.lean ====
/- The convolution kernel's blocks, as functions of the blocks its windows read. -/
module

public import proofs.«01_k».proof.Proof.Gen.Kernel6Ideal.Frame
public import proofs.«01_k».proof.Proof.Spec5
public import Idealize.ShloMosaic.Lib.Pointwise
public import Idealize.ShloMosaic.Lib.Pipeline.ValueKit.Basic
public import Idealize.ShloMosaic.Lib.Pipeline.ValueKit.Tiles

@[expose] public section

set_option maxRecDepth 16384

noncomputable section

namespace Cert.Kernel6Ideal.Conv

open Cert.Kernel6Ideal Cert.Kernel6Ideal.Gen Idealize.ShloMosaic Cert.Merge Cert.Prep

theorem pay1_apply (x n : FVec Ideal S256x1024 .f32) (w : Vec Ideal S3x1024 .f32) (b : FVec Ideal S1x1024 .f32) (p : FVec Ideal S256x1024 .f32) (r : Fin 256) (e : Fin 1024) :
    k0_pay1 x n w b p (ix2 r e) = silu (b (ix2 0 e) + p (ix2 r e) + x (ix2 r e) * w (ix2 1 e) + n (ix2 r e) * w (ix2 2 e)) := by
  pointwise [k0_pay1, silu, lgst]
  simp only [zero_sub]

theorem pay2_apply (x n : FVec Ideal S256x1024 .f32) (w : Vec Ideal S3x1024 .f32) (b : FVec Ideal S1x1024 .f32) (p : FVec Ideal S256x1024 .f32) (r : Fin 256) (e : Fin 512) :
    k0_pay2 x n w b p (ix3 0 r e) = k0_pay1 x n w b p (ix2 r ⟨e, by omega⟩) := by
  obtain ⟨y, hy⟩ : ∃ y : FVec Ideal S256x1024 .f32, k0_pay1 x n w b p = y := ⟨_, rfl⟩
  unfold k0_pay2
  rw [hy]
  pointwise []

theorem pay3_apply (x n : FVec Ideal S256x1024 .f32) (w : Vec Ideal S3x1024 .f32) (b : FVec Ideal S1x1024 .f32) (p : FVec Ideal S256x1024 .f32) (r : Fin 256) (e : Fin 512) :
    k0_pay3 x n w b p (ix3 0 r e) = k0_pay1 x n w b p (ix2 r ⟨512 + e, by omega⟩) * wS := by
  obtain ⟨y, hy⟩ : ∃ y : FVec Ideal S256x1024 .f32, k0_pay1 x n w b p = y := ⟨_, rfl⟩
  unfold k0_pay3
  rw [hy]
  pointwise [wS]

theorem pay4_apply (x : Vec Ideal S1x256x1024 .f32) (r : Fin 256) (e : Fin 1024) : k0_pay4 x (ix2 r e) = x (ix3 0 r e) := by
  pointwise [k0_pay4]

theorem pay6_apply (x : Vec Ideal S1x1024 .f32) (e : Fin 1024) : k0_pay6 x (ix2 0 e) = x (ix2 0 e) := by
  pointwise [k0_pay6]

/-- The tiles that end the context or the latents. -/
theorem ends (i : grid0.Coords) : Scalar.ori (Scalar.cmpi .eq (BitVec.ofNat 32 (i 1).val) 0#32) (Scalar.cmpi .eq (BitVec.ofNat 32 (i 1).val) 32#32)
    = if (i 1).val = 0 ∨ (i 1).val = 32 then 1#1 else 0#1 :=
  (by decide +kernel : ∀ j : Fin 33, Scalar.ori (Scalar.cmpi .eq (BitVec.ofNat 32 j.val) 0#32) (Scalar.cmpi .eq (BitVec.ofNat 32 j.val) 32#32)
    = if j.val = 0 ∨ j.val = 32 then 1#1 else 0#1) (i 1)

/-- The tiles that start the context or the latents. -/
theorem starts (i : grid0.Coords) : Scalar.ori (Scalar.cmpi .eq (BitVec.ofNat 32 (i 1).val) 0#32) (Scalar.cmpi .eq (BitVec.ofNat 32 (i 1).val) 1#32)
    = if (i 1).val = 0 ∨ (i 1).val = 1 then 1#1 else 0#1 :=
  (by decide +kernel : ∀ j : Fin 33, Scalar.ori (Scalar.cmpi .eq (BitVec.ofNat 32 j.val) 0#32) (Scalar.cmpi .eq (BitVec.ofNat 32 j.val) 1#32)
    = if j.val = 0 ∨ j.val = 1 then 1#1 else 0#1) (i 1)

theorem is_last (r : Fin 256) : IntOp.cmpi .eq (BitVec.ofNat 32 r.val) 255#32 = if r.val = 255 then 1#1 else 0#1 :=
  (by decide +kernel : ∀ r : Fin 256, IntOp.cmpi .eq (BitVec.ofNat 32 r.val) 255#32 = if r.val = 255 then 1#1 else 0#1) r

theorem is_first (r : Fin 256) : IntOp.cmpi .eq (BitVec.ofNat 32 r.val) 0#32 = if r.val = 0 then 1#1 else 0#1 :=
  (by decide +kernel : ∀ r : Fin 256, IntOp.cmpi .eq (BitVec.ofNat 32 r.val) 0#32 = if r.val = 0 then 1#1 else 0#1) r

theorem pay5_apply (i : grid0.Coords) (x : Vec Ideal S1x256x1024 .f32) (n : Vec Ideal S1x1x1024 .f32) (r : Fin 256) (e : Fin 1024) :
    k0_pay5 i x n (ix2 r e) = if r.val = 255 then (if (i 1).val = 0 ∨ (i 1).val = 32 then 0 else n (ix3 0 0 e)) else x (ix3 0 ⟨(r.val + 1) % 256, by omega⟩ e) := by
  obtain ⟨y, hy, hya⟩ : ∃ y : FVec Ideal S256x1024 .f32, k0_pay4 x = y ∧ ∀ r e, y (ix2 r e) = x (ix3 0 r e) := ⟨_, rfl, pay4_apply x⟩
  have hr : y (ix2 ⟨(r.val + 256 - 255) % 256, by omega⟩ e) = x (ix3 0 ⟨(r.val + 1) % 256, by omega⟩ e) :=
    (hya _ e).trans (congrArg (fun k => x (ix3 0 k e)) (Fin.ext (by simp only []; omega)))
  unfold k0_pay5
  simp only [ends, hy]
  by_cases h : (i 1).val = 0 ∨ (i 1).val = 32
  · simp only [if_pos h]
    pointwise []
    rw [is_last, hr]
    by_cases h' : r.val = 255
    · rw [if_pos h', if_pos h']; rfl
    · rw [if_neg h', if_neg h']; rfl
  · simp only [if_neg h]
    pointwise []
    rw [is_last, hr]
    by_cases h' : r.val = 255
    · rw [if_pos h', if_pos h']; rfl
    · rw [if_neg h', if_neg h']; rfl

theorem pay7_apply (i : grid0.Coords) (x : Vec Ideal S1x256x1024 .f32) (p : Vec Ideal S1x1x1024 .f32) (w : Vec Ideal S3x1024 .f32) (r : Fin 256) (e : Fin 1024) :
    k0_pay7 i x p w (ix2 r e) = (if r.val = 0 then (if (i 1).val = 0 ∨ (i 1).val = 1 then 0 else p (ix3 0 0 e)) else x (ix3 0 ⟨(r.val + 255) % 256, by omega⟩ e)) * w (ix2 0 e) := by
  obtain ⟨y, hy, hya⟩ : ∃ y : FVec Ideal S256x1024 .f32, k0_pay4 x = y ∧ ∀ r e, y (ix2 r e) = x (ix3 0 r e) := ⟨_, rfl, pay4_apply x⟩
  have hr : y (ix2 ⟨(r.val + 256 - 1) % 256, by omega⟩ e) = x (ix3 0 ⟨(r.val + 255) % 256, by omega⟩ e) :=
    (hya _ e).trans (congrArg (fun k => x (ix3 0 k e)) (Fin.ext (by simp only []; omega)))
  unfold k0_pay7
  simp only [starts, hy]
  by_cases h : (i 1).val = 0 ∨ (i 1).val = 1
  · simp only [if_pos h]
    pointwise []
    rw [is_first, hr]
    by_cases h' : r.val = 0
    · rw [if_pos h', if_pos h', zero_mul]; rfl
    · rw [if_neg h', if_neg h']; rfl
  · simp only [if_neg h]
    pointwise []
    rw [is_first, hr]
    by_cases h' : r.val = 0
    · rw [if_pos h', if_pos h']; rfl
    · rw [if_neg h', if_neg h']; rfl

/-- One entry of the block's convolution and SiLU, from the block's rows and the rows around it. -/
def kconv (i : grid0.Coords) (x0 : Vec Ideal S1x256x1024 .f32) (x1 : Vec Ideal S1x8x1024 .f32) (x2 : Vec Ideal S1x8x1024 .f32) (x3 : Vec Ideal S3x1024 .f32) (x4 : Vec Ideal S1x1024 .f32)
    (r : Fin 256) (e : Fin 1024) : EReal :=
  silu (taps (x4 (ix2 0 e))
    (if r.val = 0 then (if (i 1).val = 0 ∨ (i 1).val = 1 then 0 else x1 (ix3 0 7 e)) else x0 (ix3 0 ⟨(r.val + 255) % 256, by omega⟩ e))
    (x0 (ix3 0 r e))
    (if r.val = 255 then (if (i 1).val = 0 ∨ (i 1).val = 32 then 0 else x2 (ix3 0 0 e)) else x0 (ix3 0 ⟨(r.val + 1) % 256, by omega⟩ e))
    (x3 (ix2 0 e)) (x3 (ix2 1 e)) (x3 (ix2 2 e)))

theorem ld_last (x : Vec Ideal S1x8x1024 .f32) (e : Fin 1024) : View.ld (Val := Elt Ideal) x r0_1 (ix3 0 0 e) = x (ix3 0 7 e) := by
  rw [View.ld_apply]
  refine congrArg x (funext fun a => Fin.ext ?_)
  match a with
  | ⟨0, _⟩ => rfl
  | ⟨1, _⟩ => rfl
  | ⟨2, _⟩ => show 0 + 1 * e.val = e.val; omega

theorem ld_first (x : Vec Ideal S1x8x1024 .f32) (e : Fin 1024) : View.ld (Val := Elt Ideal) x r0_2 (ix3 0 0 e) = x (ix3 0 0 e) := by
  rw [View.ld_apply]
  refine congrArg x (funext fun a => Fin.ext ?_)
  match a with
  | ⟨0, _⟩ => rfl
  | ⟨1, _⟩ => rfl
  | ⟨2, _⟩ => show 0 + 1 * e.val = e.val; omega

theorem pay_conv (i : grid0.Coords) (x0 : Vec Ideal S1x256x1024 .f32) (x1 : Vec Ideal S1x8x1024 .f32) (x2 : Vec Ideal S1x8x1024 .f32) (x3 : Vec Ideal S3x1024 .f32) (x4 : Vec Ideal S1x1024 .f32) (r : Fin 256) (e : Fin 1024) :
    k0_pay1 (k0_pay4 x0) (k0_pay5 i x0 (View.ld (Val := Elt Ideal) x2 r0_2)) x3 (k0_pay6 x4) (k0_pay7 i x0 (View.ld (Val := Elt Ideal) x1 r0_1) x3) (ix2 r e) = kconv i x0 x1 x2 x3 x4 r e := by
  rw [pay1_apply, pay4_apply, pay5_apply, pay6_apply, pay7_apply, ld_last, ld_first]
  rfl

theorem out5_row (i : grid0.Coords) (x0 : Vec Ideal S1x256x1024 .f32) (x1 : Vec Ideal S1x8x1024 .f32) (x2 : Vec Ideal S1x8x1024 .f32) (x3 : Vec Ideal S3x1024 .f32) (x4 : Vec Ideal S1x1024 .f32) (r : Fin 256) (e : Fin 512) :
    (out0_5 i x0 x1 x2 x3 x4 : FVec Ideal S1x256x512 .bf16) (ix3 0 r e) = kconv i x0 x1 x2 x3 x4 r ⟨e, by omega⟩ := by
  unfold_out out0_5
  rw [View.canon_cons_unit_lit _ _ _ (by decide)]
  rw [View.ld_unit_lit (Val := Elt Ideal) _ x0 (by decide), View.ld_unit_lit (Val := Elt Ideal) _ x3 (by decide), View.ld_unit_lit (Val := Elt Ideal) _ x4 (by decide)]
  exact (pay2_apply _ _ _ _ _ r e).trans (pay_conv i x0 x1 x2 x3 x4 r _)

theorem out6_row (i : grid0.Coords) (x0 : Vec Ideal S1x256x1024 .f32) (x1 : Vec Ideal S1x8x1024 .f32) (x2 : Vec Ideal S1x8x1024 .f32) (x3 : Vec Ideal S3x1024 .f32) (x4 : Vec Ideal S1x1024 .f32) (r : Fin 256) (e : Fin 512) :
    (out0_6 i x0 x1 x2 x3 x4 : FVec Ideal S1x256x512 .bf16) (ix3 0 r e) = kconv i x0 x1 x2 x3 x4 r ⟨512 + e, by omega⟩ * wS := by
  unfold_out out0_6
  rw [View.canon_cons_unit_lit _ _ _ (by decide)]
  rw [View.ld_unit_lit (Val := Elt Ideal) _ x0 (by decide), View.ld_unit_lit (Val := Elt Ideal) _ x3 (by decide), View.ld_unit_lit (Val := Elt Ideal) _ x4 (by decide)]
  exact (pay3_apply _ _ _ _ _ r e).trans (congrArg (· * wS) (pay_conv i x0 x1 x2 x3 x4 r _))

end Cert.Kernel6Ideal.Conv

end
-- ==== Proof.Final6.lean ====
/- The convolution kernel's result arrays: the specification's queries and keys. -/
module

public import proofs.«01_k».proof.Proof.Gen.Kernel6Ideal.Value
public import proofs.«01_k».proof.Proof.Block6
public import Idealize.ShloMosaic.Lib.StableHlo.ReadAt
public import Idealize.ShloMosaic.Lib.StableHlo.RunClose

@[expose] public section

set_option maxRecDepth 16384

noncomputable section

namespace Cert.Kernel6Ideal.Conv

open Idealize.ShloMosaic.StableHlo
open Cert.Kernel6Ideal Cert.Kernel6Ideal.Gen Idealize.ShloMosaic Idealize.ShloMosaic.TcCoe Cert.Merge Cert.Prep

variable (m : (ℓ : Loc nD τ sig) → Buf (Elt Ideal) ℓ) (c : Dev nD)

/-- The arguments on core `c`. -/
def data : Data6 :=
  { x := fun b s e => (m ((c : Thread nD τ).loc main_arg0) : Vec Ideal S4x8448x1024 .f32) (ix3 b s e)
    w := fun j e => (m ((c : Thread nD τ).loc main_arg1) : Vec Ideal S3x1024 .f32) (ix2 j e)
    b := fun e => (m ((c : Thread nD τ).loc main_arg2) : Vec Ideal S1024 .f32) (ix1 e) }

/-- The bias as a row. -/
def bias (a : FVec Ideal S1024 .f32) : FVec Ideal S1x1024 .f32 := broadcastInDim S1x1024 ![1] bcast_S1024_S1x1024_1 a

theorem bias_apply (a : FVec Ideal S1024 .f32) (e : Fin 1024) : bias a (ix2 0 e) = a (ix1 e) := by
  pointwise [bias]

theorem V0_eq : (V m c main_v0 : Vec Ideal S1x1024 .f32) = bias (m ((c : Thread nD τ).loc main_arg2)) := by
  unfold V
  after_results_entrywise (rounds := 1) []
theorem Va0_eq : (V m c main_arg0 : Vec Ideal S4x8448x1024 .f32) = m ((c : Thread nD τ).loc main_arg0) := by
  unfold V
  after_results_entrywise (rounds := 1) []
theorem Va1_eq : (V m c main_arg1 : Vec Ideal S3x1024 .f32) = m ((c : Thread nD τ).loc main_arg1) := by
  unfold V
  after_results_entrywise (rounds := 1) []

theorem coord1 (t : Fin cfg0.N) : (grid0.coords t 1).val = t.val % 33 :=
  (by decide +kernel : ∀ t : Fin grid0.N, (grid0.coords t 1).val = t.val % 33) t
theorem index0 (t : Fin cfg0.N) : win0_0.index t 0 = t.val / 33 ∧ win0_0.index t 1 = t.val % 33 ∧ win0_0.index t 2 = 0 :=
  (by decide +kernel : ∀ t : Fin grid0.N, win0_0.index t 0 = t.val / 33 ∧ win0_0.index t 1 = t.val % 33 ∧ win0_0.index t 2 = 0) t
theorem index1 (t : Fin cfg0.N) : win0_1.index t 0 = t.val / 33 ∧ win0_1.index t 1 = 32 * (t.val % 33) - 1 ∧ win0_1.index t 2 = 0 :=
  (by decide +kernel : ∀ t : Fin grid0.N, win0_1.index t 0 = t.val / 33 ∧ win0_1.index t 1 = 32 * (t.val % 33) - 1 ∧ win0_1.index t 2 = 0) t
theorem index2 (t : Fin cfg0.N) : win0_2.index t 0 = t.val / 33 ∧ win0_2.index t 1 = min (32 * (t.val % 33 + 1)) 1055 ∧ win0_2.index t 2 = 0 :=
  (by decide +kernel : ∀ t : Fin grid0.N, win0_2.index t 0 = t.val / 33 ∧ win0_2.index t 1 = min (32 * (t.val % 33 + 1)) 1055 ∧ win0_2.index t 2 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = t.val / 33 ∧ win0_5.index t 1 = t.val % 33 ∧ win0_5.index t 2 = 0 :=
  (by decide +kernel : ∀ t : Fin grid0.N, win0_5.index t 0 = t.val / 33 ∧ win0_5.index t 1 = t.val % 33 ∧ win0_5.index t 2 = 0) t
theorem index6 (t : Fin cfg0.N) : win0_6.index t 0 = t.val / 33 ∧ win0_6.index t 1 = t.val % 33 ∧ win0_6.index t 2 = 0 :=
  (by decide +kernel : ∀ t : Fin grid0.N, win0_6.index t 0 = t.val / 33 ∧ win0_6.index t 1 = t.val % 33 ∧ win0_6.index t 2 = 0) t

theorem tN (t : Fin cfg0.N) : t.val < 132 := lt_of_lt_of_eq t.isLt N_0

/-- A point's batch. -/
abbrev bat (t : Fin cfg0.N) : Fin 4 := ⟨t.val / 33, by have := tN t; omega⟩
/-- The token of a row of a point's block. -/
abbrev tok (t : Fin cfg0.N) (r : Fin 256) : Fin 8448 := ⟨256 * (t.val % 33) + r, by omega⟩

theorem blk0 (t : Fin cfg0.N) (r : Fin 256) (e : Fin 1024) :
    (iblk m c 0 t : Vec Ideal S1x256x1024 .f32) (ix3 0 r e) = (data m c).x (bat t) (tok t r) e := by
  obtain ⟨h0, h1, h2⟩ := index0 t
  unfold iblk
  rw [View.read_apply]
  refine (congrArg (V m c main_arg0 : Vec Ideal S4x8448x1024 .f32) (?_ : _ = ix3 (bat t) (tok t r) e)).trans (congrFun (Va0_eq m c) _)
  funext a
  apply Fin.ext
  match a with
  | ⟨0, _⟩ => show win0_0.index t 0 * 1 + 1 * 0 = t.val / 33; omega
  | ⟨1, _⟩ => show win0_0.index t 1 * 256 + 1 * r.val = 256 * (t.val % 33) + r.val; omega
  | ⟨2, _⟩ => show win0_0.index t 2 * 1024 + 1 * e.val = e.val; omega

theorem blk1 (t : Fin cfg0.N) (h : ¬ t.val % 33 = 0) (e : Fin 1024) :
    (iblk m c 1 t : Vec Ideal S1x8x1024 .f32) (ix3 0 7 e) = (data m c).x (bat t) ⟨256 * (t.val % 33) - 1, by omega⟩ e := by
  obtain ⟨h0, h1, h2⟩ := index1 t
  unfold iblk
  rw [View.read_apply]
  refine (congrArg (V m c main_arg0 : Vec Ideal S4x8448x1024 .f32) (?_ : _ = ix3 (bat t) ⟨256 * (t.val % 33) - 1, by omega⟩ e)).trans (congrFun (Va0_eq m c) _)
  funext a
  apply Fin.ext
  match a with
  | ⟨0, _⟩ => show win0_1.index t 0 * 1 + 1 * 0 = t.val / 33; omega
  | ⟨1, _⟩ => show win0_1.index t 1 * 8 + 1 * 7 = 256 * (t.val % 33) - 1; omega
  | ⟨2, _⟩ => show win0_1.index t 2 * 1024 + 1 * e.val = e.val; omega

theorem blk2 (t : Fin cfg0.N) (h : ¬ t.val % 33 = 32) (e : Fin 1024) :
    (iblk m c 2 t : Vec Ideal S1x8x1024 .f32) (ix3 0 0 e) = (data m c).x (bat t) ⟨256 * (t.val % 33) + 256, by omega⟩ e := by
  obtain ⟨h0, h1, h2⟩ := index2 t
  unfold iblk
  rw [View.read_apply]
  refine (congrArg (V m c main_arg0 : Vec Ideal S4x8448x1024 .f32) (?_ : _ = ix3 (bat t) ⟨256 * (t.val % 33) + 256, by omega⟩ e)).trans (congrFun (Va0_eq m c) _)
  funext a
  apply Fin.ext
  match a with
  | ⟨0, _⟩ => show win0_2.index t 0 * 1 + 1 * 0 = t.val / 33; omega
  | ⟨1, _⟩ => show win0_2.index t 1 * 8 + 1 * 0 = 256 * (t.val % 33) + 256; omega
  | ⟨2, _⟩ => show win0_2.index t 2 * 1024 + 1 * e.val = e.val; omega

theorem blk3 (t : Fin cfg0.N) (j : Fin 3) (e : Fin 1024) :
    (iblk m c 3 t : Vec Ideal S3x1024 .f32) (ix2 j e) = (data m c).w j e := by
  obtain ⟨h0, h1⟩ := index3 t
  unfold iblk
  rw [View.read_apply]
  refine (congrArg (V m c main_arg1 : Vec Ideal S3x1024 .f32) (?_ : _ = ix2 j e)).trans (congrFun (Va1_eq m c) _)
  funext a
  apply Fin.ext
  match a with
  | ⟨0, _⟩ => show win0_3.index t 0 * 3 + 1 * j.val = j.val; omega
  | ⟨1, _⟩ => show win0_3.index t 1 * 1024 + 1 * e.val = e.val; omega

theorem blk4 (t : Fin cfg0.N) (e : Fin 1024) :
    (iblk m c 4 t : Vec Ideal S1x1024 .f32) (ix2 0 e) = (data m c).b e := by
  obtain ⟨h0, h1⟩ := index4 t
  unfold iblk
  rw [View.read_apply]
  refine (congrArg (V m c main_v0 : Vec Ideal S1x1024 .f32) (?_ : _ = ix2 0 e)).trans ((congrFun (V0_eq m c) _).trans (bias_apply _ e))
  funext a
  apply Fin.ext
  match a with
  | ⟨0, _⟩ => show win0_4.index t 0 * 1 + 1 * 0 = 0; omega
  | ⟨1, _⟩ => show win0_4.index t 1 * 1024 + 1 * e.val = e.val; omega

/-- Equal tokens, equal entries. -/
theorem x_eq (D : Data6) (b : Fin 4) {s s' : Fin 8448} (e : Fin 1024) (h : s.val = s'.val) : D.x b s e = D.x b s' e :=
  congrArg (fun s => D.x b s e) (Fin.ext h)

/-- One entry of a point's convolution. -/
theorem kconv_eq (t : Fin cfg0.N) (r : Fin 256) (e : Fin 1024) :
    kconv (grid0.coords t) (iblk m c 0 t) (iblk m c 1 t) (iblk m c 2 t) (iblk m c 3 t) (iblk m c 4 t) r e = conv (data m c) (bat t) (tok t r) e := by
  have hc := coord1 t
  have hp : (if r.val = 0 then (if (grid0.coords t 1).val = 0 ∨ (grid0.coords t 1).val = 1 then (0 : EReal) else (iblk m c 1 t : Vec Ideal S1x8x1024 .f32) (ix3 0 7 e))
      else (iblk m c 0 t : Vec Ideal S1x256x1024 .f32) (ix3 0 ⟨(r.val + 255) % 256, by omega⟩ e)) = prevT (data m c) (bat t) (tok t r) e := by
    rw [hc]
    unfold prevT
    by_cases h : r.val = 0
    · rw [if_pos h]
      by_cases h' : t.val % 33 = 0 ∨ t.val % 33 = 1
      · rw [if_pos h', if_pos (by simp only []; omega)]
      · rw [if_neg h', if_neg (by simp only []; omega)]
        exact (blk1 m c t (by omega) e).trans (x_eq _ _ e (by simp only []; omega))
    · rw [if_neg h, if_neg (by simp only []; omega)]
      exact (blk0 m c t _ e).trans (x_eq _ _ e (by simp only []; omega))
  have hn : (if r.val = 255 then (if (grid0.coords t 1).val = 0 ∨ (grid0.coords t 1).val = 32 then (0 : EReal) else (iblk m c 2 t : Vec Ideal S1x8x1024 .f32) (ix3 0 0 e))
      else (iblk m c 0 t : Vec Ideal S1x256x1024 .f32) (ix3 0 ⟨(r.val + 1) % 256, by omega⟩ e)) = nextT (data m c) (bat t) (tok t r) e := by
    rw [hc]
    unfold nextT
    by_cases h : r.val = 255
    · rw [if_pos h]
      by_cases h' : t.val % 33 = 0 ∨ t.val % 33 = 32
      · rw [if_pos h', dif_pos (by simp only []; omega)]
      · rw [if_neg h', dif_neg (by simp only []; omega)]
        exact (blk2 m c t (by omega) e).trans (x_eq _ _ e (by simp only []; omega))
    · rw [if_neg h, dif_neg (by simp only []; omega)]
      exact (blk0 m c t _ e).trans (x_eq _ _ e (by simp only []; omega))
  unfold kconv conv
  rw [hp, hn, blk0 m c t r e, blk3 m c t 0 e, blk3 m c t 1 e, blk3 m c t 2 e, blk4 m c t e]

/-- The queries, as an array. -/
def arrQ (D : Data6) : S4x8448x512.Idx → EReal := fun i => resQ6 D (i 0) (i 1) (i 2)
/-- The keys, as an array. -/
def arrK (D : Data6) : S4x8448x512.Idx → EReal := fun i => resK6 D (i 0) (i 1) (i 2)

theorem val_eq (f : Fin 4 → Fin 8448 → Fin 512 → EReal) {b b' : Fin 4} {s s' : Fin 8448} {e e' : Fin 512} (h0 : b.val = b'.val) (h1 : s.val = s'.val) (h2 : e.val = e'.val) :
    f b s e = f b' s' e' := by
  obtain rfl := Fin.ext h0
  obtain rfl := Fin.ext h1
  obtain rfl := Fin.ext h2
  rfl

theorem flushed_spec5 (t : Fin cfg0.N) (hf : (cfg0.win 5).flush t = true) :
    (dats m 0 c).flushed 5 t = ((cfg0.win 5).blk t).view.read (Elt Ideal) (arrQ (data m c) : Buf (Elt Ideal) ((c : Thread nD τ).loc main_v1_0)) := by
  obtain ⟨i0, i1, i2⟩ := index5 t
  have hN := tN t
  rw [Value.flushed5]
  funext y
  change S1x256x512.Idx at y
  idx_vars y
  obtain rfl : y0 = 0 := Fin.ext (by omega)
  refine (out5_row (grid0.coords t) (iblk m c 0 t) (iblk m c 1 t) (iblk m c 2 t) (iblk m c 3 t) (iblk m c 4 t) y1 y2).trans ((kconv_eq m c t y1 _).trans ?_)
  rw [View.read_apply]
  refine val_eq (resQ6 (data m c)) (b := bat t) (s := tok t y1) (e := y2) ?_ ?_ ?_
  · show t.val / 33 = win0_5.index t 0 * 1 + 1 * 0; omega
  · show 256 * (t.val % 33) + y1.val = win0_5.index t 1 * 256 + 1 * y1.val; omega
  · show y2.val = win0_5.index t 2 * 512 + 1 * y2.val; omega

theorem flushed_spec6 (t : Fin cfg0.N) (hf : (cfg0.win 6).flush t = true) :
    (dats m 0 c).flushed 6 t = ((cfg0.win 6).blk t).view.read (Elt Ideal) (arrK (data m c) : Buf (Elt Ideal) ((c : Thread nD τ).loc main_v1_1)) := by
  obtain ⟨i0, i1, i2⟩ := index6 t
  have hN := tN t
  rw [Value.flushed6]
  funext y
  change S1x256x512.Idx at y
  idx_vars y
  obtain rfl : y0 = 0 := Fin.ext (by omega)
  refine (out6_row (grid0.coords t) (iblk m c 0 t) (iblk m c 1 t) (iblk m c 2 t) (iblk m c 3 t) (iblk m c 4 t) y1 y2).trans ((congrArg (· * wS) (kconv_eq m c t y1 _)).trans ?_)
  rw [View.read_apply]
  refine val_eq (resK6 (data m c)) (b := bat t) (s := tok t y1) (e := y2) ?_ ?_ ?_
  · show t.val / 33 = win0_6.index t 0 * 1 + 1 * 0; omega
  · show 256 * (t.val % 33) + y1.val = win0_6.index t 1 * 256 + 1 * y1.val; omega
  · show y2.val = win0_6.index t 2 * 512 + 1 * y2.val; omega

theorem final5 : (dats m 0 c).arrAt 5 cfg0.N = (arrQ (data m c) : Buf (Elt Ideal) ((c : Thread nD τ).loc main_v1_0)) :=
  (dats m 0 c).arrAt_eq_of_cover 5 (arrQ (data m c) : Buf (Elt Ideal) ((c : Thread nD τ).loc main_v1_0)) (flushed_spec5 m c) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index5 t
    refine ⟨t, flush0_5 t, ?_⟩
    show i ∈ ((View.whole main_v1_0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega
    | ⟨2, _⟩ => show win0_5.index t 2 * 512 ≤ (i 2 : Nat) ∧ (i 2 : Nat) < win0_5.index t 2 * 512 + 512; omega

theorem final6 : (dats m 0 c).arrAt 6 cfg0.N = (arrK (data m c) : Buf (Elt Ideal) ((c : Thread nD τ).loc main_v1_1)) :=
  (dats m 0 c).arrAt_eq_of_cover 6 (arrK (data m c) : Buf (Elt Ideal) ((c : Thread nD τ).loc main_v1_1)) (flushed_spec6 m c) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index6 t
    refine ⟨t, flush0_6 t, ?_⟩
    show i ∈ ((View.whole main_v1_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; omega
    | ⟨1, _⟩ => show win0_6.index t 1 * 256 ≤ (i 1 : Nat) ∧ (i 1 : Nat) < win0_6.index t 1 * 256 + 256; omega
    | ⟨2, _⟩ => show win0_6.index t 2 * 512 ≤ (i 2 : Nat) ∧ (i 2 : Nat) < win0_6.index t 2 * 512 + 512; omega

end Cert.Kernel6Ideal.Conv

end
-- ==== Proof.Ref6Stages.lean ====
/- The stages of the convolution's reference and each at an index. -/
module

public import proofs.«01_k».proof.Proof.Gen.Reference6Ideal.Run
public import proofs.«01_k».proof.Proof.Spec5
public import Idealize.ShloMosaic.Lib.Pointwise

@[expose] public section

set_option maxRecDepth 16384

noncomputable section

namespace Cert.Reference6Ideal.Stages

open Cert.Reference6Ideal Cert.Reference6Ideal.Gen Idealize.ShloMosaic Idealize.ShloMosaic.TcCoe Idealize.ShloMosaic.StableHlo Idealize.SL.Sem Cert.Merge Cert.Prep

/-- The padding value. -/
theorem pad_zero : (FloatOps.sitofp .f32 (0#32 : BitVec 32) : Ideal .f32) = (0 : EReal) := by
  show (((0#32 : BitVec 32).toInt : ℝ) : EReal) = 0
  simp

/-- The context rows, a zero row before and after. -/
def padC (x : FVec Ideal S4x8448x1024 .f32) : FVec Ideal S4x258x1024 .f32 :=
  pad S4x258x1024 ![0, 1, 0] ![0, 1, 0] ![0, 0, 0] (extractStridedSlice S4x256x1024 ![0, 0, 0] x slices_S4x8448x1024_S4x256x1024_0_0_0) (sitofp .f32 (constantI S_ 32 0#32)) pads_S4x256x1024_S4x258x1024_000_110_000 h_S_

/-- The context rows' convolution. -/
def conC (p : FVec Ideal S4x258x1024 .f32) (w : FVec Ideal S3x1024 .f32) (b : FVec Ideal S1024 .f32) : FVec Ideal S4x256x1024 .f32 :=
  addf (addf (addf (broadcastInDim S4x256x1024 ![0, 1, 2] bcast_S1x1x1024_S4x256x1024_0_1_2 (broadcastInDim S1x1x1024 ![2] bcast_S1024_S1x1x1024_2 b)) (mulf (extractStridedSlice S4x256x1024 ![0, 0, 0] p slices_S4x258x1024_S4x256x1024_0_0_0) (broadcastInDim S4x256x1024 ![0, 1, 2] bcast_S1x1x1024_S4x256x1024_0_1_2 (broadcastInDim S1x1x1024 ![2] bcast_S1024_S1x1x1024_2 (shapeCast _ (extractStridedSlice S1x1024 ![0, 0] w slices_S3x1024_S1x1024_0_0) shapeCasts_S1x1024_S1024 : FVec Ideal S1024 .f32))))) (mulf (extractStridedSlice S4x256x1024 ![0, 1, 0] p slices_S4x258x1024_S4x256x1024_0_1_0) (broadcastInDim S4x256x1024 ![0, 1, 2] bcast_S1x1x1024_S4x256x1024_0_1_2 (broadcastInDim S1x1x1024 ![2] bcast_S1024_S1x1x1024_2 (shapeCast _ (extractStridedSlice S1x1024 ![1, 0] w slices_S3x1024_S1x1024_1_0) shapeCasts_S1x1024_S1024 : FVec Ideal S1024 .f32))))) (mulf (extractStridedSlice S4x256x1024 ![0, 2, 0] p slices_S4x258x1024_S4x256x1024_0_2_0) (broadcastInDim S4x256x1024 ![0, 1, 2] bcast_S1x1x1024_S4x256x1024_0_1_2 (broadcastInDim S1x1x1024 ![2] bcast_S1024_S1x1x1024_2 (shapeCast _ (extractStridedSlice S1x1024 ![2, 0] w slices_S3x1024_S1x1024_2_0) shapeCasts_S1x1024_S1024 : FVec Ideal S1024 .f32))))

/-- The context rows' SiLU. -/
def silC (y : FVec Ideal S4x256x1024 .f32) : FVec Ideal S4x256x1024 .f32 :=
  mulf y (Host.divf (broadcastInDim S4x256x1024 ![] bcast_S_S4x256x1024 (constant S_ .f32 0x3F800000#32)) (addf (broadcastInDim S4x256x1024 ![] bcast_S_S4x256x1024 (constant S_ .f32 0x3F800000#32)) (Host.exp (Host.negf y))))

/-- The context rows' convolution and SiLU. -/
def allC (x : FVec Ideal S4x8448x1024 .f32) (w : FVec Ideal S3x1024 .f32) (b : FVec Ideal S1024 .f32) : FVec Ideal S4x256x1024 .f32 :=
  silC (conC (padC x) w b)

theorem padC_apply (x : FVec Ideal S4x8448x1024 .f32) (b : Fin 4) (s : Fin 258) (e : Fin 1024) :
    padC x (ix3 b s e) = if h : 1 ≤ s.val ∧ s.val < 257 then x (ix3 b ⟨0 + (s.val - 1), by omega⟩ e) else 0 := by
  pointwise [padC]
  rw [pad_zero]
  by_cases h : 1 ≤ s.val ∧ s.val < 257
  · rw [dif_pos h, dif_pos (by omega)]
  · rw [dif_neg h, dif_neg (by omega)]

theorem conC_apply (p : FVec Ideal S4x258x1024 .f32) (w : FVec Ideal S3x1024 .f32) (b : FVec Ideal S1024 .f32) (i : Fin 4) (s : Fin 256) (e : Fin 1024) :
    conC p w b (ix3 i s e) = taps (b (ix1 e)) (p (ix3 i ⟨s, by omega⟩ e)) (p (ix3 i ⟨1 + s, by omega⟩ e)) (p (ix3 i ⟨2 + s, by omega⟩ e)) (w (ix2 0 e)) (w (ix2 1 e)) (w (ix2 2 e)) := by
  pointwise [conC, taps]

theorem silC_apply (y : FVec Ideal S4x256x1024 .f32) (i : Fin 4) (s : Fin 256) (e : Fin 1024) :
    silC y (ix3 i s e) = silu (y (ix3 i s e)) := by
  pointwise [silC, silu, lgst]

/-- The latent rows, a zero row before and after. -/
def padL (x : FVec Ideal S4x8448x1024 .f32) : FVec Ideal S4x8194x1024 .f32 :=
  pad S4x8194x1024 ![0, 1, 0] ![0, 1, 0] ![0, 0, 0] (extractStridedSlice S4x8192x1024 ![0, 256, 0] x slices_S4x8448x1024_S4x8192x1024_0_256_0) (sitofp .f32 (constantI S_ 32 0#32)) pads_S4x8192x1024_S4x8194x1024_000_110_000 h_S_

/-- The latent rows' convolution. -/
def conL (p : FVec Ideal S4x8194x1024 .f32) (w : FVec Ideal S3x1024 .f32) (b : FVec Ideal S1024 .f32) : FVec Ideal S4x8192x1024 .f32 :=
  addf (addf (addf (broadcastInDim S4x8192x1024 ![0, 1, 2] bcast_S1x1x1024_S4x8192x1024_0_1_2 (broadcastInDim S1x1x1024 ![2] bcast_S1024_S1x1x1024_2 b)) (mulf (extractStridedSlice S4x8192x1024 ![0, 0, 0] p slices_S4x8194x1024_S4x8192x1024_0_0_0) (broadcastInDim S4x8192x1024 ![0, 1, 2] bcast_S1x1x1024_S4x8192x1024_0_1_2 (broadcastInDim S1x1x1024 ![2] bcast_S1024_S1x1x1024_2 (shapeCast _ (extractStridedSlice S1x1024 ![0, 0] w slices_S3x1024_S1x1024_0_0) shapeCasts_S1x1024_S1024 : FVec Ideal S1024 .f32))))) (mulf (extractStridedSlice S4x8192x1024 ![0, 1, 0] p slices_S4x8194x1024_S4x8192x1024_0_1_0) (broadcastInDim S4x8192x1024 ![0, 1, 2] bcast_S1x1x1024_S4x8192x1024_0_1_2 (broadcastInDim S1x1x1024 ![2] bcast_S1024_S1x1x1024_2 (shapeCast _ (extractStridedSlice S1x1024 ![1, 0] w slices_S3x1024_S1x1024_1_0) shapeCasts_S1x1024_S1024 : FVec Ideal S1024 .f32))))) (mulf (extractStridedSlice S4x8192x1024 ![0, 2, 0] p slices_S4x8194x1024_S4x8192x1024_0_2_0) (broadcastInDim S4x8192x1024 ![0, 1, 2] bcast_S1x1x1024_S4x8192x1024_0_1_2 (broadcastInDim S1x1x1024 ![2] bcast_S1024_S1x1x1024_2 (shapeCast _ (extractStridedSlice S1x1024 ![2, 0] w slices_S3x1024_S1x1024_2_0) shapeCasts_S1x1024_S1024 : FVec Ideal S1024 .f32))))

/-- The latent rows' SiLU. -/
def silL (y : FVec Ideal S4x8192x1024 .f32) : FVec Ideal S4x8192x1024 .f32 :=
  mulf y (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf y))))

/-- The latent rows' convolution and SiLU. -/
def allL (x : FVec Ideal S4x8448x1024 .f32) (w : FVec Ideal S3x1024 .f32) (b : FVec Ideal S1024 .f32) : FVec Ideal S4x8192x1024 .f32 :=
  silL (conL (padL x) w b)

theorem padL_apply (x : FVec Ideal S4x8448x1024 .f32) (b : Fin 4) (s : Fin 8194) (e : Fin 1024) :
    padL x (ix3 b s e) = if h : 1 ≤ s.val ∧ s.val < 8193 then x (ix3 b ⟨256 + (s.val - 1), by omega⟩ e) else 0 := by
  pointwise [padL]
  rw [pad_zero]
  by_cases h : 1 ≤ s.val ∧ s.val < 8193
  · rw [dif_pos h, dif_pos (by omega)]
  · rw [dif_neg h, dif_neg (by omega)]

theorem conL_apply (p : FVec Ideal S4x8194x1024 .f32) (w : FVec Ideal S3x1024 .f32) (b : FVec Ideal S1024 .f32) (i : Fin 4) (s : Fin 8192) (e : Fin 1024) :
    conL p w b (ix3 i s e) = taps (b (ix1 e)) (p (ix3 i ⟨s, by omega⟩ e)) (p (ix3 i ⟨1 + s, by omega⟩ e)) (p (ix3 i ⟨2 + s, by omega⟩ e)) (w (ix2 0 e)) (w (ix2 1 e)) (w (ix2 2 e)) := by
  pointwise [conL, taps]

theorem silL_apply (y : FVec Ideal S4x8192x1024 .f32) (i : Fin 4) (s : Fin 8192) (e : Fin 1024) :
    silL y (ix3 i s e) = silu (y (ix3 i s e)) := by
  pointwise [silL, silu, lgst]

/-- The queries. -/
def qA (y : FVec Ideal S4x256x1024 .f32) (z : FVec Ideal S4x8192x1024 .f32) : FVec Ideal S4x8448x512 .bf16 :=
  truncf .bf16 (concatenate S4x8448x512 1 [⟨S4x256x512, (extractStridedSlice S4x256x512 ![0, 0, 0] y slices_S4x256x1024_S4x256x512_0_0_0 : FVec Ideal S4x256x512 .f32)⟩, ⟨S4x8192x512, (extractStridedSlice S4x8192x512 ![0, 0, 0] z slices_S4x8192x1024_S4x8192x512_0_0_0 : FVec Ideal S4x8192x512 .f32)⟩] concatenates_S4x256x512_S4x8192x512_S4x8448x512_d1 : FVec Ideal S4x8448x512 .f32) bitsLt_bf16_f32

/-- The scaled keys. -/
def kA (y : FVec Ideal S4x256x1024 .f32) (z : FVec Ideal S4x8192x1024 .f32) : FVec Ideal S4x8448x512 .bf16 :=
  truncf .bf16 (concatenate S4x8448x512 1 [⟨S4x256x512, (mulf (extractStridedSlice S4x256x512 ![0, 0, 512] y slices_S4x256x1024_S4x256x512_0_0_512) (broadcastInDim S4x256x512 ![] bcast_S_S4x256x512 (constant S_ .f32 0x3DB504F3#32)) : FVec Ideal S4x256x512 .f32)⟩, ⟨S4x8192x512, (mulf (extractStridedSlice S4x8192x512 ![0, 0, 512] z slices_S4x8192x1024_S4x8192x512_0_0_512) (broadcastInDim S4x8192x512 ![] bcast_S_S4x8192x512 (constant S_ .f32 0x3DB504F3#32)) : FVec Ideal S4x8192x512 .f32)⟩] concatenates_S4x256x512_S4x8192x512_S4x8448x512_d1 : FVec Ideal S4x8448x512 .f32) bitsLt_bf16_f32

theorem qA_ctx (y : FVec Ideal S4x256x1024 .f32) (z : FVec Ideal S4x8192x1024 .f32) (i : Fin 4) (s : Fin 256) (e : Fin 512) :
    qA y z (ix3 i ⟨s, by omega⟩ e) = y (ix3 i s ⟨e, by omega⟩) := by
  pointwise [qA]
theorem qA_lat (y : FVec Ideal S4x256x1024 .f32) (z : FVec Ideal S4x8192x1024 .f32) (i : Fin 4) (s : Fin 8192) (e : Fin 512) :
    qA y z (ix3 i ⟨256 + s, by omega⟩ e) = z (ix3 i s ⟨e, by omega⟩) := by
  pointwise [qA]
theorem kA_ctx (y : FVec Ideal S4x256x1024 .f32) (z : FVec Ideal S4x8192x1024 .f32) (i : Fin 4) (s : Fin 256) (e : Fin 512) :
    kA y z (ix3 i ⟨s, by omega⟩ e) = y (ix3 i s ⟨512 + e, by omega⟩) * wS := by
  pointwise [kA, wS]
theorem kA_lat (y : FVec Ideal S4x256x1024 .f32) (z : FVec Ideal S4x8192x1024 .f32) (i : Fin 4) (s : Fin 8192) (e : Fin 512) :
    kA y z (ix3 i ⟨256 + s, by omega⟩ e) = z (ix3 i s ⟨512 + e, by omega⟩) * wS := by
  pointwise [kA, wS]

variable (m : (ℓ : Loc nD τ sig) → Buf (Elt Ideal) ℓ) (c : Dev nD)

/-- The context rows of the arguments. -/
def ctx : FVec Ideal S4x256x1024 .f32 := allC (m ((c.tc : Thread nD τ).loc main_arg0)) (m ((c.tc : Thread nD τ).loc main_arg1)) (m ((c.tc : Thread nD τ).loc main_arg2))
/-- The latent rows of the arguments. -/
def lat : FVec Ideal S4x8192x1024 .f32 := allL (m ((c.tc : Thread nD τ).loc main_arg0)) (m ((c.tc : Thread nD τ).loc main_arg1)) (m ((c.tc : Thread nD τ).loc main_arg2))

/-- The reference ends with these stages' results and its arguments unchanged. -/
theorem run6 (ρ : Dev nD → PrngReg) :
    θ_run defs (onTc (τ := τ) (main (F := Ideal))) ⟨m, fun _ => 0, ρ⟩ fun r => ∀ c : Dev nD,
      r.2.mem ((c.tc : Thread nD τ).loc main_v62) = qA (ctx m c) (lat m c)
      ∧ r.2.mem ((c.tc : Thread nD τ).loc main_v63) = kA (ctx m c) (lat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by rfl), (h c).2.1.trans (by rfl), (h c).2.2⟩) (Value.run m ρ)

end Cert.Reference6Ideal.Stages

end
-- ==== Proof.Ref6Final.lean ====
/- The convolution reference's results, entry by entry: the specification's. -/
module

public import proofs.«01_k».proof.Proof.Ref6Stages

@[expose] public section

set_option maxRecDepth 16384

noncomputable section

namespace Cert.Reference6Ideal.Stages

open Cert.Reference6Ideal Cert.Reference6Ideal.Gen Idealize.ShloMosaic Idealize.ShloMosaic.TcCoe Idealize.ShloMosaic.StableHlo Cert.Merge Cert.Prep

variable (m : (ℓ : Loc nD τ sig) → Buf (Elt Ideal) ℓ) (c : Dev nD)

/-- The arguments on core `c`. -/
def data : Data6 :=
  { x := fun b s e => (m ((c.tc : Thread nD τ).loc main_arg0) : FVec Ideal S4x8448x1024 .f32) (ix3 b s e)
    w := fun j e => (m ((c.tc : Thread nD τ).loc main_arg1) : FVec Ideal S3x1024 .f32) (ix2 j e)
    b := fun e => (m ((c.tc : Thread nD τ).loc main_arg2) : FVec Ideal S1024 .f32) (ix1 e) }

/-- Equal tokens, equal entries. -/
theorem x_eq (D : Data6) (b : Fin 4) {s s' : Fin 8448} (e : Fin 1024) (h : s.val = s'.val) : D.x b s e = D.x b s' e :=
  congrArg (fun s => D.x b s e) (Fin.ext h)

theorem taps_eq {b p p' x x' n n' w0 w1 w2 : EReal} (hp : p = p') (hx : x = x') (hn : n = n') : silu (taps b p x n w0 w1 w2) = silu (taps b p' x' n' w0 w1 w2) := by
  rw [hp, hx, hn]

theorem ctx_apply (b : Fin 4) (s : Fin 256) (e : Fin 1024) : ctx m c (ix3 b s e) = conv (data m c) b ⟨s, by omega⟩ e := by
  refine (silC_apply _ b s e).trans ((congrArg silu (conC_apply _ _ _ b s e)).trans ?_)
  unfold conv
  refine taps_eq ?_ ?_ ?_
  · refine (padC_apply _ b _ e).trans ?_
    unfold prevT
    by_cases h : s.val = 0
    · rw [dif_neg (by simp only []; omega), if_pos (by simp only []; omega)]
    · rw [dif_pos (by simp only []; omega), if_neg (by simp only []; omega)]
      exact x_eq (data m c) b e (by simp only []; omega)
  · refine (padC_apply _ b _ e).trans ?_
    rw [dif_pos (by simp only []; omega)]
    exact x_eq (data m c) b e (by simp only []; omega)
  · refine (padC_apply _ b _ e).trans ?_
    unfold nextT
    by_cases h : s.val = 255
    · rw [dif_neg (by simp only []; omega), dif_pos (by simp only []; omega)]
    · rw [dif_pos (by simp only []; omega), dif_neg (by simp only []; omega)]
      exact x_eq (data m c) b e (by simp only []; omega)

theorem lat_apply (b : Fin 4) (s : Fin 8192) (e : Fin 1024) : lat m c (ix3 b s e) = conv (data m c) b ⟨256 + s, by omega⟩ e := by
  refine (silL_apply _ b s e).trans ((congrArg silu (conL_apply _ _ _ b s e)).trans ?_)
  unfold conv
  refine taps_eq ?_ ?_ ?_
  · refine (padL_apply _ b _ e).trans ?_
    unfold prevT
    by_cases h : s.val = 0
    · rw [dif_neg (by simp only []; omega), if_pos (by simp only []; omega)]
    · rw [dif_pos (by simp only []; omega), if_neg (by simp only []; omega)]
      exact x_eq (data m c) b e (by simp only []; omega)
  · refine (padL_apply _ b _ e).trans ?_
    rw [dif_pos (by simp only []; omega)]
    exact x_eq (data m c) b e (by simp only []; omega)
  · refine (padL_apply _ b _ e).trans ?_
    unfold nextT
    by_cases h : s.val = 8191
    · rw [dif_neg (by simp only []; omega), dif_pos (by simp only []; omega)]
    · rw [dif_pos (by simp only []; omega), dif_neg (by simp only []; omega)]
      exact x_eq (data m c) b e (by simp only []; omega)

theorem q_eq (b : Fin 4) (s : Fin 8448) (e : Fin 512) : qA (ctx m c) (lat m c) (ix3 b s e) = resQ6 (data m c) b s e := by
  by_cases h : s.val < 256
  · exact (qA_ctx _ _ b ⟨s.val, h⟩ e).trans (ctx_apply m c b _ _)
  · have hs : s = ⟨256 + (⟨s.val - 256, by omega⟩ : Fin 8192).val, by simp only []; omega⟩ := Fin.ext (by simp only []; omega)
    rw [hs]
    exact (qA_lat _ _ b _ e).trans (lat_apply m c b _ _)

theorem k_eq (b : Fin 4) (s : Fin 8448) (e : Fin 512) : kA (ctx m c) (lat m c) (ix3 b s e) = resK6 (data m c) b s e := by
  by_cases h : s.val < 256
  · exact (kA_ctx _ _ b ⟨s.val, h⟩ e).trans (congrArg (· * wS) (ctx_apply m c b _ _))
  · have hs : s = ⟨256 + (⟨s.val - 256, by omega⟩ : Fin 8192).val, by simp only []; omega⟩ := Fin.ext (by simp only []; omega)
    rw [hs]
    exact (kA_lat _ _ b _ e).trans (congrArg (· * wS) (lat_apply m c b _ _))

end Cert.Reference6Ideal.Stages

end
-- ==== Proof.Algebra6.lean ====
/- The mLSTM's convolution: kernel and reference end with the same results on all inputs. -/
module

public import proofs.«01_k».proof.Defs
public import proofs.«01_k».proof.Proof.Final6
public import proofs.«01_k».proof.Proof.Ref6Final
public import Idealize.ShloMosaic.Lib.Claim

@[expose] public section

set_option maxRecDepth 16384

noncomputable section

namespace Cert.Proof

open Idealize.ShloMosaic Idealize.SL.Sem Cert.Merge Cert.Prep

/-- Both programs end with the specification's arrays. -/
theorem algebraic6 : Cert.algebraic_Kernel6Ideal_Reference6Ideal := by
  have same : ∀ (m : (ℓ : Loc Kernel6Ideal.nD Kernel6Ideal.τ Kernel6Ideal.sig) → Buf (Elt Ideal) ℓ)
      (m' : (ℓ : Loc Reference6Ideal.nD Reference6Ideal.τ Reference6Ideal.sig) → Buf (Elt Ideal) ℓ) (c : Dev Kernel6Ideal.nD),
      (m' ((c.tc : Thread Reference6Ideal.nD Reference6Ideal.τ).loc Reference6Ideal.main_arg0) = m ((c.tc : Thread Kernel6Ideal.nD Kernel6Ideal.τ).loc Kernel6Ideal.main_arg0)
      ∧ m' ((c.tc : Thread Reference6Ideal.nD Reference6Ideal.τ).loc Reference6Ideal.main_arg1) = m ((c.tc : Thread Kernel6Ideal.nD Kernel6Ideal.τ).loc Kernel6Ideal.main_arg1)
      ∧ m' ((c.tc : Thread Reference6Ideal.nD Reference6Ideal.τ).loc Reference6Ideal.main_arg2) = m ((c.tc : Thread Kernel6Ideal.nD Kernel6Ideal.τ).loc Kernel6Ideal.main_arg2)) →
      Reference6Ideal.Stages.data m' c = Kernel6Ideal.Conv.data m c := by
    intro m m' c ⟨e0, e1, e2⟩
    unfold Reference6Ideal.Stages.data Kernel6Ideal.Conv.data
    rw [e0, e1, e2]
  have key5 : ∀ (m : (ℓ : Loc Kernel6Ideal.nD Kernel6Ideal.τ Kernel6Ideal.sig) → Buf (Elt Ideal) ℓ)
      (m' : (ℓ : Loc Reference6Ideal.nD Reference6Ideal.τ Reference6Ideal.sig) → Buf (Elt Ideal) ℓ) (c : Dev Kernel6Ideal.nD),
      Reference6Ideal.Stages.data m' c = Kernel6Ideal.Conv.data m c →
      (Reference6Ideal.Stages.qA (Reference6Ideal.Stages.ctx m' c) (Reference6Ideal.Stages.lat m' c) : Reference6Ideal.S4x8448x512.Idx → EReal) = (Kernel6Ideal.Gen.dats m 0 c).arrAt 5 Kernel6Ideal.cfg0.N := by
    intro m m' c hd
    rw [Kernel6Ideal.Conv.final5, ← hd]
    funext i
    idx_vars i
    exact Reference6Ideal.Stages.q_eq m' c i0 i1 i2
  have key6 : ∀ (m : (ℓ : Loc Kernel6Ideal.nD Kernel6Ideal.τ Kernel6Ideal.sig) → Buf (Elt Ideal) ℓ)
      (m' : (ℓ : Loc Reference6Ideal.nD Reference6Ideal.τ Reference6Ideal.sig) → Buf (Elt Ideal) ℓ) (c : Dev Kernel6Ideal.nD),
      Reference6Ideal.Stages.data m' c = Kernel6Ideal.Conv.data m c →
      (Reference6Ideal.Stages.kA (Reference6Ideal.Stages.ctx m' c) (Reference6Ideal.Stages.lat m' c) : Reference6Ideal.S4x8448x512.Idx → EReal) = (Kernel6Ideal.Gen.dats m 0 c).arrAt 6 Kernel6Ideal.cfg0.N := by
    intro m m' c hd
    rw [Kernel6Ideal.Conv.final6, ← hd]
    funext i
    idx_vars i
    exact Reference6Ideal.Stages.k_eq m' c i0 i1 i2
  pair_intro
  · run_from (Kernel6Ideal.Value.run_blocks m g)
  · run_from (Reference6Ideal.Stages.run6 m' g')
    · exact key5 m m' _ (same m m' _ (hagree _))
    · exact key6 m m' _ (same m m' _ (hagree _))

end Cert.Proof

end
-- ==== Proof.Spec7.lean ====
/- The values of the attention mixers' input projection, as functions of the arguments over the extended reals. -/
module

public import proofs.«01_k».proof.Proof.Spec3

@[expose] public section

set_option maxRecDepth 16384

noncomputable section

namespace Cert.Attn7

open Idealize.ShloMosaic Cert.Merge

/-- All the arguments, as functions of their positions. -/
structure Data7 where
  h : Fin 4 → Fin 8448 → Fin 1024 → EReal
  mc : Fin 6144 → EReal
  ml : Fin 4 → Fin 6144 → EReal
  w : Fin 1024 → Fin 8976 → EReal

/-- A token's modulation: the context's for the first 256 tokens, its batch's after them. -/
def mod7 (D : Data7) (b : Fin 4) (s : Fin 8448) (k : Fin 6144) : EReal := if s.val < 256 then D.mc k else D.ml b k

/-- The modulated row of token `s` of batch `b`. -/
def tokX (D : Data7) (b : Fin 4) (s : Fin 8448) : Fin 1024 → EReal :=
  xm (D.h b s) (fun k => mod7 D b s ⟨k, by omega⟩) (fun k => mod7 D b s ⟨1024 + k, by omega⟩)

/-- Column `j` of a token's projection. -/
def pr (D : Data7) (b : Fin 4) (s : Fin 8448) (j : Fin 8976) : EReal := dot (tokX D b s) (fun k => D.w k j)

/-- The differential attention's values. -/
def resDV (D : Data7) (b : Fin 4) (s : Fin 8448) (e : Fin 512) : EReal := pr D b s ⟨1024 + e, by omega⟩
/-- The values, each head beside 64 ones. -/
def resGV (D : Data7) (b : Fin 4) (s : Fin 8448) (e : Fin 256) : EReal :=
  if e.val % 128 < 64 then pr D b s ⟨4752 + 64 * (e.val / 128) + e.val % 64, by omega⟩ else 1

end Cert.Attn7

end
-- ==== Proof.Inputs7.lean ====
/- The weights the attention projection's windows read: the host's arrays at an index, from the arguments. -/
module

public import proofs.«01_k».proof.Proof.Gen.Kernel7Ideal.Value
public import proofs.«01_k».proof.Proof.Spec7
public import Idealize.ShloMosaic.Lib.Pointwise
public import Idealize.ShloMosaic.Lib.StableHlo.ReadAt
public import Idealize.ShloMosaic.Lib.StableHlo.RunClose

@[expose] public section

set_option maxRecDepth 16384

noncomputable section

namespace Cert.Kernel7Ideal.Attn7

open Idealize.ShloMosaic.StableHlo
open Cert.Kernel7Ideal Cert.Kernel7Ideal.Gen Idealize.ShloMosaic Idealize.ShloMosaic.TcCoe Cert.Merge Cert.Attn7

variable (m : (ℓ : Loc nD τ sig) → Buf (Elt Ideal) ℓ) (c : Dev nD)

/-- The arguments on core `c`. -/
def data : Data7 :=
  { h := fun b s e => (m ((c : Thread nD τ).loc main_arg0) : Vec Ideal S4x8448x1024 .f32) (ix3 b s e)
    mc := fun e => (m ((c : Thread nD τ).loc main_arg1) : Vec Ideal S6144 .f32) (ix1 e)
    ml := fun b e => (m ((c : Thread nD τ).loc main_arg2) : Vec Ideal S4x6144 .f32) (ix2 b e)
    w := fun k e => (m ((c : Thread nD τ).loc main_arg3) : Vec Ideal S1024x8976 .f32) (ix2 k e) }

/-- The context's modulation above each batch's. -/
def mods (a : FVec Ideal S6144 .f32) (b : FVec Ideal S4x6144 .f32) : FVec Ideal S4x2x6x1024 .f32 :=
  shapeCast S4x2x6x1024 (concatenate S4x2x6144 1 [⟨S4x1x6144, (broadcastInDim S4x1x6144 ![0, 2] bcast_S4x6144_S4x1x6144_0_2 (broadcastInDim S4x6144 ![1] bcast_S6144_S4x6144_1 a : FVec Ideal S4x6144 .f32) : FVec Ideal S4x1x6144 .f32)⟩,
    ⟨S4x1x6144, (broadcastInDim S4x1x6144 ![0, 2] bcast_S4x6144_S4x1x6144_0_2 b : FVec Ideal S4x1x6144 .f32)⟩] concatenates_S4x1x6144_S4x1x6144_S4x2x6144_d1) shapeCasts_S4x2x6144_S4x2x6x1024

/-- The columns each column of 512 is rotated with: the groups' halves exchanged, the first one's sign changed. -/
def part512 (w : FVec Ideal S1024x512 .f32) : FVec Ideal S1024x512 .f32 :=
  shapeCast S1024x512 (concatenate S1024x16x2x16 2 [⟨S1024x16x1x16, (Host.negf (extractStridedSlice S1024x16x1x16 ![0, 0, 1, 0] (shapeCast S1024x16x2x16 w shapeCasts_S1024x512_S1024x16x2x16 : FVec Ideal S1024x16x2x16 .f32) slices_S1024x16x2x16_S1024x16x1x16_0_0_1_0 : FVec Ideal S1024x16x1x16 .f32) : FVec Ideal S1024x16x1x16 .f32)⟩,
    ⟨S1024x16x1x16, (extractStridedSlice S1024x16x1x16 ![0, 0, 0, 0] (shapeCast S1024x16x2x16 w shapeCasts_S1024x512_S1024x16x2x16 : FVec Ideal S1024x16x2x16 .f32) slices_S1024x16x2x16_S1024x16x1x16_0_0_0_0 : FVec Ideal S1024x16x1x16 .f32)⟩] concatenates_S1024x16x1x16_S1024x16x1x16_S1024x16x2x16_d2 : FVec Ideal S1024x16x2x16 .f32) shapeCasts_S1024x16x2x16_S1024x512

/-- The columns each column of 128 is rotated with: the groups' halves exchanged, the first one's sign changed. -/
def part128 (w : FVec Ideal S1024x128 .f32) : FVec Ideal S1024x128 .f32 :=
  shapeCast S1024x128 (concatenate S1024x4x2x16 2 [⟨S1024x4x1x16, (Host.negf (extractStridedSlice S1024x4x1x16 ![0, 0, 1, 0] (shapeCast S1024x4x2x16 w shapeCasts_S1024x128_S1024x4x2x16 : FVec Ideal S1024x4x2x16 .f32) slices_S1024x4x2x16_S1024x4x1x16_0_0_1_0 : FVec Ideal S1024x4x1x16 .f32) : FVec Ideal S1024x4x1x16 .f32)⟩,
    ⟨S1024x4x1x16, (extractStridedSlice S1024x4x1x16 ![0, 0, 0, 0] (shapeCast S1024x4x2x16 w shapeCasts_S1024x128_S1024x4x2x16 : FVec Ideal S1024x4x2x16 .f32) slices_S1024x4x2x16_S1024x4x1x16_0_0_0_0 : FVec Ideal S1024x4x1x16 .f32)⟩] concatenates_S1024x4x1x16_S1024x4x1x16_S1024x4x2x16_d2 : FVec Ideal S1024x4x2x16 .f32) shapeCasts_S1024x4x2x16_S1024x128

/-- Two heads of 64 columns, each twice. -/
def dup (w : FVec Ideal S1024x128 .f32) : FVec Ideal S1024x256 .f32 :=
  (concatenate S1024x256 1 [⟨S1024x64, (extractStridedSlice S1024x64 ![0, 0] w slices_S1024x128_S1024x64_0_0 : FVec Ideal S1024x64 .f32)⟩, ⟨S1024x64, (extractStridedSlice S1024x64 ![0, 0] w slices_S1024x128_S1024x64_0_0 : FVec Ideal S1024x64 .f32)⟩, ⟨S1024x64, (extractStridedSlice S1024x64 ![0, 64] w slices_S1024x128_S1024x64_0_64 : FVec Ideal S1024x64 .f32)⟩, ⟨S1024x64, (extractStridedSlice S1024x64 ![0, 64] w slices_S1024x128_S1024x64_0_64 : FVec Ideal S1024x64 .f32)⟩] concatenates_S1024x64_S1024x64_S1024x64_S1024x64_S1024x256_d1 : FVec Ideal S1024x256 .f32)

/-- Two heads of 64 columns, each beside 64 zeros. -/
def slots (w : FVec Ideal S1024x128 .f32) : FVec Ideal S1024x256 .f32 :=
  shapeCast S1024x256 (concatenate S1024x2x128 2 [⟨S1024x2x64, (shapeCast S1024x2x64 w shapeCasts_S1024x128_S1024x2x64 : FVec Ideal S1024x2x64 .f32)⟩,
    ⟨S1024x2x64, (broadcastInDim S1024x2x64 ![] bcast_S_S1024x2x64 (constant S_ .f32 0x00000000#32) : FVec Ideal S1024x2x64 .f32)⟩] concatenates_S1024x2x64_S1024x2x64_S1024x2x128_d2 : FVec Ideal S1024x2x128 .f32) shapeCasts_S1024x2x128_S1024x256

/-- The ten groups of columns beside one another. -/
def cat10 (p0 p1 p2 p3 p4 p5 p6 : FVec Ideal S1024x512 .f32) (p7 p8 p9 : FVec Ideal S1024x256 .f32) : FVec Ideal S1024x4352 .bf16 :=
  truncf .bf16 (concatenate S1024x4352 1 [⟨S1024x512, p0⟩, ⟨S1024x512, p1⟩, ⟨S1024x512, p2⟩, ⟨S1024x512, p3⟩, ⟨S1024x512, p4⟩, ⟨S1024x512, p5⟩, ⟨S1024x512, p6⟩, ⟨S1024x256, p7⟩, ⟨S1024x256, p8⟩, ⟨S1024x256, p9⟩] concatenates_S1024x512_S1024x512_S1024x512_S1024x512_S1024x512_S1024x512_S1024x512_S1024x256_S1024x256_S1024x256_S1024x4352_d1 : FVec Ideal S1024x4352 .f32) bitsLt_bf16_f32

/-- The 512 columns of the weights from column 0 on. -/
def seg0 (a : FVec Ideal S1024x8976 .f32) : FVec Ideal S1024x512 .f32 := extractStridedSlice S1024x512 ![0, 0] a slices_S1024x8976_S1024x512_0_0

/-- The 512 columns of the weights from column 512 on. -/
def seg512 (a : FVec Ideal S1024x8976 .f32) : FVec Ideal S1024x512 .f32 := extractStridedSlice S1024x512 ![0, 512] a slices_S1024x8976_S1024x512_0_512

/-- The 512 columns of the weights from column 1024 on. -/
def seg1024 (a : FVec Ideal S1024x8976 .f32) : FVec Ideal S1024x512 .f32 := extractStridedSlice S1024x512 ![0, 1024] a slices_S1024x8976_S1024x512_0_1024

theorem seg1024_apply (a : FVec Ideal S1024x8976 .f32) (k : Fin 1024) (e : Fin 512) : seg1024 a (ix2 k e) = a (ix2 k ⟨1024 + e, by omega⟩) := by
  pointwise [seg1024]

/-- The 512 columns of the weights from column 4112 on. -/
def seg4112 (a : FVec Ideal S1024x8976 .f32) : FVec Ideal S1024x512 .f32 := extractStridedSlice S1024x512 ![0, 4112] a slices_S1024x8976_S1024x512_0_4112

/-- The 128 columns of the weights from column 4624 on. -/
def seg4624 (a : FVec Ideal S1024x8976 .f32) : FVec Ideal S1024x128 .f32 := extractStridedSlice S1024x128 ![0, 4624] a slices_S1024x8976_S1024x128_0_4624

/-- The 128 columns of the weights from column 4752 on. -/
def seg4752 (a : FVec Ideal S1024x8976 .f32) : FVec Ideal S1024x128 .f32 := extractStridedSlice S1024x128 ![0, 4752] a slices_S1024x8976_S1024x128_0_4752

theorem seg4752_apply (a : FVec Ideal S1024x8976 .f32) (k : Fin 1024) (e : Fin 128) : seg4752 a (ix2 k e) = a (ix2 k ⟨4752 + e, by omega⟩) := by
  pointwise [seg4752]

/-- The weights' columns of the two mixers. -/
def wa (a : FVec Ideal S1024x8976 .f32) : FVec Ideal S1024x4352 .bf16 :=
  cat10 (seg0 a) (part512 (seg0 a)) (seg512 a) (part512 (seg512 a)) (seg1024 a) (seg4112 a) (part512 (seg4112 a)) (dup (seg4624 a)) (dup (part128 (seg4624 a))) (slots (seg4752 a))

theorem mods_ctx (a : FVec Ideal S6144 .f32) (b : FVec Ideal S4x6144 .f32) (q : Fin 4) (p : Fin 6) (e : Fin 1024) :
    mods a b (ix4 q 0 p e) = a (ix1 ⟨p * 1024 + e, by omega⟩) := by
  pointwise [mods]

theorem mods_lat (a : FVec Ideal S6144 .f32) (b : FVec Ideal S4x6144 .f32) (q : Fin 4) (p : Fin 6) (e : Fin 1024) :
    mods a b (ix4 q 1 p e) = b (ix2 q ⟨p * 1024 + e, by omega⟩) := by
  pointwise [mods]

theorem slots_lo (w : FVec Ideal S1024x128 .f32) (k : Fin 1024) (j : Fin 2) (l : Fin 64) :
    slots w (ix2 k ⟨128 * j + l, by omega⟩) = w (ix2 k ⟨64 * j + l, by omega⟩) := by
  pointwise [slots]
  rw [dif_pos (by omega)]
  exact congrArg w (congrArg (ix2 k) (Fin.ext (by simp only []; omega)))

theorem slots_hi (w : FVec Ideal S1024x128 .f32) (k : Fin 1024) (j : Fin 2) (l : Fin 64) :
    slots w (ix2 k ⟨128 * j + 64 + l, by omega⟩) = 0 := by
  pointwise [slots]
  rw [dif_neg (by omega)]

theorem cat10_4 (p0 p1 p2 p3 p4 p5 p6 : FVec Ideal S1024x512 .f32) (p7 p8 p9 : FVec Ideal S1024x256 .f32) (k : Fin 1024) (e : Fin 512) :
    cat10 p0 p1 p2 p3 p4 p5 p6 p7 p8 p9 (ix2 k ⟨2048 + e, by omega⟩) = p4 (ix2 k e) := by
  pointwise [cat10]
  rw [dif_neg (by omega), dif_neg (by omega), dif_neg (by omega), dif_neg (by omega), dif_pos (by omega)]
  exact congrArg p4 (congrArg (ix2 k) (Fin.ext (by simp only []; omega)))

theorem cat10_9 (p0 p1 p2 p3 p4 p5 p6 : FVec Ideal S1024x512 .f32) (p7 p8 p9 : FVec Ideal S1024x256 .f32) (k : Fin 1024) (e : Fin 256) :
    cat10 p0 p1 p2 p3 p4 p5 p6 p7 p8 p9 (ix2 k ⟨4096 + e, by omega⟩) = p9 (ix2 k e) := by
  pointwise [cat10]
  rw [dif_neg (by omega), dif_neg (by omega), dif_neg (by omega), dif_neg (by omega), dif_neg (by omega), dif_neg (by omega), dif_neg (by omega), dif_neg (by omega), dif_neg (by omega)]
  exact congrArg p9 (congrArg (ix2 k) (Fin.ext (by simp only []; omega)))

theorem V4_eq : (V m c main_v4 : Vec Ideal S4x2x6x1024 .f32) = mods (m ((c : Thread nD τ).loc main_arg1)) (m ((c : Thread nD τ).loc main_arg2)) := by
  unfold V
  after_results_entrywise (rounds := 1) []

set_option maxHeartbeats 2000000 in
theorem V54_eq : (V m c main_v54 : Vec Ideal S1024x4352 .bf16) = wa (m ((c : Thread nD τ).loc main_arg3)) := by
  unfold V
  after_results_entrywise (rounds := 1) []

end Cert.Kernel7Ideal.Attn7

end
-- ==== Proof.Blocks7.lean ====
/- The blocks the attention projection kernel's windows read, as slices of the host's arrays. -/
module

public import proofs.«01_k».proof.Proof.Inputs7

@[expose] public section

set_option maxRecDepth 16384

noncomputable section

namespace Cert.Kernel7Ideal.Attn7

open Idealize.ShloMosaic.StableHlo
open Cert.Kernel7Ideal Cert.Kernel7Ideal.Gen Idealize.ShloMosaic Idealize.ShloMosaic.TcCoe Cert.Merge Cert.Attn7

/-! ## Which block each grid point works on: batch `t / 33`, tile of rows `t % 33` -/

theorem tN (t : Fin cfg0.N) : t.val < 132 := lt_of_lt_of_eq t.isLt N_0
theorem tb (t : Fin cfg0.N) : t.val / 33 < 4 := by
  have h := tN t
  omega

/-- The batch of a point. -/
abbrev bt (t : Fin cfg0.N) : Fin 4 := ⟨t.val / 33, tb t⟩
/-- The token of row `r` of a point's tile. -/
abbrev sr (t : Fin cfg0.N) (r : Fin 256) : Fin 8448 := ⟨256 * (t.val % 33) + r, by omega⟩
/-- The row of the modulations a point uses. -/
abbrev mr (t : Fin cfg0.N) : Fin 2 := ⟨if t.val % 33 = 0 then 0 else 1, by split <;> omega⟩

theorem index0 (t : Fin cfg0.N) : win0_0.index t 0 = t.val / 33 ∧ win0_0.index t 1 = t.val % 33 ∧ win0_0.index t 2 = 0 :=
  (by decide +kernel : ∀ t : Fin grid0.N, win0_0.index t 0 = t.val / 33 ∧ win0_0.index t 1 = t.val % 33 ∧ win0_0.index t 2 = 0) t
theorem index1 (t : Fin cfg0.N) : win0_1.index t 0 = t.val / 33 ∧ win0_1.index t 1 = (if t.val % 33 = 0 then 0 else 1) ∧ win0_1.index t 2 = 0 ∧ win0_1.index t 3 = 0 :=
  (by decide +kernel : ∀ t : Fin grid0.N, win0_1.index t 0 = t.val / 33 ∧ win0_1.index t 1 = (if t.val % 33 = 0 then 0 else 1) ∧ win0_1.index t 2 = 0 ∧ win0_1.index t 3 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index7 (t : Fin cfg0.N) : win0_7.index t 0 = t.val / 33 ∧ win0_7.index t 1 = t.val % 33 ∧ win0_7.index t 2 = 0 :=
  (by decide +kernel : ∀ t : Fin grid0.N, win0_7.index t 0 = t.val / 33 ∧ win0_7.index t 1 = t.val % 33 ∧ win0_7.index t 2 = 0) t
theorem index10 (t : Fin cfg0.N) : win0_10.index t 0 = t.val / 33 ∧ win0_10.index t 1 = t.val % 33 ∧ win0_10.index t 2 = 0 :=
  (by decide +kernel : ∀ t : Fin grid0.N, win0_10.index t 0 = t.val / 33 ∧ win0_10.index t 1 = t.val % 33 ∧ win0_10.index t 2 = 0) t

variable (m : (ℓ : Loc nD τ sig) → Buf (Elt Ideal) ℓ) (c : Dev nD)

theorem blk0 (t : Fin cfg0.N) (i1 : Fin 256) (i2 : Fin 1024) :
    (iblk m c 0 t : Vec Ideal S1x256x1024 .f32) (ix3 0 i1 i2) = (V m c main_arg0 : Vec Ideal S4x8448x1024 .f32) (ix3 (bt t) (sr t i1) i2) := by
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val / 33; omega
  | ⟨1, _⟩ => show win0_0.index t 1 * 256 + 1 * i1.val = 256 * (t.val % 33) + i1.val; omega
  | ⟨2, _⟩ => show win0_0.index t 2 * 1024 + 1 * i2.val = i2.val; omega

theorem blk1 (t : Fin cfg0.N) (i2 : Fin 6) (i3 : Fin 1024) :
    (iblk m c 1 t : Vec Ideal S1x1x6x1024 .f32) (ix4 0 0 i2 i3) = (V m c main_v4 : Vec Ideal S4x2x6x1024 .f32) (ix4 (bt t) (mr t) i2 i3) := by
  obtain ⟨h0, h1, h2, h3⟩ := index1 t
  unfold iblk
  rw [View.read_apply]
  show V m c main_v4 _ = V m c main_v4 _
  congr 1
  funext a
  apply Fin.ext
  match a with
  | ⟨0, _⟩ => show win0_1.index t 0 * 1 + 1 * 0 = t.val / 33; omega
  | ⟨1, _⟩ => show win0_1.index t 1 * 1 + 1 * 0 = (if t.val % 33 = 0 then 0 else 1); omega
  | ⟨2, _⟩ => show win0_1.index t 2 * 6 + 1 * i2.val = i2.val; omega
  | ⟨3, _⟩ => show win0_1.index t 3 * 1024 + 1 * i3.val = i3.val; omega

theorem blk2 (t : Fin cfg0.N) (i0 : Fin 1024) (i1 : Fin 4352) :
    (iblk m c 2 t : Vec Ideal S1024x4352 .bf16) (ix2 i0 i1) = (V m c main_v54 : Vec Ideal S1024x4352 .bf16) (ix2 i0 i1) := by
  obtain ⟨h0, h1⟩ := index2 t
  unfold iblk
  rw [View.read_apply]
  show V m c main_v54 _ = V m c main_v54 _
  congr 1
  funext a
  apply Fin.ext
  match a with
  | ⟨0, _⟩ => show win0_2.index t 0 * 1024 + 1 * i0.val = i0.val; omega
  | ⟨1, _⟩ => show win0_2.index t 1 * 4352 + 1 * i1.val = i1.val; omega

theorem mod_eq (t : Fin cfg0.N) (r : Fin 256) (p : Fin 6) (e : Fin 1024) (q : Fin 6144) (hq : q.val = 1024 * p.val + e.val) :
    (V m c main_v4 : Vec Ideal S4x2x6x1024 .f32) (ix4 (bt t) (mr t) p e) = mod7 (data m c) (bt t) (sr t r) q := by
  rw [show q = ⟨p.val * 1024 + e.val, by omega⟩ from Fin.ext (by simp only []; omega)]
  rw [V4_eq]
  unfold mod7
  by_cases h : t.val % 33 = 0
  · rw [if_pos (show 256 * (t.val % 33) + r.val < 256 by omega), show mr t = 0 from Fin.ext (by simp only [h]; rfl), mods_ctx]
    rfl
  · rw [if_neg (show ¬ 256 * (t.val % 33) + r.val < 256 by omega), show mr t = 1 from Fin.ext (by simp only [h]; rfl), mods_lat]
    rfl

end Cert.Kernel7Ideal.Attn7

end
-- ==== Proof.Pay7.lean ====
/- The attention projection kernel's payloads at an index. -/
module

public import proofs.«01_k».proof.Proof.Gen.Kernel7Ideal.Frame
public import proofs.«01_k».proof.Proof.Spec7
public import Idealize.ShloMosaic.Lib.Pipeline.ValueKit.Basic
public import Idealize.ShloMosaic.Lib.Pipeline.ValueKit.Tiles

@[expose] public section

set_option maxRecDepth 16384

noncomputable section

namespace Cert.Kernel7Ideal.Attn7

open Cert.Kernel7Ideal Cert.Kernel7Ideal.Gen Idealize.ShloMosaic Cert.Merge Cert.Attn7

theorem pay3_apply (d : Vec Ideal S1x1x6x1024 .f32) (x : Vec Ideal S1x256x1024 .f32) (r : Fin 256) (e : Fin 1024) :
    k0_pay3 d x (ix2 r e) = xm (fun k => x (ix3 0 r k)) (fun k => d (ix4 0 0 0 k)) (fun k => d (ix4 0 0 1 k)) e := by
  pointwise [k0_pay3, xm, lnorm, mu]

theorem pay21_apply (y : FVec Ideal S256x1024 .bf16) (w : Vec Ideal S1024x512 .bf16) (r : Fin 256) (e : Fin 512) :
    k0_pay21 y w (ix3 0 r e) = dot (fun k => y (ix2 r k)) (fun k => w (ix2 k e)) := by
  pointwise [k0_pay21, dot]

/-- The lanes of a head's ones, as the kernel tells them apart. -/
theorem slot_lane : ∀ e : Fin 256, IntOp.cmpi CmpIPredicate.sge (Scalar.select (IntOp.andi (IntOp.xori (IntOp.cmpi CmpIPredicate.slt (IntOp.remsi ArithUnit.vector (BitVec.ofNat 32 e.val) (Scalar.select (Scalar.cmpi CmpIPredicate.eq 128#32 0#32) 1#32 128#32)) 0#32) (Scalar.cmpi CmpIPredicate.slt (Scalar.select (Scalar.cmpi CmpIPredicate.eq 128#32 0#32) 1#32 128#32) 0#32))
      (IntOp.cmpi CmpIPredicate.ne (IntOp.remsi ArithUnit.vector (BitVec.ofNat 32 e.val) (Scalar.select (Scalar.cmpi CmpIPredicate.eq 128#32 0#32) 1#32 128#32)) 0#32)) (IntOp.addi (IntOp.remsi ArithUnit.vector (BitVec.ofNat 32 e.val) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 e.val) (Scalar.select (Scalar.cmpi CmpIPredicate.eq 128#32 0#32) 1#32 128#32))) 64#32
      = if e.val % 128 < 64 then 0#1 else 1#1 := by
  decide +kernel

/-- The values' product, one where the lane is a slot of ones. -/
theorem pay2_apply (y : FVec Ideal S256x1024 .bf16) (w : Vec Ideal S1024x256 .bf16) (r : Fin 256) (e : Fin 256) :
    k0_pay2 y w (ix3 0 r e) = dot (fun k => y (ix2 r k)) (fun k => w (ix2 k e)) + (if e.val % 128 < 64 then (0 : EReal) else 1) := by
  pointwise [k0_pay2, dot]
  rw [slot_lane e]
  by_cases h : e.val % 128 < 64
  · rw [if_pos h, if_pos h]
    rfl
  · rw [if_neg h, if_neg h]
    rfl

end Cert.Kernel7Ideal.Attn7

end
-- ==== Proof.Block7.lean ====
/- The attention projection kernel's blocks of values, as functions of the blocks its windows read. -/
module

public import proofs.«01_k».proof.Proof.Pay7
public import Idealize.ShloMosaic.Lib.Pipeline.ValueKit.Basic
public import Idealize.ShloMosaic.Lib.Pipeline.ValueKit.Tiles

@[expose] public section

set_option maxRecDepth 16384

noncomputable section

namespace Cert.Kernel7Ideal.Attn7

open Cert.Kernel7Ideal Cert.Kernel7Ideal.Gen Idealize.ShloMosaic Cert.Merge Cert.Attn7

/-! ## The weight columns each result reads -/

theorem ldDV (x : Vec Ideal S1024x4352 .bf16) (k : Fin 1024) (e : Fin 512) : View.ld x r0_14 (ix2 k e) = x (ix2 k ⟨2048 + e, by omega⟩) := by
  rw [View.ld_apply]
  congr 1
  funext a
  apply Fin.ext
  match a with
  | ⟨0, _⟩ => show 0 + 1 * k.val = k.val; omega
  | ⟨1, _⟩ => show 2048 + 1 * e.val = 2048 + e.val; omega

theorem ldGV (x : Vec Ideal S1024x4352 .bf16) (k : Fin 1024) (e : Fin 256) : View.ld x r0_27 (ix2 k e) = x (ix2 k ⟨4096 + e, by omega⟩) := by
  rw [View.ld_apply]
  congr 1
  funext a
  apply Fin.ext
  match a with
  | ⟨0, _⟩ => show 0 + 1 * k.val = k.val; omega
  | ⟨1, _⟩ => show 4096 + 1 * e.val = 4096 + e.val; omega

/-! ## The two blocks of values a point leaves -/

/-- Row `r` of the modulated tokens. -/
def xmB (x0 : Vec Ideal S1x256x1024 .f32) (x1 : Vec Ideal S1x1x6x1024 .f32) (r : Fin 256) : Fin 1024 → EReal :=
  xm (fun k => x0 (ix3 0 r k)) (fun k => x1 (ix4 0 0 0 k)) (fun k => x1 (ix4 0 0 1 k))

theorem out7_row (x0 : Vec Ideal S1x256x1024 .f32) (x1 : Vec Ideal S1x1x6x1024 .f32) (x2 : Vec Ideal S1024x4352 .bf16) (x3 : Vec Ideal S8x256x128 .f32) (x4 : Vec Ideal S128x128 .bf16) (r : Fin 256) (e : Fin 512) :
    (out0_7 x0 x1 x2 x3 x4 : FVec Ideal S1x256x512 .bf16) (ix3 0 r e)
      = dot (xmB x0 x1 r) (fun k => x2 (ix2 k ⟨2048 + e, by omega⟩)) := by
  unfold_out out0_7
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x512 .bf16, View.ld x2 r0_14 = G ∧ ∀ (k : Fin 1024) (e : Fin 512), G (ix2 k e) = x2 (ix2 k ⟨2048 + e, by omega⟩) := ⟨_, rfl, ldDV x2⟩
  rw [eG]
  simp only [pay21_apply, pay3_apply, hG]
  rfl

theorem out10_row (x0 : Vec Ideal S1x256x1024 .f32) (x1 : Vec Ideal S1x1x6x1024 .f32) (x2 : Vec Ideal S1024x4352 .bf16) (x3 : Vec Ideal S8x256x128 .f32) (x4 : Vec Ideal S128x128 .bf16) (r : Fin 256) (e : Fin 256) :
    (out0_10 x0 x1 x2 x3 x4 : FVec Ideal S1x256x256 .bf16) (ix3 0 r e)
      = dot (xmB x0 x1 r) (fun k => x2 (ix2 k ⟨4096 + e, by omega⟩)) + (if e.val % 128 < 64 then (0 : EReal) else 1) := by
  unfold_out out0_10
  rw [View.canon_cons_unit_lit _ _ _ (by decide)]
  rw [View.ld_unit_lit (Val := Elt Ideal) _ x0 (by decide), View.ld_unit_lit (Val := Elt Ideal) _ x1 (by decide)]
  obtain ⟨G, eG, hG⟩ : ∃ G : Vec Ideal S1024x256 .bf16, View.ld x2 r0_27 = G ∧ ∀ (k : Fin 1024) (e : Fin 256), G (ix2 k e) = x2 (ix2 k ⟨4096 + e, by omega⟩) := ⟨_, rfl, ldGV x2⟩
  rw [eG]
  simp only [pay2_apply, pay3_apply, hG]
  rfl

end Cert.Kernel7Ideal.Attn7

end
-- ==== Proof.Final7.lean ====
/- The attention projection kernel's result arrays: each grid point's blocks are the specification's, and the blocks cover the arrays. -/
module

public import proofs.«01_k».proof.Proof.Blocks7
public import proofs.«01_k».proof.Proof.Block7

@[expose] public section

set_option maxRecDepth 16384

noncomputable section

namespace Cert.Kernel7Ideal.Attn7

open Idealize.ShloMosaic.StableHlo
open Cert.Kernel7Ideal Cert.Kernel7Ideal.Gen Idealize.ShloMosaic Idealize.ShloMosaic.TcCoe Idealize.SL.Sem Cert.Merge Cert.Attn7

theorem xmB_eq (x0 : Vec Ideal S1x256x1024 .f32) (x1 : Vec Ideal S1x1x6x1024 .f32) (r : Fin 256) (x sh sc : Fin 1024 → EReal)
    (h0 : ∀ e, x0 (ix3 0 r e) = x e) (h1 : ∀ e, x1 (ix4 0 0 0 e) = sh e) (h2 : ∀ e, x1 (ix4 0 0 1 e) = sc e) :
    xmB x0 x1 r = xm x sh sc := by
  unfold xmB
  simp only [h0, h1, h2]

variable (m : (ℓ : Loc nD τ sig) → Buf (Elt Ideal) ℓ) (c : Dev nD)

theorem xm_blocks (t : Fin cfg0.N) (r : Fin 256) : xmB (iblk m c 0 t) (iblk m c 1 t) r = tokX (data m c) (bt t) (sr t r) :=
  xmB_eq (iblk m c 0 t) (iblk m c 1 t) r _ _ _
    (fun e => (blk0 m c t r e).trans (congrFun (V_main_arg0 m c) _))
    (fun e => (blk1 m c t 0 e).trans (mod_eq m c t r 0 e _ (by show e.val = 1024 * 0 + e.val; omega)))
    (fun e => (blk1 m c t 1 e).trans (mod_eq m c t r 1 e _ (by show 1024 + e.val = 1024 * 1 + e.val; omega)))

theorem w_dv (t : Fin cfg0.N) (k : Fin 1024) (e : Fin 512) :
    (iblk m c 2 t : Vec Ideal S1024x4352 .bf16) (ix2 k ⟨2048 + e, by omega⟩) = (data m c).w k ⟨1024 + e, by omega⟩ :=
  (blk2 m c t k _).trans ((congrFun (V54_eq m c) _).trans ((cat10_4 _ _ _ _ _ _ _ _ _ _ k e).trans (seg1024_apply _ k e)))

theorem w_gv (t : Fin cfg0.N) (k : Fin 1024) (e : Fin 256) (h : e.val % 128 < 64) :
    (iblk m c 2 t : Vec Ideal S1024x4352 .bf16) (ix2 k ⟨4096 + e, by omega⟩) = (data m c).w k ⟨4752 + 64 * (e.val / 128) + e.val % 64, by omega⟩ := by
  refine (blk2 m c t k _).trans ((congrFun (V54_eq m c) _).trans ((cat10_9 _ _ _ _ _ _ _ _ _ _ k e).trans ?_))
  have he : e = ⟨128 * (⟨e.val / 128, by omega⟩ : Fin 2).val + (⟨e.val % 128, h⟩ : Fin 64).val, by simp only []; omega⟩ := Fin.ext (by simp only []; omega)
  refine (congrArg (fun q => slots (seg4752 (m ((c : Thread nD τ).loc main_arg3))) (ix2 k q)) he).trans ((slots_lo _ k _ _).trans ((seg4752_apply _ k _).trans ?_))
  exact congrArg ((data m c).w k) (Fin.ext (by simp only []; omega))

theorem w_ones (t : Fin cfg0.N) (k : Fin 1024) (e : Fin 256) (h : ¬ e.val % 128 < 64) :
    (iblk m c 2 t : Vec Ideal S1024x4352 .bf16) (ix2 k ⟨4096 + e, by omega⟩) = (0 : EReal) := by
  refine (blk2 m c t k _).trans ((congrFun (V54_eq m c) _).trans ((cat10_9 _ _ _ _ _ _ _ _ _ _ k e).trans ?_))
  have he : e = ⟨128 * (⟨e.val / 128, by omega⟩ : Fin 2).val + 64 + (⟨e.val % 128 - 64, by omega⟩ : Fin 64).val, by simp only []; omega⟩ := Fin.ext (by simp only []; omega)
  exact (congrArg (fun q => slots (seg4752 (m ((c : Thread nD τ).loc main_arg3))) (ix2 k q)) he).trans (slots_hi _ k _ _)

/-- The call's result 2, as an array. -/
def arr7 (D : Data7) : S4x8448x512.Idx → EReal := fun i => resDV D (i 0) (i 1) (i 2)

theorem point7 (t : Fin cfg0.N) (r : Fin 256) (e : Fin 512) :
    (out0_7 (iblk m c 0 t) (iblk m c 1 t) (iblk m c 2 t) (iblk m c 3 t) (iblk m c 4 t) : FVec Ideal S1x256x512 .bf16) (ix3 0 r e) = resDV (data m c) (bt t) (sr t r) e := by
  refine (out7_row (iblk m c 0 t) (iblk m c 1 t) (iblk m c 2 t) (iblk m c 3 t) (iblk m c 4 t) r e).trans ?_
  rw [xm_blocks]
  unfold resDV pr dot
  exact Finset.sum_congr rfl fun k _ => congrArg _ (w_dv m c t k e)

theorem flushed_spec7 (t : Fin cfg0.N) (hf : (cfg0.win 7).flush t = true) :
    (dats m 0 c).flushed 7 t = ((cfg0.win 7).blk t).view.read (Elt Ideal) (arr7 (data m c) : Buf (Elt Ideal) ((c : Thread nD τ).loc main_v150_2)) := by
  obtain ⟨i0, i1, i2⟩ := index7 t
  have hN := tN t
  rw [Value.flushed7]
  funext y
  change S1x256x512.Idx at y
  idx_vars y
  obtain rfl : y0 = 0 := Subsingleton.elim _ _
  refine (point7 m c t y1 y2).trans ?_
  rw [View.read_apply]
  have hr : ∀ {b b' : Fin 4} {s s' : Fin 8448} {e e' : Fin 512}, b.val = b'.val → s.val = s'.val → e.val = e'.val → resDV (data m c) b s e = resDV (data m c) b' s' e' := by
    intro b b' s s' e e' hb hs he
    obtain rfl := Fin.ext hb
    obtain rfl := Fin.ext hs
    obtain rfl := Fin.ext he
    rfl
  refine hr ?_ ?_ ?_
  · show t.val / 33 = win0_7.index t 0 * 1 + 1 * 0; omega
  · show 256 * (t.val % 33) + y1.val = win0_7.index t 1 * 256 + 1 * y1.val; omega
  · show y2.val = win0_7.index t 2 * 512 + 1 * y2.val; omega

theorem final7 : (dats m 0 c).arrAt 7 cfg0.N = (arr7 (data m c) : Buf (Elt Ideal) ((c : Thread nD τ).loc main_v150_2)) :=
  (dats m 0 c).arrAt_eq_of_cover 7 (arr7 (data m c) : Buf (Elt Ideal) ((c : Thread nD τ).loc main_v150_2)) (flushed_spec7 m c) fun i => by
    have h0 : (i 0).val < 4 := (i 0).isLt
    have h1 : (i 1).val < 8448 := (i 1).isLt
    have h2 : (i 2).val < 512 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index7 t
    refine ⟨t, flush0_7 t, ?_⟩
    show i ∈ ((View.whole main_v150_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; omega
    | ⟨1, _⟩ => show win0_7.index t 1 * 256 ≤ (i 1 : Nat) ∧ (i 1 : Nat) < win0_7.index t 1 * 256 + 256; omega
    | ⟨2, _⟩ => show win0_7.index t 2 * 512 ≤ (i 2 : Nat) ∧ (i 2 : Nat) < win0_7.index t 2 * 512 + 512; omega

/-- The call's result 5, as an array. -/
def arr10 (D : Data7) : S4x8448x256.Idx → EReal := fun i => resGV D (i 0) (i 1) (i 2)

theorem point10 (t : Fin cfg0.N) (r : Fin 256) (e : Fin 256) :
    (out0_10 (iblk m c 0 t) (iblk m c 1 t) (iblk m c 2 t) (iblk m c 3 t) (iblk m c 4 t) : FVec Ideal S1x256x256 .bf16) (ix3 0 r e) = resGV (data m c) (bt t) (sr t r) e := by
  refine (out10_row (iblk m c 0 t) (iblk m c 1 t) (iblk m c 2 t) (iblk m c 3 t) (iblk m c 4 t) r e).trans ?_
  rw [xm_blocks]
  unfold resGV
  by_cases h : e.val % 128 < 64
  · rw [if_pos h, if_pos h, add_zero]
    unfold pr dot
    exact Finset.sum_congr rfl fun k _ => congrArg _ (w_gv m c t k e h)
  · rw [if_neg h, if_neg h]
    have hz : dot (tokX (data m c) (bt t) (sr t r)) (fun k => (iblk m c 2 t : Vec Ideal S1024x4352 .bf16) (ix2 k ⟨4096 + e, by omega⟩)) = 0 := by
      unfold dot
      refine Finset.sum_eq_zero fun k _ => ?_
      exact (congrArg (tokX (data m c) (bt t) (sr t r) k * ·) (w_ones m c t k e h)).trans (mul_zero _)
    rw [hz, zero_add]

theorem flushed_spec10 (t : Fin cfg0.N) (hf : (cfg0.win 10).flush t = true) :
    (dats m 0 c).flushed 10 t = ((cfg0.win 10).blk t).view.read (Elt Ideal) (arr10 (data m c) : Buf (Elt Ideal) ((c : Thread nD τ).loc main_v150_5)) := by
  obtain ⟨i0, i1, i2⟩ := index10 t
  have hN := tN t
  rw [Value.flushed10]
  funext y
  change S1x256x256.Idx at y
  idx_vars y
  obtain rfl : y0 = 0 := Subsingleton.elim _ _
  refine (point10 m c t y1 y2).trans ?_
  rw [View.read_apply]
  have hr : ∀ {b b' : Fin 4} {s s' : Fin 8448} {e e' : Fin 256}, b.val = b'.val → s.val = s'.val → e.val = e'.val → resGV (data m c) b s e = resGV (data m c) b' s' e' := by
    intro b b' s s' e e' hb hs he
    obtain rfl := Fin.ext hb
    obtain rfl := Fin.ext hs
    obtain rfl := Fin.ext he
    rfl
  refine hr ?_ ?_ ?_
  · show t.val / 33 = win0_10.index t 0 * 1 + 1 * 0; omega
  · show 256 * (t.val % 33) + y1.val = win0_10.index t 1 * 256 + 1 * y1.val; omega
  · show y2.val = win0_10.index t 2 * 256 + 1 * y2.val; omega

theorem final10 : (dats m 0 c).arrAt 10 cfg0.N = (arr10 (data m c) : Buf (Elt Ideal) ((c : Thread nD τ).loc main_v150_5)) :=
  (dats m 0 c).arrAt_eq_of_cover 10 (arr10 (data m c) : Buf (Elt Ideal) ((c : Thread nD τ).loc main_v150_5)) (flushed_spec10 m c) fun i => by
    have h0 : (i 0).val < 4 := (i 0).isLt
    have h1 : (i 1).val < 8448 := (i 1).isLt
    have h2 : (i 2).val < 256 := (i 2).isLt
    have hN : cfg0.N = 132 := N_0
    let t : Fin cfg0.N := ⟨33 * (i 0).val + (i 1).val / 256, by omega⟩
    have ht : t.val = 33 * (i 0).val + (i 1).val / 256 := rfl
    obtain ⟨i0, i1, i2⟩ := index10 t
    refine ⟨t, flush0_10 t, ?_⟩
    show i ∈ ((View.whole main_v150_5).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1; omega
    | ⟨1, _⟩ => show win0_10.index t 1 * 256 ≤ (i 1 : Nat) ∧ (i 1 : Nat) < win0_10.index t 1 * 256 + 256; omega
    | ⟨2, _⟩ => show win0_10.index t 2 * 256 ≤ (i 2 : Nat) ∧ (i 2 : Nat) < win0_10.index t 2 * 256 + 256; omega

/-- The kernel ends with the arrays of values named, its arguments unchanged. -/
theorem runK (ρ : Dev nD → PrngReg) : θ_run defs (onTc (τ := τ) (main (F := Ideal))) ⟨m, fun _ => 0, ρ⟩ fun r => ∀ c : Dev nD,
      r.2.mem ((c : Thread nD τ).loc main_v150_2) = (dats m 0 c).arrAt 7 cfg0.N
      ∧ r.2.mem ((c : Thread nD τ).loc main_v150_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).2.2.1, (h c).2.2.2.2.2.1, (h c).2.2.2.2.2.2⟩) (Value.run_blocks m ρ)

end Cert.Kernel7Ideal.Attn7

end
-- ==== Proof.Ref7Stages.lean ====
/- The attention projection's reference, its results in named stages. -/
module

public import proofs.«01_k».proof.Proof.Gen.Reference7Ideal.Run
public import proofs.«01_k».proof.Proof.Spec7

@[expose] public section

set_option maxRecDepth 16384

noncomputable section

namespace Cert.Reference7Ideal.Stages

open Cert.Reference7Ideal Cert.Reference7Ideal.Gen Idealize.ShloMosaic Idealize.ShloMosaic.TcCoe Idealize.ShloMosaic.StableHlo Idealize.SL.Sem Cert.Merge Cert.Attn7

variable {F : FTy → Type} [FloatOps F]

/-- Each token's modulation. -/
def tokMod (mc : FVec F S6144 .f32) (ml : FVec F S4x6144 .f32) : FVec F S4x8448x6144 .f32 :=
  have v0 : FVec F S1x1x6144 .f32 := broadcastInDim S1x1x6144 ![2] bcast_S6144_S1x1x6144_2 mc
  have v1 : FVec F S4x256x6144 .f32 := broadcastInDim S4x256x6144 ![0, 1, 2] bcast_S1x1x6144_S4x256x6144_0_1_2 v0
  have v2 : FVec F S4x1x6144 .f32 := broadcastInDim S4x1x6144 ![0, 2] bcast_S4x6144_S4x1x6144_0_2 ml
  have v3 : FVec F S4x8192x6144 .f32 := broadcastInDim S4x8192x6144 ![0, 1, 2] bcast_S4x1x6144_S4x8192x6144_0_1_2 v2
  concatenate S4x8448x6144 1 [⟨S4x256x6144, v1⟩, ⟨S4x8192x6144, v3⟩] concatenates_S4x256x6144_S4x8192x6144_S4x8448x6144_d1

/-- The modulated tokens. -/
def xmA (x : FVec F S4x8448x1024 .f32) (d : FVec F S4x8448x6144 .f32) : FVec F S4x8448x1024 .f32 :=
  have cst : FVec F S_ .f32 := constant S_ .f32 0x00000000#32
  have v11 : FVec F S4x8448 .f32 := Host.reduceAdd x cst reducesTo_S4x8448x1024_S4x8448_d2 h_S_
  have v12 : FVec F S4x8448x1 .f32 := broadcastInDim S4x8448x1 ![0, 1] bcast_S4x8448_S4x8448x1_0_1 v11
  have cst_0 : FVec F S_ .f32 := constant S_ .f32 0x44800000#32
  have v13 : FVec F S4x8448x1 .f32 := broadcastInDim S4x8448x1 ![] bcast_S_S4x8448x1 cst_0
  have v14 : FVec F S4x8448x1 .f32 := Host.divf v12 v13
  have v15 : FVec F S4x8448x1024 .f32 := broadcastInDim S4x8448x1024 ![0, 1, 2] bcast_S4x8448x1_S4x8448x1024_0_1_2 v14
  have v16 : FVec F S4x8448x1024 .f32 := subf x v15
  have v17 : FVec F S4x8448x1024 .f32 := mulf v16 v16
  have cst_1 : FVec F S_ .f32 := constant S_ .f32 0x00000000#32
  have v18 : FVec F S4x8448 .f32 := Host.reduceAdd v17 cst_1 reducesTo_S4x8448x1024_S4x8448_d2 h_S_
  have v19 : FVec F S4x8448x1 .f32 := broadcastInDim S4x8448x1 ![0, 1] bcast_S4x8448_S4x8448x1_0_1 v18
  have cst_2 : FVec F S_ .f32 := constant S_ .f32 0x44800000#32
  have v20 : FVec F S4x8448x1 .f32 := broadcastInDim S4x8448x1 ![] bcast_S_S4x8448x1 cst_2
  have v21 : FVec F S4x8448x1 .f32 := Host.divf v19 v20
  have cst_3 : FVec F S_ .f32 := constant S_ .f32 0x358637BD#32
  have v22 : FVec F S4x8448x1 .f32 := broadcastInDim S4x8448x1 ![] bcast_S_S4x8448x1 cst_3
  have v23 : FVec F S4x8448x1 .f32 := addf v21 v22
  have v24 : FVec F S4x8448x1 .f32 := Host.rsqrt v23
  have v25 : FVec F S4x8448x1024 .f32 := broadcastInDim S4x8448x1024 ![0, 1, 2] bcast_S4x8448x1_S4x8448x1024_0_1_2 v24
  have v26 : FVec F S4x8448x1024 .f32 := mulf v16 v25
  have cst_4 : FVec F S_ .f32 := constant S_ .f32 0x3F800000#32
  have v27 : FVec F S4x8448x1024 .f32 := broadcastInDim S4x8448x1024 ![] bcast_S_S4x8448x1024 cst_4
  have v6 : FVec F S4x8448x1024 .f32 := extractStridedSlice S4x8448x1024 ![0, 0, 1024] d slices_S4x8448x6144_S4x8448x1024_0_0_1024
  have v28 : FVec F S4x8448x1024 .f32 := addf v27 v6
  have v29 : FVec F S4x8448x1024 .f32 := mulf v26 v28
  have v5 : FVec F S4x8448x1024 .f32 := extractStridedSlice S4x8448x1024 ![0, 0, 0] d slices_S4x8448x6144_S4x8448x1024_0_0_0
  addf v29 v5

/-- The tokens' projection, all columns. -/
def projA (x : FVec F S4x8448x1024 .f32) (w : FVec F S1024x8976 .f32) : FVec F S4x8448x8976 .f32 :=
  Host.dotGeneral dot_S4x8448x1024_S1024x8976_S4x8448x8976_2_0_01_1_n_n none x w

/-- The differential attention's values. -/
def dvA (p : FVec F S4x8448x8976 .f32) : FVec F S4x8448x512 .bf16 :=
  truncf .bf16 (extractStridedSlice S4x8448x512 ![0, 0, 1024] p slices_S4x8448x8976_S4x8448x512_0_0_1024 : FVec F S4x8448x512 .f32) bitsLt_bf16_f32

/-- The grouped-query attention's value heads. -/
def headsA (p : FVec F S4x8448x8976 .f32) : FVec F S4x8448x2x64 .f32 :=
  shapeCast S4x8448x2x64 (extractStridedSlice S4x8448x128 ![0, 0, 4752] p slices_S4x8448x8976_S4x8448x128_0_0_4752 : FVec F S4x8448x128 .f32) shapeCasts_S4x8448x128_S4x8448x2x64

/-- Each head beside ones. -/
def onesA (x : FVec F S4x8448x2x64 .f32) : FVec F S4x8448x2x128 .f32 :=
  concatenate S4x8448x2x128 3 [⟨S4x8448x2x64, x⟩, ⟨S4x8448x2x64, (broadcastInDim S4x8448x2x64 ![] bcast_S_S4x8448x2x64 (constant S_ .f32 0x3F800000#32) : FVec F S4x8448x2x64 .f32)⟩] concatenates_S4x8448x2x64_S4x8448x2x64_S4x8448x2x128_d3

/-- The heads in one axis. -/
def flatA (x : FVec F S4x8448x2x128 .f32) : FVec F S4x8448x256 .bf16 :=
  truncf .bf16 (shapeCast S4x8448x256 x shapeCasts_S4x8448x2x128_S4x8448x256 : FVec F S4x8448x256 .f32) bitsLt_bf16_f32

/-- The grouped-query attention's values, each head beside ones. -/
def gvA (p : FVec F S4x8448x8976 .f32) : FVec F S4x8448x256 .bf16 := flatA (onesA (headsA p))

/-- The projection of the arguments. -/
def all (m : (ℓ : Loc nD τ sig) → Buf (Elt F) ℓ) (c : Dev nD) : FVec F S4x8448x8976 .f32 :=
  projA (xmA (m ((c.tc : Thread nD τ).loc main_arg0)) (tokMod (m ((c.tc : Thread nD τ).loc main_arg1)) (m ((c.tc : Thread nD τ).loc main_arg2)))) (m ((c.tc : Thread nD τ).loc main_arg3))

/-- The reference ends with these stages' results and its arguments unchanged. -/
theorem run7 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = dvA (all m c)
      ∧ r.2.mem ((c.tc : Thread nD τ).loc main_v50) = gvA (all m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by rfl), (h c).2.1.trans (by rfl), (h c).2.2⟩) (Value.run m ρ)

end Cert.Reference7Ideal.Stages

end
-- ==== Proof.Ref7At.lean ====
/- The stages of the attention projection's reference at an index: the specification's results. -/
module

public import proofs.«01_k».proof.Proof.Ref7Stages

@[expose] public section

set_option maxRecDepth 16384

noncomputable section

namespace Cert.Reference7Ideal.Stages

open Cert.Reference7Ideal Cert.Reference7Ideal.Gen Idealize.ShloMosaic Idealize.ShloMosaic.TcCoe Idealize.ShloMosaic.StableHlo Cert.Merge Cert.Attn7

theorem tok_ctx (mc : FVec Ideal S6144 .f32) (ml : FVec Ideal S4x6144 .f32) (b : Fin 4) (s : Fin 256) (e : Fin 6144) :
    tokMod mc ml (ix3 b ⟨s, by omega⟩ e) = mc (ix1 e) := by
  pointwise [tokMod]

theorem tok_lat (mc : FVec Ideal S6144 .f32) (ml : FVec Ideal S4x6144 .f32) (b : Fin 4) (s : Fin 8192) (e : Fin 6144) :
    tokMod mc ml (ix3 b ⟨256 + s, by omega⟩ e) = ml (ix2 b e) := by
  pointwise [tokMod]

theorem xmA_apply (x : FVec Ideal S4x8448x1024 .f32) (d : FVec Ideal S4x8448x6144 .f32) (b : Fin 4) (s : Fin 8448) (e : Fin 1024) :
    xmA x d (ix3 b s e) = xm (fun k => x (ix3 b s k)) (fun k => d (ix3 b s ⟨k, by omega⟩)) (fun k => d (ix3 b s ⟨1024 + k, by omega⟩)) e := by
  pointwise [xmA, xm, lnorm, mu]

theorem projA_apply (x : FVec Ideal S4x8448x1024 .f32) (w : FVec Ideal S1024x8976 .f32) (b : Fin 4) (s : Fin 8448) (e : Fin 8976) :
    projA x w (ix3 b s e) = dot (fun k => x (ix3 b s k)) (fun k => w (ix2 k e)) := by
  pointwise [projA, dot]

theorem dvA_apply (p : FVec Ideal S4x8448x8976 .f32) (b : Fin 4) (s : Fin 8448) (e : Fin 512) :
    dvA p (ix3 b s e) = p (ix3 b s ⟨1024 + e, by omega⟩) := by
  pointwise [dvA]

end Cert.Reference7Ideal.Stages

end
-- ==== Proof.Ref7Gv.lean ====
/- The reference's grouped-query values at an index. -/
module

public import proofs.«01_k».proof.Proof.Ref7Stages

@[expose] public section

set_option maxRecDepth 16384

noncomputable section

namespace Cert.Reference7Ideal.Stages

open Cert.Reference7Ideal Cert.Reference7Ideal.Gen Idealize.ShloMosaic Idealize.ShloMosaic.TcCoe Idealize.ShloMosaic.StableHlo Cert.Merge Cert.Attn7

theorem headsA_apply (p : FVec Ideal S4x8448x8976 .f32) (b : Fin 4) (s : Fin 8448) (j : Fin 2) (e : Fin 64) :
    headsA p (ix4 b s j e) = p (ix3 b s ⟨4752 + (j * 64 + e), by omega⟩) := by
  pointwise [headsA]

theorem onesA_lo (x : FVec Ideal S4x8448x2x64 .f32) (b : Fin 4) (s : Fin 8448) (j : Fin 2) (e : Fin 64) :
    onesA x (ix4 b s j ⟨e, by omega⟩) = x (ix4 b s j e) := by
  pointwise [onesA]

theorem onesA_hi (x : FVec Ideal S4x8448x2x64 .f32) (b : Fin 4) (s : Fin 8448) (j : Fin 2) (e : Fin 64) :
    onesA x (ix4 b s j ⟨64 + e, by omega⟩) = 1 := by
  pointwise [onesA]

theorem flatA_apply (x : FVec Ideal S4x8448x2x128 .f32) (b : Fin 4) (s : Fin 8448) (e : Fin 256) :
    flatA x (ix3 b s e) = x (ix4 b s ⟨e / 128, by omega⟩ ⟨e % 128, by omega⟩) := by
  pointwise [flatA]

end Cert.Reference7Ideal.Stages

end
-- ==== Proof.Ref7Final.lean ====
/- The attention projection reference's results, entry by entry: the specification's. -/
module

public import proofs.«01_k».proof.Proof.Ref7At
public import proofs.«01_k».proof.Proof.Ref7Gv

@[expose] public section

set_option maxRecDepth 16384

noncomputable section

namespace Cert.Reference7Ideal.Stages

open Cert.Reference7Ideal Cert.Reference7Ideal.Gen Idealize.ShloMosaic Idealize.ShloMosaic.TcCoe Idealize.ShloMosaic.StableHlo Cert.Merge Cert.Attn7

variable (m : (ℓ : Loc nD τ sig) → Buf (Elt Ideal) ℓ) (c : Dev nD)

/-- The arguments on core `c`. -/
def data : Data7 :=
  { h := fun b s e => (m ((c.tc : Thread nD τ).loc main_arg0) : FVec Ideal S4x8448x1024 .f32) (ix3 b s e)
    mc := fun e => (m ((c.tc : Thread nD τ).loc main_arg1) : FVec Ideal S6144 .f32) (ix1 e)
    ml := fun b e => (m ((c.tc : Thread nD τ).loc main_arg2) : FVec Ideal S4x6144 .f32) (ix2 b e)
    w := fun k e => (m ((c.tc : Thread nD τ).loc main_arg3) : FVec Ideal S1024x8976 .f32) (ix2 k e) }

theorem tok_mod (b : Fin 4) (s : Fin 8448) (e : Fin 6144) : (tokMod (m ((c.tc : Thread nD τ).loc main_arg1)) (m ((c.tc : Thread nD τ).loc main_arg2)) : FVec Ideal S4x8448x6144 .f32) (ix3 b s e) = mod7 (data m c) b s e := by
  unfold mod7
  by_cases h : s.val < 256
  · rw [if_pos h]
    exact tok_ctx _ _ b ⟨s.val, h⟩ e
  · rw [if_neg h, show s = ⟨256 + (⟨s.val - 256, by omega⟩ : Fin 8192).val, by simp only []; omega⟩ from Fin.ext (by simp only []; omega)]
    exact tok_lat _ _ b ⟨s.val - 256, by omega⟩ e

/-- One entry of the projection. -/
theorem all_apply (b : Fin 4) (s : Fin 8448) (j : Fin 8976) : all m c (ix3 b s j) = pr (data m c) b s j := by
  obtain ⟨d, hd, hdm⟩ : ∃ d : FVec Ideal S4x8448x6144 .f32, (tokMod (m ((c.tc : Thread nD τ).loc main_arg1)) (m ((c.tc : Thread nD τ).loc main_arg2)) : FVec Ideal S4x8448x6144 .f32) = d ∧ ∀ b s e, d (ix3 b s e) = mod7 (data m c) b s e :=
    ⟨_, rfl, tok_mod m c⟩
  unfold all
  rw [hd]
  simp only [projA_apply, xmA_apply, hdm]
  rfl

theorem dv_eq (b : Fin 4) (s : Fin 8448) (e : Fin 512) : dvA (all m c) (ix3 b s e) = resDV (data m c) b s e :=
  (dvA_apply (all m c) b s e).trans (all_apply m c _ _ _)

theorem gv_eq (b : Fin 4) (s : Fin 8448) (e : Fin 256) : gvA (all m c) (ix3 b s e) = resGV (data m c) b s e := by
  unfold resGV gvA
  refine (flatA_apply (onesA (headsA (all m c))) b s e).trans ?_
  by_cases h : e.val % 128 < 64
  · rw [if_pos h]
    refine (onesA_lo (headsA (all m c)) b s ⟨e.val / 128, by omega⟩ ⟨e.val % 128, h⟩).trans ((headsA_apply (all m c) b s _ _).trans ((all_apply m c _ _ _).trans ?_))
    exact congrArg (pr (data m c) b s) (Fin.ext (by simp only []; omega))
  · rw [if_neg h]
    have he : (⟨e.val % 128, by omega⟩ : Fin 128) = ⟨64 + (⟨e.val % 128 - 64, by omega⟩ : Fin 64).val, by simp only []; omega⟩ := Fin.ext (by simp only []; omega)
    exact (congrArg (fun q => onesA (headsA (all m c)) (ix4 b s ⟨e.val / 128, by omega⟩ q)) he).trans (onesA_hi (headsA (all m c)) b s _ _)

end Cert.Reference7Ideal.Stages

end
-- ==== Proof.Algebra7.lean ====
/- The attention mixers' values in the input projection: kernel and reference end with the same results on all inputs. -/
module

public import proofs.«01_k».proof.Defs
public import proofs.«01_k».proof.Proof.Final7
public import proofs.«01_k».proof.Proof.Ref7Final
public import Idealize.ShloMosaic.Lib.Claim

@[expose] public section

set_option maxRecDepth 16384

noncomputable section

namespace Cert.Proof

open Idealize.ShloMosaic Idealize.SL.Sem Cert.Merge Cert.Attn7

/-- Both programs end with the specification's arrays. -/
theorem algebraic7 : Cert.algebraic_Kernel7Ideal_Reference7Ideal := by
  have same : ∀ (m : (ℓ : Loc Kernel7Ideal.nD Kernel7Ideal.τ Kernel7Ideal.sig) → Buf (Elt Ideal) ℓ)
      (m' : (ℓ : Loc Reference7Ideal.nD Reference7Ideal.τ Reference7Ideal.sig) → Buf (Elt Ideal) ℓ) (c : Dev Kernel7Ideal.nD),
      (m' ((c.tc : Thread Reference7Ideal.nD Reference7Ideal.τ).loc Reference7Ideal.main_arg0) = m ((c.tc : Thread Kernel7Ideal.nD Kernel7Ideal.τ).loc Kernel7Ideal.main_arg0)
      ∧ m' ((c.tc : Thread Reference7Ideal.nD Reference7Ideal.τ).loc Reference7Ideal.main_arg1) = m ((c.tc : Thread Kernel7Ideal.nD Kernel7Ideal.τ).loc Kernel7Ideal.main_arg1)
      ∧ m' ((c.tc : Thread Reference7Ideal.nD Reference7Ideal.τ).loc Reference7Ideal.main_arg2) = m ((c.tc : Thread Kernel7Ideal.nD Kernel7Ideal.τ).loc Kernel7Ideal.main_arg2)
      ∧ m' ((c.tc : Thread Reference7Ideal.nD Reference7Ideal.τ).loc Reference7Ideal.main_arg3) = m ((c.tc : Thread Kernel7Ideal.nD Kernel7Ideal.τ).loc Kernel7Ideal.main_arg3)
      ∧ m' ((c.tc : Thread Reference7Ideal.nD Reference7Ideal.τ).loc Reference7Ideal.main_arg4) = m ((c.tc : Thread Kernel7Ideal.nD Kernel7Ideal.τ).loc Kernel7Ideal.main_arg4)
      ∧ m' ((c.tc : Thread Reference7Ideal.nD Reference7Ideal.τ).loc Reference7Ideal.main_arg5) = m ((c.tc : Thread Kernel7Ideal.nD Kernel7Ideal.τ).loc Kernel7Ideal.main_arg5)
      ∧ m' ((c.tc : Thread Reference7Ideal.nD Reference7Ideal.τ).loc Reference7Ideal.main_arg6) = m ((c.tc : Thread Kernel7Ideal.nD Kernel7Ideal.τ).loc Kernel7Ideal.main_arg6)
      ∧ m' ((c.tc : Thread Reference7Ideal.nD Reference7Ideal.τ).loc Reference7Ideal.main_arg7) = m ((c.tc : Thread Kernel7Ideal.nD Kernel7Ideal.τ).loc Kernel7Ideal.main_arg7)) →
      Reference7Ideal.Stages.data m' c = Kernel7Ideal.Attn7.data m c := by
    intro m m' c ⟨e0, e1, e2, e3, _, _, _, _⟩
    unfold Reference7Ideal.Stages.data Kernel7Ideal.Attn7.data
    rw [e0, e1, e2, e3]
  have key7 : ∀ (m : (ℓ : Loc Kernel7Ideal.nD Kernel7Ideal.τ Kernel7Ideal.sig) → Buf (Elt Ideal) ℓ)
      (m' : (ℓ : Loc Reference7Ideal.nD Reference7Ideal.τ Reference7Ideal.sig) → Buf (Elt Ideal) ℓ) (c : Dev Kernel7Ideal.nD),
      Reference7Ideal.Stages.data m' c = Kernel7Ideal.Attn7.data m c →
      (Reference7Ideal.Stages.dvA (Reference7Ideal.Stages.all m' c) : Reference7Ideal.S4x8448x512.Idx → EReal) = (Kernel7Ideal.Gen.dats m 0 c).arrAt 7 Kernel7Ideal.cfg0.N := by
    intro m m' c hd
    rw [Kernel7Ideal.Attn7.final7, ← hd]
    funext i
    idx_vars i
    exact Reference7Ideal.Stages.dv_eq m' c i0 i1 i2
  have key10 : ∀ (m : (ℓ : Loc Kernel7Ideal.nD Kernel7Ideal.τ Kernel7Ideal.sig) → Buf (Elt Ideal) ℓ)
      (m' : (ℓ : Loc Reference7Ideal.nD Reference7Ideal.τ Reference7Ideal.sig) → Buf (Elt Ideal) ℓ) (c : Dev Kernel7Ideal.nD),
      Reference7Ideal.Stages.data m' c = Kernel7Ideal.Attn7.data m c →
      (Reference7Ideal.Stages.gvA (Reference7Ideal.Stages.all m' c) : Reference7Ideal.S4x8448x256.Idx → EReal) = (Kernel7Ideal.Gen.dats m 0 c).arrAt 10 Kernel7Ideal.cfg0.N := by
    intro m m' c hd
    rw [Kernel7Ideal.Attn7.final10, ← hd]
    funext i
    idx_vars i
    exact Reference7Ideal.Stages.gv_eq m' c i0 i1 i2
  pair_intro
  · run_from (Kernel7Ideal.Attn7.runK m g)
  · run_from (Reference7Ideal.Stages.run7 m' g')
    · exact key7 m m' _ (same m m' _ (hagree _))
    · exact key10 m m' _ (same m m' _ (hagree _))

end Cert.Proof

end
-- ==== Proof.lean ====
/- The proof of the claim: the frames from the programs' runs, the value claims from Algebra and Algebra2 to Algebra7. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_args
public import proofs.«01_k».proof.Proof.Gen.Pre_finite_args2
public import proofs.«01_k».proof.Proof.Algebra
public import proofs.«01_k».proof.Proof.Algebra2
public import proofs.«01_k».proof.Proof.Algebra3
public import proofs.«01_k».proof.Proof.Algebra4
public import proofs.«01_k».proof.Proof.Algebra5
public import proofs.«01_k».proof.Proof.Algebra6
public import proofs.«01_k».proof.Proof.Algebra7
public import Idealize.ShloMosaic.Adequacy
public import Idealize.ShloMosaic.Init

@[expose] public section

noncomputable section

namespace Cert.Proof

open Idealize.ShloMosaic Idealize.SL.Sem Cert.Kernel

/-- The differential attention's kernel leaves its arguments alone and ends quiescent. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- The reference leaves its arguments alone; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The grouped-query attention's kernel leaves its arguments alone and ends quiescent. -/
theorem frame_p2 : Cert.quiescent_Kernel2 := fun m ρ _ => Cert.Kernel2.Gen.frame m ρ

/-- So does its idealization. -/
theorem frame_pi2 : Cert.quiescent_Kernel2Ideal := fun m ρ _ => Cert.Kernel2Ideal.Gen.frame m ρ

/-- The second reference leaves its arguments alone; it declares no semaphore. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The merge's kernel leaves its arguments alone and ends quiescent. -/
theorem frame_p3 : Cert.quiescent_Kernel3 := fun m ρ _ => Cert.Kernel3.Gen.frame m ρ

/-- So does its idealization. -/
theorem frame_pi3 : Cert.quiescent_Kernel3Ideal := fun m ρ _ => Cert.Kernel3Ideal.Gen.frame m ρ

/-- The third reference leaves its arguments alone; it declares no semaphore. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The projection's kernel leaves its arguments alone and ends quiescent. -/
theorem frame_p4 : Cert.quiescent_Kernel4 := fun m ρ _ => Cert.Kernel4.Gen.frame m ρ

/-- So does its idealization. -/
theorem frame_pi4 : Cert.quiescent_Kernel4Ideal := fun m ρ _ => Cert.Kernel4Ideal.Gen.frame m ρ

/-- The fourth reference leaves its arguments alone; it declares no semaphore. -/
theorem frame_ri4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

/-- The adaLN projection's kernel leaves its arguments alone and ends quiescent. -/
theorem frame_p5 : Cert.quiescent_Kernel5 := fun m ρ _ => Cert.Kernel5.Gen.frame m ρ

/-- So does its idealization. -/
theorem frame_pi5 : Cert.quiescent_Kernel5Ideal := fun m ρ _ => Cert.Kernel5Ideal.Gen.frame m ρ

/-- The fifth reference leaves its arguments alone; it declares no semaphore. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The convolution's kernel leaves its arguments alone and ends quiescent. -/
theorem frame_p6 : Cert.quiescent_Kernel6 := fun m ρ _ => Cert.Kernel6.Gen.frame m ρ

/-- So does its idealization. -/
theorem frame_pi6 : Cert.quiescent_Kernel6Ideal := fun m ρ _ => Cert.Kernel6Ideal.Gen.frame m ρ

/-- The sixth reference leaves its arguments alone; it declares no semaphore. -/
theorem frame_ri6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The attention projection's kernel leaves its arguments alone and ends quiescent. -/
theorem frame_p7 : Cert.quiescent_Kernel7 := fun m ρ _ => Cert.Kernel7.Gen.frame m ρ

/-- So does its idealization. -/
theorem frame_pi7 : Cert.quiescent_Kernel7Ideal := fun m ρ _ => Cert.Kernel7Ideal.Gen.frame m ρ

/-- The seventh reference leaves its arguments alone; it declares no semaphore. -/
theorem frame_ri7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Pre_finite_args.Gen.facts,
  Cert.Pre_finite_args2.Gen.facts,
  frame_p, frame_pi, fun m ρ _ => frame_pi m ρ trivial, frame_ri, fun m ρ _ => frame_ri m ρ trivial, frame_p2, frame_pi2,
  fun m ρ _ => frame_pi2 m ρ trivial, frame_ri2, fun m ρ _ => frame_ri2 m ρ trivial, frame_p3, frame_pi3, frame_ri3, frame_p4, frame_pi4, frame_ri4,
  frame_p5, frame_pi5, frame_ri5, frame_p6, frame_pi6, frame_ri6, frame_p7, frame_pi7, frame_ri7,
  trivial, algebraic, trivial, algebraic2, trivial, algebraic3, trivial, algebraic4, trivial, algebraic5, trivial, algebraic6, trivial, algebraic7⟩

end Cert.Proof

end
